-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v118) = v4 c
          ∧ r.2.mem ((c.tc : Thread Cert.ReferenceIdeal.nD Cert.ReferenceIdeal.τ).loc Cert.ReferenceIdeal.main_v83) = v5 c
          ∧ r.2.mem ((c.tc : Thread Cert.ReferenceIdeal.nD Cert.ReferenceIdeal.τ).loc Cert.ReferenceIdeal.main_v119) = v6 c
          ∧ r.2.mem ((c.tc : Thread Cert.ReferenceIdeal.nD Cert.ReferenceIdeal.τ).loc Cert.ReferenceIdeal.main_v121) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)) (v3 : (c : Dev Cert.Kernel4Ideal.nD) → Buf (Elt Ideal) ((c.tc : Thread Cert.Kernel4Ideal.nD Cert.Kernel4Ideal.τ).loc Cert.Kernel4Ideal.main_v24_3)) (v4 : (c : Dev Cert.Kernel4Ideal.nD) → Buf (Elt Ideal) ((c.tc : Thread Cert.Kernel4Ideal.nD Cert.Kernel4Ideal.τ).loc Cert.Kernel4Ideal.main_v24_4)) (v5 : (c : Dev Cert.Kernel4Ideal.nD) → Buf (Elt Ideal) ((c.tc : Thread Cert.Kernel4Ideal.nD Cert.Kernel4Ideal.τ).loc Cert.Kernel4Ideal.main_v24_5)) (v6 : (c : Dev Cert.Kernel4Ideal.nD) → Buf (Elt Ideal) ((c.tc : Thread Cert.Kernel4Ideal.nD Cert.Kernel4Ideal.τ).loc Cert.Kernel4Ideal.main_v24_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_v24_3) = v3 c
          ∧ r.2.mem ((c.tc : Thread Cert.Kernel4Ideal.nD Cert.Kernel4Ideal.τ).loc Cert.Kernel4Ideal.main_v24_4) = v4 c
          ∧ r.2.mem ((c.tc : Thread Cert.Kernel4Ideal.nD Cert.Kernel4Ideal.τ).loc Cert.Kernel4Ideal.main_v24_5) = v5 c
          ∧ r.2.mem ((c.tc : Thread Cert.Kernel4Ideal.nD Cert.Kernel4Ideal.τ).loc Cert.Kernel4Ideal.main_v24_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v90) = v1 c
          ∧ r.2.mem ((c.tc : Thread Cert.Reference4Ideal.nD Cert.Reference4Ideal.τ).loc Cert.Reference4Ideal.main_v95) = v2 c
          ∧ r.2.mem ((c.tc : Thread Cert.Reference4Ideal.nD Cert.Reference4Ideal.τ).loc Cert.Reference4Ideal.main_v96) = v3 c
          ∧ r.2.mem ((c.tc : Thread Cert.Reference4Ideal.nD Cert.Reference4Ideal.τ).loc Cert.Reference4Ideal.main_v97) = v4 c
          ∧ r.2.mem ((c.tc : Thread Cert.Reference4Ideal.nD Cert.Reference4Ideal.τ).loc Cert.Reference4Ideal.main_v98) = v5 c
          ∧ r.2.mem ((c.tc : Thread Cert.Reference4Ideal.nD Cert.Reference4Ideal.τ).loc Cert.Reference4Ideal.main_v99) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_v59) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v54) = v1 c
          ∧ r.2.mem ((c.tc : Thread Cert.Reference7Ideal.nD Cert.Reference7Ideal.τ).loc Cert.Reference7Ideal.main_v56) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_v20) = v2 c
          ∧ r.2.mem ((c.tc : Thread Cert.Reference8Ideal.nD Cert.Reference8Ideal.τ).loc Cert.Reference8Ideal.main_v21) = v3 c
          ∧ r.2.mem ((c.tc : Thread Cert.Reference8Ideal.nD Cert.Reference8Ideal.τ).loc Cert.Reference8Ideal.main_v22) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_v19) = v2 c
          ∧ r.2.mem ((c.tc : Thread Cert.Reference9Ideal.nD Cert.Reference9Ideal.τ).loc Cert.Reference9Ideal.main_v20) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x1024 : Shape := ⟨2, ![8192, 1024]⟩
abbrev S1x1024 : Shape := ⟨2, ![1, 1024]⟩
abbrev S8x352x1024 : Shape := ⟨3, ![8, 352, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  bcast_S_S8x352x1024 : S_.BroadcastsInDim S8x352x1024 (![] : Fin 0 → Fin S8x352x1024.rank)
  reducesTo_S8x352x1024_S_d0_1_2 : S8x352x1024.ReducesTo [0, 1, 2] S_

variable [Facts]

def fn_part1 {F : FTy → Type} [FloatOps F] (main_v5 : FVec F S8x352x1024 .f32) (main_v6 : FVec F S8x352x1024 .f32) (main_v16 : IVec S_ 1) (main_v17 : FVec F S8x352x1024 .f32) : IVec S_ 1 :=
  let main_cst_4 : FVec F S_ .f32 := constant S_ .f32 0x7F800000#32
  let main_v18 : FVec F S8x352x1024 .f32 := broadcastInDim S8x352x1024 ![] bcast_S_S8x352x1024 main_cst_4
  let main_v19 : IVec S8x352x1024 1 := cmpf .olt main_v17 main_v18
  let main_c_5 : IVec S_ 1 := constantI S_ 1 1#1
  let main_v20 : IVec S_ 1 := (fun x v => Host.reduce IntOp.andi x v reducesTo_S8x352x1024_S_d0_1_2 h_S_) main_v19 main_c_5
  let main_v21 : IVec S_ 1 := andi main_v16 main_v20
  let main_v22 : FVec F S8x352x1024 .f32 := Host.absf main_v5
  let main_cst_6 : FVec F S_ .f32 := constant S_ .f32 0x7F800000#32
  let main_v23 : FVec F S8x352x1024 .f32 := broadcastInDim S8x352x1024 ![] bcast_S_S8x352x1024 main_cst_6
  let main_v24 : IVec S8x352x1024 1 := cmpf .olt main_v22 main_v23
  let main_c_7 : IVec S_ 1 := constantI S_ 1 1#1
  let main_v25 : IVec S_ 1 := (fun x v => Host.reduce IntOp.andi x v reducesTo_S8x352x1024_S_d0_1_2 h_S_) main_v24 main_c_7
  let main_v26 : IVec S_ 1 := andi main_v21 main_v25
  let main_v27 : FVec F S8x352x1024 .f32 := Host.absf main_v6
  let main_cst_8 : FVec F S_ .f32 := constant S_ .f32 0x7F800000#32
  let main_v28 : FVec F S8x352x1024 .f32 := broadcastInDim S8x352x1024 ![] bcast_S_S8x352x1024 main_cst_8
  let main_v29 : IVec S8x352x1024 1 := cmpf .olt main_v27 main_v28
  let main_c_9 : IVec S_ 1 := constantI S_ 1 1#1
  let main_v30 : IVec S_ 1 := (fun x v => Host.reduce IntOp.andi x v reducesTo_S8x352x1024_S_d0_1_2 h_S_) main_v29 main_c_9
  let main_v31 : IVec S_ 1 := andi main_v26 main_v30
  main_v31

def fn {F : FTy → Type} [FloatOps F] (main_arg0 : FVec F S8192x1024 .f32) (main_arg1 : FVec F S1x1024 .f32) (main_arg2 : FVec F S8192x1024 .f32) (main_arg3 : FVec F S8x352x1024 .bf16) (main_arg4 : FVec F S8x352x1024 .bf16) (main_arg5 : FVec F S8x352x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x352x1024 .f32 := (extf .f32 · bitsLt_bf16_f32) main_arg3
  let main_v5 : FVec F S8x352x1024 .f32 := (extf .f32 · bitsLt_bf16_f32) main_arg4
  let main_v6 : FVec F S8x352x1024 .f32 := (extf .f32 · bitsLt_bf16_f32) main_arg5
  let main_v7 : FVec F S1x1024 .f32 := Host.absf main_arg1
  let main_cst_0 : FVec F S_ .f32 := constant S_ .f32 0x7F800000#32
  let main_v8 : FVec F S1x1024 .f32 := broadcastInDim S1x1024 ![] bcast_S_S1x1024 main_cst_0
  let main_v9 : IVec S1x1024 1 := cmpf .olt main_v7 main_v8
  let main_c_1 : IVec S_ 1 := constantI S_ 1 1#1
  let main_v10 : IVec S_ 1 := (fun x v => Host.reduce IntOp.andi x v reducesTo_S1x1024_S_d0_1 h_S_) main_v9 main_c_1
  let main_v11 : IVec S_ 1 := andi main_v3 main_v10
  let main_v12 : FVec F S8192x1024 .f32 := Host.absf main_arg2
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v11 main_v15
  let main_v17 : FVec F S8x352x1024 .f32 := Host.absf main_v4
  fn_part1 (F := F) main_v5 main_v6 main_v16 main_v17
-- ==== Kernel.lean ====
abbrev S128x4x64x128 : Shape := ⟨4, ![128, 4, 64, 128]⟩
abbrev S128x4x64x64 : Shape := ⟨4, ![128, 4, 64, 64]⟩
abbrev S128x4x1x128 : Shape := ⟨4, ![128, 4, 1, 128]⟩
abbrev S128x4x128x128 : Shape := ⟨4, ![128, 4, 128, 128]⟩
abbrev S8192x512 : Shape := ⟨2, ![8192, 512]⟩
abbrev S1x128 : Shape := ⟨2, ![1, 128]⟩
abbrev S8x128 : Shape := ⟨2, ![8, 128]⟩
abbrev S32x2x64x128 : Shape := ⟨4, ![32, 2, 64, 128]⟩
abbrev S32x2x64x64 : Shape := ⟨4, ![32, 2, 64, 64]⟩
abbrev S32x2x1x128 : Shape := ⟨4, ![32, 2, 1, 128]⟩
abbrev S32x2x128x128 : Shape := ⟨4, ![32, 2, 128, 128]⟩
abbrev S2048x256 : Shape := ⟨2, ![2048, 256]⟩
abbrev S32x1x64x128 : Shape := ⟨4, ![32, 1, 64, 128]⟩
abbrev S32x64x128 : Shape := ⟨3, ![32, 64, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩
abbrev S2x128x128 : Shape := ⟨3, ![2, 128, 128]⟩
abbrev S1x2x128x128 : Shape := ⟨4, ![1, 2, 128, 128]⟩
abbrev S1x2x64x128 : Shape := ⟨4, ![1, 2, 64, 128]⟩
abbrev S2x64x128 : Shape := ⟨3, ![2, 64, 128]⟩
abbrev S1x2x64x64 : Shape := ⟨4, ![1, 2, 64, 64]⟩
abbrev S2x64x64 : Shape := ⟨3, ![2, 64, 64]⟩
abbrev S1x2x1x128 : Shape := ⟨4, ![1, 2, 1, 128]⟩
abbrev S2x1x128 : Shape := ⟨3, ![2, 1, 128]⟩
abbrev S2x128 : Shape := ⟨2, ![2, 128]⟩

abbrev nBuf : Space → Nat
  | .hbm => 19
  | .vmem => 37
  | .smem => 0
  | _ => 0

abbrev bufTy : (tb : Table) → Fin (tcTables nBuf tb) → BufTy
  | .hbm, ⟨0, _⟩ => ⟨S128x4x64x128, .f32⟩
  | .hbm, ⟨1, _⟩ => ⟨S128x4x64x128, .bf16⟩
  | .hbm, ⟨2, _⟩ => ⟨S128x4x64x128, .bf16⟩
  | .hbm, ⟨3, _⟩ => ⟨S128x4x64x128, .bf16⟩
  | .hbm, ⟨4, _⟩ => ⟨S128x4x64x64, .bf16⟩
  | .hbm, ⟨5, _⟩ => ⟨S128x4x1x128, .f32⟩
  | .hbm, ⟨6, _⟩ => ⟨S128x4x128x128, .bf16⟩
  | .hbm, ⟨7, _⟩ => ⟨S128x4x64x128, .f32⟩
  | .hbm, ⟨8, _⟩ => ⟨S8192x512, .f32⟩
  | .hbm, ⟨9, _⟩ => ⟨S1x128, .f32⟩
  | .hbm, ⟨10, _⟩ => ⟨S8192x512, .f32⟩
  | .hbm, ⟨11, _⟩ => ⟨S128x4x64x128, .f32⟩
  | .hbm, ⟨12, _⟩ => ⟨S128x4x64x128, .bf16⟩
  | .hbm, ⟨13, _⟩ => ⟨S128x4x64x128, .bf16⟩
  | .hbm, ⟨14, _⟩ => ⟨S128x4x64x128, .bf16⟩
  | .hbm, ⟨15, _⟩ => ⟨S128x4x64x64, .bf16⟩
  | .hbm, ⟨16, _⟩ => ⟨S128x4x1x128, .f32⟩
  | .hbm, ⟨17, _⟩ => ⟨S8192x512, .bf16⟩
  | .hbm, ⟨18, _⟩ => ⟨S8x128, .f32⟩
  | .local _ .vmem, ⟨0, _⟩ => ⟨S32x2x64x128, .f32⟩
  | .local _ .vmem, ⟨1, _⟩ => ⟨S32x2x64x128, .f32⟩
  | .local _ .vmem, ⟨2, _⟩ => ⟨S32x2x64x128, .bf16⟩
  | .local _ .vmem, ⟨3, _⟩ => ⟨S32x2x64x128, .bf16⟩
  | .local _ .vmem, ⟨4, _⟩ => ⟨S32x2x64x128, .bf16⟩
  | .local _ .vmem, ⟨5, _⟩ => ⟨S32x2x64x128, .bf16⟩
  | .local _ .vmem, ⟨6, _⟩ => ⟨S32x2x64x128, .bf16⟩
  | .local _ .vmem, ⟨7, _⟩ => ⟨S32x2x64x128, .bf16⟩
  | .local _ .vmem, ⟨8, _⟩ => ⟨S32x2x64x64, .bf16⟩
  | .local _ .vmem, ⟨9, _⟩ => ⟨S32x2x64x64, .bf16⟩
  | .local _ .vmem, ⟨10, _⟩ => ⟨S32x2x1x128, .f32⟩
  | .local _ .vmem, ⟨11, _⟩ => ⟨S32x2x1x128, .f32⟩
  | .local _ .vmem, ⟨12, _⟩ => ⟨S32x2x128x128, .bf16⟩
  | .local _ .vmem, ⟨13, _⟩ => ⟨S32x2x128x128, .bf16⟩
  | .local _ .vmem, ⟨14, _⟩ => ⟨S32x2x64x128, .f32⟩
  | .local _ .vmem, ⟨15, _⟩ => ⟨S32x2x64x128, .f32⟩
  | .local _ .vmem, ⟨16, _⟩ => ⟨S2048x256, .f32⟩
  | .local _ .vmem, ⟨17, _⟩ => ⟨S2048x256, .f32⟩
  | .local _ .vmem, ⟨18, _⟩ => ⟨S1x128, .f32⟩
  | .local _ .vmem, ⟨19, _⟩ => ⟨S2048x256, .f32⟩
  | .local _ .vmem, ⟨20, _⟩ => ⟨S2048x256, .f32⟩
  | .local _ .vmem, ⟨21, _⟩ => ⟨S32x2x64x128, .f32⟩
  | .local _ .vmem, ⟨22, _⟩ => ⟨S32x2x64x128, .f32⟩
  | .local _ .vmem, ⟨23, _⟩ => ⟨S32x2x64x128, .bf16⟩
  | .local _ .vmem, ⟨24, _⟩ => ⟨S32x2x64x128, .bf16⟩
  | .local _ .vmem, ⟨25, _⟩ => ⟨S32x2x64x128, .bf16⟩
  | .local _ .vmem, ⟨26, _⟩ => ⟨S32x2x64x128, .bf16⟩
  | .local _ .vmem, ⟨27, _⟩ => ⟨S32x2x64x128, .bf16⟩
  | .local _ .vmem, ⟨28, _⟩ => ⟨S32x2x64x128, .bf16⟩
  | .local _ .vmem, ⟨29, _⟩ => ⟨S32x2x64x64, .bf16⟩
  | .local _ .vmem, ⟨30, _⟩ => ⟨S32x2x64x64, .bf16⟩
  | .local _ .vmem, ⟨31, _⟩ => ⟨S32x2x1x128, .f32⟩
  | .local _ .vmem, ⟨32, _⟩ => ⟨S32x2x1x128, .f32⟩
  | .local _ .vmem, ⟨33, _⟩ => ⟨S2048x256, .bf16⟩
  | .local _ .vmem, ⟨34, _⟩ => ⟨S2048x256, .bf16⟩
  | .local _ .vmem, ⟨35, _⟩ => ⟨S8x128, .f32⟩
  | .local _ .vmem, ⟨36, _⟩ => ⟨S32x2x64x128, .f32⟩
  | _, _ => ⟨S128x4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_58 : BitVec 32 := 0#32
  let c32_i32 : BitVec 32 := 32#32
  let v134 : BitVec 32 := Scalar.addi c0_i32_58 c32_i32
  let c1_i32 : BitVec 32 := 1#32
  ⟨c0_i32_58, v134, c1_i32⟩
def k0_off1 (k0_t1 : Fin k0_t1_loop.trips) : Fin 4 → Nat :=
  let c31_i32 : BitVec 32 := 31#32
  let c0_i32_58 : BitVec 32 := 0#32
  let c1_i32 : BitVec 32 := 1#32
  let arg22 : BitVec 32 := Scf.iv c0_i32_58 c1_i32 k0_t1
  let v136 : BitVec 32 := Scalar.subi c31_i32 arg22
  let v137 : Index := Scalar.indexCast v136
  let c0_60 : Index := 0#32
  let c0_61 : Index := 0#32
  let c0_62 : Index := 0#32
  ![v137.toNat, 0, 0, 0]
def k0_off2 (k0_t1 : Fin k0_t1_loop.trips) : Fin 4 → Nat :=
  let c31_i32 : BitVec 32 := 31#32
  let c0_i32_58 : BitVec 32 := 0#32
  let c1_i32 : BitVec 32 := 1#32
  let arg22 : BitVec 32 := Scf.iv c0_i32_58 c1_i32 k0_t1
  let v136 : BitVec 32 := Scalar.subi c31_i32 arg22
  let v141 : Index := Scalar.indexCast v136
  let c0_63 : Index := 0#32
  let c0_64 : Index := 0#32
  let c0_65 : Index := 0#32
  ![v141.toNat, 0, 0, 0]
def k0_off3 (k0_t1 : Fin k0_t1_loop.trips) : Fin 4 → Nat :=
  let c31_i32 : BitVec 32 := 31#32
  let c0_i32_58 : BitVec 32 := 0#32
  let c1_i32 : BitVec 32 := 1#32
  let arg22 : BitVec 32 := Scf.iv c0_i32_58 c1_i32 k0_t1
  let v136 : BitVec 32 := Scalar.subi c31_i32 arg22
  let v156 : Index := Scalar.indexCast v136
  let c0_75 : Index := 0#32
  let c0_76 : Index := 0#32
  let c0_77 : Index := 0#32
  ![v156.toNat, 0, 0, 0]
def k0_off4 (k0_t1 : Fin k0_t1_loop.trips) : Fin 4 → Nat :=
  let c31_i32 : BitVec 32 := 31#32
  let c0_i32_58 : BitVec 32 := 0#32
  let c1_i32 : BitVec 32 := 1#32
  let arg22 : BitVec 32 := Scf.iv c0_i32_58 c1_i32 k0_t1
  let v136 : BitVec 32 := Scalar.subi c31_i32 arg22
  let v160 : Index := Scalar.indexCast v136
  let c0_78 : Index := 0#32
  let c0_79 : Index := 0#32
  let c0_80 : Index := 0#32
  ![v160.toNat, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2x64x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2x64x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x2x64x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2x64x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x2x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2048x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S128x4x64x128 : Shape := ⟨4, ![128, 4, 64, 128]⟩
abbrev S128x4x64x64 : Shape := ⟨4, ![128, 4, 64, 64]⟩
abbrev S128x4x1x128 : Shape := ⟨4, ![128, 4, 1, 128]⟩
abbrev S128x4x128x128 : Shape := ⟨4, ![128, 4, 128, 128]⟩
abbrev S8192x512 : Shape := ⟨2, ![8192, 512]⟩
abbrev S1x128 : Shape := ⟨2, ![1, 128]⟩
abbrev S4x32x4x64x128 : Shape := ⟨5, ![4, 32, 4, 64, 128]⟩
abbrev S32x4x4x64x128 : Shape := ⟨5, ![32, 4, 4, 64, 128]⟩
abbrev S4x32x64x4x128 : Shape := ⟨5, ![4, 32, 64, 4, 128]⟩
abbrev S4x2048x4x128 : Shape := ⟨4, ![4, 2048, 4, 128]⟩
abbrev S128 : Shape := ⟨1, ![128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x32x4x128x128 : Shape := ⟨5, ![4, 32, 4, 128, 128]⟩
abbrev S32x4x4x128x128 : Shape := ⟨5, ![32, 4, 4, 128, 128]⟩
abbrev S4x32x4x64x64 : Shape := ⟨5, ![4, 32, 4, 64, 64]⟩
abbrev S32x4x4x64x64 : Shape := ⟨5, ![32, 4, 4, 64, 64]⟩
abbrev S4x32x4x1x128 : Shape := ⟨5, ![4, 32, 4, 1, 128]⟩
abbrev S32x4x4x1x128 : Shape := ⟨5, ![32, 4, 4, 1, 128]⟩
abbrev S4x4x128x128 : Shape := ⟨4, ![4, 4, 128, 128]⟩
abbrev S1x4x4x128x128 : Shape := ⟨5, ![1, 4, 4, 128, 128]⟩
abbrev S1x4x4x64x128 : Shape := ⟨5, ![1, 4, 4, 64, 128]⟩
abbrev S4x4x64x128 : Shape := ⟨4, ![4, 4, 64, 128]⟩
abbrev S1x4x4x64x64 : Shape := ⟨5, ![1, 4, 4, 64, 64]⟩
abbrev S4x4x64x64 : Shape := ⟨4, ![4, 4, 64, 64]⟩
abbrev S1x4x4x1x128 : Shape := ⟨5, ![1, 4, 4, 1, 128]⟩
abbrev S4x4x1x128 : Shape := ⟨4, ![4, 4, 1, 128]⟩
abbrev S4x4x128x64 : Shape := ⟨4, ![4, 4, 128, 64]⟩
abbrev S4x4x128 : Shape := ⟨3, ![4, 4, 128]⟩
abbrev S8x128 : Shape := ⟨2, ![8, 128]⟩

abbrev nBuf : Space → Nat
  | .hbm => 317
  | .vmem => 0
  | .smem => 0
  | _ => 0

abbrev hbmTy0_0 (i : Nat) : BufTy := match i % 128 with
  | 0 => ⟨S128x4x64x128, .f32⟩
  | 1 => ⟨S128x4x64x128, .bf16⟩
  | 2 => ⟨S128x4x64x128, .bf16⟩
  | 3 => ⟨S128x4x64x128, .bf16⟩
  | 4 => ⟨S128x4x64x64, .bf16⟩
  | 5 => ⟨S128x4x1x128, .f32⟩
  | 6 => ⟨S128x4x128x128, .bf16⟩
  | 7 => ⟨S128x4x64x128, .f32⟩
  | 8 => ⟨S8192x512, .f32⟩
  | 9 => ⟨S1x128, .f32⟩
  | 10 => ⟨S8192x512, .f32⟩
  | 11 => ⟨S4x32x4x64x128, .f32⟩
  | 12 => ⟨S32x4x4x64x128, .f32⟩
  | 13 => ⟨S4x32x64x4x128, .f32⟩
  | 14 => ⟨S4x2048x4x128, .f32⟩
  | 15 => ⟨S128, .f32⟩
  | 16 => ⟨S4x2048x4x128, .f32⟩
  | 17 => ⟨S_, .f32⟩
  | 18 => ⟨S4x2048x4, .f32⟩
  | 19 => ⟨S4x2048x4x1, .f32⟩
  | 20 => ⟨S_, .f32⟩
  | 21 => ⟨S4x2048x4x1, .f32⟩
  | 22 => ⟨S4x2048x4x1, .f32⟩
  | 23 => ⟨S_, .f32⟩
  | 24 => ⟨S4x2048x4x1, .f32⟩
  | 25 => ⟨S4x2048x4x1, .f32⟩
  | 26 => ⟨S4x2048x4x1, .f32⟩
  | 27 => ⟨S4x2048x4x1, .f32⟩
  | 28 => ⟨S_, .f32⟩
  | 29 => ⟨S4x2048x4x1, .f32⟩
  | 30 => ⟨S4x2048x4x1, .f32⟩
  | 31 => ⟨S4x2048x4x128, .f32⟩
  | 32 => ⟨S4x2048x4x128, .f32⟩
  | 33 => ⟨S1x1x1x128, .f32⟩
  | 34 => ⟨S4x2048x4x128, .f32⟩
  | 35 => ⟨S4x2048x4x128, .f32⟩
  | 36 => ⟨S4x2048x4x128, .f32⟩
  | 37 => ⟨S4x2048x4x128, .f32⟩
  | 38 => ⟨S4x2048x4x128, .f32⟩
  | 39 => ⟨S_, .f32⟩
  | 40 => ⟨S4x2048x4x128, .f32⟩
  | 41 => ⟨S4x2048x4x128, .f32⟩
  | 42 => ⟨S_, .f32⟩
  | 43 => ⟨S4x2048x4x128, .f32⟩
  | 44 => ⟨S4x2048x4x128, .f32⟩
  | 45 => ⟨S4x2048x4x128, .f32⟩
  | 46 => ⟨S4x2048x4x128, .f32⟩
  | 47 => ⟨S8192x512, .f32⟩
  | 48 => ⟨S4x2048x4x128, .f32⟩
  | 49 => ⟨S4x2048x4x128, .f32⟩
  | 50 => ⟨S4x2048x4x128, .f32⟩
  | 51 => ⟨S4x2048x4x128, .f32⟩
  | 52 => ⟨S4x2048x4x128, .f32⟩
  | 53 => ⟨S_, .f32⟩
  | 54 => ⟨S4x2048x4, .f32⟩
  | 55 => ⟨S4x2048x4x1, .f32⟩
  | 56 => ⟨S4x2048x4x128, .f32⟩
  | 57 => ⟨S4x2048x4x128, .f32⟩
  | 58 => ⟨S4x2048x4x1, .f32⟩
  | 59 => ⟨S_, .f32⟩
  | 60 => ⟨S4x2048x4x1, .f32⟩
  | 61 => ⟨S4x2048x4x1, .f32⟩
  | 62 => ⟨S_, .f32⟩
  | 63 => ⟨S4x2048x4, .f32⟩
  | 64 => ⟨S4x2048x4x128, .f32⟩
  | 65 => ⟨S4x2048x4x128, .f32⟩
  | 66 => ⟨S4x2048x4x128, .f32⟩
  | 67 => ⟨S4x2048x4x128, .f32⟩
  | 68 => ⟨S4x2048x4x128, .f32⟩
  | 69 => ⟨S4x32x64x4x128, .f32⟩
  | 70 => ⟨S32x4x4x64x128, .f32⟩
  | 71 => ⟨S128x4x128x128, .f32⟩
  | 72 => ⟨S4x32x4x128x128, .f32⟩
  | 73 => ⟨S32x4x4x128x128, .f32⟩
  | 74 => ⟨S4x32x4x64x128, .f32⟩
  | 75 => ⟨S32x4x4x64x128, .f32⟩
  | 76 => ⟨S128x4x64x128, .f32⟩
  | 77 => ⟨S4x32x4x64x128, .f32⟩
  | 78 => ⟨S32x4x4x64x128, .f32⟩
  | 79 => ⟨S128x4x64x128, .f32⟩
  | 80 => ⟨S4x32x4x64x128, .f32⟩
  | 81 => ⟨S32x4x4x64x128, .f32⟩
  | 82 => ⟨S128x4x64x128, .f32⟩
  | 83 => ⟨S4x32x4x64x128, .f32⟩
  | 84 => ⟨S32x4x4x64x128, .f32⟩
  | 85 => ⟨S128x4x64x64, .f32⟩
  | 86 => ⟨S4x32x4x64x64, .f32⟩
  | 87 => ⟨S32x4x4x64x64, .f32⟩
  | 88 => ⟨S4x32x4x1x128, .f32⟩
  | 89 => ⟨S32x4x4x1x128, .f32⟩
  | 90 => ⟨S_, .f32⟩
  | 91 => ⟨S4x4x128x128, .f32⟩
  | 92 => ⟨S_, .f32⟩
  | 93 => ⟨S32x4x4x64x128, .f32⟩
  | 94 => ⟨S_, .f32⟩
  | 95 => ⟨S32x4x4x64x128, .f32⟩
  | 96 => ⟨S_, .f32⟩
  | 97 => ⟨S32x4x4x64x128, .f32⟩
  | 98 => ⟨S_, .f32⟩
  | 99 => ⟨S32x4x4x64x128, .f32⟩
  | 100 => ⟨S_, .f32⟩
  | 101 => ⟨S32x4x4x64x64, .f32⟩
  | 102 => ⟨S_, .f32⟩
  | 103 => ⟨S32x4x4x1x128, .f32⟩
  | 104 => ⟨S_, .i32⟩
  | 105 => ⟨S32x4x4x128x128, .f32⟩
  | 106 => ⟨S32x4x4x64x128, .f32⟩
  | 107 => ⟨S32x4x4x64x128, .f32⟩
  | 108 => ⟨S32x4x4x64x128, .f32⟩
  | 109 => ⟨S32x4x4x64x128, .f32⟩
  | 110 => ⟨S32x4x4x64x64, .f32⟩
  | 111 => ⟨S32x4x4x1x128, .f32⟩
  | 112 => ⟨S32x4x4x64x128, .f32⟩
  | 113 => ⟨S_, .i32⟩
  | 114 => ⟨S4x4x128x128, .f32⟩
  | 115 => ⟨S32x4x4x64x128, .f32⟩
  | 116 => ⟨S32x4x4x64x128, .f32⟩
  | 117 => ⟨S32x4x4x64x128, .f32⟩
  | 118 => ⟨S32x4x4x64x128, .f32⟩
  | 119 => ⟨S32x4x4x64x64, .f32⟩
  | 120 => ⟨S32x4x4x1x128, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S128x4x64x128, .f32⟩

abbrev hbmTy0_1 (i : Nat) : BufTy := match i % 128 with
  | 0 => ⟨S_, .i32⟩
  | 1 => ⟨S_, .i32⟩
  | 2 => ⟨S_, .i32⟩
  | 3 => ⟨S1x4x4x128x128, .f32⟩
  | 4 => ⟨S4x4x128x128, .f32⟩
  | 5 => ⟨S_, .i32⟩
  | 6 => ⟨S_, .i32⟩
  | 7 => ⟨S_, .i32⟩
  | 8 => ⟨S_, .i32⟩
  | 9 => ⟨S1x4x4x64x128, .f32⟩
  | 10 => ⟨S4x4x64x128, .f32⟩
  | 11 => ⟨S_, .i32⟩
  | 12 => ⟨S_, .i32⟩
  | 13 => ⟨S_, .i32⟩
  | 14 => ⟨S_, .i32⟩
  | 15 => ⟨S1x4x4x64x128, .f32⟩
  | 16 => ⟨S4x4x64x128, .f32⟩
  | 17 => ⟨S_, .i32⟩
  | 18 => ⟨S_, .i32⟩
  | 19 => ⟨S_, .i32⟩
  | 20 => ⟨S_, .i32⟩
  | 21 => ⟨S1x4x4x64x128, .f32⟩
  | 22 => ⟨S4x4x64x128, .f32⟩
  | 23 => ⟨S_, .i32⟩
  | 24 => ⟨S_, .i32⟩
  | 25 => ⟨S_, .i32⟩
  | 26 => ⟨S_, .i32⟩
  | 27 => ⟨S1x4x4x64x128, .f32⟩
  | 28 => ⟨S4x4x64x128, .f32⟩
  | 29 => ⟨S_, .i32⟩
  | 30 => ⟨S_, .i32⟩
  | 31 => ⟨S_, .i32⟩
  | 32 => ⟨S_, .i32⟩
  | 33 => ⟨S1x4x4x64x64, .f32⟩
  | 34 => ⟨S4x4x64x64, .f32⟩
  | 35 => ⟨S_, .i32⟩
  | 36 => ⟨S_, .i32⟩
  | 37 => ⟨S_, .i32⟩
  | 38 => ⟨S_, .i32⟩
  | 39 => ⟨S1x4x4x1x128, .f32⟩
  | 40 => ⟨S4x4x1x128, .f32⟩
  | 41 => ⟨S_, .i32⟩
  | 42 => ⟨S_, .i32⟩
  | 43 => ⟨S_, .i32⟩
  | 44 => ⟨S_, .i32⟩
  | 45 => ⟨S1x4x4x64x128, .f32⟩
  | 46 => ⟨S4x4x64x128, .f32⟩
  | 47 => ⟨S4x4x64x128, .f32⟩
  | 48 => ⟨S4x4x64x128, .f32⟩
  | 49 => ⟨S4x4x64x128, .f32⟩
  | 50 => ⟨S4x4x64x128, .f32⟩
  | 51 => ⟨S4x4x64x128, .f32⟩
  | 52 => ⟨S4x4x128x128, .f32⟩
  | 53 => ⟨S4x4x128x128, .f32⟩
  | 54 => ⟨S4x4x128x128, .f32⟩
  | 55 => ⟨S4x4x128x128, .f32⟩
  | 56 => ⟨S4x4x128x64, .f32⟩
  | 57 => ⟨S4x4x64x128, .f32⟩
  | 58 => ⟨S4x4x128x64, .f32⟩
  | 59 => ⟨S4x4x64x128, .f32⟩
  | 60 => ⟨S4x4x128x128, .f32⟩
  | 61 => ⟨S_, .f32⟩
  | 62 => ⟨S4x4x128, .f32⟩
  | 63 => ⟨S4x4x1x128, .f32⟩
  | 64 => ⟨S4x4x128x128, .f32⟩
  | 65 => ⟨S4x4x128x128, .f32⟩
  | 66 => ⟨S4x4x128x64, .f32⟩
  | 67 => ⟨S4x4x64x128, .f32⟩
  | 68 => ⟨S4x4x64x128, .f32⟩
  | 69 => ⟨S4x4x64x64, .f32⟩
  | 70 => ⟨S4x4x128x128, .f32⟩
  | 71 => ⟨S4x4x128x128, .f32⟩
  | 72 => ⟨S4x4x128x128, .f32⟩
  | 73 => ⟨S4x4x64x128, .f32⟩
  | 74 => ⟨S4x4x64x128, .f32⟩
  | 75 => ⟨S4x4x128x128, .f32⟩
  | 76 => ⟨S4x4x128x128, .f32⟩
  | 77 => ⟨S4x4x128x128, .f32⟩
  | 78 => ⟨S4x4x64x128, .f32⟩
  | 79 => ⟨S1x4x4x64x128, .f32⟩
  | 80 => ⟨S_, .i32⟩
  | 81 => ⟨S_, .i32⟩
  | 82 => ⟨S_, .i32⟩
  | 83 => ⟨S_, .i32⟩
  | 84 => ⟨S32x4x4x64x128, .f32⟩
  | 85 => ⟨S1x4x4x64x128, .f32⟩
  | 86 => ⟨S_, .i32⟩
  | 87 => ⟨S_, .i32⟩
  | 88 => ⟨S_, .i32⟩
  | 89 => ⟨S_, .i32⟩
  | 90 => ⟨S32x4x4x64x128, .f32⟩
  | 91 => ⟨S1x4x4x64x128, .f32⟩
  | 92 => ⟨S_, .i32⟩
  | 93 => ⟨S_, .i32⟩
  | 94 => ⟨S_, .i32⟩
  | 95 => ⟨S_, .i32⟩
  | 96 => ⟨S32x4x4x64x128, .f32⟩
  | 97 => ⟨S1x4x4x64x128, .f32⟩
  | 98 => ⟨S_, .i32⟩
  | 99 => ⟨S_, .i32⟩
  | 100 => ⟨S_, .i32⟩
  | 101 => ⟨S_, .i32⟩
  | 102 => ⟨S32x4x4x64x128, .f32⟩
  | 103 => ⟨S1x4x4x64x64, .f32⟩
  | 104 => ⟨S_, .i32⟩
  | 105 => ⟨S_, .i32⟩
  | 106 => ⟨S_, .i32⟩
  | 107 => ⟨S_, .i32⟩
  | 108 => ⟨S32x4x4x64x64, .f32⟩
  | 109 => ⟨S1x4x4x1x128, .f32⟩
  | 110 => ⟨S_, .i32⟩
  | 111 => ⟨S_, .i32⟩
  | 112 => ⟨S_, .i32⟩
  | 113 => ⟨S_, .i32⟩
  | 114 => ⟨S32x4x4x1x128, .f32⟩
  | 115 => ⟨S_, .i32⟩
  | 116 => ⟨S_, .i32⟩
  | 117 => ⟨S4x32x4x64x128, .f32⟩
  | 118 => ⟨S128x4x64x128, .f32⟩
  | 119 => ⟨S4x32x4x64x128, .f32⟩
  | 120 => ⟨S128x4x64x128, .f32⟩
  | 121 => ⟨S4x32x4x64x128, .f32⟩
  | 122 => ⟨S128x4x64x128, .f32⟩
  | 123 => ⟨S4x32x4x64x128, .f32⟩
  | 124 => ⟨S128x4x64x128, .f32⟩
  | 125 => ⟨S4x32x4x64x64, .f32⟩
  | 126 => ⟨S128x4x64x64, .f32⟩
  | 127 => ⟨S4x32x4x1x128, .f32⟩
  | _ => ⟨S128x4x64x128, .f32⟩

abbrev hbmTy0_2 (i : Nat) : BufTy := match i % 128 with
  | 0 => ⟨S128x4x1x128, .f32⟩
  | 1 => ⟨S128, .f32⟩
  | 2 => ⟨S4x32x4x64x128, .f32⟩
  | 3 => ⟨S32x4x4x64x128, .f32⟩
  | 4 => ⟨S4x32x64x4x128, .f32⟩
  | 5 => ⟨S4x2048x4x128, .f32⟩
  | 6 => ⟨S4x2048x4x128, .f32⟩
  | 7 => ⟨S_, .f32⟩
  | 8 => ⟨S4x2048x4, .f32⟩
  | 9 => ⟨S4x2048x4x1, .f32⟩
  | 10 => ⟨S_, .f32⟩
  | 11 => ⟨S4x2048x4x1, .f32⟩
  | 12 => ⟨S4x2048x4x1, .f32⟩
  | 13 => ⟨S_, .f32⟩
  | 14 => ⟨S4x2048x4x1, .f32⟩
  | 15 => ⟨S4x2048x4x1, .f32⟩
  | 16 => ⟨S4x2048x4x1, .f32⟩
  | 17 => ⟨S4x2048x4x128, .f32⟩
  | 18 => ⟨S4x2048x4x128, .f32⟩
  | 19 => ⟨S1x1x1x128, .f32⟩
  | 20 => ⟨S4x2048x4x128, .f32⟩
  | 21 => ⟨S4x2048x4x128, .f32⟩
  | 22 => ⟨S4x2048x4x128, .f32⟩
  | 23 => ⟨S4x2048x4x128, .f32⟩
  | 24 => ⟨S4x2048x4x128, .f32⟩
  | 25 => ⟨S_, .f32⟩
  | 26 => ⟨S4x2048x4x128, .f32⟩
  | 27 => ⟨S4x2048x4x128, .f32⟩
  | 28 => ⟨S_, .f32⟩
  | 29 => ⟨S4x2048x4x128, .f32⟩
  | 30 => ⟨S4x2048x4x128, .f32⟩
  | 31 => ⟨S_, .f32⟩
  | 32 => ⟨S4x2048x4x128, .f32⟩
  | 33 => ⟨S4x2048x4x128, .f32⟩
  | 34 => ⟨S4x2048x4x128, .f32⟩
  | 35 => ⟨S4x2048x4x128, .f32⟩
  | 36 => ⟨S4x2048x4x128, .f32⟩
  | 37 => ⟨S8192x512, .f32⟩
  | 38 => ⟨S4x2048x4x128, .f32⟩
  | 39 => ⟨S4x2048x4x128, .f32⟩
  | 40 => ⟨S4x2048x4x128, .f32⟩
  | 41 => ⟨S4x2048x4x128, .f32⟩
  | 42 => ⟨S4x2048x4x128, .f32⟩
  | 43 => ⟨S4x2048x4x128, .f32⟩
  | 44 => ⟨S4x2048x4x128, .f32⟩
  | 45 => ⟨S8192x512, .f32⟩
  | 46 => ⟨S4x2048x4x128, .f32⟩
  | 47 => ⟨S_, .f32⟩
  | 48 => ⟨S128, .f32⟩
  | 49 => ⟨S1x1x1x128, .f32⟩
  | 50 => ⟨S_, .f32⟩
  | 51 => ⟨S128, .f32⟩
  | 52 => ⟨S128x4x64x128, .bf16⟩
  | 53 => ⟨S128x4x64x128, .bf16⟩
  | 54 => ⟨S128x4x64x128, .bf16⟩
  | 55 => ⟨S128x4x64x64, .bf16⟩
  | 56 => ⟨S8192x512, .bf16⟩
  | 57 => ⟨S1x128, .f32⟩
  | 58 => ⟨S_, .i32⟩
  | 59 => ⟨S_, .f32⟩
  | 60 => ⟨S8x128, .f32⟩
  | _ => ⟨S128x4x64x128, .f32⟩

abbrev hbmTy (i : Nat) : BufTy := match i / 128 with
  | 0 => hbmTy0_0 i
  | 1 => hbmTy0_1 i
  | 2 => hbmTy0_2 i
  | _ => ⟨S128x4x64x128, .f32⟩

abbrev bufTy : (tb : Table) → Fin (tcTables nBuf tb) → BufTy
  | .hbm, ⟨i, _⟩ => hbmTy i
  | _, _ => ⟨S128x4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_6 : Ref sig .tc := ⟨.hbm, 90, rfl⟩
abbrev main_v64 : Ref sig .tc := ⟨.hbm, 91, rfl⟩
abbrev main_cst_7 : Ref sig .tc := ⟨.hbm, 92, rfl⟩
abbrev main_v65 : Ref sig .tc := ⟨.hbm, 93, rfl⟩
abbrev main_cst_8 : Ref sig .tc := ⟨.hbm, 94, rfl⟩
abbrev main_v66 : Ref sig .tc := ⟨.hbm, 95, rfl⟩
abbrev main_cst_9 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_c : Ref sig .tc := ⟨.hbm, 104, rfl⟩
abbrev main_v71_0 : Ref sig .tc := ⟨.hbm, 105, rfl⟩
abbrev main_v71_1 : Ref sig .tc := ⟨.hbm, 106, rfl⟩
abbrev main_v71_2 : Ref sig .tc := ⟨.hbm, 107, rfl⟩
abbrev main_v71_3 : Ref sig .tc := ⟨.hbm, 108, rfl⟩
abbrev main_v71_4 : Ref sig .tc := ⟨.hbm, 109, rfl⟩
abbrev main_v71_5 : Ref sig .tc := ⟨.hbm, 110, rfl⟩
abbrev main_v71_6 : Ref sig .tc := ⟨.hbm, 111, rfl⟩
abbrev main_v71_7 : Ref sig .tc := ⟨.hbm, 112, rfl⟩
abbrev main_v71_8 : Ref sig .tc := ⟨.hbm, 113, rfl⟩
abbrev main_v71_9 : Ref sig .tc := ⟨.hbm, 114, rfl⟩
abbrev main_v71_10 : Ref sig .tc := ⟨.hbm, 115, rfl⟩
abbrev main_v71_11 : Ref sig .tc := ⟨.hbm, 116, rfl⟩
abbrev main_v71_12 : Ref sig .tc := ⟨.hbm, 117, rfl⟩
abbrev main_v71_13 : Ref sig .tc := ⟨.hbm, 118, rfl⟩
abbrev main_v71_14 : Ref sig .tc := ⟨.hbm, 119, rfl⟩
abbrev main_v71_15 : Ref sig .tc := ⟨.hbm, 120, rfl⟩
abbrev main_while0c_c_34 : Ref sig .tc := ⟨.hbm, 121, rfl⟩
abbrev main_while0c_v122 : Ref sig .tc := ⟨.hbm, 122, rfl⟩
abbrev main_while0b_c_34 : Ref sig .tc := ⟨.hbm, 123, rfl⟩
abbrev main_while0b_v122 : Ref sig .tc := ⟨.hbm, 124, rfl⟩
abbrev main_while0b_c_35 : Ref sig .tc := ⟨.hbm, 125, rfl⟩
abbrev main_while0b_v123 : Ref sig .tc := ⟨.hbm, 126, rfl⟩
abbrev main_while0b_call1_c : Ref sig .tc := ⟨.hbm, 127, rfl⟩
abbrev main_while0b_call1_c_0 : Ref sig .tc := ⟨.hbm, 128, rfl⟩
abbrev main_while0b_call1_c_1 : Ref sig .tc := ⟨.hbm, 129, rfl⟩
abbrev main_while0b_call1_c_2 : Ref sig .tc := ⟨.hbm, 130, rfl⟩
abbrev main_while0b_call1_v0 : Ref sig .tc := ⟨.hbm, 131, rfl⟩
abbrev main_while0b_v124 : Ref sig .tc := ⟨.hbm, 132, rfl⟩
abbrev main_while0b_call2_c : Ref sig .tc := ⟨.hbm, 133, rfl⟩
abbrev main_while0b_call2_c_0 : Ref sig .tc := ⟨.hbm, 134, rfl⟩
abbrev main_while0b_call2_c_1 : Ref sig .tc := ⟨.hbm, 135, rfl⟩
abbrev main_while0b_call2_c_2 : Ref sig .tc := ⟨.hbm, 136, rfl⟩
abbrev main_while0b_call2_v0 : Ref sig .tc := ⟨.hbm, 137, rfl⟩
abbrev main_while0b_v125 : Ref sig .tc := ⟨.hbm, 138, rfl⟩
abbrev main_while0b_call3_c : Ref sig .tc := ⟨.hbm, 139, rfl⟩
abbrev main_while0b_call3_c_0 : Ref sig .tc := ⟨.hbm, 140, rfl⟩
abbrev main_while0b_call3_c_1 : Ref sig .tc := ⟨.hbm, 141, rfl⟩
abbrev main_while0b_call3_c_2 : Ref sig .tc := ⟨.hbm, 142, rfl⟩
abbrev main_while0b_call3_v0 : Ref sig .tc := ⟨.hbm, 143, rfl⟩
abbrev main_while0b_v126 : Ref sig .tc := ⟨.hbm, 144, rfl⟩
abbrev main_while0b_call4_c : Ref sig .tc := ⟨.hbm, 145, rfl⟩
abbrev main_while0b_call4_c_0 : Ref sig .tc := ⟨.hbm, 146, rfl⟩
abbrev main_while0b_call4_c_1 : Ref sig .tc := ⟨.hbm, 147, rfl⟩
abbrev main_while0b_call4_c_2 : Ref sig .tc := ⟨.hbm, 148, rfl⟩
abbrev main_while0b_call4_v0 : Ref sig .tc := ⟨.hbm, 149, rfl⟩
abbrev main_while0b_v127 : Ref sig .tc := ⟨.hbm, 150, rfl⟩
abbrev main_while0b_call5_c : Ref sig .tc := ⟨.hbm, 151, rfl⟩
abbrev main_while0b_call5_c_0 : Ref sig .tc := ⟨.hbm, 152, rfl⟩
abbrev main_while0b_call5_c_1 : Ref sig .tc := ⟨.hbm, 153, rfl⟩
abbrev main_while0b_call5_c_2 : Ref sig .tc := ⟨.hbm, 154, rfl⟩
abbrev main_while0b_call5_v0 : Ref sig .tc := ⟨.hbm, 155, rfl⟩
abbrev main_while0b_v128 : Ref sig .tc := ⟨.hbm, 156, rfl⟩
abbrev main_while0b_call6_c : Ref sig .tc := ⟨.hbm, 157, rfl⟩
abbrev main_while0b_call6_c_0 : Ref sig .tc := ⟨.hbm, 158, rfl⟩
abbrev main_while0b_call6_c_1 : Ref sig .tc := ⟨.hbm, 159, rfl⟩
abbrev main_while0b_call6_c_2 : Ref sig .tc := ⟨.hbm, 160, rfl⟩
abbrev main_while0b_call6_v0 : Ref sig .tc := ⟨.hbm, 161, rfl⟩
abbrev main_while0b_v129 : Ref sig .tc := ⟨.hbm, 162, rfl⟩
abbrev main_while0b_call7_c : Ref sig .tc := ⟨.hbm, 163, rfl⟩
abbrev main_while0b_call7_c_0 : Ref sig .tc := ⟨.hbm, 164, rfl⟩
abbrev main_while0b_call7_c_1 : Ref sig .tc := ⟨.hbm, 165, rfl⟩
abbrev main_while0b_call7_c_2 : Ref sig .tc := ⟨.hbm, 166, rfl⟩
abbrev main_while0b_call7_v0 : Ref sig .tc := ⟨.hbm, 167, rfl⟩
abbrev main_while0b_v130 : Ref sig .tc := ⟨.hbm, 168, rfl⟩
abbrev main_while0b_call8_c : Ref sig .tc := ⟨.hbm, 169, rfl⟩
abbrev main_while0b_call8_c_0 : Ref sig .tc := ⟨.hbm, 170, rfl⟩
abbrev main_while0b_call8_c_1 : Ref sig .tc := ⟨.hbm, 171, rfl⟩
abbrev main_while0b_call8_c_2 : Ref sig .tc := ⟨.hbm, 172, rfl⟩
abbrev main_while0b_call8_v0 : Ref sig .tc := ⟨.hbm, 173, rfl⟩
abbrev main_while0b_v131 : Ref sig .tc := ⟨.hbm, 174, rfl⟩
abbrev main_while0b_v132 : Ref sig .tc := ⟨.hbm, 175, rfl⟩
abbrev main_while0b_v133 : Ref sig .tc := ⟨.hbm, 176, rfl⟩
abbrev main_while0b_v134 : Ref sig .tc := ⟨.hbm, 177, rfl⟩
abbrev main_while0b_v135 : Ref sig .tc := ⟨.hbm, 178, rfl⟩
abbrev main_while0b_v136 : Ref sig .tc := ⟨.hbm, 179, rfl⟩
abbrev main_while0b_v137 : Ref sig .tc := ⟨.hbm, 180, rfl⟩
abbrev main_while0b_v138 : Ref sig .tc := ⟨.hbm, 181, rfl⟩
abbrev main_while0b_v139 : Ref sig .tc := ⟨.hbm, 182, rfl⟩
abbrev main_while0b_v140 : Ref sig .tc := ⟨.hbm, 183, rfl⟩
abbrev main_while0b_v141 : Ref sig .tc := ⟨.hbm, 184, rfl⟩
abbrev main_while0b_v142 : Ref sig .tc := ⟨.hbm, 185, rfl⟩
abbrev main_while0b_v143 : Ref sig .tc := ⟨.hbm, 186, rfl⟩
abbrev main_while0b_v144 : Ref sig .tc := ⟨.hbm, 187, rfl⟩
abbrev main_while0b_v145 : Ref sig .tc := ⟨.hbm, 188, rfl⟩
abbrev main_while0b_cst_36 : Ref sig .tc := ⟨.hbm, 189, rfl⟩
abbrev main_while0b_v146 : Ref sig .tc := ⟨.hbm, 190, rfl⟩
abbrev main_while0b_v147 : Ref sig .tc := ⟨.hbm, 191, rfl⟩
abbrev main_while0b_v148 : Ref sig .tc := ⟨.hbm, 192, rfl⟩
abbrev main_while0b_v149 : Ref sig .tc := ⟨.hbm, 193, rfl⟩
abbrev main_while0b_v150 : Ref sig .tc := ⟨.hbm, 194, rfl⟩
abbrev main_while0b_v151 : Ref sig .tc := ⟨.hbm, 195, rfl⟩
abbrev main_while0b_v152 : Ref sig .tc := ⟨.hbm, 196, rfl⟩
abbrev main_while0b_v153 : Ref sig .tc := ⟨.hbm, 197, rfl⟩
abbrev main_while0b_v154 : Ref sig .tc := ⟨.hbm, 198, rfl⟩
abbrev main_while0b_v155 : Ref sig .tc := ⟨.hbm, 199, rfl⟩
abbrev main_while0b_v156 : Ref sig .tc := ⟨.hbm, 200, rfl⟩
abbrev main_while0b_v157 : Ref sig .tc := ⟨.hbm, 201, rfl⟩
abbrev main_while0b_v158 : Ref sig .tc := ⟨.hbm, 202, rfl⟩
abbrev main_while0b_v159 : Ref sig .tc := ⟨.hbm, 203, rfl⟩
abbrev main_while0b_v160 : Ref sig .tc := ⟨.hbm, 204, rfl⟩
abbrev main_while0b_v161 : Ref sig .tc := ⟨.hbm, 205, rfl⟩
abbrev main_while0b_v162 : Ref sig .tc := ⟨.hbm, 206, rfl⟩
abbrev main_while0b_call9_v0 : Ref sig .tc := ⟨.hbm, 207, rfl⟩
abbrev main_while0b_call9_c : Ref sig .tc := ⟨.hbm, 208, rfl⟩
abbrev main_while0b_call9_c_0 : Ref sig .tc := ⟨.hbm, 209, rfl⟩
abbrev main_while0b_call9_c_1 : Ref sig .tc := ⟨.hbm, 210, rfl⟩
abbrev main_while0b_call9_c_2 : Ref sig .tc := ⟨.hbm, 211, rfl⟩
abbrev main_while0b_v163 : Ref sig .tc := ⟨.hbm, 212, rfl⟩
abbrev main_while0b_call10_v0 : Ref sig .tc := ⟨.hbm, 213, rfl⟩
abbrev main_while0b_call10_c : Ref sig .tc := ⟨.hbm, 214, rfl⟩
abbrev main_while0b_call10_c_0 : Ref sig .tc := ⟨.hbm, 215, rfl⟩
abbrev main_while0b_call10_c_1 : Ref sig .tc := ⟨.hbm, 216, rfl⟩
abbrev main_while0b_call10_c_2 : Ref sig .tc := ⟨.hbm, 217, rfl⟩
abbrev main_while0b_v164 : Ref sig .tc := ⟨.hbm, 218, rfl⟩
abbrev main_while0b_call11_v0 : Ref sig .tc := ⟨.hbm, 219, rfl⟩
abbrev main_while0b_call11_c : Ref sig .tc := ⟨.hbm, 220, rfl⟩
abbrev main_while0b_call11_c_0 : Ref sig .tc := ⟨.hbm, 221, rfl⟩
abbrev main_while0b_call11_c_1 : Ref sig .tc := ⟨.hbm, 222, rfl⟩
abbrev main_while0b_call11_c_2 : Ref sig .tc := ⟨.hbm, 223, rfl⟩
abbrev main_while0b_v165 : Ref sig .tc := ⟨.hbm, 224, rfl⟩
abbrev main_while0b_call12_v0 : Ref sig .tc := ⟨.hbm, 225, rfl⟩
abbrev main_while0b_call12_c : Ref sig .tc := ⟨.hbm, 226, rfl⟩
abbrev main_while0b_call12_c_0 : Ref sig .tc := ⟨.hbm, 227, rfl⟩
abbrev main_while0b_call12_c_1 : Ref sig .tc := ⟨.hbm, 228, rfl⟩
abbrev main_while0b_call12_c_2 : Ref sig .tc := ⟨.hbm, 229, rfl⟩
abbrev main_while0b_v166 : Ref sig .tc := ⟨.hbm, 230, rfl⟩
abbrev main_while0b_call13_v0 : Ref sig .tc := ⟨.hbm, 231, rfl⟩
abbrev main_while0b_call13_c : Ref sig .tc := ⟨.hbm, 232, rfl⟩
abbrev main_while0b_call13_c_0 : Ref sig .tc := ⟨.hbm, 233, rfl⟩
abbrev main_while0b_call13_c_1 : Ref sig .tc := ⟨.hbm, 234, rfl⟩
abbrev main_while0b_call13_c_2 : Ref sig .tc := ⟨.hbm, 235, rfl⟩
abbrev main_while0b_v167 : Ref sig .tc := ⟨.hbm, 236, rfl⟩
abbrev main_while0b_call14_v0 : Ref sig .tc := ⟨.hbm, 237, rfl⟩
abbrev main_while0b_call14_c : Ref sig .tc := ⟨.hbm, 238, rfl⟩
abbrev main_while0b_call14_c_0 : Ref sig .tc := ⟨.hbm, 239, rfl⟩
abbrev main_while0b_call14_c_1 : Ref sig .tc := ⟨.hbm, 240, rfl⟩
abbrev main_while0b_call14_c_2 : Ref sig .tc := ⟨.hbm, 241, rfl⟩
abbrev main_while0b_v168 : Ref sig .tc := ⟨.hbm, 242, rfl⟩
abbrev main_while0b_c_37 : Ref sig .tc := ⟨.hbm, 243, rfl⟩
abbrev main_while0b_v169 : Ref sig .tc := ⟨.hbm, 244, rfl⟩
abbrev main_v72 : Ref sig .tc := ⟨.hbm, 245, rfl⟩
abbrev main_v73 : Ref sig .tc := ⟨.hbm, 246, rfl⟩
abbrev main_v74 : Ref sig .tc := ⟨.hbm, 247, rfl⟩
abbrev main_v75 : Ref sig .tc := ⟨.hbm, 248, rfl⟩
abbrev main_v76 : Ref sig .tc := ⟨.hbm, 249, rfl⟩
abbrev main_v77 : Ref sig .tc := ⟨.hbm, 250, rfl⟩
abbrev main_v78 : Ref sig .tc := ⟨.hbm, 251, rfl⟩
abbrev main_v79 : Ref sig .tc := ⟨.hbm, 252, rfl⟩
abbrev main_v80 : Ref sig .tc := ⟨.hbm, 253, rfl⟩
abbrev main_v81 : Ref sig .tc := ⟨.hbm, 254, rfl⟩
abbrev main_v82 : Ref sig .tc := ⟨.hbm, 255, rfl⟩
abbrev main_v83 : Ref sig .tc := ⟨.hbm, 256, rfl⟩
abbrev main_v84 : Ref sig .tc := ⟨.hbm, 257, rfl⟩
abbrev main_v85 : Ref sig .tc := ⟨.hbm, 258, rfl⟩
abbrev main_v86 : Ref sig .tc := ⟨.hbm, 259, rfl⟩
abbrev main_v87 : Ref sig .tc := ⟨.hbm, 260, rfl⟩
abbrev main_v88 : Ref sig .tc := ⟨.hbm, 261, rfl⟩
abbrev main_v89 : Ref sig .tc := ⟨.hbm, 262, rfl⟩
abbrev main_cst_13 : Ref sig .tc := ⟨.hbm, 263, rfl⟩
abbrev main_v90 : Ref sig .tc := ⟨.hbm, 264, rfl⟩
abbrev main_v91 : Ref sig .tc := ⟨.hbm, 265, rfl⟩
abbrev main_cst_14 : Ref sig .tc := ⟨.hbm, 266, rfl⟩
abbrev main_v92 : Ref sig .tc := ⟨.hbm, 267, rfl⟩
abbrev main_v93 : Ref sig .tc := ⟨.hbm, 268, rfl⟩
abbrev main_cst_15 : Ref sig .tc := ⟨.hbm, 269, rfl⟩
abbrev main_v94 : Ref sig .tc := ⟨.hbm, 270, rfl⟩
abbrev main_v95 : Ref sig .tc := ⟨.hbm, 271, rfl⟩
abbrev main_v96 : Ref sig .tc := ⟨.hbm, 272, rfl⟩
abbrev main_v97 : Ref sig .tc := ⟨.hbm, 273, rfl⟩
abbrev main_v98 : Ref sig .tc := ⟨.hbm, 274, rfl⟩
abbrev main_v99 : Ref sig .tc := ⟨.hbm, 275, rfl⟩
abbrev main_v100 : Ref sig .tc := ⟨.hbm, 276, rfl⟩
abbrev main_v101 : Ref sig .tc := ⟨.hbm, 277, rfl⟩
abbrev main_v102 : Ref sig .tc := ⟨.hbm, 278, rfl⟩
abbrev main_call15_v0 : Ref sig .tc := ⟨.hbm, 279, rfl⟩
abbrev main_call15_v1 : Ref sig .tc := ⟨.hbm, 280, rfl⟩
abbrev main_call15_cst : Ref sig .tc := ⟨.hbm, 281, rfl⟩
abbrev main_call15_v2 : Ref sig .tc := ⟨.hbm, 282, rfl⟩
abbrev main_call15_v3 : Ref sig .tc := ⟨.hbm, 283, rfl⟩
abbrev main_call15_cst_0 : Ref sig .tc := ⟨.hbm, 284, rfl⟩
abbrev main_call15_v4 : Ref sig .tc := ⟨.hbm, 285, rfl⟩
abbrev main_v103_2 : Ref sig .tc := ⟨.hbm, 286, rfl⟩
abbrev main_call15_cst_1 : Ref sig .tc := ⟨.hbm, 287, rfl⟩
abbrev main_call15_v6 : Ref sig .tc := ⟨.hbm, 288, rfl⟩
abbrev main_call15_v7 : Ref sig .tc := ⟨.hbm, 289, rfl⟩
abbrev main_v103_1 : Ref sig .tc := ⟨.hbm, 290, rfl⟩
abbrev main_v103_0 : Ref sig .tc := ⟨.hbm, 291, rfl⟩
abbrev main_v104 : Ref sig .tc := ⟨.hbm, 292, rfl⟩
abbrev main_v105 : Ref sig .tc := ⟨.hbm, 293, rfl⟩
abbrev main_v106 : Ref sig .tc := ⟨.hbm, 294, rfl⟩
abbrev main_v107 : Ref sig .tc := ⟨.hbm, 295, rfl⟩
abbrev main_v108 : Ref sig .tc := ⟨.hbm, 296, rfl⟩
abbrev main_call16_v0 : Ref sig .tc := ⟨.hbm, 297, rfl⟩
abbrev main_call16_v1 : Ref sig .tc := ⟨.hbm, 298, rfl⟩
abbrev main_call16_v2 : Ref sig .tc := ⟨.hbm, 299, rfl⟩
abbrev main_v109 : Ref sig .tc := ⟨.hbm, 300, rfl⟩
abbrev main_v110 : Ref sig .tc := ⟨.hbm, 301, rfl⟩
abbrev main_v111 : Ref sig .tc := ⟨.hbm, 302, rfl⟩
abbrev main_cst_16 : Ref sig .tc := ⟨.hbm, 303, rfl⟩
abbrev main_v112 : Ref sig .tc := ⟨.hbm, 304, rfl⟩
abbrev main_v113 : Ref sig .tc := ⟨.hbm, 305, rfl⟩
abbrev main_cst_17 : Ref sig .tc := ⟨.hbm, 306, rfl⟩
abbrev main_v114 : Ref sig .tc := ⟨.hbm, 307, rfl⟩
abbrev main_v115 : Ref sig .tc := ⟨.hbm, 308, rfl⟩
abbrev main_v116 : Ref sig .tc := ⟨.hbm, 309, rfl⟩
abbrev main_v117 : Ref sig .tc := ⟨.hbm, 310, rfl⟩
abbrev main_v118 : Ref sig .tc := ⟨.hbm, 311, rfl⟩
abbrev main_v119 : Ref sig .tc := ⟨.hbm, 312, rfl⟩
abbrev main_v120 : Ref sig .tc := ⟨.hbm, 313, rfl⟩
abbrev main_c_18 : Ref sig .tc := ⟨.hbm, 314, rfl⟩
abbrev main_call17_v0 : Ref sig .tc := ⟨.hbm, 315, rfl⟩
abbrev main_v121 : Ref sig .tc := ⟨.hbm, 316, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x2816 : Shape := ⟨2, ![8192, 2816]⟩
abbrev S8192x1024 : Shape := ⟨2, ![8192, 1024]⟩
abbrev S8x128 : Shape := ⟨2, ![8, 128]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x128, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x2816 : Shape := ⟨2, ![8192, 2816]⟩
abbrev S8192x1024 : Shape := ⟨2, ![8192, 1024]⟩
abbrev S8x128 : Shape := ⟨2, ![8, 128]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x128, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S8x352x1024 : Shape := ⟨3, ![8, 352, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S2816x1024 : Shape := ⟨2, ![2816, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x352x1024, .bf16⟩
  | .hbm, ⟨3, _⟩ => ⟨S8x352x1024, .bf16⟩
  | .hbm, ⟨4, _⟩ => ⟨S8x352x1024, .bf16⟩
  | .hbm, ⟨5, _⟩ => ⟨S8192x1024, .f32⟩
  | .hbm, ⟨6, _⟩ => ⟨S8192x2816, .bf16⟩
  | .hbm, ⟨7, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S8x352x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8192x1024 : Shape := ⟨2, ![8192, 1024]⟩
abbrev S1x1024 : Shape := ⟨2, ![1, 1024]⟩
abbrev S8x352x1024 : Shape := ⟨3, ![8, 352, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x352x1024, .bf16⟩
  | .hbm, ⟨3, _⟩ => ⟨S8x352x1024, .bf16⟩
  | .hbm, ⟨4, _⟩ => ⟨S8x352x1024, .bf16⟩
  | .hbm, ⟨5, _⟩ => ⟨S8x352x1024, .f32⟩
  | .hbm, ⟨6, _⟩ => ⟨S2816x1024, .f32⟩
  | .hbm, ⟨7, _⟩ => ⟨S1024x2816, .f32⟩
  | .hbm, ⟨8, _⟩ => ⟨S8x352x1024, .f32⟩
  | .hbm, ⟨9, _⟩ => ⟨S2816x1024, .f32⟩
  | .hbm, ⟨10, _⟩ => ⟨S1024x2816, .f32⟩
  | .hbm, ⟨11, _⟩ => ⟨S8x352x1024, .f32⟩
  | .hbm, ⟨12, _⟩ => ⟨S2816x1024, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x2816, .bf16⟩
  | .hbm, ⟨48, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S8x352x1024 : Shape := ⟨3, ![8, 352, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S1024x2816 : Shape := ⟨2, ![1024, 2816]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 40
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x352x1024, .bf16⟩
  | .hbm, ⟨4, _⟩ => ⟨S8x352x1024, .bf16⟩
  | .hbm, ⟨5, _⟩ => ⟨S8x352x1024, .bf16⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8x352x1024, .f32⟩
  | .hbm, ⟨24, _⟩ => ⟨S2816x1024, .f32⟩
  | .hbm, ⟨25, _⟩ => ⟨S1024x2816, .f32⟩
  | .hbm, ⟨26, _⟩ => ⟨S8192x2816, .f32⟩
  | .hbm, ⟨27, _⟩ => ⟨S8x352x1024, .f32⟩
  | .hbm, ⟨28, _⟩ => ⟨S2816x1024, .f32⟩
  | .hbm, ⟨29, _⟩ => ⟨S1024x2816, .f32⟩
  | .hbm, ⟨30, _⟩ => ⟨S8192x2816, .f32⟩
  | .hbm, ⟨31, _⟩ => ⟨S8192x2816, .bf16⟩
  | .hbm, ⟨32, _⟩ => ⟨S8192x2816, .bf16⟩
  | .hbm, ⟨33, _⟩ => ⟨S8192x1024, .f32⟩
  | .hbm, ⟨34, _⟩ => ⟨S8x1024, .f32⟩
  | .hbm, ⟨35, _⟩ => ⟨S8192x1024, .bf16⟩
  | .hbm, ⟨36, _⟩ => ⟨S8192x2816, .bf16⟩
  | .hbm, ⟨37, _⟩ => ⟨S8192x2816, .bf16⟩
  | .hbm, ⟨38, _⟩ => ⟨S8192x2816, .bf16⟩
  | .hbm, ⟨39, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x1024, .f32⟩
  | .local _ .vmem, ⟨8, _⟩ => ⟨S256x1024, .f32⟩
  | .local _ .vmem, ⟨9, _⟩ => ⟨S8x352x1024, .bf16⟩
  | .local _ .vmem, ⟨10, _⟩ => ⟨S8x352x1024, .bf16⟩
  | .local _ .vmem, ⟨11, _⟩ => ⟨S8x352x1024, .bf16⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S256x1024, .bf16⟩
  | .local _ .vmem, ⟨16, _⟩ => ⟨S256x1024, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .bf16⟩
  | .local _ .vmem, ⟨24, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev main_v24_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x352x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8192x1024 : Shape := ⟨2, ![8192, 1024]⟩
abbrev S1x1024 : Shape := ⟨2, ![1, 1024]⟩
abbrev S8x352x1024 : Shape := ⟨3, ![8, 352, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8x1024 : Shape := ⟨2, ![8, 1024]⟩

abbrev nBuf : Space → Nat
  | .hbm => 162
  | .vmem => 0
  | .smem => 0
  | _ => 0

abbrev hbmTy0_0 (i : Nat) : BufTy := match i % 128 with
  | 0 => ⟨S8192x1024, .f32⟩
  | 1 => ⟨S1x1024, .f32⟩
  | 2 => ⟨S8192x1024, .f32⟩
  | 3 => ⟨S8x352x1024, .bf16⟩
  | 4 => ⟨S8x352x1024, .bf16⟩
  | 5 => ⟨S8x352x1024, .bf16⟩
  | 6 => ⟨S8x352x1024, .f32⟩
  | 7 => ⟨S2816x1024, .f32⟩
  | 8 => ⟨S1024x2816, .f32⟩
  | 9 => ⟨S8x352x1024, .f32⟩
  | 10 => ⟨S2816x1024, .f32⟩
  | 11 => ⟨S1024x2816, .f32⟩
  | 12 => ⟨S8x352x1024, .f32⟩
  | 13 => ⟨S2816x1024, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x2816, .f32⟩
  | 36 => ⟨S8192x2816, .f32⟩
  | 37 => ⟨S8192x2816, .f32⟩
  | 38 => ⟨S_, .f32⟩
  | 39 => ⟨S8192x2816, .f32⟩
  | 40 => ⟨S8192x2816, .f32⟩
  | 41 => ⟨S_, .f32⟩
  | 42 => ⟨S8192x2816, .f32⟩
  | 43 => ⟨S8192x2816, .f32⟩
  | 44 => ⟨S_, .f32⟩
  | 45 => ⟨S8192x2816, .f32⟩
  | 46 => ⟨S8192x2816, .f32⟩
  | 47 => ⟨S8192x2816, .f32⟩
  | 48 => ⟨S8192x2816, .f32⟩
  | 49 => ⟨S8192x2816, .f32⟩
  | 50 => ⟨S8192x2816, .f32⟩
  | 51 => ⟨S8192x1024, .f32⟩
  | 52 => ⟨S_, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S8192x2816, .f32⟩
  | 61 => ⟨S8192x2816, .f32⟩
  | 62 => ⟨S8192x2816, .f32⟩
  | 63 => ⟨S8192x1024, .f32⟩
  | 64 => ⟨S8192x2816, .f32⟩
  | 65 => ⟨S8192x2816, .f32⟩
  | 66 => ⟨S8192x2816, .f32⟩
  | 67 => ⟨S8192x2816, .f32⟩
  | 68 => ⟨S8192x1024, .f32⟩
  | 69 => ⟨S8192x1024, .f32⟩
  | 70 => ⟨S8192x1024, .f32⟩
  | 71 => ⟨S_, .f32⟩
  | 72 => ⟨S1024, .f32⟩
  | 73 => ⟨S1x1024, .f32⟩
  | 74 => ⟨S8192x1024, .f32⟩
  | 75 => ⟨S8192x1024, .f32⟩
  | 76 => ⟨S_, .f32⟩
  | 77 => ⟨S1024, .f32⟩
  | 78 => ⟨S8192x1024, .f32⟩
  | 79 => ⟨S_, .f32⟩
  | 80 => ⟨S8192, .f32⟩
  | 81 => ⟨S8192x1, .f32⟩
  | 82 => ⟨S8192x1024, .f32⟩
  | 83 => ⟨S8192x1024, .f32⟩
  | 84 => ⟨S8192x1024, .f32⟩
  | 85 => ⟨S8192x1, .f32⟩
  | 86 => ⟨S_, .f32⟩
  | 87 => ⟨S8192x1, .f32⟩
  | 88 => ⟨S8192x1, .f32⟩
  | 89 => ⟨S_, .f32⟩
  | 90 => ⟨S8192, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S1024, .f32⟩
  | 97 => ⟨S8192x1024, .f32⟩
  | 98 => ⟨S_, .f32⟩
  | 99 => ⟨S8192, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192x1, .f32⟩
  | 106 => ⟨S8192x1, .f32⟩
  | 107 => ⟨S8192x1, .f32⟩
  | 108 => ⟨S8192x1024, .f32⟩
  | 109 => ⟨S8192x1024, .f32⟩
  | 110 => ⟨S1x1024, .f32⟩
  | 111 => ⟨S8192x1024, .f32⟩
  | 112 => ⟨S8192x1024, .f32⟩
  | 113 => ⟨S8192x2816, .f32⟩
  | 114 => ⟨S8192x2816, .f32⟩
  | 115 => ⟨S_, .f32⟩
  | 116 => ⟨S8192x1024, .f32⟩
  | 117 => ⟨S8192x1024, .f32⟩
  | 118 => ⟨S1024x2816, .f32⟩
  | 119 => ⟨S8192x2816, .f32⟩
  | 120 => ⟨S8192x2816, .f32⟩
  | 121 => ⟨S8192x2816, .f32⟩
  | 122 => ⟨S_, .f32⟩
  | 123 => ⟨S8192x2816, .f32⟩
  | 124 => ⟨S8192x2816, .f32⟩
  | 125 => ⟨S_, .f32⟩
  | 126 => ⟨S8192x2816, .f32⟩
  | 127 => ⟨S8192x2816, .f32⟩
  | _ => ⟨S8192x1024, .f32⟩

abbrev hbmTy0_1 (i : Nat) : BufTy := match i % 128 with
  | 0 => ⟨S_, .f32⟩
  | 1 => ⟨S8192x2816, .f32⟩
  | 2 => ⟨S8192x2816, .f32⟩
  | 3 => ⟨S8192x2816, .f32⟩
  | 4 => ⟨S8192x2816, .f32⟩
  | 5 => ⟨S8192x2816, .f32⟩
  | 6 => ⟨S8192x2816, .f32⟩
  | 7 => ⟨S8192x2816, .f32⟩
  | 8 => ⟨S8192x2816, .f32⟩
  | 9 => ⟨S8192x2816, .f32⟩
  | 10 => ⟨S8192x2816, .f32⟩
  | 11 => ⟨S8192x2816, .f32⟩
  | 12 => ⟨S1x1024, .f32⟩
  | 13 => ⟨S_, .i32⟩
  | 14 => ⟨S_, .f32⟩
  | 15 => ⟨S8x1024, .f32⟩
  | 16 => ⟨S8192x2816, .f32⟩
  | 17 => ⟨S8192x2816, .f32⟩
  | 18 => ⟨S_, .f32⟩
  | 19 => ⟨S8192x2816, .f32⟩
  | 20 => ⟨S8192x2816, .f32⟩
  | 21 => ⟨S_, .f32⟩
  | 22 => ⟨S8192x2816, .f32⟩
  | 23 => ⟨S8192x2816, .f32⟩
  | 24 => ⟨S8192x2816, .f32⟩
  | 25 => ⟨S8192x2816, .f32⟩
  | 26 => ⟨S_, .f32⟩
  | 27 => ⟨S8192x1024, .f32⟩
  | 28 => ⟨S8192x1024, .f32⟩
  | 29 => ⟨S8192x1024, .bf16⟩
  | 30 => ⟨S8192x2816, .bf16⟩
  | 31 => ⟨S8192x2816, .bf16⟩
  | 32 => ⟨S8192x2816, .bf16⟩
  | 33 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v26_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v26_1 : Ref sig .tc := ⟨.hbm, 47, rfl⟩
abbrev main_v26_0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_13 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_v84_2 : Ref sig .tc := ⟨.hbm, 127, rfl⟩
abbrev main_call2_cst_1 : Ref sig .tc := ⟨.hbm, 128, rfl⟩
abbrev main_call2_v6 : Ref sig .tc := ⟨.hbm, 129, rfl⟩
abbrev main_call2_v7 : Ref sig .tc := ⟨.hbm, 130, rfl⟩
abbrev main_v84_1 : Ref sig .tc := ⟨.hbm, 131, rfl⟩
abbrev main_v84_0 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v88 : Ref sig .tc := ⟨.hbm, 139, rfl⟩
abbrev main_v89 : Ref sig .tc := ⟨.hbm, 140, rfl⟩
abbrev main_c : Ref sig .tc := ⟨.hbm, 141, rfl⟩
abbrev main_call4_v0 : Ref sig .tc := ⟨.hbm, 142, rfl⟩
abbrev main_v90 : Ref sig .tc := ⟨.hbm, 143, rfl⟩
abbrev main_call5_v0 : Ref sig .tc := ⟨.hbm, 144, rfl⟩
abbrev main_call5_v1 : Ref sig .tc := ⟨.hbm, 145, rfl⟩
abbrev main_call5_cst : Ref sig .tc := ⟨.hbm, 146, rfl⟩
abbrev main_call5_v2 : Ref sig .tc := ⟨.hbm, 147, rfl⟩
abbrev main_call5_v3 : Ref sig .tc := ⟨.hbm, 148, rfl⟩
abbrev main_call5_cst_0 : Ref sig .tc := ⟨.hbm, 149, rfl⟩
abbrev main_call5_v4 : Ref sig .tc := ⟨.hbm, 150, rfl⟩
abbrev main_call5_v5 : Ref sig .tc := ⟨.hbm, 151, rfl⟩
abbrev main_v91 : Ref sig .tc := ⟨.hbm, 152, rfl⟩
abbrev main_v92 : Ref sig .tc := ⟨.hbm, 153, rfl⟩
abbrev main_cst_14 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S8x128x1024 : Shape := ⟨3, ![8, 128, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8x128x1024, .bf16⟩
  | .hbm, ⟨4, _⟩ => ⟨S8192x512, .f32⟩
  | .hbm, ⟨5, _⟩ => ⟨S8192x512, .f32⟩
  | .hbm, ⟨6, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x128x1024, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1024x1024, .bf16⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_18 : BitVec 32 := 0#32
  let v23 : BitVec 1 := Scalar.cmpi .ne v22 c0_i32_18
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x1024 : Shape := ⟨2, ![8192, 1024]⟩
abbrev S8192x512 : Shape := ⟨2, ![8192, 512]⟩
abbrev S8x128x1024 : Shape := ⟨3, ![8, 128, 1024]⟩
abbrev S1024x1024 : Shape := ⟨2, ![1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8x128x1024, .bf16⟩
  | .hbm, ⟨4, _⟩ => ⟨S8x128x1024, .f32⟩
  | .hbm, ⟨5, _⟩ => ⟨S1024x1024, .f32⟩
  | .hbm, ⟨6, _⟩ => ⟨S8192x512, .f32⟩
  | .hbm, ⟨7, _⟩ => ⟨S8192x512, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S8192x1024, .f32⟩
  | .hbm, ⟨13, _⟩ => ⟨S8192x512, .f32⟩
  | .hbm, ⟨14, _⟩ => ⟨S8192x512, .f32⟩
  | .hbm, ⟨15, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S8192x512 : Shape := ⟨2, ![8192, 512]⟩
abbrev S8x320x1024 : Shape := ⟨3, ![8, 320, 1024]⟩
abbrev S8x1024 : Shape := ⟨2, ![8, 1024]⟩
abbrev S2560x1024 : Shape := ⟨2, ![2560, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2560 : Shape := ⟨2, ![512, 2560]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x1024, .f32⟩
  | .hbm, ⟨8, _⟩ => ⟨S8x320x1024, .bf16⟩
  | .hbm, ⟨9, _⟩ => ⟨S8192x1024, .f32⟩
  | .hbm, ⟨10, _⟩ => ⟨S8x1024, .f32⟩
  | .hbm, ⟨11, _⟩ => ⟨S2560x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1024, .f32⟩
  | .local _ .vmem, ⟨14, _⟩ => ⟨S512x1024, .f32⟩
  | .local _ .vmem, ⟨15, _⟩ => ⟨S8x320x1024, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S2560x1024, .bf16⟩
  | .local _ .vmem, ⟨20, _⟩ => ⟨S2560x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v58 : BitVec 1 := Scalar.cmpi .eq arg0 c15_i32
  let v59 : BitVec 32 := Scalar.extui v58
  let c0_i32_38 : BitVec 32 := 0#32
  let v60 : BitVec 1 := Scalar.cmpi .ne v59 c0_i32_38
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x320x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2560x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S8192x1024 : Shape := ⟨2, ![8192, 1024]⟩
abbrev S1x1024 : Shape := ⟨2, ![1, 1024]⟩
abbrev S8192x512 : Shape := ⟨2, ![8192, 512]⟩
abbrev S8x320x1024 : Shape := ⟨3, ![8, 320, 1024]⟩
abbrev S1024 : Shape := ⟨1, ![1024]⟩
abbrev S2560x1024 : Shape := ⟨2, ![2560, 1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x1024, .f32⟩
  | .hbm, ⟨8, _⟩ => ⟨S8x320x1024, .bf16⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S1024, .f32⟩
  | .hbm, ⟨15, _⟩ => ⟨S8x320x1024, .f32⟩
  | .hbm, ⟨16, _⟩ => ⟨S2560x1024, .f32⟩
  | .hbm, ⟨17, _⟩ => ⟨S1024x2560, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x2560, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x2560, .f32⟩
  | .hbm, ⟨45, _⟩ => ⟨S2560x1024, .f32⟩
  | .hbm, ⟨46, _⟩ => ⟨S1024x2560, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S_, .i32⟩
  | .hbm, ⟨76, _⟩ => ⟨S_, .f32⟩
  | .hbm, ⟨77, _⟩ => ⟨S8x1024, .f32⟩
  | .hbm, ⟨78, _⟩ => ⟨S2560x1024, .f32⟩
  | .hbm, ⟨79, _⟩ => ⟨S2560x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call0_v0 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S8192x512 : Shape := ⟨2, ![8192, 512]⟩
abbrev S8192x1536 : Shape := ⟨2, ![8192, 1536]⟩
abbrev S8192x128 : Shape := ⟨2, ![8192, 128]⟩
abbrev S2688x1024 : Shape := ⟨2, ![2688, 1024]⟩
abbrev S8x1024 : Shape := ⟨2, ![8, 1024]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S512x2688 : Shape := ⟨2, ![512, 2688]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x512, .bf16⟩
  | .hbm, ⟨3, _⟩ => ⟨S8192x1536, .bf16⟩
  | .hbm, ⟨4, _⟩ => ⟨S8192x512, .bf16⟩
  | .hbm, ⟨5, _⟩ => ⟨S8192x128, .bf16⟩
  | .hbm, ⟨6, _⟩ => ⟨S8192x1024, .f32⟩
  | .hbm, ⟨7, _⟩ => ⟨S2688x1024, .bf16⟩
  | .hbm, ⟨8, _⟩ => ⟨S8192x1024, .f32⟩
  | .hbm, ⟨9, _⟩ => ⟨S8x1024, .f32⟩
  | .hbm, ⟨10, _⟩ => ⟨S2688x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x1536, .bf16⟩
  | .local _ .vmem, ⟨6, _⟩ => ⟨S512x1536, .bf16⟩
  | .local _ .vmem, ⟨7, _⟩ => ⟨S512x512, .bf16⟩
  | .local _ .vmem, ⟨8, _⟩ => ⟨S512x512, .bf16⟩
  | .local _ .vmem, ⟨9, _⟩ => ⟨S512x128, .bf16⟩
  | .local _ .vmem, ⟨10, _⟩ => ⟨S512x128, .bf16⟩
  | .local _ .vmem, ⟨11, _⟩ => ⟨S512x1024, .f32⟩
  | .local _ .vmem, ⟨12, _⟩ => ⟨S512x1024, .f32⟩
  | .local _ .vmem, ⟨13, _⟩ => ⟨S2688x1024, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S2688x1024, .bf16⟩
  | .local _ .vmem, ⟨18, _⟩ => ⟨S2688x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v56 : BitVec 1 := Scalar.cmpi .eq arg0 c15_i32
  let v57 : BitVec 32 := Scalar.extui v56
  let c0_i32_35 : BitVec 32 := 0#32
  let v58 : BitVec 1 := Scalar.cmpi .ne v57 c0_i32_35
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2688x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2688x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S8192x1024 : Shape := ⟨2, ![8192, 1024]⟩
abbrev S1x1024 : Shape := ⟨2, ![1, 1024]⟩
abbrev S8192x512 : Shape := ⟨2, ![8192, 512]⟩
abbrev S8192x1536 : Shape := ⟨2, ![8192, 1536]⟩
abbrev S8192x128 : Shape := ⟨2, ![8192, 128]⟩
abbrev S2688x1024 : Shape := ⟨2, ![2688, 1024]⟩
abbrev S1024 : Shape := ⟨1, ![1024]⟩
abbrev S1024x2688 : Shape := ⟨2, ![1024, 2688]⟩
abbrev S_ : Shape := ⟨0, ![]⟩
abbrev S8192 : Shape := ⟨1, ![8192]⟩
abbrev S8192x1 : Shape := ⟨2, ![8192, 1]⟩
abbrev S8192x2688 : Shape := ⟨2, ![8192, 2688]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x512, .bf16⟩
  | .hbm, ⟨3, _⟩ => ⟨S8192x1536, .bf16⟩
  | .hbm, ⟨4, _⟩ => ⟨S8192x512, .bf16⟩
  | .hbm, ⟨5, _⟩ => ⟨S8192x128, .bf16⟩
  | .hbm, ⟨6, _⟩ => ⟨S8192x1024, .f32⟩
  | .hbm, ⟨7, _⟩ => ⟨S2688x1024, .bf16⟩
  | .hbm, ⟨8, _⟩ => ⟨S8192x512, .f32⟩
  | .hbm, ⟨9, _⟩ => ⟨S8192x1536, .f32⟩
  | .hbm, ⟨10, _⟩ => ⟨S8192x512, .f32⟩
  | .hbm, ⟨11, _⟩ => ⟨S8192x128, .f32⟩
  | .hbm, ⟨12, _⟩ => ⟨S1024, .f32⟩
  | .hbm, ⟨13, _⟩ => ⟨S2688x1024, .f32⟩
  | .hbm, ⟨14, _⟩ => ⟨S1024x2688, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x2688, .f32⟩
  | .hbm, ⟨36, _⟩ => ⟨S8192x512, .f32⟩
  | .hbm, ⟨37, _⟩ => ⟨S8192x1536, .f32⟩
  | .hbm, ⟨38, _⟩ => ⟨S8192x512, .f32⟩
  | .hbm, ⟨39, _⟩ => ⟨S8192x128, .f32⟩
  | .hbm, ⟨40, _⟩ => ⟨S8192x2688, .f32⟩
  | .hbm, ⟨41, _⟩ => ⟨S2688x1024, .f32⟩
  | .hbm, ⟨42, _⟩ => ⟨S1024x2688, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S_, .i32⟩
  | .hbm, ⟨72, _⟩ => ⟨S_, .f32⟩
  | .hbm, ⟨73, _⟩ => ⟨S8x1024, .f32⟩
  | .hbm, ⟨74, _⟩ => ⟨S2688x1024, .f32⟩
  | .hbm, ⟨75, _⟩ => ⟨S2688x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c : Ref sig .tc := ⟨.hbm, 71, rfl⟩
abbrev main_call0_v0 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S8x320x1024 : Shape := ⟨3, ![8, 320, 1024]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S2560x1024 : Shape := ⟨2, ![2560, 1024]⟩
abbrev S512x2560 : Shape := ⟨2, ![512, 2560]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x320x1024, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x320x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x320x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8192x1024 : Shape := ⟨2, ![8192, 1024]⟩
abbrev S1x1024 : Shape := ⟨2, ![1, 1024]⟩
abbrev S8x320x1024 : Shape := ⟨3, ![8, 320, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2560x1024 : Shape := ⟨2, ![2560, 1024]⟩
abbrev S1024x2560 : Shape := ⟨2, ![1024, 2560]⟩
abbrev S8192x2560 : Shape := ⟨2, ![8192, 2560]⟩
abbrev S8192x512 : Shape := ⟨2, ![8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x320x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8x320x1024, .f32⟩
  | .hbm, ⟨21, _⟩ => ⟨S2560x1024, .f32⟩
  | .hbm, ⟨22, _⟩ => ⟨S1024x2560, .f32⟩
  | .hbm, ⟨23, _⟩ => ⟨S8192x2560, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S2688x1024 : Shape := ⟨2, ![2688, 1024]⟩
abbrev S8192x512 : Shape := ⟨2, ![8192, 512]⟩
abbrev S8192x1536 : Shape := ⟨2, ![8192, 1536]⟩
abbrev S8192x128 : Shape := ⟨2, ![8192, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S512x2688 : Shape := ⟨2, ![512, 2688]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2688x1024, .bf16⟩
  | .hbm, ⟨3, _⟩ => ⟨S8192x512, .f32⟩
  | .hbm, ⟨4, _⟩ => ⟨S8192x1536, .f32⟩
  | .hbm, ⟨5, _⟩ => ⟨S8192x512, .f32⟩
  | .hbm, ⟨6, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2688x1024, .bf16⟩
  | .local _ .vmem, ⟨4, _⟩ => ⟨S512x512, .f32⟩
  | .local _ .vmem, ⟨5, _⟩ => ⟨S512x512, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2688x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x1024 : Shape := ⟨2, ![8192, 1024]⟩
abbrev S1x1024 : Shape := ⟨2, ![1, 1024]⟩
abbrev S2688x1024 : Shape := ⟨2, ![2688, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2688 : Shape := ⟨2, ![1024, 2688]⟩
abbrev S8192x2688 : Shape := ⟨2, ![8192, 2688]⟩
abbrev S8192x512 : Shape := ⟨2, ![8192, 512]⟩
abbrev S8192x1536 : Shape := ⟨2, ![8192, 1536]⟩
abbrev S8192x128 : Shape := ⟨2, ![8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2688x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S2688x1024, .f32⟩
  | .hbm, ⟨21, _⟩ => ⟨S1024x2688, .f32⟩
  | .hbm, ⟨22, _⟩ => ⟨S8192x2688, .f32⟩
  | .hbm, ⟨23, _⟩ => ⟨S8192x512, .f32⟩
  | .hbm, ⟨24, _⟩ => ⟨S8192x1536, .f32⟩
  | .hbm, ⟨25, _⟩ => ⟨S8192x512, .f32⟩
  | .hbm, ⟨26, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel10.lean ====
abbrev S8192x1024 : Shape := ⟨2, ![8192, 1024]⟩
abbrev S8192x512 : Shape := ⟨2, ![8192, 512]⟩
abbrev S8x128x1024 : Shape := ⟨3, ![8, 128, 1024]⟩
abbrev S512x1024 : Shape := ⟨2, ![512, 1024]⟩
abbrev S512x512 : Shape := ⟨2, ![512, 512]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8x128x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x128x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x1024 : Shape := ⟨2, ![8192, 1024]⟩
abbrev S8192x512 : Shape := ⟨2, ![8192, 512]⟩
abbrev S8x128x1024 : Shape := ⟨3, ![8, 128, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8x128x1024, .bf16⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8x128x1024, .f32⟩
  | .hbm, ⟨8, _⟩ => ⟨S1024x1024, .f32⟩
  | .hbm, ⟨9, _⟩ => ⟨S8192x1024, .f32⟩
  | .hbm, ⟨10, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.RecurSpec.lean ====
/- The backward pass of the gated delta rule and of its output gate, in plain scalars: what one chunk of one
   head contributes, and what one token of one head contributes. Both programs are read as these formulas. -/
module

public import Idealize.ShloMosaic.Lib.Pointwise

@[expose] public section

noncomputable section

namespace Cert.Recur

open Idealize.ShloMosaic

/-- What one chunk of one head reads: 64 tokens, keys and values of 128 lanes. `g` is the gradient of the chunk's
    outputs, `s` the state the chunk starts from. -/
structure Chunk where
  u : Fin 64 → Fin 128 → EReal
  w : Fin 64 → Fin 128 → EReal
  q : Fin 64 → Fin 128 → EReal
  k : Fin 64 → Fin 128 → EReal
  a : Fin 64 → Fin 64 → EReal
  l : Fin 128 → EReal
  s : Fin 128 → Fin 128 → EReal
  g : Fin 64 → Fin 128 → EReal

namespace Chunk

variable (x : Chunk) (G : Fin 128 → Fin 128 → EReal)

/-- The chunk's corrected values. -/
def new (r : Fin 64) (d : Fin 128) : EReal := x.u r d - ∑ j, x.w r j * x.s j d

/-- The gradient of the corrected values: through the state the chunk leaves (whose gradient is `G`), and through
    its outputs. -/
def dnew (r : Fin 64) (d : Fin 128) : EReal := ∑ j, x.k r j * G j d + ∑ p, x.a p r * x.g p d

/-- The gradient of the state the chunk starts from. -/
def next (i j : Fin 128) : EReal :=
  G i j * x.l j + ∑ r, x.q r i * x.g r j + ∑ r, x.w r i * -(x.dnew G r j)

/-- The gradient of `w`. -/
def dw (r : Fin 64) (i : Fin 128) : EReal := ∑ d, -(x.dnew G r d) * x.s i d

/-- The gradient of `q`. -/
def dq (r : Fin 64) (i : Fin 128) : EReal := ∑ d, x.g r d * x.s i d

/-- The gradient of `k`. -/
def dk (r : Fin 64) (i : Fin 128) : EReal := ∑ d, x.new r d * G i d

/-- The gradient of the scores inside the chunk. -/
def da (p r : Fin 64) : EReal := ∑ d, x.g p d * x.new r d

/-- The gradient of the decay. -/
def dl (j : Fin 128) : EReal := ∑ i, x.s i j * G i j

end Chunk

/-- The gradient of the state after `n` chunks, walking from the last chunk to the first: `x n` is the chunk the
    walk reads at its `n`-th step. -/
def back (x : ℕ → Chunk) : ℕ → Fin 128 → Fin 128 → EReal
  | 0 => fun _ _ => 0
  | n + 1 => (x n).next (back x n)

/-- What one token of one head reads for the output gate: the recurrence's output, the gate, the gradient of the
    gated output, and the norm's weight. -/
structure Token where
  o : Fin 128 → EReal
  z : Fin 128 → EReal
  y : Fin 128 → EReal
  w : Fin 128 → EReal

namespace Token

variable (x : Token)

/-- The mean square, with the norm's epsilon. -/
def ms : EReal := Ideal.div (∑ d, x.o d * x.o d) (Ideal.ofBits .f32 0x43000000#32) + Ideal.ofBits .f32 0x358637BD#32

/-- The gradient of the normalised output. -/
def dn (d : Fin 128) : EReal := x.y d * (x.z d * Ideal.logistic (x.z d)) * x.w d

/-- The gradient that reaches the mean square, over the number of lanes. -/
def dms : EReal :=
  Ideal.div ((∑ d, x.o d * x.dn d) * (Ideal.ofBits .f32 0xBF000000#32 * Ideal.div (Ideal.rsqrt x.ms) x.ms))
    (Ideal.ofBits .f32 0x43000000#32)

/-- The gradient of the recurrence's output. -/
def do_ (d : Fin 128) : EReal := x.dn d * Ideal.rsqrt x.ms + x.o d * x.dms + x.dms * x.o d

/-- The gradient of the gate. -/
def dz (d : Fin 128) : EReal :=
  x.o d * Ideal.rsqrt x.ms * x.w d * x.y d * Ideal.logistic (x.z d)
    + x.z d * (x.o d * Ideal.rsqrt x.ms * x.w d * x.y d) * (Ideal.logistic (x.z d) * (1 - Ideal.logistic (x.z d)))

/-- What the token adds to the gradient of the norm's weight. -/
def dw (d : Fin 128) : EReal := x.o d * Ideal.rsqrt x.ms * (x.y d * (x.z d * Ideal.logistic (x.z d)))

end Token

end Cert.Recur

end
-- ==== Proof.RecurPay.lean ====
/- What the kernel's loop computes in one trip, read one element at a time: head `e` of the block, chunk by chunk. -/
module

public import proofs.«01_k».proof.Proof.Gen.KernelIdeal.Skeleton
public import proofs.«01_k».proof.Proof.RecurSpec
public import Idealize.ShloMosaic.Lib.Pointwise

@[expose] public section

set_option maxRecDepth 16384

noncomputable section

namespace Cert.Recur

open Idealize.ShloMosaic Idealize.ShloMosaic.TcCoe Idealize.SL.Sem
open Cert.KernelIdeal Cert.KernelIdeal.Gen

/-- The chunk that head `e` of the loaded vectors makes. -/
def ofLoads (u : FVec Ideal S1x2x64x128 .f32) (w q k : FVec Ideal S1x2x64x128 .bf16) (a : FVec Ideal S1x2x64x64 .bf16)
    (l : FVec Ideal S1x2x1x128 .f32) (s : FVec Ideal S1x2x128x128 .bf16) (g : FVec Ideal S1x2x64x128 .f32) (e : Fin 2) : Chunk where
  u r d := u (ix4 0 e r d)
  w r d := w (ix4 0 e r d)
  q r d := q (ix4 0 e r d)
  k r d := k (ix4 0 e r d)
  a p r := a (ix4 0 e p r)
  l d := l (ix4 0 e 0 d)
  s i j := s (ix4 0 e i j)
  g r d := g (ix4 0 e r d)

variable (u : FVec Ideal S1x2x64x128 .f32) (w q k : FVec Ideal S1x2x64x128 .bf16) (a : FVec Ideal S1x2x64x64 .bf16)
    (l : FVec Ideal S1x2x1x128 .f32) (s : FVec Ideal S1x2x128x128 .bf16) (g : FVec Ideal S1x2x64x128 .f32)
    (acc : FVec Ideal S2x128x128 .f32) (e : Fin 2)

theorem pay27_eq (r : Fin 64) (d : Fin 128) :
    k0_pay27 (F := Ideal) acc (k0_pay13 k) (k0_pay14 a) g (ix4 0 e r d)
      = (ofLoads u w q k a l s g e).dnew (fun i j => acc (ix3 e i j)) r d := by
  pointwise! [k0_pay27, k0_pay23, k0_pay21, k0_pay17, k0_pay13, k0_pay14, Chunk.dnew, ofLoads]

theorem pay26_eq (i j : Fin 128) :
    k0_pay26 (F := Ideal) acc (k0_pay11 w) (k0_pay12 q) (k0_pay13 k) (k0_pay14 a) (k0_pay15 l) g (ix3 e i j)
      = (ofLoads u w q k a l s g e).next (fun i j => acc (ix3 e i j)) i j := by
  pointwise! [k0_pay26, k0_pay25, k0_pay23, k0_pay21, k0_pay20, k0_pay17, k0_pay11, k0_pay12, k0_pay13, k0_pay14, k0_pay15, Chunk.next, Chunk.dnew, ofLoads, zero_sub]

theorem pay5_eq (r : Fin 64) (i : Fin 128) :
    k0_pay5 (F := Ideal) (k0_pay28 acc (k0_pay10 s) (k0_pay13 k) (k0_pay14 a) g) (ix4 0 e r i)
      = (ofLoads u w q k a l s g e).dw (fun i j => acc (ix3 e i j)) r i := by
  pointwise! [k0_pay5, k0_pay28, k0_pay25, k0_pay23, k0_pay21, k0_pay17, k0_pay10, k0_pay13, k0_pay14, Chunk.dw, Chunk.dnew, ofLoads, zero_sub]

theorem pay6_eq (r : Fin 64) (i : Fin 128) :
    k0_pay6 (F := Ideal) (k0_pay24 (k0_pay10 s) g) (ix4 0 e r i)
      = (ofLoads u w q k a l s g e).dq r i := by
  pointwise! [k0_pay6, k0_pay24, k0_pay20, k0_pay17, k0_pay10, Chunk.dq, ofLoads]

theorem pay7_eq (r : Fin 64) (i : Fin 128) :
    k0_pay7 (F := Ideal) (k0_pay18 acc (k0_pay16 s u w)) (ix4 0 e r i)
      = (ofLoads u w q k a l s g e).dk (fun i j => acc (ix3 e i j)) r i := by
  pointwise! [k0_pay7, k0_pay18, k0_pay16, k0_pay10, k0_pay11, Chunk.dk, Chunk.new, ofLoads]

theorem pay8_eq (p r : Fin 64) :
    k0_pay8 (F := Ideal) (k0_pay22 (k0_pay16 s u w) g) (ix4 0 e p r)
      = (ofLoads u w q k a l s g e).da p r := by
  pointwise! [k0_pay8, k0_pay22, k0_pay21, k0_pay17, k0_pay16, k0_pay10, k0_pay11, Chunk.da, Chunk.new, ofLoads]

theorem pay9_eq (j : Fin 128) :
    k0_pay9 (F := Ideal) (k0_pay19 acc (k0_pay10 s)) (ix4 0 e 0 j)
      = (ofLoads u w q k a l s g e).dl (fun i j => acc (ix3 e i j)) j := by
  pointwise! [k0_pay9, k0_pay19, k0_pay10, Chunk.dl, ofLoads]

end Cert.Recur

end
-- ==== Proof.RecurBlock.lean ====
/- One grid point's block, chunk by chunk: the memrefs the body runs on, the blocks it is given, and what its loads
   read. -/
module

public import proofs.«01_k».proof.Proof.RecurPay
public import proofs.«01_k».proof.Proof.Gen.KernelIdeal.Loops
public import Idealize.ShloMosaic.Lib.WholeRead

@[expose] public section

set_option maxRecDepth 16384

noncomputable section

namespace Cert.Recur

open Idealize.ShloMosaic Idealize.ShloMosaic.TcCoe Idealize.SL.Sem
open Cert.KernelIdeal Cert.KernelIdeal.Gen

/-- The memrefs of one grid point: eleven inputs, eight outputs, and the scratch. -/
structure Refs where
  r2 : Memref sig .tc .vmem S32x2x64x128 .f32
  h2 : r2.IsWhole
  r3 : Memref sig .tc .vmem S32x2x64x128 .bf16
  h3 : r3.IsWhole
  r4 : Memref sig .tc .vmem S32x2x64x128 .bf16
  h4 : r4.IsWhole
  r5 : Memref sig .tc .vmem S32x2x64x128 .bf16
  h5 : r5.IsWhole
  r6 : Memref sig .tc .vmem S32x2x64x64 .bf16
  h6 : r6.IsWhole
  r7 : Memref sig .tc .vmem S32x2x1x128 .f32
  h7 : r7.IsWhole
  r8 : Memref sig .tc .vmem S32x2x128x128 .bf16
  h8 : r8.IsWhole
  r9 : Memref sig .tc .vmem S32x2x64x128 .f32
  h9 : r9.IsWhole
  r10 : Memref sig .tc .vmem S2048x256 .f32
  h10 : r10.IsWhole
  r11 : Memref sig .tc .vmem S1x128 .f32
  h11 : r11.IsWhole
  r12 : Memref sig .tc .vmem S2048x256 .f32
  h12 : r12.IsWhole
  r13 : Memref sig .tc .vmem S32x2x64x128 .f32
  h13 : r13.IsWhole
  r14 : Memref sig .tc .vmem S32x2x64x128 .bf16
  h14 : r14.IsWhole
  r15 : Memref sig .tc .vmem S32x2x64x128 .bf16
  h15 : r15.IsWhole
  r16 : Memref sig .tc .vmem S32x2x64x128 .bf16
  h16 : r16.IsWhole
  r17 : Memref sig .tc .vmem S32x2x64x64 .bf16
  h17 : r17.IsWhole
  r18 : Memref sig .tc .vmem S32x2x1x128 .f32
  h18 : r18.IsWhole
  r19 : Memref sig .tc .vmem S2048x256 .bf16
  h19 : r19.IsWhole
  r20 : Memref sig .tc .vmem S8x128 .f32
  h20 : r20.IsWhole
  r21 : Memref sig .tc .vmem S32x2x64x128 .f32
  h21 : r21.IsWhole

/-- The eleven input blocks. -/
structure Blk where
  u : Vec Ideal S32x2x64x128 .f32
  w : Vec Ideal S32x2x64x128 .bf16
  q : Vec Ideal S32x2x64x128 .bf16
  k : Vec Ideal S32x2x64x128 .bf16
  a : Vec Ideal S32x2x64x64 .bf16
  l : Vec Ideal S32x2x1x128 .f32
  s : Vec Ideal S32x2x128x128 .bf16
  o : Vec Ideal S32x2x64x128 .f32
  z : Vec Ideal S2048x256 .f32
  γ : Vec Ideal S1x128 .f32
  y : Vec Ideal S2048x256 .f32

namespace Blk

variable (x : Blk)

/-- Token `r` of the block's chunk `n`, head `e`. -/
def tok (n : Fin 32) (e : Fin 2) (r : Fin 64) : Token where
  o d := x.o (ix4 n e r d)
  z d := x.z (ix2 (⟨n * 64 + r, by omega⟩ : Fin 2048) (⟨e * 128 + d, by omega⟩ : Fin 256))
  y d := x.y (ix2 (⟨n * 64 + r, by omega⟩ : Fin 2048) (⟨e * 128 + d, by omega⟩ : Fin 256))
  w d := x.γ (ix2 0 d)

/-- The block's chunk `n`, head `e`. -/
def chunk (n : Fin 32) (e : Fin 2) : Chunk where
  u r d := x.u (ix4 n e r d)
  w r d := x.w (ix4 n e r d)
  q r d := x.q (ix4 n e r d)
  k r d := x.k (ix4 n e r d)
  a p r := x.a (ix4 n e p r)
  l d := x.l (ix4 n e 0 d)
  s i j := x.s (ix4 n e i j)
  g r d := (x.tok n e r).do_ d

/-- The `k`-th chunk the loop reads, from the last to the first. -/
def seq (e : Fin 2) (k : ℕ) : Chunk := x.chunk ⟨31 - k, by omega⟩ e

/-- The gradient of the state that chunk `n` leaves. -/
def behind (e : Fin 2) (n : Fin 32) : Fin 128 → Fin 128 → EReal := back (x.seq e) (31 - n)

end Blk

theorem trips_eq : k0_t1_loop.trips = 32 := by decide +kernel

theorem off1_eq : ∀ k : Fin k0_t1_loop.trips, k0_off1 k = (![31 - (k : ℕ), 0, 0, 0] : Fin 4 → ℕ) := by decide +kernel

theorem off2_eq : ∀ k : Fin k0_t1_loop.trips, k0_off2 k = (![31 - (k : ℕ), 0, 0, 0] : Fin 4 → ℕ) := by decide +kernel

theorem off3_eq : ∀ k : Fin k0_t1_loop.trips, k0_off3 k = (![31 - (k : ℕ), 0, 0, 0] : Fin 4 → ℕ) := by decide +kernel

theorem off4_eq : ∀ k : Fin k0_t1_loop.trips, k0_off4 k = (![31 - (k : ℕ), 0, 0, 0] : Fin 4 → ℕ) := by decide +kernel

/-- A load of chunk `31 - k` of a whole block. -/
theorem load1_eq {φ : EltTy} (m : Memref sig .tc .vmem S32x2x128x128 φ) (h : m.IsWhole) (x : Vec Ideal S32x2x128x128 φ)
    (k : Fin k0_t1_loop.trips) (pf) (e : Fin 2) (r : Fin 128) (d : Fin 128) :
    View.readAt (Elt Ideal) m.view (Rect.unit (s := S32x2x128x128) (k0_off1 k) S1x2x128x128.size pf).toLoadRect (h.unread x) (ix4 0 e r d)
      = x (ix4 (⟨31 - k, by omega⟩ : Fin 32) e r d) := by
  rw [Memref.IsWhole.readAt_unread]
  refine congrArg x (funext fun b => Fin.ext ?_)
  refine (congrArg (· + 1 * _) (congrFun (off1_eq k) b)).trans ?_
  fin_cases b
  · show 31 - (k : ℕ) + 1 * 0 = 31 - (k : ℕ)
    omega
  · show 0 + 1 * (e : ℕ) = e
    omega
  · show 0 + 1 * (r : ℕ) = r
    omega
  · show 0 + 1 * (d : ℕ) = d
    omega

/-- A load of chunk `31 - k` of a whole block. -/
theorem load2_eq {φ : EltTy} (m : Memref sig .tc .vmem S32x2x64x128 φ) (h : m.IsWhole) (x : Vec Ideal S32x2x64x128 φ)
    (k : Fin k0_t1_loop.trips) (pf) (e : Fin 2) (r : Fin 64) (d : Fin 128) :
    View.readAt (Elt Ideal) m.view (Rect.unit (s := S32x2x64x128) (k0_off2 k) S1x2x64x128.size pf).toLoadRect (h.unread x) (ix4 0 e r d)
      = x (ix4 (⟨31 - k, by omega⟩ : Fin 32) e r d) := by
  rw [Memref.IsWhole.readAt_unread]
  refine congrArg x (funext fun b => Fin.ext ?_)
  refine (congrArg (· + 1 * _) (congrFun (off2_eq k) b)).trans ?_
  fin_cases b
  · show 31 - (k : ℕ) + 1 * 0 = 31 - (k : ℕ)
    omega
  · show 0 + 1 * (e : ℕ) = e
    omega
  · show 0 + 1 * (r : ℕ) = r
    omega
  · show 0 + 1 * (d : ℕ) = d
    omega

/-- A load of chunk `31 - k` of a whole block. -/
theorem load3_eq {φ : EltTy} (m : Memref sig .tc .vmem S32x2x64x64 φ) (h : m.IsWhole) (x : Vec Ideal S32x2x64x64 φ)
    (k : Fin k0_t1_loop.trips) (pf) (e : Fin 2) (r : Fin 64) (d : Fin 64) :
    View.readAt (Elt Ideal) m.view (Rect.unit (s := S32x2x64x64) (k0_off3 k) S1x2x64x64.size pf).toLoadRect (h.unread x) (ix4 0 e r d)
      = x (ix4 (⟨31 - k, by omega⟩ : Fin 32) e r d) := by
  rw [Memref.IsWhole.readAt_unread]
  refine congrArg x (funext fun b => Fin.ext ?_)
  refine (congrArg (· + 1 * _) (congrFun (off3_eq k) b)).trans ?_
  fin_cases b
  · show 31 - (k : ℕ) + 1 * 0 = 31 - (k : ℕ)
    omega
  · show 0 + 1 * (e : ℕ) = e
    omega
  · show 0 + 1 * (r : ℕ) = r
    omega
  · show 0 + 1 * (d : ℕ) = d
    omega

/-- A load of chunk `31 - k` of a whole block. -/
theorem load4_eq {φ : EltTy} (m : Memref sig .tc .vmem S32x2x1x128 φ) (h : m.IsWhole) (x : Vec Ideal S32x2x1x128 φ)
    (k : Fin k0_t1_loop.trips) (pf) (e : Fin 2) (r : Fin 1) (d : Fin 128) :
    View.readAt (Elt Ideal) m.view (Rect.unit (s := S32x2x1x128) (k0_off4 k) S1x2x1x128.size pf).toLoadRect (h.unread x) (ix4 0 e r d)
      = x (ix4 (⟨31 - k, by omega⟩ : Fin 32) e r d) := by
  rw [Memref.IsWhole.readAt_unread]
  refine congrArg x (funext fun b => Fin.ext ?_)
  refine (congrArg (· + 1 * _) (congrFun (off4_eq k) b)).trans ?_
  fin_cases b
  · show 31 - (k : ℕ) + 1 * 0 = 31 - (k : ℕ)
    omega
  · show 0 + 1 * (e : ℕ) = e
    omega
  · show 0 + 1 * (r : ℕ) = r
    omega
  · show 0 + 1 * (d : ℕ) = d
    omega

end Cert.Recur

end
-- ==== Proof.RecurGate.lean ====
/- The gate and the norm, in one block: what the body computes for its two heads before the loop, one token at a time. -/
module

public import proofs.«01_k».proof.Proof.Gen.KernelIdeal.Skeleton
public import proofs.«01_k».proof.Proof.RecurSpec
public import Idealize.ShloMosaic.Lib.Pointwise

@[expose] public section

set_option maxRecDepth 16384

noncomputable section

namespace Cert.Recur

open Idealize.ShloMosaic Idealize.ShloMosaic.TcCoe Idealize.SL.Sem
open Cert.KernelIdeal Cert.KernelIdeal.Gen

variable (o : FVec Ideal S32x1x64x128 .f32) (z y : FVec Ideal S2048x128 .f32) (γ : FVec Ideal S1x128 .f32)

/-- Token `r` of chunk `n` of one head's loaded vectors. -/
def lane (n : Fin 32) (r : Fin 64) : Token where
  o d := o (ix4 n 0 r d)
  z d := z (ix2 (⟨n * 64 + r, by omega⟩ : Fin 2048) d)
  y d := y (ix2 (⟨n * 64 + r, by omega⟩ : Fin 2048) d)
  w d := γ (ix2 0 d)

theorem do0_eq (n : Fin 32) (r : Fin 64) (d : Fin 128) :
    k0_pay40 (F := Ideal) (k0_pay29 o) (k0_pay31 o) (k0_pay32 o) (k0_pay38 z γ y) (ix4 n 0 r d)
      = (lane o z y γ n r).do_ d := by
  pointwise! [k0_pay40, k0_pay29, k0_pay30, k0_pay31, k0_pay32, k0_pay38, k0_pay35, k0_pay34, lane, Token.do_, Token.dms, Token.ms, Token.dn, Finset.univ_unique, Finset.sum_singleton]

theorem do1_eq (n : Fin 32) (r : Fin 64) (d : Fin 128) :
    k0_pay1 (F := Ideal) (k0_pay50 (k0_pay43 o) z γ y) (ix4 n 0 r d)
      = (lane o z y γ n r).do_ d := by
  pointwise! [k0_pay1, k0_pay50, k0_pay43, k0_pay44, k0_pay45, k0_pay47, k0_pay48, lane, Token.do_, Token.dms, Token.ms, Token.dn, Finset.univ_unique, Finset.sum_singleton]

theorem dz0_eq (t : Fin 2048) (d : Fin 128) :
    k0_pay39 (F := Ideal) (k0_pay36 o z γ y) (ix2 t d) = (lane o z y γ ⟨t / 64, by omega⟩ ⟨t % 64, by omega⟩).dz d := by
  pointwise! [k0_pay39, k0_pay36, k0_pay33, k0_pay34, k0_pay29, k0_pay30, k0_pay31, lane, Token.dz, Token.ms, Nat.div_add_mod']

theorem dz1_eq (t : Fin 2048) (d : Fin 128) :
    k0_pay51 (F := Ideal) (k0_pay43 o) z γ y (ix2 t d) = (lane o z y γ ⟨t / 64, by omega⟩ ⟨t % 64, by omega⟩).dz d := by
  pointwise! [k0_pay51, k0_pay43, k0_pay44, k0_pay45, k0_pay46, k0_pay47, lane, Token.dz, Token.ms, Nat.div_add_mod']

theorem dw0_eq (d : Fin 128) :
    k0_pay37 (F := Ideal) o z y (ix2 0 d) = ∑ t : Fin 2048, (lane o z y γ ⟨t / 64, by omega⟩ ⟨t % 64, by omega⟩).dw d := by
  pointwise! [k0_pay37, k0_pay35, k0_pay33, k0_pay34, k0_pay29, k0_pay30, k0_pay31, lane, Token.dw, Token.ms, Nat.div_add_mod']

theorem dw1_eq (d : Fin 128) :
    k0_pay49 (F := Ideal) (k0_pay43 o) z y (ix2 0 d) = ∑ t : Fin 2048, (lane o z y γ ⟨t / 64, by omega⟩ ⟨t % 64, by omega⟩).dw d := by
  pointwise! [k0_pay49, k0_pay43, k0_pay44, k0_pay45, k0_pay46, k0_pay47, k0_pay48, lane, Token.dw, Token.ms, Nat.div_add_mod']

end Cert.Recur

end
-- ==== Proof.RecurTrip.lean ====
/- The kernel's loop over the chunks of one block: what a trip yields and writes, then the loop by induction. -/
module

public import proofs.«01_k».proof.Proof.RecurBlock

@[expose] public section

set_option maxRecDepth 16384

noncomputable section

namespace Cert.Recur

open Idealize.ShloMosaic Idealize.ShloMosaic.TcCoe Idealize.SL.Sem
open Cert.KernelIdeal Cert.KernelIdeal.Gen

variable (c : Dev nD) (i : grid0.Coords) (M : Refs) (x : Blk) (D : M.r21.view.ty.Contents (Elt Ideal))

/-- The loop's state after `n` trips: the carried gradient and what the trips wrote. -/
def loop (n : ℕ) := st_k0_t1 (F := Ideal) Variants.none c none i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21
  (M.h2.unread x.u) (M.h3.unread x.w) (M.h4.unread x.q) (M.h5.unread x.k) (M.h6.unread x.a) (M.h7.unread x.l) (M.h8.unread x.s) D k0_pay4 n

/-- What trip `k` yields. -/
def yield (k : Fin k0_t1_loop.trips) (acc : FVec Ideal S2x128x128 .f32) : FVec Ideal S2x128x128 .f32 :=
  tripR_k0_t1 (F := Ideal) Variants.none c none i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21
  (M.h2.unread x.u) (M.h3.unread x.w) (M.h4.unread x.q) (M.h5.unread x.k) (M.h6.unread x.a) (M.h7.unread x.l) (M.h8.unread x.s) D k acc

/-- What trip `k` writes. -/
def wrote (k : Fin k0_t1_loop.trips) (acc : FVec Ideal S2x128x128 .f32) :=
  tripL_k0_t1 (F := Ideal) Variants.none c none i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21
  (M.h2.unread x.u) (M.h3.unread x.w) (M.h4.unread x.q) (M.h5.unread x.k) (M.h6.unread x.a) (M.h7.unread x.l) (M.h8.unread x.s) D k acc

theorem loop_succ (k : Fin k0_t1_loop.trips) : loop c i M x D (k.val + 1)
    = (yield c i M x D k (loop c i M x D k).1,
      (wrote c i M x D k (loop c i M x D k).1).1 ++ (loop c i M x D k).2.1,
      (wrote c i M x D k (loop c i M x D k).1).2.1 ++ (loop c i M x D k).2.2.1,
      (wrote c i M x D k (loop c i M x D k).1).2.2.1 ++ (loop c i M x D k).2.2.2.1,
      (wrote c i M x D k (loop c i M x D k).1).2.2.2.1 ++ (loop c i M x D k).2.2.2.2.1,
      (wrote c i M x D k (loop c i M x D k).1).2.2.2.2.1 ++ (loop c i M x D k).2.2.2.2.2.1,
      (wrote c i M x D k (loop c i M x D k).1).2.2.2.2.2 ++ (loop c i M x D k).2.2.2.2.2.2) :=
  st_k0_t1_succ Variants.none c none i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21
  (M.h2.unread x.u) (M.h3.unread x.w) (M.h4.unread x.q) (M.h5.unread x.k) (M.h6.unread x.a) (M.h7.unread x.l) (M.h8.unread x.s) D k0_pay4 k

/-- The scratch holds the gradient of the recurrence's output. -/
abbrev Holds : Prop := ∀ (n : Fin 32) (e : Fin 2) (r : Fin 64) (d : Fin 128),
  M.r21.view.read (Elt Ideal) D (ix4 n e r d) = (x.tok n e r).do_ d

variable (hD : Holds M x D)

/-- The vectors trip `k` loads, and the chunk they make. -/
abbrev lu (k : Fin k0_t1_loop.trips) := View.readAt (Elt Ideal) M.r2.view (Rect.unit (s := S32x2x64x128) (k0_off2 k) S1x2x64x128.size (k0_off2_inb k)).toLoadRect (M.h2.unread x.u)
abbrev lw (k : Fin k0_t1_loop.trips) := View.readAt (Elt Ideal) M.r3.view (Rect.unit (s := S32x2x64x128) (k0_off2 k) S1x2x64x128.size (k0_off2_inb k)).toLoadRect (M.h3.unread x.w)
abbrev lq (k : Fin k0_t1_loop.trips) := View.readAt (Elt Ideal) M.r4.view (Rect.unit (s := S32x2x64x128) (k0_off2 k) S1x2x64x128.size (k0_off2_inb k)).toLoadRect (M.h4.unread x.q)
abbrev lk (k : Fin k0_t1_loop.trips) := View.readAt (Elt Ideal) M.r5.view (Rect.unit (s := S32x2x64x128) (k0_off2 k) S1x2x64x128.size (k0_off2_inb k)).toLoadRect (M.h5.unread x.k)
abbrev la (k : Fin k0_t1_loop.trips) := View.readAt (Elt Ideal) M.r6.view (Rect.unit (s := S32x2x64x64) (k0_off3 k) S1x2x64x64.size (k0_off3_inb k)).toLoadRect (M.h6.unread x.a)
abbrev ll (k : Fin k0_t1_loop.trips) := View.readAt (Elt Ideal) M.r7.view (Rect.unit (s := S32x2x1x128) (k0_off4 k) S1x2x1x128.size (k0_off4_inb k)).toLoadRect (M.h7.unread x.l)
abbrev ls (k : Fin k0_t1_loop.trips) := View.readAt (Elt Ideal) M.r8.view (Rect.unit (s := S32x2x128x128) (k0_off1 k) S1x2x128x128.size (k0_off1_inb k)).toLoadRect (M.h8.unread x.s)
abbrev lg (k : Fin k0_t1_loop.trips) := View.readAt (Elt Ideal) M.r21.view (Rect.unit (s := S32x2x64x128) (k0_off2 k) S1x2x64x128.size (k0_off2_inb k)).toLoadRect D

include hD in
theorem loads_eq (k : Fin k0_t1_loop.trips) (e : Fin 2) :
    ofLoads (lu M x k) (lw M x k) (lq M x k) (lk M x k) (la M x k) (ll M x k) (ls M x k) (lg M D k) e = x.seq e k := by
  rw [ofLoads, Blk.seq, Blk.chunk]
  congr 1
  · funext r d; exact load2_eq M.r2 M.h2 x.u k _ e r d
  · funext r d; exact load2_eq M.r3 M.h3 x.w k _ e r d
  · funext r d; exact load2_eq M.r4 M.h4 x.q k _ e r d
  · funext r d; exact load2_eq M.r5 M.h5 x.k k _ e r d
  · funext r d; exact load3_eq M.r6 M.h6 x.a k _ e r d
  · funext d; exact load4_eq M.r7 M.h7 x.l k _ e 0 d
  · funext r d; exact load1_eq M.r8 M.h8 x.s k _ e r d
  · funext r d
    rw [← hD]
    refine congrArg (M.r21.view.read (Elt Ideal) D) (funext fun b => Fin.ext ?_)
    refine (congrArg (· + 1 * _) (congrFun (off2_eq k) b)).trans ?_
    fin_cases b
    · show 31 - (k : ℕ) + 1 * 0 = 31 - (k : ℕ)
      omega
    · show 0 + 1 * (e : ℕ) = e
      omega
    · show 0 + 1 * (r : ℕ) = r
      omega
    · show 0 + 1 * (d : ℕ) = d
      omega

/-- The carried gradient, head by head. -/
abbrev car (acc : FVec Ideal S2x128x128 .f32) (e : Fin 2) : Fin 128 → Fin 128 → EReal := fun i j => acc (ix3 e i j)

include hD in
theorem yield_eq (k : Fin k0_t1_loop.trips) (acc : FVec Ideal S2x128x128 .f32) (e : Fin 2) :
    car (yield c i M x D k acc) e = (x.seq e k).next (car acc e) := by
  funext p j
  rw [← loads_eq M x D hD k e, ← pay26_eq]
  unfold yield tripR_k0_t1 trip_k0_t1
  rfl

theorem wrote13_eq (k : Fin k0_t1_loop.trips) (acc : FVec Ideal S2x128x128 .f32) :
    (wrote c i M x D k acc).1 = [⟨Rect.unit (s := S32x2x64x128) (k0_off2 k) S1x2x64x128.size (k0_off2_inb k),
      k0_pay27 acc (k0_pay13 (lk M x k)) (k0_pay14 (la M x k)) (lg M D k)⟩] := by
  unfold wrote tripL_k0_t1 trip_k0_t1
  rfl

include hD in
theorem val13_eq (k : Fin k0_t1_loop.trips) (acc : FVec Ideal S2x128x128 .f32) (e : Fin 2) (r : Fin 64) (d : Fin 128) :
    k0_pay27 acc (k0_pay13 (lk M x k)) (k0_pay14 (la M x k)) (lg M D k) (ix4 0 e r d) = (x.seq e k).dnew (car acc e) r d := by
  rw [← loads_eq M x D hD k e, ← pay27_eq]

theorem wrote14_eq (k : Fin k0_t1_loop.trips) (acc : FVec Ideal S2x128x128 .f32) :
    (wrote c i M x D k acc).2.1 = [⟨Rect.unit (s := S32x2x64x128) (k0_off2 k) S1x2x64x128.size (k0_off2_inb k),
      k0_pay5 (F := Ideal) (k0_pay28 acc (k0_pay10 (ls M x k)) (k0_pay13 (lk M x k)) (k0_pay14 (la M x k)) (lg M D k))⟩] := by
  unfold wrote tripL_k0_t1 trip_k0_t1
  rfl

include hD in
theorem val14_eq (k : Fin k0_t1_loop.trips) (acc : FVec Ideal S2x128x128 .f32) (e : Fin 2) (r : Fin 64) (d : Fin 128) :
    k0_pay5 (F := Ideal) (k0_pay28 acc (k0_pay10 (ls M x k)) (k0_pay13 (lk M x k)) (k0_pay14 (la M x k)) (lg M D k)) (ix4 0 e r d) = (x.seq e k).dw (car acc e) r d := by
  rw [← loads_eq M x D hD k e, ← pay5_eq]

theorem wrote15_eq (k : Fin k0_t1_loop.trips) (acc : FVec Ideal S2x128x128 .f32) :
    (wrote c i M x D k acc).2.2.1 = [⟨Rect.unit (s := S32x2x64x128) (k0_off2 k) S1x2x64x128.size (k0_off2_inb k),
      k0_pay6 (F := Ideal) (k0_pay24 (k0_pay10 (ls M x k)) (lg M D k))⟩] := by
  unfold wrote tripL_k0_t1 trip_k0_t1
  rfl

include hD in
theorem val15_eq (k : Fin k0_t1_loop.trips) (acc : FVec Ideal S2x128x128 .f32) (e : Fin 2) (r : Fin 64) (d : Fin 128) :
    k0_pay6 (F := Ideal) (k0_pay24 (k0_pay10 (ls M x k)) (lg M D k)) (ix4 0 e r d) = (x.seq e k).dq r d := by
  rw [← loads_eq M x D hD k e, ← pay6_eq]

theorem wrote16_eq (k : Fin k0_t1_loop.trips) (acc : FVec Ideal S2x128x128 .f32) :
    (wrote c i M x D k acc).2.2.2.1 = [⟨Rect.unit (s := S32x2x64x128) (k0_off2 k) S1x2x64x128.size (k0_off2_inb k),
      k0_pay7 (F := Ideal) (k0_pay18 acc (k0_pay16 (ls M x k) (lu M x k) (lw M x k)))⟩] := by
  unfold wrote tripL_k0_t1 trip_k0_t1
  rfl

include hD in
theorem val16_eq (k : Fin k0_t1_loop.trips) (acc : FVec Ideal S2x128x128 .f32) (e : Fin 2) (r : Fin 64) (d : Fin 128) :
    k0_pay7 (F := Ideal) (k0_pay18 acc (k0_pay16 (ls M x k) (lu M x k) (lw M x k))) (ix4 0 e r d) = (x.seq e k).dk (car acc e) r d := by
  rw [← loads_eq M x D hD k e, ← pay7_eq]

theorem wrote17_eq (k : Fin k0_t1_loop.trips) (acc : FVec Ideal S2x128x128 .f32) :
    (wrote c i M x D k acc).2.2.2.2.1 = [⟨Rect.unit (s := S32x2x64x64) (k0_off3 k) S1x2x64x64.size (k0_off3_inb k),
      k0_pay8 (F := Ideal) (k0_pay22 (k0_pay16 (ls M x k) (lu M x k) (lw M x k)) (lg M D k))⟩] := by
  unfold wrote tripL_k0_t1 trip_k0_t1
  rfl

include hD in
theorem val17_eq (k : Fin k0_t1_loop.trips) (acc : FVec Ideal S2x128x128 .f32) (e : Fin 2) (r d : Fin 64) :
    k0_pay8 (F := Ideal) (k0_pay22 (k0_pay16 (ls M x k) (lu M x k) (lw M x k)) (lg M D k)) (ix4 0 e r d) = (x.seq e k).da r d := by
  rw [← loads_eq M x D hD k e, ← pay8_eq]

theorem wrote18_eq (k : Fin k0_t1_loop.trips) (acc : FVec Ideal S2x128x128 .f32) :
    (wrote c i M x D k acc).2.2.2.2.2 = [⟨Rect.unit (s := S32x2x1x128) (k0_off4 k) S1x2x1x128.size (k0_off4_inb k),
      k0_pay9 (F := Ideal) (k0_pay19 acc (k0_pay10 (ls M x k)))⟩] := by
  unfold wrote tripL_k0_t1 trip_k0_t1
  rfl

include hD in
theorem val18_eq (k : Fin k0_t1_loop.trips) (acc : FVec Ideal S2x128x128 .f32) (e : Fin 2) (r : Fin 1) (d : Fin 128) :
    k0_pay9 (F := Ideal) (k0_pay19 acc (k0_pay10 (ls M x k))) (ix4 0 e r d) = (x.seq e k).dl (car acc e) d := by
  obtain rfl : r = 0 := Subsingleton.elim _ _
  rw [← loads_eq M x D hD k e, ← pay9_eq]

end Cert.Recur

end
-- ==== Proof.RecurLoop.lean ====
/- The kernel's loop by induction: the carried gradient, and every piece the trips write. -/
module

public import proofs.«01_k».proof.Proof.RecurTrip
public import Idealize.ShloMosaic.Lib.Writes

@[expose] public section

set_option maxRecDepth 16384

noncomputable section

namespace Cert.Recur

open Idealize.ShloMosaic Idealize.ShloMosaic.TcCoe Idealize.SL.Sem
open Cert.KernelIdeal Cert.KernelIdeal.Gen

variable (c : Dev nD) (i : grid0.Coords) (M : Refs) (x : Blk) (D : M.r21.view.ty.Contents (Elt Ideal))

/-- Trip number `n`. -/
def trip (n : ℕ) (hn : n < 32) : Fin k0_t1_loop.trips := ⟨n, by rw [trips_eq]; exact hn⟩

theorem carry_eq (hD : Holds M x D) (n : ℕ) (hn : n ≤ 32) (e : Fin 2) : car (loop c i M x D n).1 e = back (x.seq e) n := by
  induction n with
  | zero =>
    funext p j
    show k0_pay4 (F := Ideal) (ix3 e p j) = 0
    pointwise! [k0_pay4]
  | succ n ih =>
    have h := loop_succ c i M x D (trip n (by omega))
    have h' : (loop c i M x D (n + 1)).1 = yield c i M x D (trip n (by omega)) (loop c i M x D n).1 := congrArg (·.1) h
    rw [h', yield_eq c i M x D hD, ih (by omega)]
    rfl

/-- Where trip `k`'s piece lies. -/
theorem emb2_eq (k : Fin k0_t1_loop.trips) (pf) (e : Fin 2) (r : Fin 64) (d : Fin 128) :
    (Rect.unit (s := S32x2x64x128) (k0_off2 k) S1x2x64x128.size pf).emb (ix4 0 e r d)
      = (ix4 (⟨31 - k, by omega⟩ : Fin 32) e r d : S32x2x64x128.Idx) := by
  refine funext fun b => Fin.ext ?_
  refine (congrArg (· + 1 * _) (congrFun (off2_eq k) b)).trans ?_
  fin_cases b
  · show 31 - (k : ℕ) + 1 * 0 = 31 - (k : ℕ)
    omega
  · show 0 + 1 * (e : ℕ) = e
    omega
  · show 0 + 1 * (r : ℕ) = r
    omega
  · show 0 + 1 * (d : ℕ) = d
    omega

/-- Where trip `k`'s piece lies. -/
theorem emb3_eq (k : Fin k0_t1_loop.trips) (pf) (e : Fin 2) (r : Fin 64) (d : Fin 64) :
    (Rect.unit (s := S32x2x64x64) (k0_off3 k) S1x2x64x64.size pf).emb (ix4 0 e r d)
      = (ix4 (⟨31 - k, by omega⟩ : Fin 32) e r d : S32x2x64x64.Idx) := by
  refine funext fun b => Fin.ext ?_
  refine (congrArg (· + 1 * _) (congrFun (off3_eq k) b)).trans ?_
  fin_cases b
  · show 31 - (k : ℕ) + 1 * 0 = 31 - (k : ℕ)
    omega
  · show 0 + 1 * (e : ℕ) = e
    omega
  · show 0 + 1 * (r : ℕ) = r
    omega
  · show 0 + 1 * (d : ℕ) = d
    omega

/-- Where trip `k`'s piece lies. -/
theorem emb4_eq (k : Fin k0_t1_loop.trips) (pf) (e : Fin 2) (r : Fin 1) (d : Fin 128) :
    (Rect.unit (s := S32x2x1x128) (k0_off4 k) S1x2x1x128.size pf).emb (ix4 0 e r d)
      = (ix4 (⟨31 - k, by omega⟩ : Fin 32) e r d : S32x2x1x128.Idx) := by
  refine funext fun b => Fin.ext ?_
  refine (congrArg (· + 1 * _) (congrFun (off4_eq k) b)).trans ?_
  fin_cases b
  · show 31 - (k : ℕ) + 1 * 0 = 31 - (k : ℕ)
    omega
  · show 0 + 1 * (e : ℕ) = e
    omega
  · show 0 + 1 * (r : ℕ) = r
    omega
  · show 0 + 1 * (d : ℕ) = d
    omega

/-- The block's gradient, at an index. -/
def Blk.du (y : S32x2x64x128.Idx) : EReal := (x.chunk (y 0) (y 1)).dnew (x.behind (y 1) (y 0)) (y 2) (y 3)

theorem pieces13 (hD : Holds M x D) (n : ℕ) (hn : n ≤ 32) :
    ∀ p ∈ (loop c i M x D n).2.1, ∀ y : p.1.shape.Idx, p.2 y = x.du (p.1.emb y) := by
  induction n with
  | zero => exact fun p hp => absurd hp List.not_mem_nil
  | succ n ih =>
    have h := loop_succ c i M x D (trip n (by omega))
    have h' : (loop c i M x D (n + 1)).2.1
        = (wrote c i M x D (trip n (by omega)) (loop c i M x D n).1).1 ++ (loop c i M x D n).2.1 := congrArg (·.2.1) h
    rw [h', wrote13_eq]
    intro p hp
    rcases List.mem_cons.mp hp with rfl | hp
    · intro y
      obtain ⟨e, r, d, rfl⟩ : ∃ (e : Fin 2) (r : Fin 64) (d : Fin 128), y = ix4 0 e r d :=
        ⟨y 1, y 2, y 3, funext fun b => by
          fin_cases b
          · exact Subsingleton.elim (α := Fin 1) _ _
          all_goals rfl⟩
      have hk : 31 - (31 - n) = n := by omega
      refine (val13_eq M x D hD (trip n (by omega)) (loop c i M x D n).1 e r d).trans ?_
      rw [emb2_eq]
      rw [carry_eq c i M x D hD n (by omega) e]
      show _ = (x.chunk ⟨31 - n, _⟩ e).dnew (back (x.seq e) (31 - (31 - n))) r d
      rw [hk]
      rfl
    · exact ih (by omega) p hp

/-- The block's gradient, at an index. -/
def Blk.dw (y : S32x2x64x128.Idx) : EReal := (x.chunk (y 0) (y 1)).dw (x.behind (y 1) (y 0)) (y 2) (y 3)

theorem pieces14 (hD : Holds M x D) (n : ℕ) (hn : n ≤ 32) :
    ∀ p ∈ (loop c i M x D n).2.2.1, ∀ y : p.1.shape.Idx, p.2 y = x.dw (p.1.emb y) := by
  induction n with
  | zero => exact fun p hp => absurd hp List.not_mem_nil
  | succ n ih =>
    have h := loop_succ c i M x D (trip n (by omega))
    have h' : (loop c i M x D (n + 1)).2.2.1
        = (wrote c i M x D (trip n (by omega)) (loop c i M x D n).1).2.1 ++ (loop c i M x D n).2.2.1 := congrArg (·.2.2.1) h
    rw [h', wrote14_eq]
    intro p hp
    rcases List.mem_cons.mp hp with rfl | hp
    · intro y
      obtain ⟨e, r, d, rfl⟩ : ∃ (e : Fin 2) (r : Fin 64) (d : Fin 128), y = ix4 0 e r d :=
        ⟨y 1, y 2, y 3, funext fun b => by
          fin_cases b
          · exact Subsingleton.elim (α := Fin 1) _ _
          all_goals rfl⟩
      have hk : 31 - (31 - n) = n := by omega
      refine (val14_eq M x D hD (trip n (by omega)) (loop c i M x D n).1 e r d).trans ?_
      rw [emb2_eq]
      rw [carry_eq c i M x D hD n (by omega) e]
      show _ = (x.chunk ⟨31 - n, _⟩ e).dw (back (x.seq e) (31 - (31 - n))) r d
      rw [hk]
      rfl
    · exact ih (by omega) p hp

/-- The block's gradient, at an index. -/
def Blk.dq (y : S32x2x64x128.Idx) : EReal := (x.chunk (y 0) (y 1)).dq (y 2) (y 3)

theorem pieces15 (hD : Holds M x D) (n : ℕ) (hn : n ≤ 32) :
    ∀ p ∈ (loop c i M x D n).2.2.2.1, ∀ y : p.1.shape.Idx, p.2 y = x.dq (p.1.emb y) := by
  induction n with
  | zero => exact fun p hp => absurd hp List.not_mem_nil
  | succ n ih =>
    have h := loop_succ c i M x D (trip n (by omega))
    have h' : (loop c i M x D (n + 1)).2.2.2.1
        = (wrote c i M x D (trip n (by omega)) (loop c i M x D n).1).2.2.1 ++ (loop c i M x D n).2.2.2.1 := congrArg (·.2.2.2.1) h
    rw [h', wrote15_eq]
    intro p hp
    rcases List.mem_cons.mp hp with rfl | hp
    · intro y
      obtain ⟨e, r, d, rfl⟩ : ∃ (e : Fin 2) (r : Fin 64) (d : Fin 128), y = ix4 0 e r d :=
        ⟨y 1, y 2, y 3, funext fun b => by
          fin_cases b
          · exact Subsingleton.elim (α := Fin 1) _ _
          all_goals rfl⟩
      have hk : 31 - (31 - n) = n := by omega
      refine (val15_eq M x D hD (trip n (by omega)) (loop c i M x D n).1 e r d).trans ?_
      rw [emb2_eq]
      skip
      show _ = (x.chunk ⟨31 - n, _⟩ e).dq r d
      skip
      rfl
    · exact ih (by omega) p hp

/-- The block's gradient, at an index. -/
def Blk.dk (y : S32x2x64x128.Idx) : EReal := (x.chunk (y 0) (y 1)).dk (x.behind (y 1) (y 0)) (y 2) (y 3)

theorem pieces16 (hD : Holds M x D) (n : ℕ) (hn : n ≤ 32) :
    ∀ p ∈ (loop c i M x D n).2.2.2.2.1, ∀ y : p.1.shape.Idx, p.2 y = x.dk (p.1.emb y) := by
  induction n with
  | zero => exact fun p hp => absurd hp List.not_mem_nil
  | succ n ih =>
    have h := loop_succ c i M x D (trip n (by omega))
    have h' : (loop c i M x D (n + 1)).2.2.2.2.1
        = (wrote c i M x D (trip n (by omega)) (loop c i M x D n).1).2.2.2.1 ++ (loop c i M x D n).2.2.2.2.1 := congrArg (·.2.2.2.2.1) h
    rw [h', wrote16_eq]
    intro p hp
    rcases List.mem_cons.mp hp with rfl | hp
    · intro y
      obtain ⟨e, r, d, rfl⟩ : ∃ (e : Fin 2) (r : Fin 64) (d : Fin 128), y = ix4 0 e r d :=
        ⟨y 1, y 2, y 3, funext fun b => by
          fin_cases b
          · exact Subsingleton.elim (α := Fin 1) _ _
          all_goals rfl⟩
      have hk : 31 - (31 - n) = n := by omega
      refine (val16_eq M x D hD (trip n (by omega)) (loop c i M x D n).1 e r d).trans ?_
      rw [emb2_eq]
      rw [carry_eq c i M x D hD n (by omega) e]
      show _ = (x.chunk ⟨31 - n, _⟩ e).dk (back (x.seq e) (31 - (31 - n))) r d
      rw [hk]
      rfl
    · exact ih (by omega) p hp

/-- The block's gradient, at an index. -/
def Blk.da (y : S32x2x64x64.Idx) : EReal := (x.chunk (y 0) (y 1)).da (y 2) (y 3)

theorem pieces17 (hD : Holds M x D) (n : ℕ) (hn : n ≤ 32) :
    ∀ p ∈ (loop c i M x D n).2.2.2.2.2.1, ∀ y : p.1.shape.Idx, p.2 y = x.da (p.1.emb y) := by
  induction n with
  | zero => exact fun p hp => absurd hp List.not_mem_nil
  | succ n ih =>
    have h := loop_succ c i M x D (trip n (by omega))
    have h' : (loop c i M x D (n + 1)).2.2.2.2.2.1
        = (wrote c i M x D (trip n (by omega)) (loop c i M x D n).1).2.2.2.2.1 ++ (loop c i M x D n).2.2.2.2.2.1 := congrArg (·.2.2.2.2.2.1) h
    rw [h', wrote17_eq]
    intro p hp
    rcases List.mem_cons.mp hp with rfl | hp
    · intro y
      obtain ⟨e, r, d, rfl⟩ : ∃ (e : Fin 2) (r : Fin 64) (d : Fin 64), y = ix4 0 e r d :=
        ⟨y 1, y 2, y 3, funext fun b => by
          fin_cases b
          · exact Subsingleton.elim (α := Fin 1) _ _
          all_goals rfl⟩
      have hk : 31 - (31 - n) = n := by omega
      refine (val17_eq M x D hD (trip n (by omega)) (loop c i M x D n).1 e r d).trans ?_
      rw [emb3_eq]
      skip
      show _ = (x.chunk ⟨31 - n, _⟩ e).da r d
      skip
      rfl
    · exact ih (by omega) p hp

/-- The block's gradient, at an index. -/
def Blk.dl (y : S32x2x1x128.Idx) : EReal := (x.chunk (y 0) (y 1)).dl (x.behind (y 1) (y 0)) (y 3)

theorem pieces18 (hD : Holds M x D) (n : ℕ) (hn : n ≤ 32) :
    ∀ p ∈ (loop c i M x D n).2.2.2.2.2.2, ∀ y : p.1.shape.Idx, p.2 y = x.dl (p.1.emb y) := by
  induction n with
  | zero => exact fun p hp => absurd hp List.not_mem_nil
  | succ n ih =>
    have h := loop_succ c i M x D (trip n (by omega))
    have h' : (loop c i M x D (n + 1)).2.2.2.2.2.2
        = (wrote c i M x D (trip n (by omega)) (loop c i M x D n).1).2.2.2.2.2 ++ (loop c i M x D n).2.2.2.2.2.2 := congrArg (·.2.2.2.2.2.2) h
    rw [h', wrote18_eq]
    intro p hp
    rcases List.mem_cons.mp hp with rfl | hp
    · intro y
      obtain ⟨e, r, d, rfl⟩ : ∃ (e : Fin 2) (r : Fin 1) (d : Fin 128), y = ix4 0 e r d :=
        ⟨y 1, y 2, y 3, funext fun b => by
          fin_cases b
          · exact Subsingleton.elim (α := Fin 1) _ _
          all_goals rfl⟩
      have hk : 31 - (31 - n) = n := by omega
      refine (val18_eq M x D hD (trip n (by omega)) (loop c i M x D n).1 e r d).trans ?_
      rw [emb4_eq]
      rw [carry_eq c i M x D hD n (by omega) e]
      show _ = (x.chunk ⟨31 - n, _⟩ e).dl (back (x.seq e) (31 - (31 - n))) d
      rw [hk]
      rfl
    · exact ih (by omega) p hp

end Cert.Recur

end
-- ==== Proof.RecurHeads.lean ====
/- One block's gate and norm: the vectors the body loads for its two heads, and what it stores of them before the loop. -/
module

public import proofs.«01_k».proof.Proof.RecurBlock
public import proofs.«01_k».proof.Proof.RecurGate
public import proofs.«01_k».proof.Proof.RecurLoop
public import Idealize.ShloMosaic.Lib.WritesUnit

@[expose] public section

set_option maxRecDepth 16384

noncomputable section

namespace Cert.Recur

open Idealize.ShloMosaic Idealize.ShloMosaic.TcCoe Idealize.SL.Sem
open Cert.KernelIdeal Cert.KernelIdeal.Gen

variable (M : Refs) (x : Blk)

/-- Head 0's loads. -/
abbrev lo0 := View.readAt (Elt Ideal) M.r9.view (Rect.unit (s := S32x2x64x128) ![0, 0, 0, 0] S32x1x64x128.size inb_S32x2x64x128_S32x1x64x128_0_0_0_0).toLoadRect (M.h9.unread x.o)
abbrev lz0 := View.readAt (Elt Ideal) M.r10.view (Rect.unit (s := S2048x256) ![0, 0] S2048x128.size inb_S2048x256_S2048x128_0_0).toLoadRect (M.h10.unread x.z)
abbrev ly0 := View.readAt (Elt Ideal) M.r12.view (Rect.unit (s := S2048x256) ![0, 0] S2048x128.size inb_S2048x256_S2048x128_0_0).toLoadRect (M.h12.unread x.y)
/-- Head 1's loads. -/
abbrev lo1 := View.readAt (Elt Ideal) M.r9.view (Rect.unit (s := S32x2x64x128) ![0, 1, 0, 0] S32x1x64x128.size inb_S32x2x64x128_S32x1x64x128_0_1_0_0).toLoadRect (M.h9.unread x.o)
abbrev lz1 := View.readAt (Elt Ideal) M.r10.view (Rect.unit (s := S2048x256) ![0, 128] S2048x128.size inb_S2048x256_S2048x128_0_128).toLoadRect (M.h10.unread x.z)
abbrev ly1 := View.readAt (Elt Ideal) M.r12.view (Rect.unit (s := S2048x256) ![0, 128] S2048x128.size inb_S2048x256_S2048x128_0_128).toLoadRect (M.h12.unread x.y)
/-- The norm's weight, loaded. -/
abbrev lγ := View.readAt (Elt Ideal) M.r11.view (Rect.unit (s := S1x128) ![0, 0] S1x128.size inb_S1x128_S1x128_0_0).toLoadRect (M.h11.unread x.γ)

theorem lane0_eq (n : Fin 32) (r : Fin 64) : lane (lo0 M x) (lz0 M x) (ly0 M x) (lγ M x) n r = x.tok n 0 r := by
  rw [lane, Blk.tok]
  congr 1
  · funext d
    rw [lo0, Memref.IsWhole.readAt_unread]
    refine congrArg x.o (funext fun b => Fin.ext ?_)
    fin_cases b
    · show 0 + 1 * (n : ℕ) = n
      omega
    · show 0 + 1 * 0 = 0
      omega
    · show 0 + 1 * (r : ℕ) = r
      omega
    · show 0 + 1 * (d : ℕ) = d
      omega
  · funext d
    rw [lz0, Memref.IsWhole.readAt_unread]
    refine congrArg x.z (funext fun b => Fin.ext ?_)
    fin_cases b
    · show 0 + 1 * ((n : ℕ) * 64 + r) = (n : ℕ) * 64 + r
      omega
    · show 0 + 1 * (d : ℕ) = 0 * 128 + d
      omega
  · funext d
    rw [ly0, Memref.IsWhole.readAt_unread]
    refine congrArg x.y (funext fun b => Fin.ext ?_)
    fin_cases b
    · show 0 + 1 * ((n : ℕ) * 64 + r) = (n : ℕ) * 64 + r
      omega
    · show 0 + 1 * (d : ℕ) = 0 * 128 + d
      omega
  · funext d
    rw [lγ, Memref.IsWhole.readAt_unread]
    refine congrArg x.γ (funext fun b => Fin.ext ?_)
    fin_cases b
    · show 0 + 1 * 0 = 0
      omega
    · show 0 + 1 * (d : ℕ) = d
      omega

theorem lane1_eq (n : Fin 32) (r : Fin 64) : lane (lo1 M x) (lz1 M x) (ly1 M x) (lγ M x) n r = x.tok n 1 r := by
  rw [lane, Blk.tok]
  congr 1
  · funext d
    rw [lo1, Memref.IsWhole.readAt_unread]
    refine congrArg x.o (funext fun b => Fin.ext ?_)
    fin_cases b
    · show 0 + 1 * (n : ℕ) = n
      omega
    · show 1 + 1 * 0 = 1
      omega
    · show 0 + 1 * (r : ℕ) = r
      omega
    · show 0 + 1 * (d : ℕ) = d
      omega
  · funext d
    rw [lz1, Memref.IsWhole.readAt_unread]
    refine congrArg x.z (funext fun b => Fin.ext ?_)
    fin_cases b
    · show 0 + 1 * ((n : ℕ) * 64 + r) = (n : ℕ) * 64 + r
      omega
    · show 128 + 1 * (d : ℕ) = 1 * 128 + d
      omega
  · funext d
    rw [ly1, Memref.IsWhole.readAt_unread]
    refine congrArg x.y (funext fun b => Fin.ext ?_)
    fin_cases b
    · show 0 + 1 * ((n : ℕ) * 64 + r) = (n : ℕ) * 64 + r
      omega
    · show 128 + 1 * (d : ℕ) = 1 * 128 + d
      omega
  · funext d
    rw [lγ, Memref.IsWhole.readAt_unread]
    refine congrArg x.γ (funext fun b => Fin.ext ?_)
    fin_cases b
    · show 0 + 1 * 0 = 0
      omega
    · show 0 + 1 * (d : ℕ) = d
      omega

/-- What the body stores of the gradient of the recurrence's output: one piece a head. -/
def storedO : List (View.Piece (Elt Ideal) S32x2x64x128 .f32) :=
  [⟨Rect.unit ![0, 1, 0, 0] S32x1x64x128.size inb_S32x2x64x128_S32x1x64x128_0_1_0_0,
      k0_pay1 (k0_pay50 (k0_pay43 (lo1 M x)) (lz1 M x) (lγ M x) (ly1 M x))⟩,
    ⟨Rect.unit ![0, 0, 0, 0] S32x1x64x128.size inb_S32x2x64x128_S32x1x64x128_0_0_0_0,
      k0_pay40 (k0_pay29 (lo0 M x)) (k0_pay31 (lo0 M x)) (k0_pay32 (lo0 M x)) (k0_pay38 (lz0 M x) (lγ M x) (ly0 M x))⟩]

/-- What the body stores of the gate's gradient: one piece a head. -/
def storedZ : List (View.Piece (Elt Ideal) S2048x256 .bf16) :=
  [⟨Rect.unit ![0, 128] S2048x128.size inb_S2048x256_S2048x128_0_128,
      k0_pay51 (k0_pay43 (lo1 M x)) (lz1 M x) (lγ M x) (ly1 M x)⟩,
    ⟨Rect.unit ![0, 0] S2048x128.size inb_S2048x256_S2048x128_0_0,
      k0_pay39 (k0_pay36 (lo0 M x) (lz0 M x) (lγ M x) (ly0 M x))⟩]

/-- Two pieces, head 1's above head 0's: an index reads its head's piece. -/
theorem two_heads (v : View sig .tc .vmem S32x2x64x128 .f32) (f : v.ty.Contents (Elt Ideal)) (w1 w0 : FVec Ideal S32x1x64x128 .f32)
    (n : Fin 32) (e : Fin 2) (r : Fin 64) (d : Fin 128) :
    v.read (Elt Ideal) (v.writes (Elt Ideal) f
      [⟨Rect.unit ![0, 1, 0, 0] S32x1x64x128.size inb_S32x2x64x128_S32x1x64x128_0_1_0_0, w1⟩,
        ⟨Rect.unit ![0, 0, 0, 0] S32x1x64x128.size inb_S32x2x64x128_S32x1x64x128_0_0_0_0, w0⟩]) (ix4 n e r d)
      = if e = 0 then w0 (ix4 n 0 r d) else w1 (ix4 n 0 r d) := by
  by_cases h : e = 0
  · subst h
    rw [if_pos rfl, View.read_writes_cons_unit_of_not_mem (s := S32x2x64x128) (size := S32x1x64x128.size) (off' := ![0, 1, 0, 0]) v f _ _ _ _ rfl (1 : Fin 4) (Or.inl (Nat.zero_lt_one)),
      View.read_writes_cons_unit_of_mem (s := S32x2x64x128) (size := S32x1x64x128.size) (off' := ![0, 0, 0, 0]) v f _ _ _ _ (ix4 n 0 r d) rfl]
    intro a
    fin_cases a
    · exact (Nat.zero_add _).symm
    · rfl
    · exact (Nat.zero_add _).symm
    · exact (Nat.zero_add _).symm
  · obtain rfl : e = 1 := by omega
    rw [if_neg h, View.read_writes_cons_unit_of_mem (s := S32x2x64x128) (size := S32x1x64x128.size) (off' := ![0, 1, 0, 0]) v f _ _ _ _ (ix4 n 0 r d) rfl]
    intro a
    fin_cases a
    · exact (Nat.zero_add _).symm
    · rfl
    · exact (Nat.zero_add _).symm
    · exact (Nat.zero_add _).symm

/-- Two pieces side by side: a lane reads its head's piece. -/
theorem two_sides (v : View sig .tc .vmem S2048x256 .bf16) (f : v.ty.Contents (Elt Ideal)) (w1 w0 : FVec Ideal S2048x128 .bf16)
    (t : Fin 2048) (e : Fin 2) (d : Fin 128) :
    v.read (Elt Ideal) (v.writes (Elt Ideal) f
      [⟨Rect.unit ![0, 128] S2048x128.size inb_S2048x256_S2048x128_0_128, w1⟩,
        ⟨Rect.unit ![0, 0] S2048x128.size inb_S2048x256_S2048x128_0_0, w0⟩]) (ix2 t (⟨e * 128 + d, by omega⟩ : Fin 256))
      = if e = 0 then w0 (ix2 t d) else w1 (ix2 t d) := by
  by_cases h : e = 0
  · subst h
    rw [if_pos rfl, View.read_writes_cons_unit_of_not_mem (s := S2048x256) (size := S2048x128.size) (off' := ![0, 128]) v f _ _ _ _ rfl (1 : Fin 2)
        (Or.inl (by show 0 * 128 + (d : ℕ) < 128; omega)),
      View.read_writes_cons_unit_of_mem (s := S2048x256) (size := S2048x128.size) (off' := ![0, 0]) v f _ _ _ _ (ix2 t d) rfl]
    intro a
    fin_cases a
    · exact (Nat.zero_add _).symm
    · show 0 * 128 + (d : ℕ) = 0 + d
      omega
  · obtain rfl : e = 1 := by omega
    rw [if_neg h, View.read_writes_cons_unit_of_mem (s := S2048x256) (size := S2048x128.size) (off' := ![0, 128]) v f _ _ _ _ (ix2 t d) rfl]
    intro a
    fin_cases a
    · exact (Nat.zero_add _).symm
    · show 1 * 128 + (d : ℕ) = 128 + d
      omega

theorem storedO_holds (f : M.r21.view.ty.Contents (Elt Ideal)) :
    Holds M x (M.r21.view.writes (Elt Ideal) f (storedO M x)) := by
  intro n e r d
  refine (two_heads M.r21.view f _ _ n e r d).trans ?_
  by_cases h : e = 0
  · subst h
    rw [if_pos rfl, do0_eq, lane0_eq]
  · obtain rfl : e = 1 := by omega
    rw [if_neg h, do1_eq, lane1_eq]

/-- The block's gate gradient, at a token and a lane of the pair's 256. -/
theorem storedZ_eq (v : View sig .tc .vmem S2048x256 .bf16) (f : v.ty.Contents (Elt Ideal)) (n : Fin 32) (e : Fin 2) (r : Fin 64) (d : Fin 128) :
    v.read (Elt Ideal) (v.writes (Elt Ideal) f (storedZ M x)) (ix2 (⟨n * 64 + r, by omega⟩ : Fin 2048) (⟨e * 128 + d, by omega⟩ : Fin 256))
      = (x.tok n e r).dz d := by
  have hn : (⟨((n : ℕ) * 64 + r) / 64, by omega⟩ : Fin 32) = n := Fin.ext (by show ((n : ℕ) * 64 + r) / 64 = n; omega)
  have hr : (⟨((n : ℕ) * 64 + r) % 64, by omega⟩ : Fin 64) = r := Fin.ext (by show ((n : ℕ) * 64 + r) % 64 = r; omega)
  refine (two_sides v f _ _ ⟨n * 64 + r, by omega⟩ e d).trans ?_
  by_cases h : e = 0
  · subst h
    rw [if_pos rfl, dz0_eq, lane0_eq]
    simp only [hn, hr]
  · obtain rfl : e = 1 := by omega
    rw [if_neg h, dz1_eq, lane1_eq]
    simp only [hn, hr]

/-- What the block adds to the gradient of the norm's weight: head 0's tokens, then head 1's. -/
def Blk.dγ (e : Fin 2) (d : Fin 128) : EReal := ∑ t : Fin 2048, (x.tok ⟨t / 64, by omega⟩ e ⟨t % 64, by omega⟩).dw d

theorem sum0_eq (d : Fin 128) : k0_pay37 (F := Ideal) (lo0 M x) (lz0 M x) (ly0 M x) (ix2 0 d) = x.dγ 0 d := by
  rw [dw0_eq (lo0 M x) (lz0 M x) (ly0 M x) (lγ M x)]
  exact Finset.sum_congr rfl fun t _ => by rw [lane0_eq]

theorem sum1_eq (d : Fin 128) : k0_pay49 (F := Ideal) (k0_pay43 (lo1 M x)) (lz1 M x) (ly1 M x) (ix2 0 d) = x.dγ 1 d := by
  rw [dw1_eq (lo1 M x) (lz1 M x) (ly1 M x) (lγ M x)]
  exact Finset.sum_congr rfl fun t _ => by rw [lane1_eq]

/-- What the first block stores of the norm's weight's gradient. -/
def rowsZeroed (u : View sig .tc .vmem S8x128 .f32) : List (View.Piece (Elt Ideal) S8x128 .f32) :=
      [⟨Rect.unit ![0, 0] S1x128.size inb_S8x128_S1x128_0_0, k0_pay3 (k0_pay49 (k0_pay43 (lo1 M x)) (lz1 M x) (ly1 M x))
          (u.readCov [⟨Rect.unit ![0, 0] S1x128.size inb_S8x128_S1x128_0_0, k0_pay42 (k0_pay37 (lo0 M x) (lz0 M x) (ly0 M x))
              (u.readCov [⟨Rect.unit ![0, 0] S8x128.size inb_S8x128_S8x128_0_0, k0_pay41 (F := Ideal)⟩]
                (Rect.unit (s := S8x128) ![0, 0] S1x128.size inb_S8x128_S1x128_0_0).toLoadRect)⟩,
            ⟨Rect.unit ![0, 0] S8x128.size inb_S8x128_S8x128_0_0, k0_pay41 (F := Ideal)⟩]
            (Rect.unit (s := S8x128) ![0, 0] S1x128.size inb_S8x128_S1x128_0_0).toLoadRect)⟩,
        ⟨Rect.unit ![0, 0] S1x128.size inb_S8x128_S1x128_0_0, k0_pay42 (k0_pay37 (lo0 M x) (lz0 M x) (ly0 M x))
            (u.readCov [⟨Rect.unit ![0, 0] S8x128.size inb_S8x128_S8x128_0_0, k0_pay41 (F := Ideal)⟩]
              (Rect.unit (s := S8x128) ![0, 0] S1x128.size inb_S8x128_S1x128_0_0).toLoadRect)⟩,
        ⟨Rect.unit ![0, 0] S8x128.size inb_S8x128_S8x128_0_0, k0_pay41 (F := Ideal)⟩]

/-- What a later block stores of it. -/
def rowsAdded (v : View sig .tc .vmem S8x128 .f32) (f : v.ty.Contents (Elt Ideal)) : List (View.Piece (Elt Ideal) S8x128 .f32) :=
      [⟨Rect.unit ![0, 0] S1x128.size inb_S8x128_S1x128_0_0, k0_pay3 (k0_pay49 (k0_pay43 (lo1 M x)) (lz1 M x) (ly1 M x))
          (v.readCov [⟨Rect.unit ![0, 0] S1x128.size inb_S8x128_S1x128_0_0, k0_pay42 (k0_pay37 (lo0 M x) (lz0 M x) (ly0 M x))
              (View.readAt (Elt Ideal) v (Rect.unit (s := S8x128) ![0, 0] S1x128.size inb_S8x128_S1x128_0_0).toLoadRect f)⟩]
            (Rect.unit (s := S8x128) ![0, 0] S1x128.size inb_S8x128_S1x128_0_0).toLoadRect)⟩,
        ⟨Rect.unit ![0, 0] S1x128.size inb_S8x128_S1x128_0_0, k0_pay42 (k0_pay37 (lo0 M x) (lz0 M x) (ly0 M x))
            (View.readAt (Elt Ideal) v (Rect.unit (s := S8x128) ![0, 0] S1x128.size inb_S8x128_S1x128_0_0).toLoadRect f)⟩]

/-- The first row's accumulator where it starts from zero: both heads' sums, and zero in the other rows. -/
theorem rows_zeroed (u v : View sig .tc .vmem S8x128 .f32) (f : v.ty.Contents (Elt Ideal)) (i : Fin 8) (d : Fin 128) :
    v.read (Elt Ideal) (v.writes (Elt Ideal) f
      (rowsZeroed M x u)) (ix2 i d)
      = if i = 0 then 0 + x.dγ 0 d + x.dγ 1 d else 0 := by
  have hz : ∀ (v : View sig .tc .vmem S8x128 .f32) (g : v.ty.Contents (Elt Ideal)) (i : Fin 8) (d : Fin 128), v.read (Elt Ideal) (v.writes (Elt Ideal) g
      [⟨Rect.unit ![0, 0] S8x128.size inb_S8x128_S8x128_0_0, k0_pay41 (F := Ideal)⟩]) (ix2 i d) = (0 : EReal) := by
    intro v g i d
    rw [View.read_writes_cons_unit_of_mem (s := S8x128) (size := S8x128.size) (off' := ![0, 0]) v g _ _ _ _ (ix2 i d) rfl]
    · pointwise! [k0_pay41]
    · intro a
      fin_cases a <;> exact (Nat.zero_add _).symm
  have hrow : ∀ (v : View sig .tc .vmem S8x128 .f32) (g : v.ty.Contents (Elt Ideal)) (w : FVec Ideal S1x128 .f32) (L : List (View.Piece (Elt Ideal) S8x128 .f32)) (d : Fin 128),
      v.read (Elt Ideal) (v.writes (Elt Ideal) g
        (⟨Rect.unit ![0, 0] S1x128.size inb_S8x128_S1x128_0_0, w⟩ :: L)) (ix2 (0 : Fin 8) d) = w (ix2 0 d) := by
    intro v g w L d
    rw [View.read_writes_cons_unit_of_mem (s := S8x128) (size := S1x128.size) (off' := ![0, 0]) v g _ _ _ _ (ix2 0 d) rfl]
    intro a
    fin_cases a <;> exact (Nat.zero_add _).symm
  have hnot : ∀ (v : View sig .tc .vmem S8x128 .f32) (g : v.ty.Contents (Elt Ideal)) (w : FVec Ideal S1x128 .f32) (L : List (View.Piece (Elt Ideal) S8x128 .f32)) (i : Fin 8) (d : Fin 128), i ≠ 0 →
      v.read (Elt Ideal) (v.writes (Elt Ideal) g
        (⟨Rect.unit ![0, 0] S1x128.size inb_S8x128_S1x128_0_0, w⟩ :: L)) (ix2 i d) = v.read (Elt Ideal) (v.writes (Elt Ideal) g L) (ix2 i d) := by
    intro v g w L i d h
    exact View.read_writes_cons_unit_of_not_mem (s := S8x128) (size := S1x128.size) (off' := ![0, 0]) v g _ _ _ _ rfl (0 : Fin 2)
      (Or.inr (by show 0 + 1 ≤ (i : ℕ); omega))
  have hidx : ∀ d : Fin 128, (Rect.unit (s := S8x128) ![0, 0] S1x128.size inb_S8x128_S1x128_0_0).toLoadRect.idx (ix2 0 d)
      = (ix2 (0 : Fin 8) d : S8x128.Idx) := by
    intro d
    refine funext fun a => Fin.ext ?_
    fin_cases a
    · rfl
    · show 0 + 1 * (d : ℕ) = d
      omega
  by_cases h : i = 0
  · subst h
    rw [rowsZeroed, hrow, if_pos rfl]
    have e1 : ∀ (s w : FVec Ideal S1x128 .f32), k0_pay3 (F := Ideal) s w (ix2 0 d) = w (ix2 0 d) + s (ix2 0 d) := fun s w => by
      pointwise! [k0_pay3]
    have e2 : ∀ (s w : FVec Ideal S1x128 .f32), k0_pay42 (F := Ideal) s w (ix2 0 d) = w (ix2 0 d) + s (ix2 0 d) := fun s w => by
      pointwise! [k0_pay42]
    rw [e1, sum1_eq]
    congr 1
    show u.read (Elt Ideal) (u.writes (Elt Ideal) _ _) ((Rect.unit (s := S8x128) ![0, 0] S1x128.size inb_S8x128_S1x128_0_0).toLoadRect.idx (ix2 0 d)) = _
    rw [hidx, hrow, e2, sum0_eq]
    congr 1
    show u.read (Elt Ideal) (u.writes (Elt Ideal) _ _) ((Rect.unit (s := S8x128) ![0, 0] S1x128.size inb_S8x128_S1x128_0_0).toLoadRect.idx (ix2 0 d)) = _
    rw [hidx, hz]
  · rw [rowsZeroed, if_neg h, hnot _ _ _ _ _ _ h, hnot _ _ _ _ _ _ h, hz]

/-- The first row's accumulator where it goes on from what an earlier block left. -/
theorem rows_added (v : View sig .tc .vmem S8x128 .f32) (f : v.ty.Contents (Elt Ideal)) (old : FVec Ideal S8x128 .f32)
    (ho : ∀ i d, v.read (Elt Ideal) f (ix2 i d) = old (ix2 i d)) (i : Fin 8) (d : Fin 128) :
    v.read (Elt Ideal) (v.writes (Elt Ideal) f
      (rowsAdded M x v f)) (ix2 i d)
      = if i = 0 then old (ix2 0 d) + x.dγ 0 d + x.dγ 1 d else old (ix2 i d) := by
  have hrow : ∀ (g : v.ty.Contents (Elt Ideal)) (w : FVec Ideal S1x128 .f32) (L : List (View.Piece (Elt Ideal) S8x128 .f32)) (d : Fin 128),
      v.read (Elt Ideal) (v.writes (Elt Ideal) g
        (⟨Rect.unit ![0, 0] S1x128.size inb_S8x128_S1x128_0_0, w⟩ :: L)) (ix2 (0 : Fin 8) d) = w (ix2 0 d) := by
    intro g w L d
    rw [View.read_writes_cons_unit_of_mem (s := S8x128) (size := S1x128.size) (off' := ![0, 0]) v g _ _ _ _ (ix2 0 d) rfl]
    intro a
    fin_cases a <;> exact (Nat.zero_add _).symm
  have hnot : ∀ (g : v.ty.Contents (Elt Ideal)) (w : FVec Ideal S1x128 .f32) (L : List (View.Piece (Elt Ideal) S8x128 .f32)) (i : Fin 8) (d : Fin 128), i ≠ 0 →
      v.read (Elt Ideal) (v.writes (Elt Ideal) g
        (⟨Rect.unit ![0, 0] S1x128.size inb_S8x128_S1x128_0_0, w⟩ :: L)) (ix2 i d) = v.read (Elt Ideal) (v.writes (Elt Ideal) g L) (ix2 i d) := by
    intro g w L i d h
    exact View.read_writes_cons_unit_of_not_mem (s := S8x128) (size := S1x128.size) (off' := ![0, 0]) v g _ _ _ _ rfl (0 : Fin 2)
      (Or.inr (by show 0 + 1 ≤ (i : ℕ); omega))
  have hidx : ∀ d : Fin 128, (Rect.unit (s := S8x128) ![0, 0] S1x128.size inb_S8x128_S1x128_0_0).toLoadRect.idx (ix2 0 d)
      = (ix2 (0 : Fin 8) d : S8x128.Idx) := by
    intro d
    refine funext fun a => Fin.ext ?_
    fin_cases a
    · rfl
    · show 0 + 1 * (d : ℕ) = d
      omega
  by_cases h : i = 0
  · subst h
    rw [rowsAdded, hrow, if_pos rfl]
    have e1 : ∀ (u w : FVec Ideal S1x128 .f32), k0_pay3 (F := Ideal) u w (ix2 0 d) = w (ix2 0 d) + u (ix2 0 d) := fun u w => by
      pointwise! [k0_pay3]
    have e2 : ∀ (u w : FVec Ideal S1x128 .f32), k0_pay42 (F := Ideal) u w (ix2 0 d) = w (ix2 0 d) + u (ix2 0 d) := fun u w => by
      pointwise! [k0_pay42]
    rw [e1, sum1_eq]
    congr 1
    show v.read (Elt Ideal) (v.writes (Elt Ideal) _ _) ((Rect.unit (s := S8x128) ![0, 0] S1x128.size inb_S8x128_S1x128_0_0).toLoadRect.idx (ix2 0 d)) = _
    rw [hidx, hrow, e2, sum0_eq]
    congr 1
    show v.read (Elt Ideal) f ((Rect.unit (s := S8x128) ![0, 0] S1x128.size inb_S8x128_S1x128_0_0).toLoadRect.idx (ix2 0 d)) = _
    rw [hidx, ho]
  · rw [rowsAdded, if_neg h, hnot _ _ _ _ _ h, hnot _ _ _ _ _ h]
    exact ho i d

end Cert.Recur

end
-- ==== Proof.RecurPoint.lean ====
/- What one grid point leaves in its output blocks: at the first point, and at the others. -/
module

public import proofs.«01_k».proof.Proof.RecurHeads
public import proofs.«01_k».proof.Proof.Gen.KernelIdeal.Frame

@[expose] public section

set_option maxRecDepth 16384

noncomputable section

namespace Cert.Recur

open Idealize.ShloMosaic Idealize.ShloMosaic.TcCoe Idealize.SL.Sem
open Cert.KernelIdeal Cert.KernelIdeal.Gen

variable (c : Dev nD) (i : grid0.Coords) (M : Refs) (x : Blk)

/-- The scratch as the loop finds it. -/
abbrev scratch := M.r21.view.writes (Elt Ideal) M.r21.view.junk (storedO M x)

theorem runA_11 (hc0 : cond0_0 i) (hc1 : ¬cond0_1 i) :
    (kernelRun0_A (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y).1
      = (loop c i M x (scratch M x) k0_t1_loop.trips).2.1 := by
  unfold kernelRun0_A loop
  dsimp only
  rfl

theorem outA_11 (hc0 : cond0_0 i) (hc1 : ¬cond0_1 i) (j : S32x2x64x128.Idx) :
    out0_A_11 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j = x.du j := by
  refine View.read_writes_apply_of_pieces _ _ x.du _ ?_ j (cover0_A_11 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j)
  rw [runA_11, trips_eq]
  exact pieces13 c i M x _ (storedO_holds M x _) 32 (Nat.le_refl _)

theorem runA_12 (hc0 : cond0_0 i) (hc1 : ¬cond0_1 i) :
    (kernelRun0_A (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y).2.1
      = (loop c i M x (scratch M x) k0_t1_loop.trips).2.2.1 := by
  unfold kernelRun0_A loop
  dsimp only
  rfl

theorem outA_12 (hc0 : cond0_0 i) (hc1 : ¬cond0_1 i) (j : S32x2x64x128.Idx) :
    out0_A_12 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j = x.dw j := by
  refine View.read_writes_apply_of_pieces _ _ x.dw _ ?_ j (cover0_A_12 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j)
  rw [runA_12, trips_eq]
  exact pieces14 c i M x _ (storedO_holds M x _) 32 (Nat.le_refl _)

theorem runA_13 (hc0 : cond0_0 i) (hc1 : ¬cond0_1 i) :
    (kernelRun0_A (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y).2.2.1
      = (loop c i M x (scratch M x) k0_t1_loop.trips).2.2.2.1 := by
  unfold kernelRun0_A loop
  dsimp only
  rfl

theorem outA_13 (hc0 : cond0_0 i) (hc1 : ¬cond0_1 i) (j : S32x2x64x128.Idx) :
    out0_A_13 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j = x.dq j := by
  refine View.read_writes_apply_of_pieces _ _ x.dq _ ?_ j (cover0_A_13 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j)
  rw [runA_13, trips_eq]
  exact pieces15 c i M x _ (storedO_holds M x _) 32 (Nat.le_refl _)

theorem runA_14 (hc0 : cond0_0 i) (hc1 : ¬cond0_1 i) :
    (kernelRun0_A (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y).2.2.2.1
      = (loop c i M x (scratch M x) k0_t1_loop.trips).2.2.2.2.1 := by
  unfold kernelRun0_A loop
  dsimp only
  rfl

theorem outA_14 (hc0 : cond0_0 i) (hc1 : ¬cond0_1 i) (j : S32x2x64x128.Idx) :
    out0_A_14 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j = x.dk j := by
  refine View.read_writes_apply_of_pieces _ _ x.dk _ ?_ j (cover0_A_14 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j)
  rw [runA_14, trips_eq]
  exact pieces16 c i M x _ (storedO_holds M x _) 32 (Nat.le_refl _)

theorem runA_15 (hc0 : cond0_0 i) (hc1 : ¬cond0_1 i) :
    (kernelRun0_A (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y).2.2.2.2.1
      = (loop c i M x (scratch M x) k0_t1_loop.trips).2.2.2.2.2.1 := by
  unfold kernelRun0_A loop
  dsimp only
  rfl

theorem outA_15 (hc0 : cond0_0 i) (hc1 : ¬cond0_1 i) (j : S32x2x64x64.Idx) :
    out0_A_15 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j = x.da j := by
  refine View.read_writes_apply_of_pieces _ _ x.da _ ?_ j (cover0_A_15 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j)
  rw [runA_15, trips_eq]
  exact pieces17 c i M x _ (storedO_holds M x _) 32 (Nat.le_refl _)

theorem runA_16 (hc0 : cond0_0 i) (hc1 : ¬cond0_1 i) :
    (kernelRun0_A (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y).2.2.2.2.2.1
      = (loop c i M x (scratch M x) k0_t1_loop.trips).2.2.2.2.2.2 := by
  unfold kernelRun0_A loop
  dsimp only
  rfl

theorem outA_16 (hc0 : cond0_0 i) (hc1 : ¬cond0_1 i) (j : S32x2x1x128.Idx) :
    out0_A_16 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j = x.dl j := by
  refine View.read_writes_apply_of_pieces _ _ x.dl _ ?_ j (cover0_A_16 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y j)
  rw [runA_16, trips_eq]
  exact pieces18 c i M x _ (storedO_holds M x _) 32 (Nat.le_refl _)

theorem runA_17 (hc0 : cond0_0 i) (hc1 : ¬cond0_1 i) :
    (kernelRun0_A (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y).2.2.2.2.2.2.1 = storedZ M x := by
  unfold kernelRun0_A
  dsimp only
  rfl

theorem outA_17 (hc0 : cond0_0 i) (hc1 : ¬cond0_1 i) (n : Fin 32) (e : Fin 2) (r : Fin 64) (d : Fin 128) :
    out0_A_17 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y (ix2 (⟨n * 64 + r, by omega⟩ : Fin 2048) (⟨e * 128 + d, by omega⟩ : Fin 256))
      = (x.tok n e r).dz d := by
  unfold out0_A_17
  rw [runA_17]
  exact storedZ_eq M x _ _ n e r d

theorem runA_18 (hc0 : cond0_0 i) (hc1 : ¬cond0_1 i) :
    (kernelRun0_A (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y).2.2.2.2.2.2.2.1 = rowsZeroed M x M.r20.view := by
  unfold kernelRun0_A
  dsimp only
  rfl

theorem outA_18 (hc0 : cond0_0 i) (hc1 : ¬cond0_1 i) (r : Fin 8) (d : Fin 128) :
    out0_A_18 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y (ix2 r d) = if r = 0 then 0 + x.dγ 0 d + x.dγ 1 d else 0 := by
  unfold out0_A_18
  rw [runA_18]
  exact rows_zeroed M x _ _ _ r d

theorem runB_11 (hc0 : ¬cond0_0 i) (hc1 : ¬cond0_1 i) (prev : Vec Ideal S8x128 .f32) :
    (kernelRun0_B (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev).1
      = (loop c i M x (scratch M x) k0_t1_loop.trips).2.1 := by
  unfold kernelRun0_B loop
  dsimp only
  rfl

theorem outB_11 (hc0 : ¬cond0_0 i) (hc1 : ¬cond0_1 i) (prev : Vec Ideal S8x128 .f32) (j : S32x2x64x128.Idx) :
    out0_B_11 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j = x.du j := by
  refine View.read_writes_apply_of_pieces _ _ x.du _ ?_ j (cover0_B_11 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j)
  rw [runB_11, trips_eq]
  exact pieces13 c i M x _ (storedO_holds M x _) 32 (Nat.le_refl _)

theorem runB_12 (hc0 : ¬cond0_0 i) (hc1 : ¬cond0_1 i) (prev : Vec Ideal S8x128 .f32) :
    (kernelRun0_B (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev).2.1
      = (loop c i M x (scratch M x) k0_t1_loop.trips).2.2.1 := by
  unfold kernelRun0_B loop
  dsimp only
  rfl

theorem outB_12 (hc0 : ¬cond0_0 i) (hc1 : ¬cond0_1 i) (prev : Vec Ideal S8x128 .f32) (j : S32x2x64x128.Idx) :
    out0_B_12 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j = x.dw j := by
  refine View.read_writes_apply_of_pieces _ _ x.dw _ ?_ j (cover0_B_12 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j)
  rw [runB_12, trips_eq]
  exact pieces14 c i M x _ (storedO_holds M x _) 32 (Nat.le_refl _)

theorem runB_13 (hc0 : ¬cond0_0 i) (hc1 : ¬cond0_1 i) (prev : Vec Ideal S8x128 .f32) :
    (kernelRun0_B (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev).2.2.1
      = (loop c i M x (scratch M x) k0_t1_loop.trips).2.2.2.1 := by
  unfold kernelRun0_B loop
  dsimp only
  rfl

theorem outB_13 (hc0 : ¬cond0_0 i) (hc1 : ¬cond0_1 i) (prev : Vec Ideal S8x128 .f32) (j : S32x2x64x128.Idx) :
    out0_B_13 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j = x.dq j := by
  refine View.read_writes_apply_of_pieces _ _ x.dq _ ?_ j (cover0_B_13 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j)
  rw [runB_13, trips_eq]
  exact pieces15 c i M x _ (storedO_holds M x _) 32 (Nat.le_refl _)

theorem runB_14 (hc0 : ¬cond0_0 i) (hc1 : ¬cond0_1 i) (prev : Vec Ideal S8x128 .f32) :
    (kernelRun0_B (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev).2.2.2.1
      = (loop c i M x (scratch M x) k0_t1_loop.trips).2.2.2.2.1 := by
  unfold kernelRun0_B loop
  dsimp only
  rfl

theorem outB_14 (hc0 : ¬cond0_0 i) (hc1 : ¬cond0_1 i) (prev : Vec Ideal S8x128 .f32) (j : S32x2x64x128.Idx) :
    out0_B_14 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j = x.dk j := by
  refine View.read_writes_apply_of_pieces _ _ x.dk _ ?_ j (cover0_B_14 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j)
  rw [runB_14, trips_eq]
  exact pieces16 c i M x _ (storedO_holds M x _) 32 (Nat.le_refl _)

theorem runB_15 (hc0 : ¬cond0_0 i) (hc1 : ¬cond0_1 i) (prev : Vec Ideal S8x128 .f32) :
    (kernelRun0_B (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev).2.2.2.2.1
      = (loop c i M x (scratch M x) k0_t1_loop.trips).2.2.2.2.2.1 := by
  unfold kernelRun0_B loop
  dsimp only
  rfl

theorem outB_15 (hc0 : ¬cond0_0 i) (hc1 : ¬cond0_1 i) (prev : Vec Ideal S8x128 .f32) (j : S32x2x64x64.Idx) :
    out0_B_15 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j = x.da j := by
  refine View.read_writes_apply_of_pieces _ _ x.da _ ?_ j (cover0_B_15 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j)
  rw [runB_15, trips_eq]
  exact pieces17 c i M x _ (storedO_holds M x _) 32 (Nat.le_refl _)

theorem runB_16 (hc0 : ¬cond0_0 i) (hc1 : ¬cond0_1 i) (prev : Vec Ideal S8x128 .f32) :
    (kernelRun0_B (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev).2.2.2.2.2.1
      = (loop c i M x (scratch M x) k0_t1_loop.trips).2.2.2.2.2.2 := by
  unfold kernelRun0_B loop
  dsimp only
  rfl

theorem outB_16 (hc0 : ¬cond0_0 i) (hc1 : ¬cond0_1 i) (prev : Vec Ideal S8x128 .f32) (j : S32x2x1x128.Idx) :
    out0_B_16 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j = x.dl j := by
  refine View.read_writes_apply_of_pieces _ _ x.dl _ ?_ j (cover0_B_16 c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev j)
  rw [runB_16, trips_eq]
  exact pieces18 c i M x _ (storedO_holds M x _) 32 (Nat.le_refl _)

theorem runB_17 (hc0 : ¬cond0_0 i) (hc1 : ¬cond0_1 i) (prev : Vec Ideal S8x128 .f32) :
    (kernelRun0_B (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev).2.2.2.2.2.2.1 = storedZ M x := by
  unfold kernelRun0_B
  dsimp only
  rfl

theorem outB_17 (hc0 : ¬cond0_0 i) (hc1 : ¬cond0_1 i) (prev : Vec Ideal S8x128 .f32) (n : Fin 32) (e : Fin 2) (r : Fin 64) (d : Fin 128) :
    out0_B_17 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev (ix2 (⟨n * 64 + r, by omega⟩ : Fin 2048) (⟨e * 128 + d, by omega⟩ : Fin 256))
      = (x.tok n e r).dz d := by
  unfold out0_B_17
  rw [runB_17]
  exact storedZ_eq M x _ _ n e r d

theorem runB_18 (hc0 : ¬cond0_0 i) (hc1 : ¬cond0_1 i) (prev : Vec Ideal S8x128 .f32) :
    (kernelRun0_B (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev).2.2.2.2.2.2.2.1 = rowsAdded M x M.r20.view (M.h20.unread prev) := by
  unfold kernelRun0_B
  dsimp only
  rfl

theorem outB_18 (hc0 : ¬cond0_0 i) (hc1 : ¬cond0_1 i) (prev : Vec Ideal S8x128 .f32) (r : Fin 8) (d : Fin 128) :
    out0_B_18 (F := Ideal) c i M.r2 M.h2 M.r3 M.h3 M.r4 M.h4 M.r5 M.h5 M.r6 M.h6 M.r7 M.h7 M.r8 M.h8 M.r9 M.h9 M.r10 M.h10 M.r11 M.h11 M.r12 M.h12 M.r13 M.h13 M.r14 M.h14 M.r15 M.h15 M.r16 M.h16 M.r17 M.h17 M.r18 M.h18 M.r19 M.h19 M.r20 M.h20 M.r21 M.h21 hc0 hc1 x.u x.w x.q x.k x.a x.l x.s x.o x.z x.γ x.y prev (ix2 r d)
      = if r = 0 then prev (ix2 0 d) + x.dγ 0 d + x.dγ 1 d else prev (ix2 r d) := by
  unfold out0_B_18
  rw [runB_18]
  exact rows_added M x M.r20.view (M.h20.unread prev) prev (fun r d => congrFun (M.h20.read_unread prev) (ix2 r d)) r d

end Cert.Recur

end
-- ==== Proof.RecurStep.lean ====
/- One trip of the reference's scan, read one element at a time: sequence `b`, head `h`. -/
module

public import proofs.«01_k».proof.Proof.Gen.ReferenceIdeal.Step
public import proofs.«01_k».proof.Proof.RecurSpec
public import Idealize.ShloMosaic.Lib.Pointwise
public import Idealize.ShloMosaic.Lib.DynamicIndex
public import Idealize.ShloMosaic.Lib.Pipeline.Value

@[expose] public section

set_option maxRecDepth 16384

noncomputable section

namespace Cert.Recur

open Idealize.ShloMosaic Idealize.ShloMosaic.TcCoe Idealize.SL.Sem
open Cert.ReferenceIdeal Cert.ReferenceIdeal.Step

/-- Chunk `n` of sequence `b`, head `h`, in the scanned arrays. -/
def ofState (t : State Ideal) (b h : Fin 4) (n : Fin 32) : Chunk where
  u r d := t.main_v71_1 (ix5 n b h r d)
  w r d := t.main_v71_2 (ix5 n b h r d)
  q r d := t.main_v71_3 (ix5 n b h r d)
  k r d := t.main_v71_4 (ix5 n b h r d)
  a p r := t.main_v71_5 (ix5 n b h p r)
  l d := t.main_v71_6 (ix5 n b h 0 d)
  s i j := t.main_v71_0 (ix5 n b h i j)
  g r d := t.main_v71_7 (ix5 n b h r d)

/-- The chunk trip `j` reads: the scan walks from the last to the first. -/
abbrev at_ (j : ℕ) : Fin 32 := ⟨31 - j, by omega⟩

/-- The trip's start on the first axis, as a word. -/
theorem b3_eq (t : State Ideal) : ∀ j : Fin 32, (b3 (F := Ideal) j t (Shape.Idx.first Gen.h_S_)).toInt = ((at_ j : Fin 32) : ℕ) := by
  intro j
  show (32#32 - BitVec.ofNat 32 j - 1#32).toInt = _
  revert j
  decide +kernel

variable (j : ℕ) (hj : j < 32) (t : State Ideal) (b h : Fin 4)

/-- The starts of the trip's slices and updates: chunk `31 - j`, and zero on the other axes. -/
theorem start_eq (hj : j < 32) (a : Fin 5) :
    (((![b3 (F := Ideal) j t, constantI S_ 32 0#32, constantI S_ 32 0#32, constantI S_ 32 0#32, constantI S_ 32 0#32]
      : Fin 5 → (⟨S_, .i32⟩ : BufTy).Contents (Elt Ideal))) a (Shape.Idx.first Gen.h_S_)).toInt
      = ((![31 - j, 0, 0, 0, 0] : Fin 5 → ℕ) a : ℤ) := by
  fin_cases a
  · exact b3_eq t ⟨j, hj⟩
  all_goals rfl

include hj

theorem b9_eq (r d : Fin 128) : b9 (F := Ideal) j t (ix4 b h r d) = t.main_v71_0 (ix5 (at_ j) b h r d) := by
  rw [b9, b8, b4, b5, b6, b7,
    Host.dynamicSlice_eq_extractStridedSlice (s := S32x4x4x128x128) S1x4x4x128x128 _ _ ![31 - j, 0, 0, 0, 0] _
    ⟨rfl, by intro a; fin_cases a <;> (dsimp; omega)⟩ (start_eq j t hj)]
  pointwise

theorem b15_eq (r : Fin 64) (d : Fin 128) : b15 (F := Ideal) j t (ix4 b h r d) = t.main_v71_1 (ix5 (at_ j) b h r d) := by
  rw [b15, b14, b10, b11, b12, b13,
    Host.dynamicSlice_eq_extractStridedSlice (s := S32x4x4x64x128) S1x4x4x64x128 _ _ ![31 - j, 0, 0, 0, 0] _
    ⟨rfl, by intro a; fin_cases a <;> (dsimp; omega)⟩ (start_eq j t hj)]
  pointwise

theorem b21_eq (r : Fin 64) (d : Fin 128) : b21 (F := Ideal) j t (ix4 b h r d) = t.main_v71_2 (ix5 (at_ j) b h r d) := by
  rw [b21, b20, b16, b17, b18, b19,
    Host.dynamicSlice_eq_extractStridedSlice (s := S32x4x4x64x128) S1x4x4x64x128 _ _ ![31 - j, 0, 0, 0, 0] _
    ⟨rfl, by intro a; fin_cases a <;> (dsimp; omega)⟩ (start_eq j t hj)]
  pointwise

theorem b27_eq (r : Fin 64) (d : Fin 128) : b27 (F := Ideal) j t (ix4 b h r d) = t.main_v71_3 (ix5 (at_ j) b h r d) := by
  rw [b27, b26, b22, b23, b24, b25,
    Host.dynamicSlice_eq_extractStridedSlice (s := S32x4x4x64x128) S1x4x4x64x128 _ _ ![31 - j, 0, 0, 0, 0] _
    ⟨rfl, by intro a; fin_cases a <;> (dsimp; omega)⟩ (start_eq j t hj)]
  pointwise

theorem b33_eq (r : Fin 64) (d : Fin 128) : b33 (F := Ideal) j t (ix4 b h r d) = t.main_v71_4 (ix5 (at_ j) b h r d) := by
  rw [b33, b32, b28, b29, b30, b31,
    Host.dynamicSlice_eq_extractStridedSlice (s := S32x4x4x64x128) S1x4x4x64x128 _ _ ![31 - j, 0, 0, 0, 0] _
    ⟨rfl, by intro a; fin_cases a <;> (dsimp; omega)⟩ (start_eq j t hj)]
  pointwise

theorem b39_eq (r d : Fin 64) : b39 (F := Ideal) j t (ix4 b h r d) = t.main_v71_5 (ix5 (at_ j) b h r d) := by
  rw [b39, b38, b34, b35, b36, b37,
    Host.dynamicSlice_eq_extractStridedSlice (s := S32x4x4x64x64) S1x4x4x64x64 _ _ ![31 - j, 0, 0, 0, 0] _
    ⟨rfl, by intro a; fin_cases a <;> (dsimp; omega)⟩ (start_eq j t hj)]
  pointwise

theorem b45_eq (d : Fin 128) : b45 (F := Ideal) j t (ix4 b h 0 d) = t.main_v71_6 (ix5 (at_ j) b h 0 d) := by
  rw [b45, b44, b40, b41, b42, b43,
    Host.dynamicSlice_eq_extractStridedSlice (s := S32x4x4x1x128) S1x4x4x1x128 _ _ ![31 - j, 0, 0, 0, 0] _
    ⟨rfl, by intro a; fin_cases a <;> (dsimp; omega)⟩ (start_eq j t hj)]
  pointwise

theorem b51_eq (r : Fin 64) (d : Fin 128) : b51 (F := Ideal) j t (ix4 b h r d) = t.main_v71_7 (ix5 (at_ j) b h r d) := by
  rw [b51, b50, b46, b47, b48, b49,
    Host.dynamicSlice_eq_extractStridedSlice (s := S32x4x4x64x128) S1x4x4x64x128 _ _ ![31 - j, 0, 0, 0, 0] _
    ⟨rfl, by intro a; fin_cases a <;> (dsimp; omega)⟩ (start_eq j t hj)]
  pointwise

theorem b89_eq (n : Fin 32) (r : Fin 64) (d : Fin 128) : b89 (F := Ideal) j t (ix5 n b h r d)
    = if (n : ℕ) = 31 - j then b73 (F := Ideal) j t (ix4 b h r d) else t.main_v71_10 (ix5 n b h r d) := by
  rw [b89, b85, b86, b87, b88,
    Host.dynamicUpdateSlice_eq_updateSlice (s := S32x4x4x64x128) (u := S1x4x4x64x128) _ _ _ _ ![31 - j, 0, 0, 0, 0]
    (by intro a; rw [start_eq j t hj a]; fin_cases a <;> (dsimp; omega)) ⟨rfl, by intro a; fin_cases a <;> (dsimp; omega)⟩, b84]
  pointwise
  split <;> split <;> first | rfl | (exfalso; omega)

theorem b95_eq (n : Fin 32) (r : Fin 64) (d : Fin 128) : b95 (F := Ideal) j t (ix5 n b h r d)
    = if (n : ℕ) = 31 - j then b83 (F := Ideal) j t (ix4 b h r d) else t.main_v71_11 (ix5 n b h r d) := by
  rw [b95, b91, b92, b93, b94,
    Host.dynamicUpdateSlice_eq_updateSlice (s := S32x4x4x64x128) (u := S1x4x4x64x128) _ _ _ _ ![31 - j, 0, 0, 0, 0]
    (by intro a; rw [start_eq j t hj a]; fin_cases a <;> (dsimp; omega)) ⟨rfl, by intro a; fin_cases a <;> (dsimp; omega)⟩, b90]
  pointwise
  split <;> split <;> first | rfl | (exfalso; omega)

theorem b101_eq (n : Fin 32) (r : Fin 64) (d : Fin 128) : b101 (F := Ideal) j t (ix5 n b h r d)
    = if (n : ℕ) = 31 - j then b78 (F := Ideal) j t (ix4 b h r d) else t.main_v71_12 (ix5 n b h r d) := by
  rw [b101, b97, b98, b99, b100,
    Host.dynamicUpdateSlice_eq_updateSlice (s := S32x4x4x64x128) (u := S1x4x4x64x128) _ _ _ _ ![31 - j, 0, 0, 0, 0]
    (by intro a; rw [start_eq j t hj a]; fin_cases a <;> (dsimp; omega)) ⟨rfl, by intro a; fin_cases a <;> (dsimp; omega)⟩, b96]
  pointwise
  split <;> split <;> first | rfl | (exfalso; omega)

theorem b107_eq (n : Fin 32) (r : Fin 64) (d : Fin 128) : b107 (F := Ideal) j t (ix5 n b h r d)
    = if (n : ℕ) = 31 - j then b64 (F := Ideal) j t (ix4 b h r d) else t.main_v71_13 (ix5 n b h r d) := by
  rw [b107, b103, b104, b105, b106,
    Host.dynamicUpdateSlice_eq_updateSlice (s := S32x4x4x64x128) (u := S1x4x4x64x128) _ _ _ _ ![31 - j, 0, 0, 0, 0]
    (by intro a; rw [start_eq j t hj a]; fin_cases a <;> (dsimp; omega)) ⟨rfl, by intro a; fin_cases a <;> (dsimp; omega)⟩, b102]
  pointwise
  split <;> split <;> first | rfl | (exfalso; omega)

theorem b113_eq (n : Fin 32) (r d : Fin 64) : b113 (F := Ideal) j t (ix5 n b h r d)
    = if (n : ℕ) = 31 - j then b74 (F := Ideal) j t (ix4 b h r d) else t.main_v71_14 (ix5 n b h r d) := by
  rw [b113, b109, b110, b111, b112,
    Host.dynamicUpdateSlice_eq_updateSlice (s := S32x4x4x64x64) (u := S1x4x4x64x64) _ _ _ _ ![31 - j, 0, 0, 0, 0]
    (by intro a; rw [start_eq j t hj a]; fin_cases a <;> (dsimp; omega)) ⟨rfl, by intro a; fin_cases a <;> (dsimp; omega)⟩, b108]
  pointwise
  split <;> split <;> first | rfl | (exfalso; omega)

theorem b119_eq (n : Fin 32) (d : Fin 128) : b119 (F := Ideal) j t (ix5 n b h 0 d)
    = if (n : ℕ) = 31 - j then b68 (F := Ideal) j t (ix4 b h 0 d) else t.main_v71_15 (ix5 n b h 0 d) := by
  rw [b119, b115, b116, b117, b118,
    Host.dynamicUpdateSlice_eq_updateSlice (s := S32x4x4x1x128) (u := S1x4x4x1x128) _ _ _ _ ![31 - j, 0, 0, 0, 0]
    (by intro a; rw [start_eq j t hj a]; fin_cases a <;> (dsimp; omega)) ⟨rfl, by intro a; fin_cases a <;> (dsimp; omega)⟩, b114]
  pointwise
  split <;> split <;> first | rfl | (exfalso; omega)

theorem new_eq (r : Fin 64) (d : Fin 128) : b53 (F := Ideal) j t (ix4 b h r d)
    = (ofState t b h (at_ j)).new r d := by
  pointwise! [b83, b82, b81, b80, b79, b78, b77, b76, b75, b74, b73, b72, b71, b70, b69, b68, b67, b66, b65, b64, b63, b62, b61, b60, b59, b58, b57, b56, b55, b54, b53, b52, b9_eq j hj t, b15_eq j hj t, b21_eq j hj t, b27_eq j hj t, b33_eq j hj t, b39_eq j hj t, b45_eq j hj t, b51_eq j hj t,
    Chunk.new, Chunk.dnew, Chunk.next, Chunk.dw, Chunk.dq, Chunk.dk, Chunk.da, Chunk.dl, ofState]

theorem dnew_eq (r : Fin 64) (d : Fin 128) : b73 (F := Ideal) j t (ix4 b h r d)
    = (ofState t b h (at_ j)).dnew (fun i j => t.main_v71_9 (ix4 b h i j)) r d := by
  pointwise! [b83, b82, b81, b80, b79, b78, b77, b76, b75, b74, b73, b72, b71, b70, b69, b68, b67, b66, b65, b64, b63, b62, b61, b60, b59, b58, b57, b56, b55, b54, b53, b52, b9_eq j hj t, b15_eq j hj t, b21_eq j hj t, b27_eq j hj t, b33_eq j hj t, b39_eq j hj t, b45_eq j hj t, b51_eq j hj t,
    Chunk.new, Chunk.dnew, Chunk.next, Chunk.dw, Chunk.dq, Chunk.dk, Chunk.da, Chunk.dl, ofState]

theorem next_eq (r d : Fin 128) : b82 (F := Ideal) j t (ix4 b h r d)
    = (ofState t b h (at_ j)).next (fun i j => t.main_v71_9 (ix4 b h i j)) r d := by
  pointwise! [b83, b82, b81, b80, b79, b78, b77, b76, b75, b74, b73, b72, b71, b70, b69, b68, b67, b66, b65, b64, b63, b62, b61, b60, b59, b58, b57, b56, b55, b54, b53, b52, b9_eq j hj t, b15_eq j hj t, b21_eq j hj t, b27_eq j hj t, b33_eq j hj t, b39_eq j hj t, b45_eq j hj t, b51_eq j hj t,
    Chunk.new, Chunk.dnew, Chunk.next, Chunk.dw, Chunk.dq, Chunk.dk, Chunk.da, Chunk.dl, ofState]

theorem dw_eq (r : Fin 64) (d : Fin 128) : b83 (F := Ideal) j t (ix4 b h r d)
    = (ofState t b h (at_ j)).dw (fun i j => t.main_v71_9 (ix4 b h i j)) r d := by
  pointwise! [b83, b82, b81, b80, b79, b78, b77, b76, b75, b74, b73, b72, b71, b70, b69, b68, b67, b66, b65, b64, b63, b62, b61, b60, b59, b58, b57, b56, b55, b54, b53, b52, b9_eq j hj t, b15_eq j hj t, b21_eq j hj t, b27_eq j hj t, b33_eq j hj t, b39_eq j hj t, b45_eq j hj t, b51_eq j hj t,
    Chunk.new, Chunk.dnew, Chunk.next, Chunk.dw, Chunk.dq, Chunk.dk, Chunk.da, Chunk.dl, ofState]

theorem dq_eq (r : Fin 64) (d : Fin 128) : b78 (F := Ideal) j t (ix4 b h r d)
    = (ofState t b h (at_ j)).dq r d := by
  pointwise! [b83, b82, b81, b80, b79, b78, b77, b76, b75, b74, b73, b72, b71, b70, b69, b68, b67, b66, b65, b64, b63, b62, b61, b60, b59, b58, b57, b56, b55, b54, b53, b52, b9_eq j hj t, b15_eq j hj t, b21_eq j hj t, b27_eq j hj t, b33_eq j hj t, b39_eq j hj t, b45_eq j hj t, b51_eq j hj t,
    Chunk.new, Chunk.dnew, Chunk.next, Chunk.dw, Chunk.dq, Chunk.dk, Chunk.da, Chunk.dl, ofState]

theorem dk_eq (r : Fin 64) (d : Fin 128) : b64 (F := Ideal) j t (ix4 b h r d)
    = (ofState t b h (at_ j)).dk (fun i j => t.main_v71_9 (ix4 b h i j)) r d := by
  pointwise! [b83, b82, b81, b80, b79, b78, b77, b76, b75, b74, b73, b72, b71, b70, b69, b68, b67, b66, b65, b64, b63, b62, b61, b60, b59, b58, b57, b56, b55, b54, b53, b52, b9_eq j hj t, b15_eq j hj t, b21_eq j hj t, b27_eq j hj t, b33_eq j hj t, b39_eq j hj t, b45_eq j hj t, b51_eq j hj t,
    Chunk.new, Chunk.dnew, Chunk.next, Chunk.dw, Chunk.dq, Chunk.dk, Chunk.da, Chunk.dl, ofState]

theorem da_eq (r d : Fin 64) : b74 (F := Ideal) j t (ix4 b h r d)
    = (ofState t b h (at_ j)).da r d := by
  pointwise! [b83, b82, b81, b80, b79, b78, b77, b76, b75, b74, b73, b72, b71, b70, b69, b68, b67, b66, b65, b64, b63, b62, b61, b60, b59, b58, b57, b56, b55, b54, b53, b52, b9_eq j hj t, b15_eq j hj t, b21_eq j hj t, b27_eq j hj t, b33_eq j hj t, b39_eq j hj t, b45_eq j hj t, b51_eq j hj t,
    Chunk.new, Chunk.dnew, Chunk.next, Chunk.dw, Chunk.dq, Chunk.dk, Chunk.da, Chunk.dl, ofState]

theorem dl_eq (d : Fin 128) : b68 (F := Ideal) j t (ix4 b h 0 d)
    = (ofState t b h (at_ j)).dl (fun i j => t.main_v71_9 (ix4 b h i j)) d := by
  pointwise! [b83, b82, b81, b80, b79, b78, b77, b76, b75, b74, b73, b72, b71, b70, b69, b68, b67, b66, b65, b64, b63, b62, b61, b60, b59, b58, b57, b56, b55, b54, b53, b52, b9_eq j hj t, b15_eq j hj t, b21_eq j hj t, b27_eq j hj t, b33_eq j hj t, b39_eq j hj t, b45_eq j hj t, b51_eq j hj t,
    Chunk.new, Chunk.dnew, Chunk.next, Chunk.dw, Chunk.dq, Chunk.dk, Chunk.da, Chunk.dl, ofState]

end Cert.Recur

end
-- ==== Proof.RecurIter.lean ====
/- The reference's scan: its state after `n` trips, and every slot of the gradients it leaves. -/
module

public import proofs.«01_k».proof.Proof.RecurStep

@[expose] public section

set_option maxRecDepth 16384

noncomputable section

namespace Cert.Recur

open Idealize.ShloMosaic Idealize.ShloMosaic.TcCoe Idealize.SL.Sem
open Cert.ReferenceIdeal Cert.ReferenceIdeal.Step

/-- The gradient of the state behind chunk `n`: the walk has read the `31 - n` chunks after it. -/
def behind (t : State Ideal) (b h : Fin 4) (n : Fin 32) : Fin 128 → Fin 128 → EReal :=
  back (fun k => ofState t b h (at_ k)) (31 - n)

variable (it : ℕ → State Ideal) (hs : ∀ n, it (n + 1) = step n (it n))

include hs

/-- The scanned arrays stay what they were. -/
theorem ofState_it (b h : Fin 4) (m : Fin 32) (n : ℕ) : ofState (it n) b h m = ofState (it 0) b h m := by
  induction n with
  | zero => rfl
  | succ n ih => rw [← ih, hs]; unfold step; rfl

variable (h9 : ∀ i, (it 0).main_v71_9 i = 0)

include h9

/-- The carried gradient after `n` trips. -/
theorem carry_it (b h : Fin 4) (n : ℕ) (hn : n ≤ 32) (i j : Fin 128) :
    (it n).main_v71_9 (ix4 b h i j) = back (fun k => ofState (it 0) b h (at_ k)) n i j := by
  induction n generalizing i j with
  | zero => exact h9 _
  | succ n ih =>
    rw [hs, step_main_v71_9, next_eq n (by omega), ofState_it it hs,
      funext fun i => funext fun j => ih (by omega) i j]
    rfl

theorem slot10_it (b h : Fin 4) (m : Fin 32) (r : Fin 64) (d : Fin 128) (n : ℕ) (hn : n ≤ 32) (hm : 32 - n ≤ (m : ℕ)) :
    (it n).main_v71_10 (ix5 m b h r d) = (ofState (it 0) b h m).dnew (behind (it 0) b h m) r d := by
  induction n with
  | zero => omega
  | succ n ih =>
    rw [hs, step_main_v71_10, b89_eq n (by omega)]
    split
    · next e =>
      have e' : m = at_ n := Fin.ext e
      have e2 : 31 - (m : ℕ) = n := by omega
      rw [dnew_eq n (by omega), ofState_it it hs, funext fun i => funext fun j => carry_it it hs h9 b h n (by omega) i j,
        behind, e2, e']
    · exact ih (by omega) (by omega)

theorem slot11_it (b h : Fin 4) (m : Fin 32) (r : Fin 64) (d : Fin 128) (n : ℕ) (hn : n ≤ 32) (hm : 32 - n ≤ (m : ℕ)) :
    (it n).main_v71_11 (ix5 m b h r d) = (ofState (it 0) b h m).dw (behind (it 0) b h m) r d := by
  induction n with
  | zero => omega
  | succ n ih =>
    rw [hs, step_main_v71_11, b95_eq n (by omega)]
    split
    · next e =>
      have e' : m = at_ n := Fin.ext e
      have e2 : 31 - (m : ℕ) = n := by omega
      rw [dw_eq n (by omega), ofState_it it hs, funext fun i => funext fun j => carry_it it hs h9 b h n (by omega) i j,
        behind, e2, e']
    · exact ih (by omega) (by omega)

theorem slot12_it (b h : Fin 4) (m : Fin 32) (r : Fin 64) (d : Fin 128) (n : ℕ) (hn : n ≤ 32) (hm : 32 - n ≤ (m : ℕ)) :
    (it n).main_v71_12 (ix5 m b h r d) = (ofState (it 0) b h m).dq r d := by
  induction n with
  | zero => omega
  | succ n ih =>
    rw [hs, step_main_v71_12, b101_eq n (by omega)]
    split
    · next e =>
      have e' : m = at_ n := Fin.ext e
      have e2 : 31 - (m : ℕ) = n := by omega
      rw [dq_eq n (by omega), ofState_it it hs, e']
    · exact ih (by omega) (by omega)

theorem slot13_it (b h : Fin 4) (m : Fin 32) (r : Fin 64) (d : Fin 128) (n : ℕ) (hn : n ≤ 32) (hm : 32 - n ≤ (m : ℕ)) :
    (it n).main_v71_13 (ix5 m b h r d) = (ofState (it 0) b h m).dk (behind (it 0) b h m) r d := by
  induction n with
  | zero => omega
  | succ n ih =>
    rw [hs, step_main_v71_13, b107_eq n (by omega)]
    split
    · next e =>
      have e' : m = at_ n := Fin.ext e
      have e2 : 31 - (m : ℕ) = n := by omega
      rw [dk_eq n (by omega), ofState_it it hs, funext fun i => funext fun j => carry_it it hs h9 b h n (by omega) i j,
        behind, e2, e']
    · exact ih (by omega) (by omega)

theorem slot14_it (b h : Fin 4) (m : Fin 32) (r d : Fin 64) (n : ℕ) (hn : n ≤ 32) (hm : 32 - n ≤ (m : ℕ)) :
    (it n).main_v71_14 (ix5 m b h r d) = (ofState (it 0) b h m).da r d := by
  induction n with
  | zero => omega
  | succ n ih =>
    rw [hs, step_main_v71_14, b113_eq n (by omega)]
    split
    · next e =>
      have e' : m = at_ n := Fin.ext e
      have e2 : 31 - (m : ℕ) = n := by omega
      rw [da_eq n (by omega), ofState_it it hs, e']
    · exact ih (by omega) (by omega)

theorem slot15_it (b h : Fin 4) (m : Fin 32) (d : Fin 128) (n : ℕ) (hn : n ≤ 32) (hm : 32 - n ≤ (m : ℕ)) :
    (it n).main_v71_15 (ix5 m b h 0 d) = (ofState (it 0) b h m).dl (behind (it 0) b h m) d := by
  induction n with
  | zero => omega
  | succ n ih =>
    rw [hs, step_main_v71_15, b119_eq n (by omega)]
    split
    · next e =>
      have e' : m = at_ n := Fin.ext e
      have e2 : 31 - (m : ℕ) = n := by omega
      rw [dl_eq n (by omega), ofState_it it hs, funext fun i => funext fun j => carry_it it hs h9 b h n (by omega) i j,
        behind, e2, e']
    · exact ih (by omega) (by omega)

end Cert.Recur

end
-- ==== Proof.RecurRef.lean ====
/- The reference's results, element by element, as the formulas of the recurrence and of its gate. -/
module

public import proofs.«01_k».proof.Proof.RecurIter

@[expose] public section

set_option maxRecDepth 16384

noncomputable section

namespace Cert.Recur

open Idealize.ShloMosaic Idealize.ShloMosaic.TcCoe Idealize.SL.Sem
open Cert.ReferenceIdeal Cert.ReferenceIdeal.Step

/-- What both programs are given. -/
structure In where
  u : S128x4x64x128.Idx → EReal
  w : S128x4x64x128.Idx → EReal
  q : S128x4x64x128.Idx → EReal
  k : S128x4x64x128.Idx → EReal
  a : S128x4x64x64.Idx → EReal
  l : S128x4x1x128.Idx → EReal
  s : S128x4x128x128.Idx → EReal
  o : S128x4x64x128.Idx → EReal
  z : S8192x512.Idx → EReal
  γ : S1x128.Idx → EReal
  y : S8192x512.Idx → EReal

namespace In

variable (x : In)

/-- Token `r` of chunk `n`, head `h`. -/
def tok (n : Fin 128) (h : Fin 4) (r : Fin 64) : Token where
  o d := x.o (ix4 n h r d)
  z d := x.z (ix2 (⟨n * 64 + r, by omega⟩ : Fin 8192) (⟨h * 128 + d, by omega⟩ : Fin 512))
  y d := x.y (ix2 (⟨n * 64 + r, by omega⟩ : Fin 8192) (⟨h * 128 + d, by omega⟩ : Fin 512))
  w d := x.γ (ix2 0 d)

/-- Chunk `n`, head `h`. -/
def chunk (n : Fin 128) (h : Fin 4) : Chunk where
  u r d := x.u (ix4 n h r d)
  w r d := x.w (ix4 n h r d)
  q r d := x.q (ix4 n h r d)
  k r d := x.k (ix4 n h r d)
  a p r := x.a (ix4 n h p r)
  l d := x.l (ix4 n h 0 d)
  s i j := x.s (ix4 n h i j)
  g r d := (x.tok n h r).do_ d

/-- The `k`-th chunk the walk over sequence `b` reads, from the last to the first. -/
def seq (b : Fin 4) (h : Fin 4) (k : ℕ) : Chunk := x.chunk ⟨b * 32 + (31 - k), by omega⟩ h

/-- The gradient of the state that chunk `m` of sequence `b` leaves. -/
def behind (b h : Fin 4) (m : Fin 32) : Fin 128 → Fin 128 → EReal := back (x.seq b h) (31 - m)

/-- The reference's state before the first trip. -/
def init : State Ideal := Step.init x.u x.w x.q x.k x.a x.l x.s x.o x.z x.γ x.y

end In

variable (x : In)

theorem v3_eq (n : Fin 32) (b h : Fin 4) (r : Fin 64) (d : Fin 128) :
    A_main_v3 (F := Ideal) x.u x.w x.q x.k x.a x.l x.s x.o x.z x.γ x.y (ix4 b (⟨n * 64 + r, by omega⟩ : Fin 2048) h d) = (x.tok ⟨b * 32 + n, by omega⟩ h r).o d := by
  pointwise! [A_main_v3, A_main_v2, A_main_v1, A_main_v0, In.tok]

theorem v21_eq (n : Fin 32) (b h : Fin 4) (r : Fin 64) (d : Fin 128) :
    A_main_v21 (F := Ideal) x.u x.w x.q x.k x.a x.l x.s x.o x.z x.γ x.y (ix4 b (⟨n * 64 + r, by omega⟩ : Fin 2048) h d) = (x.tok ⟨b * 32 + n, by omega⟩ h r).z d := by
  pointwise! [A_main_v21, In.tok]
  exact congrArg x.z (congrArg₂ ix2 (Fin.ext (by dsimp only; omega)) rfl)

theorem v25_eq (n : Fin 32) (b h : Fin 4) (r : Fin 64) (d : Fin 128) :
    A_main_v25 (F := Ideal) x.u x.w x.q x.k x.a x.l x.s x.o x.z x.γ x.y (ix4 b (⟨n * 64 + r, by omega⟩ : Fin 2048) h d) = (x.tok ⟨b * 32 + n, by omega⟩ h r).y d := by
  pointwise! [A_main_v25, In.tok]
  exact congrArg x.y (congrArg₂ ix2 (Fin.ext (by dsimp only; omega)) rfl)

theorem v27_eq (n : Fin 32) (b h : Fin 4) (r : Fin 64) (d : Fin 128) :
    A_main_v27 (F := Ideal) x.u x.w x.q x.k x.a x.l x.s x.o x.z x.γ x.y (ix4 b (⟨n * 64 + r, by omega⟩ : Fin 2048) h d) = (x.tok ⟨b * 32 + n, by omega⟩ h r).w d := by
  pointwise! [A_main_v27, A_main_v18, A_main_v4, In.tok]

theorem v11_eq (n : Fin 32) (b h : Fin 4) (r : Fin 64) (e : Fin 1) :
    A_main_v11 (F := Ideal) x.u x.w x.q x.k x.a x.l x.s x.o x.z x.γ x.y (ix4 b (⟨n * 64 + r, by omega⟩ : Fin 2048) h e) = (x.tok ⟨b * 32 + n, by omega⟩ h r).ms := by
  pointwise! [A_main_v11, A_main_v9, A_main_v7, A_main_v6, A_main_v5, K_main_cst, K_main_cst_0, K_main_cst_1, K_main_v8, K_main_v10, v3_eq, Token.ms]

theorem v12_eq (n : Fin 32) (b h : Fin 4) (r : Fin 64) (e : Fin 1) :
    A_main_v12 (F := Ideal) x.u x.w x.q x.k x.a x.l x.s x.o x.z x.γ x.y (ix4 b (⟨n * 64 + r, by omega⟩ : Fin 2048) h e) = Ideal.rsqrt (x.tok ⟨b * 32 + n, by omega⟩ h r).ms := by
  pointwise! [A_main_v12, v11_eq]

theorem sig_eq (n : Fin 32) (b h : Fin 4) (r : Fin 64) (d : Fin 128) :
    A_main_call0_v5 (F := Ideal) x.u x.w x.q x.k x.a x.l x.s x.o x.z x.γ x.y (ix4 b (⟨n * 64 + r, by omega⟩ : Fin 2048) h d) = Ideal.logistic ((x.tok ⟨b * 32 + n, by omega⟩ h r).z d) := by
  pointwise! [A_main_call0_v5, A_main_call0_v3, A_main_call0_v1, A_main_call0_v0, v21_eq, K_main_call0_cst, K_main_call0_cst_0, K_main_call0_v2, K_main_call0_v4, Ideal.logistic]

theorem v28_eq (n : Fin 32) (b h : Fin 4) (r : Fin 64) (d : Fin 128) :
    A_main_v28 (F := Ideal) x.u x.w x.q x.k x.a x.l x.s x.o x.z x.γ x.y (ix4 b (⟨n * 64 + r, by omega⟩ : Fin 2048) h d) = (x.tok ⟨b * 32 + n, by omega⟩ h r).dn d := by
  pointwise! [A_main_v28, A_main_v26, A_main_v22, v25_eq, v21_eq, sig_eq, v27_eq, Token.dn]

theorem v38_eq (n : Fin 32) (b h : Fin 4) (r : Fin 64) (d : Fin 128) :
    A_main_v38 (F := Ideal) x.u x.w x.q x.k x.a x.l x.s x.o x.z x.γ x.y (ix4 b (⟨n * 64 + r, by omega⟩ : Fin 2048) h d) = (x.tok ⟨b * 32 + n, by omega⟩ h r).dms := by
  pointwise! [A_main_v38, A_main_v37, A_main_v36, A_main_v34, A_main_v31, A_main_v30, A_main_v29, A_main_v15, A_main_v13, v12_eq, v11_eq, v28_eq, v3_eq, K_main_cst_5, K_main_v35, K_main_cst_4, K_main_cst_3, K_main_v14, K_main_cst_2, Token.dms, Finset.univ_unique, Finset.sum_singleton]

theorem do_eq (n : Fin 32) (b h : Fin 4) (r : Fin 64) (d : Fin 128) :
    A_main_v44 (F := Ideal) x.u x.w x.q x.k x.a x.l x.s x.o x.z x.γ x.y (ix5 n b h r d) = (x.tok ⟨b * 32 + n, by omega⟩ h r).do_ d := by
  pointwise! [A_main_v44, A_main_v43, A_main_v42, A_main_v41, A_main_v40, A_main_v39, A_main_v33, A_main_v32, v38_eq, v28_eq, v12_eq,
    v3_eq, Token.do_]

/-- The scanned arrays, chunk by chunk. -/
theorem chunk_eq (b h : Fin 4) (n : Fin 32) : ofState x.init b h n = x.chunk ⟨b * 32 + n, by omega⟩ h := by
  rw [In.chunk, ofState]
  congr 1
  · funext r d; show A_main_v49 (F := Ideal) x.u x.w x.q x.k x.a x.l x.s x.o x.z x.γ x.y _ = _
    pointwise! [A_main_v49, A_main_v48]
  · funext r d; show A_main_v52 (F := Ideal) x.u x.w x.q x.k x.a x.l x.s x.o x.z x.γ x.y _ = _
    pointwise! [A_main_v52, A_main_v51, A_main_v50]
  · funext r d; show A_main_v55 (F := Ideal) x.u x.w x.q x.k x.a x.l x.s x.o x.z x.γ x.y _ = _
    pointwise! [A_main_v55, A_main_v54, A_main_v53]
  · funext r d; show A_main_v58 (F := Ideal) x.u x.w x.q x.k x.a x.l x.s x.o x.z x.γ x.y _ = _
    pointwise! [A_main_v58, A_main_v57, A_main_v56]
  · funext r d; show A_main_v61 (F := Ideal) x.u x.w x.q x.k x.a x.l x.s x.o x.z x.γ x.y _ = _
    pointwise! [A_main_v61, A_main_v60, A_main_v59]
  · funext d; show A_main_v63 (F := Ideal) x.u x.w x.q x.k x.a x.l x.s x.o x.z x.γ x.y _ = _
    pointwise! [A_main_v63, A_main_v62]
  · funext r d; show A_main_v47 (F := Ideal) x.u x.w x.q x.k x.a x.l x.s x.o x.z x.γ x.y _ = _
    pointwise! [A_main_v47, A_main_v46, A_main_v45]
  · funext r d; exact do_eq x n b h r d

/-- The results. -/
theorem dz_eq (n : Fin 128) (h : Fin 4) (r : Fin 64) (d : Fin 128) (s : State Ideal) :
    R_main_v119 (F := Ideal) s x.o x.z x.γ x.y (ix2 (⟨n * 64 + r, by omega⟩ : Fin 8192) (⟨h * 128 + d, by omega⟩ : Fin 512))
      = (x.tok n h r).dz d := by
  pointwise! [R_main_v119, In.tok, Token.dz, Token.ms, Ideal.logistic, Nat.div_add_mod']

/-- A sum over the first three axes of four. -/
theorem sum012 {n0 n1 n2 n3 : ℕ} (h : (⟨4, ![n0, n1, n2, n3]⟩ : Shape).ReducesTo [0, 1, 2] ⟨1, ![n3]⟩)
    (v : (⟨4, ![n0, n1, n2, n3]⟩ : Shape).Idx → EReal) (init : EReal) (d : Fin n3) :
    Ideal.hostReduceAdd h v init (ix1 d) = init + ∑ i : Fin n0, ∑ j : Fin n1, ∑ k : Fin n2, v (ix4 i j k d) := by
  refine congrArg (init + ·) ((Finset.sum_filter_eq_sum_of_fiber _ (fun p : Fin n0 × Fin n1 × Fin n2 => ix4 p.1 p.2.1 p.2.2 d)
    (fun p q e => Prod.ext (congrFun e 0) (Prod.ext (congrFun e 1) (congrFun e 2))) (fun i => ?_) v).trans ?_)
  · constructor
    · intro e
      refine ⟨(i 0, i 1, i 2), ?_⟩
      have e3 : (i 3 : ℕ) = d := congrArg Fin.val (congrFun e 0)
      funext a
      apply Fin.ext
      fin_cases a
      · rfl
      · rfl
      · rfl
      · exact e3.symm
    · rintro ⟨p, rfl⟩
      funext b
      apply Fin.ext
      fin_cases b
      rfl
  · simp only [Fintype.sum_prod_type]

/-- Token `t` of sequence `b`, head `h`. -/
def In.at_ (b : Fin 4) (t : Fin 2048) (h : Fin 4) : Token :=
  x.tok ⟨b * 32 + t / 64, by omega⟩ h ⟨t % 64, by omega⟩

theorem don_eq (e : Fin 8) (d : Fin 128) (s : State Ideal) :
    R_main_v121 (F := Ideal) s x.o x.z x.y (ix2 e d)
      = if (e : ℕ) < 1 then ∑ b : Fin 4, ∑ t : Fin 2048, ∑ h : Fin 4, (x.at_ b t h).dw d else 0 := by
  have hz : (FloatOps.sitofp (F := Ideal) FTy.f32 0#32 : EReal) = 0 := by
    show (((0#32).toInt : ℝ) : EReal) = 0
    simp
  have hi (b : Fin 4) (t : Fin 2048) : (b : ℕ) * 2048 + t = (b * 32 + t / 64) * 64 + t % 64 := by omega
  pointwise! [R_main_v121, sum012, Ideal.logistic, Finset.univ_unique, Finset.sum_singleton, hz, In.at_, In.tok, Token.dw, Token.ms, hi]

/-- The carried gradient starts at zero. -/
theorem init_carry (i : S4x4x128x128.Idx) : x.init.main_v71_9 i = 0 := by
  show K_main_v64 (F := Ideal) i = 0
  idx_vars i
  pointwise! [K_main_v64, K_main_cst_6]

theorem behind_eq (b h : Fin 4) (m : Fin 32) : behind x.init b h m = x.behind b h m := by
  rw [behind, In.behind]
  congr 1
  funext k
  exact chunk_eq x b h (at_ k)

variable (it : ℕ → State Ideal) (h0 : it 0 = x.init) (hs : ∀ n, it (n + 1) = step n (it n))

include h0 hs

theorem res_du (b : Fin 4) (m : Fin 32) (h : Fin 4) (r : Fin 64) (d : Fin 128) :
    R_main_v73 (F := Ideal) (it 32) (ix4 (⟨b * 32 + m, by omega⟩ : Fin 128) h r d) = (x.chunk ⟨b * 32 + m, by omega⟩ h).dnew (x.behind b h m) r d := by
  have hb : ((b : ℕ) * 32 + m) / 32 = b := by omega
  have hm : ((b : ℕ) * 32 + m) % 32 = m := by omega
  have e := slot10_it it hs (h0 ▸ init_carry x) b h m r d 32 le_rfl (by omega)
  rw [h0, chunk_eq, behind_eq] at e
  rw [← e]
  pointwise! [R_main_v73, hb, hm]

theorem res_dw (b : Fin 4) (m : Fin 32) (h : Fin 4) (r : Fin 64) (d : Fin 128) :
    R_main_v115 (F := Ideal) (it 32) (ix4 (⟨b * 32 + m, by omega⟩ : Fin 128) h r d) = (x.chunk ⟨b * 32 + m, by omega⟩ h).dw (x.behind b h m) r d := by
  have hb : ((b : ℕ) * 32 + m) / 32 = b := by omega
  have hm : ((b : ℕ) * 32 + m) % 32 = m := by omega
  have e := slot11_it it hs (h0 ▸ init_carry x) b h m r d 32 le_rfl (by omega)
  rw [h0, chunk_eq, behind_eq] at e
  rw [← e]
  pointwise! [R_main_v115, hb, hm]

theorem res_dq (b : Fin 4) (m : Fin 32) (h : Fin 4) (r : Fin 64) (d : Fin 128) :
    R_main_v116 (F := Ideal) (it 32) (ix4 (⟨b * 32 + m, by omega⟩ : Fin 128) h r d) = (x.chunk ⟨b * 32 + m, by omega⟩ h).dq r d := by
  have hb : ((b : ℕ) * 32 + m) / 32 = b := by omega
  have hm : ((b : ℕ) * 32 + m) % 32 = m := by omega
  have e := slot12_it it hs (h0 ▸ init_carry x) b h m r d 32 le_rfl (by omega)
  rw [h0, chunk_eq] at e
  rw [← e]
  pointwise! [R_main_v116, hb, hm]

theorem res_dk (b : Fin 4) (m : Fin 32) (h : Fin 4) (r : Fin 64) (d : Fin 128) :
    R_main_v117 (F := Ideal) (it 32) (ix4 (⟨b * 32 + m, by omega⟩ : Fin 128) h r d) = (x.chunk ⟨b * 32 + m, by omega⟩ h).dk (x.behind b h m) r d := by
  have hb : ((b : ℕ) * 32 + m) / 32 = b := by omega
  have hm : ((b : ℕ) * 32 + m) % 32 = m := by omega
  have e := slot13_it it hs (h0 ▸ init_carry x) b h m r d 32 le_rfl (by omega)
  rw [h0, chunk_eq, behind_eq] at e
  rw [← e]
  pointwise! [R_main_v117, hb, hm]

theorem res_da (b : Fin 4) (m : Fin 32) (h : Fin 4) (r d : Fin 64) :
    R_main_v118 (F := Ideal) (it 32) (ix4 (⟨b * 32 + m, by omega⟩ : Fin 128) h r d) = (x.chunk ⟨b * 32 + m, by omega⟩ h).da r d := by
  have hb : ((b : ℕ) * 32 + m) / 32 = b := by omega
  have hm : ((b : ℕ) * 32 + m) % 32 = m := by omega
  have e := slot14_it it hs (h0 ▸ init_carry x) b h m r d 32 le_rfl (by omega)
  rw [h0, chunk_eq] at e
  rw [← e]
  pointwise! [R_main_v118, hb, hm]

theorem res_dl (b : Fin 4) (m : Fin 32) (h : Fin 4) (d : Fin 128) :
    R_main_v83 (F := Ideal) (it 32) (ix4 (⟨b * 32 + m, by omega⟩ : Fin 128) h 0 d) = (x.chunk ⟨b * 32 + m, by omega⟩ h).dl (x.behind b h m) d := by
  have hb : ((b : ℕ) * 32 + m) / 32 = b := by omega
  have hm : ((b : ℕ) * 32 + m) % 32 = m := by omega
  have e := slot15_it it hs (h0 ▸ init_carry x) b h m d 32 le_rfl (by omega)
  rw [h0, chunk_eq, behind_eq] at e
  rw [← e]
  pointwise! [R_main_v83, hb, hm]

end Cert.Recur

end
-- ==== Proof.RecurBlocks.lean ====
/- The blocks of a grid point at the arrays' coordinates. -/
module

public import proofs.«01_k».proof.Proof.RecurPoint
public import proofs.«01_k».proof.Proof.RecurRef
public import proofs.«01_k».proof.Proof.Gen.KernelIdeal.Value
public import Idealize.ShloMosaic.Lib.Pipeline.ValueKit.Point

@[expose] public section

set_option maxRecDepth 16384

noncomputable section

namespace Cert.Recur

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The kernel's arguments. -/
def args : In where
  u := m ((c : Thread nD τ).loc main_arg0)
  w := m ((c : Thread nD τ).loc main_arg1)
  q := m ((c : Thread nD τ).loc main_arg2)
  k := m ((c : Thread nD τ).loc main_arg3)
  a := m ((c : Thread nD τ).loc main_arg4)
  l := m ((c : Thread nD τ).loc main_arg5)
  s := m ((c : Thread nD τ).loc main_arg6)
  o := m ((c : Thread nD τ).loc main_arg7)
  z := m ((c : Thread nD τ).loc main_arg8)
  γ := m ((c : Thread nD τ).loc main_arg9)
  y := m ((c : Thread nD τ).loc main_arg10)

/-- The blocks of one grid point. -/
def blkAt : Blk where
  u := iblk m c 0 t
  w := iblk m c 1 t
  q := iblk m c 2 t
  k := iblk m c 3 t
  a := iblk m c 4 t
  l := iblk m c 5 t
  s := iblk m c 6 t
  o := iblk m c 7 t
  z := iblk m c 8 t
  γ := iblk m c 9 t
  y := iblk m c 10 t

/-- The staging memrefs of one grid point. -/
def refsAt : Refs where
  r2 := ms0_0 t
  h2 := hs0_0 t
  r3 := ms0_1 t
  h3 := hs0_1 t
  r4 := ms0_2 t
  h4 := hs0_2 t
  r5 := ms0_3 t
  h5 := hs0_3 t
  r6 := ms0_4 t
  h6 := hs0_4 t
  r7 := ms0_5 t
  h7 := hs0_5 t
  r8 := ms0_6 t
  h8 := hs0_6 t
  r9 := ms0_7 t
  h9 := hs0_7 t
  r10 := ms0_8 t
  h10 := hs0_8 t
  r11 := ms0_9 t
  h11 := hs0_9 t
  r12 := ms0_10 t
  h12 := hs0_10 t
  r13 := ms0_11 t
  h13 := hs0_11 t
  r14 := ms0_12 t
  h14 := hs0_12 t
  r15 := ms0_13 t
  h15 := hs0_13 t
  r16 := ms0_14 t
  h16 := hs0_14 t
  r17 := ms0_15 t
  h17 := hs0_15 t
  r18 := ms0_16 t
  h18 := hs0_16 t
  r19 := ms0_17 t
  h19 := hs0_17 t
  r20 := ms0_18 t
  h20 := hs0_18 t
  r21 := scM0_0
  h21 := Memref.isWhole_whole _

theorem lt_points : t.val < 8 := t.isLt

theorem idx0 : ∀ t : Fin cfg0.N, win0_0.index t = ![t.val / 2, t.val % 2, 0, 0] :=
  (by decide +kernel : ∀ t : Fin grid0.N, win0_0.index t = ![t.val / 2, t.val % 2, 0, 0])
theorem idx1 : ∀ t : Fin cfg0.N, win0_1.index t = ![t.val / 2, t.val % 2, 0, 0] :=
  (by decide +kernel : ∀ t : Fin grid0.N, win0_1.index t = ![t.val / 2, t.val % 2, 0, 0])
theorem idx2 : ∀ t : Fin cfg0.N, win0_2.index t = ![t.val / 2, t.val % 2, 0, 0] :=
  (by decide +kernel : ∀ t : Fin grid0.N, win0_2.index t = ![t.val / 2, t.val % 2, 0, 0])
theorem idx3 : ∀ t : Fin cfg0.N, win0_3.index t = ![t.val / 2, t.val % 2, 0, 0] :=
  (by decide +kernel : ∀ t : Fin grid0.N, win0_3.index t = ![t.val / 2, t.val % 2, 0, 0])
theorem idx4 : ∀ t : Fin cfg0.N, win0_4.index t = ![t.val / 2, t.val % 2, 0, 0] :=
  (by decide +kernel : ∀ t : Fin grid0.N, win0_4.index t = ![t.val / 2, t.val % 2, 0, 0])
theorem idx5 : ∀ t : Fin cfg0.N, win0_5.index t = ![t.val / 2, t.val % 2, 0, 0] :=
  (by decide +kernel : ∀ t : Fin grid0.N, win0_5.index t = ![t.val / 2, t.val % 2, 0, 0])
theorem idx6 : ∀ t : Fin cfg0.N, win0_6.index t = ![t.val / 2, t.val % 2, 0, 0] :=
  (by decide +kernel : ∀ t : Fin grid0.N, win0_6.index t = ![t.val / 2, t.val % 2, 0, 0])
theorem idx7 : ∀ t : Fin cfg0.N, win0_7.index t = ![t.val / 2, t.val % 2, 0, 0] :=
  (by decide +kernel : ∀ t : Fin grid0.N, win0_7.index t = ![t.val / 2, t.val % 2, 0, 0])
theorem idx11 : ∀ t : Fin cfg0.N, win0_11.index t = ![t.val / 2, t.val % 2, 0, 0] :=
  (by decide +kernel : ∀ t : Fin grid0.N, win0_11.index t = ![t.val / 2, t.val % 2, 0, 0])
theorem idx12 : ∀ t : Fin cfg0.N, win0_12.index t = ![t.val / 2, t.val % 2, 0, 0] :=
  (by decide +kernel : ∀ t : Fin grid0.N, win0_12.index t = ![t.val / 2, t.val % 2, 0, 0])
theorem idx13 : ∀ t : Fin cfg0.N, win0_13.index t = ![t.val / 2, t.val % 2, 0, 0] :=
  (by decide +kernel : ∀ t : Fin grid0.N, win0_13.index t = ![t.val / 2, t.val % 2, 0, 0])
theorem idx14 : ∀ t : Fin cfg0.N, win0_14.index t = ![t.val / 2, t.val % 2, 0, 0] :=
  (by decide +kernel : ∀ t : Fin grid0.N, win0_14.index t = ![t.val / 2, t.val % 2, 0, 0])
theorem idx15 : ∀ t : Fin cfg0.N, win0_15.index t = ![t.val / 2, t.val % 2, 0, 0] :=
  (by decide +kernel : ∀ t : Fin grid0.N, win0_15.index t = ![t.val / 2, t.val % 2, 0, 0])
theorem idx16 : ∀ t : Fin cfg0.N, win0_16.index t = ![t.val / 2, t.val % 2, 0, 0] :=
  (by decide +kernel : ∀ t : Fin grid0.N, win0_16.index t = ![t.val / 2, t.val % 2, 0, 0])
theorem idx8 : ∀ t : Fin cfg0.N, win0_8.index t = ![t.val / 2, t.val % 2] :=
  (by decide +kernel : ∀ t : Fin grid0.N, win0_8.index t = ![t.val / 2, t.val % 2])
theorem idx10 : ∀ t : Fin cfg0.N, win0_10.index t = ![t.val / 2, t.val % 2] :=
  (by decide +kernel : ∀ t : Fin grid0.N, win0_10.index t = ![t.val / 2, t.val % 2])
theorem idx17 : ∀ t : Fin cfg0.N, win0_17.index t = ![t.val / 2, t.val % 2] :=
  (by decide +kernel : ∀ t : Fin grid0.N, win0_17.index t = ![t.val / 2, t.val % 2])
theorem idx9 : ∀ t : Fin cfg0.N, win0_9.index t = ![0, 0] :=
  (by decide +kernel : ∀ t : Fin grid0.N, win0_9.index t = ![0, 0])
theorem idx18 : ∀ t : Fin cfg0.N, win0_18.index t = ![0, 0] :=
  (by decide +kernel : ∀ t : Fin grid0.N, win0_18.index t = ![0, 0])

/-- The chunk and the head of the arrays that the block's chunk `n` and head `e` are. -/
abbrev chunkOf (n : Fin 32) : Fin 128 := ⟨t.val / 2 * 32 + n, by have := lt_points t; omega⟩
abbrev headOf (e : Fin 2) : Fin 4 := ⟨t.val % 2 * 2 + e, by omega⟩
abbrev seqOf : Fin 4 := ⟨t.val / 2, by have := lt_points t; omega⟩

theorem at0 (n : Fin 32) (e : Fin 2) (r : Fin 64) (d : Fin 128) :
    iblk m c 0 t (ix4 n e r d) = (args m c).u (ix4 (chunkOf t n) (headOf t e) r d) := by
  dsimp only [args]
  blk_ext [iblk, V, idx0 t]
theorem at1 (n : Fin 32) (e : Fin 2) (r : Fin 64) (d : Fin 128) :
    iblk m c 1 t (ix4 n e r d) = (args m c).w (ix4 (chunkOf t n) (headOf t e) r d) := by
  dsimp only [args]
  blk_ext [iblk, V, idx1 t]
theorem at2 (n : Fin 32) (e : Fin 2) (r : Fin 64) (d : Fin 128) :
    iblk m c 2 t (ix4 n e r d) = (args m c).q (ix4 (chunkOf t n) (headOf t e) r d) := by
  dsimp only [args]
  blk_ext [iblk, V, idx2 t]
theorem at3 (n : Fin 32) (e : Fin 2) (r : Fin 64) (d : Fin 128) :
    iblk m c 3 t (ix4 n e r d) = (args m c).k (ix4 (chunkOf t n) (headOf t e) r d) := by
  dsimp only [args]
  blk_ext [iblk, V, idx3 t]
theorem at4 (n : Fin 32) (e : Fin 2) (r : Fin 64) (d : Fin 64) :
    iblk m c 4 t (ix4 n e r d) = (args m c).a (ix4 (chunkOf t n) (headOf t e) r d) := by
  dsimp only [args]
  blk_ext [iblk, V, idx4 t]
theorem at5 (n : Fin 32) (e : Fin 2) (r : Fin 1) (d : Fin 128) :
    iblk m c 5 t (ix4 n e r d) = (args m c).l (ix4 (chunkOf t n) (headOf t e) r d) := by
  dsimp only [args]
  blk_ext [iblk, V, idx5 t]
theorem at6 (n : Fin 32) (e : Fin 2) (r : Fin 128) (d : Fin 128) :
    iblk m c 6 t (ix4 n e r d) = (args m c).s (ix4 (chunkOf t n) (headOf t e) r d) := by
  dsimp only [args]
  blk_ext [iblk, V, idx6 t]
theorem at7 (n : Fin 32) (e : Fin 2) (r : Fin 64) (d : Fin 128) :
    iblk m c 7 t (ix4 n e r d) = (args m c).o (ix4 (chunkOf t n) (headOf t e) r d) := by
  dsimp only [args]
  blk_ext [iblk, V, idx7 t]
theorem at8 (n : Fin 32) (e : Fin 2) (r : Fin 64) (d : Fin 128) :
    iblk m c 8 t (ix2 (⟨n * 64 + r, by omega⟩ : Fin 2048) (⟨e * 128 + d, by omega⟩ : Fin 256))
      = (args m c).z (ix2 (⟨chunkOf t n * 64 + r, by omega⟩ : Fin 8192) (⟨headOf t e * 128 + d, by omega⟩ : Fin 512)) := by
  dsimp only [args]
  blk_ext [iblk, V, idx8 t]
theorem at10 (n : Fin 32) (e : Fin 2) (r : Fin 64) (d : Fin 128) :
    iblk m c 10 t (ix2 (⟨n * 64 + r, by omega⟩ : Fin 2048) (⟨e * 128 + d, by omega⟩ : Fin 256))
      = (args m c).y (ix2 (⟨chunkOf t n * 64 + r, by omega⟩ : Fin 8192) (⟨headOf t e * 128 + d, by omega⟩ : Fin 512)) := by
  dsimp only [args]
  blk_ext [iblk, V, idx10 t]
theorem at9 (d : Fin 128) : iblk m c 9 t (ix2 0 d) = (args m c).γ (ix2 0 d) := by
  dsimp only [args]
  blk_ext [iblk, V, idx9 t]

theorem tok_at (n : Fin 32) (e : Fin 2) (r : Fin 64) :
    (blkAt m c t).tok n e r = (args m c).tok (chunkOf t n) (headOf t e) r := by
  rw [Blk.tok, In.tok]
  congr 1
  · exact funext fun d => at7 m c t n e r d
  · exact funext fun d => at8 m c t n e r d
  · exact funext fun d => at10 m c t n e r d
  · exact funext fun d => at9 m c t d

theorem chunk_at (n : Fin 32) (e : Fin 2) : (blkAt m c t).chunk n e = (args m c).chunk (chunkOf t n) (headOf t e) := by
  rw [Blk.chunk, In.chunk]
  congr 1
  · exact funext fun r => funext fun d => at0 m c t n e r d
  · exact funext fun r => funext fun d => at1 m c t n e r d
  · exact funext fun r => funext fun d => at2 m c t n e r d
  · exact funext fun r => funext fun d => at3 m c t n e r d
  · exact funext fun r => funext fun d => at4 m c t n e r d
  · exact funext fun d => at5 m c t n e 0 d
  · exact funext fun r => funext fun d => at6 m c t n e r d
  · exact funext fun r => by rw [tok_at]

theorem behind_at (n : Fin 32) (e : Fin 2) :
    (blkAt m c t).behind e n = (args m c).behind (seqOf t) (headOf t e) n := by
  rw [Blk.behind, In.behind]
  congr 1
  exact funext fun k => chunk_at m c t _ e

/-- The gradient `du`, as an array. -/
def In.du (x : In) (i : S128x4x64x128.Idx) : EReal := (x.chunk (i 0) (i 1)).dnew (x.behind ⟨i 0 / 32, by have : (i 0 : ℕ) < 128 := (i 0).isLt; omega⟩ (i 1) ⟨i 0 % 32, by omega⟩) (i 2) (i 3)

theorem du_at (n : Fin 32) (e : Fin 2) (r : Fin 64) (d : Fin 128) :
    (blkAt m c t).du (ix4 n e r d) = (args m c).du (ix4 (chunkOf t n) (headOf t e) r d) := by
  have hb : (⟨(t.val / 2 * 32 + n) / 32, by have := lt_points t; omega⟩ : Fin 4) = seqOf t := Fin.ext (by dsimp only; omega)
  have hn : (⟨(t.val / 2 * 32 + n) % 32, by omega⟩ : Fin 32) = n := Fin.ext (by dsimp only; omega)
  show ((blkAt m c t).chunk n e).dnew ((blkAt m c t).behind e n) r d
    = ((args m c).chunk (chunkOf t n) (headOf t e)).dnew ((args m c).behind ⟨(t.val / 2 * 32 + n) / 32, _⟩ (headOf t e) ⟨(t.val / 2 * 32 + n) % 32, _⟩) r d
  rw [chunk_at, behind_at]
  simp only [hb, hn]

/-- The gradient `dw`, as an array. -/
def In.dw (x : In) (i : S128x4x64x128.Idx) : EReal := (x.chunk (i 0) (i 1)).dw (x.behind ⟨i 0 / 32, by have : (i 0 : ℕ) < 128 := (i 0).isLt; omega⟩ (i 1) ⟨i 0 % 32, by omega⟩) (i 2) (i 3)

theorem dw_at (n : Fin 32) (e : Fin 2) (r : Fin 64) (d : Fin 128) :
    (blkAt m c t).dw (ix4 n e r d) = (args m c).dw (ix4 (chunkOf t n) (headOf t e) r d) := by
  have hb : (⟨(t.val / 2 * 32 + n) / 32, by have := lt_points t; omega⟩ : Fin 4) = seqOf t := Fin.ext (by dsimp only; omega)
  have hn : (⟨(t.val / 2 * 32 + n) % 32, by omega⟩ : Fin 32) = n := Fin.ext (by dsimp only; omega)
  show ((blkAt m c t).chunk n e).dw ((blkAt m c t).behind e n) r d
    = ((args m c).chunk (chunkOf t n) (headOf t e)).dw ((args m c).behind ⟨(t.val / 2 * 32 + n) / 32, _⟩ (headOf t e) ⟨(t.val / 2 * 32 + n) % 32, _⟩) r d
  rw [chunk_at, behind_at]
  simp only [hb, hn]

/-- The gradient `dq`, as an array. -/
def In.dq (x : In) (i : S128x4x64x128.Idx) : EReal := (x.chunk (i 0) (i 1)).dq (i 2) (i 3)

theorem dq_at (n : Fin 32) (e : Fin 2) (r : Fin 64) (d : Fin 128) :
    (blkAt m c t).dq (ix4 n e r d) = (args m c).dq (ix4 (chunkOf t n) (headOf t e) r d) := by
  have hb : (⟨(t.val / 2 * 32 + n) / 32, by have := lt_points t; omega⟩ : Fin 4) = seqOf t := Fin.ext (by dsimp only; omega)
  have hn : (⟨(t.val / 2 * 32 + n) % 32, by omega⟩ : Fin 32) = n := Fin.ext (by dsimp only; omega)
  show ((blkAt m c t).chunk n e).dq r d
    = ((args m c).chunk (chunkOf t n) (headOf t e)).dq r d
  rw [chunk_at]

/-- The gradient `dk`, as an array. -/
def In.dk (x : In) (i : S128x4x64x128.Idx) : EReal := (x.chunk (i 0) (i 1)).dk (x.behind ⟨i 0 / 32, by have : (i 0 : ℕ) < 128 := (i 0).isLt; omega⟩ (i 1) ⟨i 0 % 32, by omega⟩) (i 2) (i 3)

theorem dk_at (n : Fin 32) (e : Fin 2) (r : Fin 64) (d : Fin 128) :
    (blkAt m c t).dk (ix4 n e r d) = (args m c).dk (ix4 (chunkOf t n) (headOf t e) r d) := by
  have hb : (⟨(t.val / 2 * 32 + n) / 32, by have := lt_points t; omega⟩ : Fin 4) = seqOf t := Fin.ext (by dsimp only; omega)
  have hn : (⟨(t.val / 2 * 32 + n) % 32, by omega⟩ : Fin 32) = n := Fin.ext (by dsimp only; omega)
  show ((blkAt m c t).chunk n e).dk ((blkAt m c t).behind e n) r d
    = ((args m c).chunk (chunkOf t n) (headOf t e)).dk ((args m c).behind ⟨(t.val / 2 * 32 + n) / 32, _⟩ (headOf t e) ⟨(t.val / 2 * 32 + n) % 32, _⟩) r d
  rw [chunk_at, behind_at]
  simp only [hb, hn]

/-- The gradient `da`, as an array. -/
def In.da (x : In) (i : S128x4x64x64.Idx) : EReal := (x.chunk (i 0) (i 1)).da (i 2) (i 3)

theorem da_at (n : Fin 32) (e : Fin 2) (r : Fin 64) (d : Fin 64) :
    (blkAt m c t).da (ix4 n e r d) = (args m c).da (ix4 (chunkOf t n) (headOf t e) r d) := by
  have hb : (⟨(t.val / 2 * 32 + n) / 32, by have := lt_points t; omega⟩ : Fin 4) = seqOf t := Fin.ext (by dsimp only; omega)
  have hn : (⟨(t.val / 2 * 32 + n) % 32, by omega⟩ : Fin 32) = n := Fin.ext (by dsimp only; omega)
  show ((blkAt m c t).chunk n e).da r d
    = ((args m c).chunk (chunkOf t n) (headOf t e)).da r d
  rw [chunk_at]

/-- The gradient `dl`, as an array. -/
def In.dl (x : In) (i : S128x4x1x128.Idx) : EReal := (x.chunk (i 0) (i 1)).dl (x.behind ⟨i 0 / 32, by have : (i 0 : ℕ) < 128 := (i 0).isLt; omega⟩ (i 1) ⟨i 0 % 32, by omega⟩) (i 3)

theorem dl_at (n : Fin 32) (e : Fin 2) (r : Fin 1) (d : Fin 128) :
    (blkAt m c t).dl (ix4 n e r d) = (args m c).dl (ix4 (chunkOf t n) (headOf t e) r d) := by
  have hb : (⟨(t.val / 2 * 32 + n) / 32, by have := lt_points t; omega⟩ : Fin 4) = seqOf t := Fin.ext (by dsimp only; omega)
  have hn : (⟨(t.val / 2 * 32 + n) % 32, by omega⟩ : Fin 32) = n := Fin.ext (by dsimp only; omega)
  show ((blkAt m c t).chunk n e).dl ((blkAt m c t).behind e n) d
    = ((args m c).chunk (chunkOf t n) (headOf t e)).dl ((args m c).behind ⟨(t.val / 2 * 32 + n) / 32, _⟩ (headOf t e) ⟨(t.val / 2 * 32 + n) % 32, _⟩) d
  rw [chunk_at, behind_at]
  simp only [hb, hn]

/-- The gate's gradient, as an array. -/
def In.dz (x : In) (i : S8192x512.Idx) : EReal :=
  (x.tok ⟨i 0 / 64, by have : (i 0 : ℕ) < 8192 := (i 0).isLt; omega⟩ ⟨i 1 / 128, by have : (i 1 : ℕ) < 512 := (i 1).isLt; omega⟩
    ⟨i 0 % 64, by omega⟩).dz ⟨i 1 % 128, by omega⟩

end Cert.Recur

end
-- ==== Proof.RecurArrays.lean ====
/- The kernel's result arrays. -/
module

public import proofs.«01_k».proof.Proof.RecurBlocks

@[expose] public section

set_option maxRecDepth 16384

noncomputable section

namespace Cert.Recur

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- What the points before left of the norm's weight's gradient. -/
abbrev left : Vec Ideal S8x128 .f32 := (outsAt0 m c (t.val - 1) (Nat.lt_of_le_of_lt (Nat.sub_le _ _) t.isLt)).2.2.2.2.2.2.2

theorem outsA_11 (h0 : t.val % 8 = 0) : (outsAt0 m c t.val t.isLt).1
    = out0_A_11 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 ((hcond0_0 t).mpr h0) (hcond0_1 t) (blkAt m c t).u (blkAt m c t).w (blkAt m c t).q (blkAt m c t).k (blkAt m c t).a (blkAt m c t).l (blkAt m c t).s (blkAt m c t).o (blkAt m c t).z (blkAt m c t).γ (blkAt m c t).y :=
  congrArg (·.1) (outsAt0_A m c t h0)

theorem outsB_11 (h0 : ¬t.val % 8 = 0) : (outsAt0 m c t.val t.isLt).1
    = out0_B_11 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 (fun h => h0 ((hcond0_0 t).mp h)) (hcond0_1 t) (blkAt m c t).u (blkAt m c t).w (blkAt m c t).q (blkAt m c t).k (blkAt m c t).a (blkAt m c t).l (blkAt m c t).s (blkAt m c t).o (blkAt m c t).z (blkAt m c t).γ (blkAt m c t).y (left m c t) :=
  congrArg (·.1) (outsAt0_B m c t h0)

theorem outsA_12 (h0 : t.val % 8 = 0) : (outsAt0 m c t.val t.isLt).2.1
    = out0_A_12 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 ((hcond0_0 t).mpr h0) (hcond0_1 t) (blkAt m c t).u (blkAt m c t).w (blkAt m c t).q (blkAt m c t).k (blkAt m c t).a (blkAt m c t).l (blkAt m c t).s (blkAt m c t).o (blkAt m c t).z (blkAt m c t).γ (blkAt m c t).y :=
  congrArg (·.2.1) (outsAt0_A m c t h0)

theorem outsB_12 (h0 : ¬t.val % 8 = 0) : (outsAt0 m c t.val t.isLt).2.1
    = out0_B_12 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 (fun h => h0 ((hcond0_0 t).mp h)) (hcond0_1 t) (blkAt m c t).u (blkAt m c t).w (blkAt m c t).q (blkAt m c t).k (blkAt m c t).a (blkAt m c t).l (blkAt m c t).s (blkAt m c t).o (blkAt m c t).z (blkAt m c t).γ (blkAt m c t).y (left m c t) :=
  congrArg (·.2.1) (outsAt0_B m c t h0)

theorem outsA_13 (h0 : t.val % 8 = 0) : (outsAt0 m c t.val t.isLt).2.2.1
    = out0_A_13 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 ((hcond0_0 t).mpr h0) (hcond0_1 t) (blkAt m c t).u (blkAt m c t).w (blkAt m c t).q (blkAt m c t).k (blkAt m c t).a (blkAt m c t).l (blkAt m c t).s (blkAt m c t).o (blkAt m c t).z (blkAt m c t).γ (blkAt m c t).y :=
  congrArg (·.2.2.1) (outsAt0_A m c t h0)

theorem outsB_13 (h0 : ¬t.val % 8 = 0) : (outsAt0 m c t.val t.isLt).2.2.1
    = out0_B_13 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 (fun h => h0 ((hcond0_0 t).mp h)) (hcond0_1 t) (blkAt m c t).u (blkAt m c t).w (blkAt m c t).q (blkAt m c t).k (blkAt m c t).a (blkAt m c t).l (blkAt m c t).s (blkAt m c t).o (blkAt m c t).z (blkAt m c t).γ (blkAt m c t).y (left m c t) :=
  congrArg (·.2.2.1) (outsAt0_B m c t h0)

theorem outsA_14 (h0 : t.val % 8 = 0) : (outsAt0 m c t.val t.isLt).2.2.2.1
    = out0_A_14 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 ((hcond0_0 t).mpr h0) (hcond0_1 t) (blkAt m c t).u (blkAt m c t).w (blkAt m c t).q (blkAt m c t).k (blkAt m c t).a (blkAt m c t).l (blkAt m c t).s (blkAt m c t).o (blkAt m c t).z (blkAt m c t).γ (blkAt m c t).y :=
  congrArg (·.2.2.2.1) (outsAt0_A m c t h0)

theorem outsB_14 (h0 : ¬t.val % 8 = 0) : (outsAt0 m c t.val t.isLt).2.2.2.1
    = out0_B_14 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 (fun h => h0 ((hcond0_0 t).mp h)) (hcond0_1 t) (blkAt m c t).u (blkAt m c t).w (blkAt m c t).q (blkAt m c t).k (blkAt m c t).a (blkAt m c t).l (blkAt m c t).s (blkAt m c t).o (blkAt m c t).z (blkAt m c t).γ (blkAt m c t).y (left m c t) :=
  congrArg (·.2.2.2.1) (outsAt0_B m c t h0)

theorem outsA_15 (h0 : t.val % 8 = 0) : (outsAt0 m c t.val t.isLt).2.2.2.2.1
    = out0_A_15 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 ((hcond0_0 t).mpr h0) (hcond0_1 t) (blkAt m c t).u (blkAt m c t).w (blkAt m c t).q (blkAt m c t).k (blkAt m c t).a (blkAt m c t).l (blkAt m c t).s (blkAt m c t).o (blkAt m c t).z (blkAt m c t).γ (blkAt m c t).y :=
  congrArg (·.2.2.2.2.1) (outsAt0_A m c t h0)

theorem outsB_15 (h0 : ¬t.val % 8 = 0) : (outsAt0 m c t.val t.isLt).2.2.2.2.1
    = out0_B_15 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 (fun h => h0 ((hcond0_0 t).mp h)) (hcond0_1 t) (blkAt m c t).u (blkAt m c t).w (blkAt m c t).q (blkAt m c t).k (blkAt m c t).a (blkAt m c t).l (blkAt m c t).s (blkAt m c t).o (blkAt m c t).z (blkAt m c t).γ (blkAt m c t).y (left m c t) :=
  congrArg (·.2.2.2.2.1) (outsAt0_B m c t h0)

theorem outsA_16 (h0 : t.val % 8 = 0) : (outsAt0 m c t.val t.isLt).2.2.2.2.2.1
    = out0_A_16 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 ((hcond0_0 t).mpr h0) (hcond0_1 t) (blkAt m c t).u (blkAt m c t).w (blkAt m c t).q (blkAt m c t).k (blkAt m c t).a (blkAt m c t).l (blkAt m c t).s (blkAt m c t).o (blkAt m c t).z (blkAt m c t).γ (blkAt m c t).y :=
  congrArg (·.2.2.2.2.2.1) (outsAt0_A m c t h0)

theorem outsB_16 (h0 : ¬t.val % 8 = 0) : (outsAt0 m c t.val t.isLt).2.2.2.2.2.1
    = out0_B_16 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 (fun h => h0 ((hcond0_0 t).mp h)) (hcond0_1 t) (blkAt m c t).u (blkAt m c t).w (blkAt m c t).q (blkAt m c t).k (blkAt m c t).a (blkAt m c t).l (blkAt m c t).s (blkAt m c t).o (blkAt m c t).z (blkAt m c t).γ (blkAt m c t).y (left m c t) :=
  congrArg (·.2.2.2.2.2.1) (outsAt0_B m c t h0)

set_option maxHeartbeats 2000000 in
theorem outsA_17 (h0 : t.val % 8 = 0) : (outsAt0 m c t.val t.isLt).2.2.2.2.2.2.1
    = out0_A_17 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 ((hcond0_0 t).mpr h0) (hcond0_1 t) (blkAt m c t).u (blkAt m c t).w (blkAt m c t).q (blkAt m c t).k (blkAt m c t).a (blkAt m c t).l (blkAt m c t).s (blkAt m c t).o (blkAt m c t).z (blkAt m c t).γ (blkAt m c t).y :=
  congrArg (·.2.2.2.2.2.2.1) (outsAt0_A m c t h0)

set_option maxHeartbeats 2000000 in
theorem outsB_17 (h0 : ¬t.val % 8 = 0) : (outsAt0 m c t.val t.isLt).2.2.2.2.2.2.1
    = out0_B_17 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 (fun h => h0 ((hcond0_0 t).mp h)) (hcond0_1 t) (blkAt m c t).u (blkAt m c t).w (blkAt m c t).q (blkAt m c t).k (blkAt m c t).a (blkAt m c t).l (blkAt m c t).s (blkAt m c t).o (blkAt m c t).z (blkAt m c t).γ (blkAt m c t).y (left m c t) :=
  congrArg (·.2.2.2.2.2.2.1) (outsAt0_B m c t h0)

theorem outsA_18 (h0 : t.val % 8 = 0) : (outsAt0 m c t.val t.isLt).2.2.2.2.2.2.2
    = out0_A_18 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 ((hcond0_0 t).mpr h0) (hcond0_1 t) (blkAt m c t).u (blkAt m c t).w (blkAt m c t).q (blkAt m c t).k (blkAt m c t).a (blkAt m c t).l (blkAt m c t).s (blkAt m c t).o (blkAt m c t).z (blkAt m c t).γ (blkAt m c t).y :=
  congrArg (·.2.2.2.2.2.2.2) (outsAt0_A m c t h0)

theorem outsB_18 (h0 : ¬t.val % 8 = 0) : (outsAt0 m c t.val t.isLt).2.2.2.2.2.2.2
    = out0_B_18 (F := Ideal) c (grid0.coords t) (refsAt t).r2 (refsAt t).h2 (refsAt t).r3 (refsAt t).h3 (refsAt t).r4 (refsAt t).h4 (refsAt t).r5 (refsAt t).h5 (refsAt t).r6 (refsAt t).h6 (refsAt t).r7 (refsAt t).h7 (refsAt t).r8 (refsAt t).h8 (refsAt t).r9 (refsAt t).h9 (refsAt t).r10 (refsAt t).h10 (refsAt t).r11 (refsAt t).h11 (refsAt t).r12 (refsAt t).h12 (refsAt t).r13 (refsAt t).h13 (refsAt t).r14 (refsAt t).h14 (refsAt t).r15 (refsAt t).h15 (refsAt t).r16 (refsAt t).h16 (refsAt t).r17 (refsAt t).h17 (refsAt t).r18 (refsAt t).h18 (refsAt t).r19 (refsAt t).h19 (refsAt t).r20 (refsAt t).h20 (refsAt t).r21 (refsAt t).h21 (fun h => h0 ((hcond0_0 t).mp h)) (hcond0_1 t) (blkAt m c t).u (blkAt m c t).w (blkAt m c t).q (blkAt m c t).k (blkAt m c t).a (blkAt m c t).l (blkAt m c t).s (blkAt m c t).o (blkAt m c t).z (blkAt m c t).γ (blkAt m c t).y (left m c t) :=
  congrArg (·.2.2.2.2.2.2.2) (outsAt0_B m c t h0)

theorem point11 (y : S32x2x64x128.Idx) : (outsAt0 m c t.val t.isLt).1 y = (blkAt m c t).du y := by
  by_cases h0 : t.val % 8 = 0
  · rw [outsA_11 m c t h0, outA_11]
  · rw [outsB_11 m c t h0, outB_11]

theorem array11 : (dats m 0 c).arrAt 11 cfg0.N = (args m c).du := by
  refine (dats m 0 c).arrAt_eq_of_covers 11 _ (by decide +kernel) fun t hf y => ?_
  blk_simp
  rw [after0_11]
  refine (point11 m c t y).trans ?_
  obtain ⟨n, e, r, d, rfl⟩ : ∃ (n : Fin 32) (e : Fin 2) (r : Fin 64) (d : Fin 128), y = ix4 n e r d :=
    ⟨y 0, y 1, y 2, y 3, funext fun b => by fin_cases b <;> rfl⟩
  refine (du_at m c t n e r d).trans ?_
  blk_ext [idx11 t]

theorem point12 (y : S32x2x64x128.Idx) : (outsAt0 m c t.val t.isLt).2.1 y = (blkAt m c t).dw y := by
  by_cases h0 : t.val % 8 = 0
  · rw [outsA_12 m c t h0, outA_12]
  · rw [outsB_12 m c t h0, outB_12]

theorem array12 : (dats m 0 c).arrAt 12 cfg0.N = (args m c).dw := by
  refine (dats m 0 c).arrAt_eq_of_covers 12 _ (by decide +kernel) fun t hf y => ?_
  blk_simp
  rw [after0_12]
  refine (point12 m c t y).trans ?_
  obtain ⟨n, e, r, d, rfl⟩ : ∃ (n : Fin 32) (e : Fin 2) (r : Fin 64) (d : Fin 128), y = ix4 n e r d :=
    ⟨y 0, y 1, y 2, y 3, funext fun b => by fin_cases b <;> rfl⟩
  refine (dw_at m c t n e r d).trans ?_
  blk_ext [idx12 t]

theorem point13 (y : S32x2x64x128.Idx) : (outsAt0 m c t.val t.isLt).2.2.1 y = (blkAt m c t).dq y := by
  by_cases h0 : t.val % 8 = 0
  · rw [outsA_13 m c t h0, outA_13]
  · rw [outsB_13 m c t h0, outB_13]

theorem array13 : (dats m 0 c).arrAt 13 cfg0.N = (args m c).dq := by
  refine (dats m 0 c).arrAt_eq_of_covers 13 _ (by decide +kernel) fun t hf y => ?_
  blk_simp
  rw [after0_13]
  refine (point13 m c t y).trans ?_
  obtain ⟨n, e, r, d, rfl⟩ : ∃ (n : Fin 32) (e : Fin 2) (r : Fin 64) (d : Fin 128), y = ix4 n e r d :=
    ⟨y 0, y 1, y 2, y 3, funext fun b => by fin_cases b <;> rfl⟩
  refine (dq_at m c t n e r d).trans ?_
  blk_ext [idx13 t]

theorem point14 (y : S32x2x64x128.Idx) : (outsAt0 m c t.val t.isLt).2.2.2.1 y = (blkAt m c t).dk y := by
  by_cases h0 : t.val % 8 = 0
  · rw [outsA_14 m c t h0, outA_14]
  · rw [outsB_14 m c t h0, outB_14]

theorem array14 : (dats m 0 c).arrAt 14 cfg0.N = (args m c).dk := by
  refine (dats m 0 c).arrAt_eq_of_covers 14 _ (by decide +kernel) fun t hf y => ?_
  blk_simp
  rw [after0_14]
  refine (point14 m c t y).trans ?_
  obtain ⟨n, e, r, d, rfl⟩ : ∃ (n : Fin 32) (e : Fin 2) (r : Fin 64) (d : Fin 128), y = ix4 n e r d :=
    ⟨y 0, y 1, y 2, y 3, funext fun b => by fin_cases b <;> rfl⟩
  refine (dk_at m c t n e r d).trans ?_
  blk_ext [idx14 t]

theorem point15 (y : S32x2x64x64.Idx) : (outsAt0 m c t.val t.isLt).2.2.2.2.1 y = (blkAt m c t).da y := by
  by_cases h0 : t.val % 8 = 0
  · rw [outsA_15 m c t h0, outA_15]
  · rw [outsB_15 m c t h0, outB_15]

theorem array15 : (dats m 0 c).arrAt 15 cfg0.N = (args m c).da := by
  refine (dats m 0 c).arrAt_eq_of_covers 15 _ (by decide +kernel) fun t hf y => ?_
  blk_simp
  rw [after0_15]
  refine (point15 m c t y).trans ?_
  obtain ⟨n, e, r, d, rfl⟩ : ∃ (n : Fin 32) (e : Fin 2) (r : Fin 64) (d : Fin 64), y = ix4 n e r d :=
    ⟨y 0, y 1, y 2, y 3, funext fun b => by fin_cases b <;> rfl⟩
  refine (da_at m c t n e r d).trans ?_
  blk_ext [idx15 t]

theorem point16 (y : S32x2x1x128.Idx) : (outsAt0 m c t.val t.isLt).2.2.2.2.2.1 y = (blkAt m c t).dl y := by
  by_cases h0 : t.val % 8 = 0
  · rw [outsA_16 m c t h0, outA_16]
  · rw [outsB_16 m c t h0, outB_16]

theorem array16 : (dats m 0 c).arrAt 16 cfg0.N = (args m c).dl := by
  refine (dats m 0 c).arrAt_eq_of_covers 16 _ (by decide +kernel) fun t hf y => ?_
  blk_simp
  rw [after0_16]
  refine (point16 m c t y).trans ?_
  obtain ⟨n, e, r, d, rfl⟩ : ∃ (n : Fin 32) (e : Fin 2) (r : Fin 1) (d : Fin 128), y = ix4 n e r d :=
    ⟨y 0, y 1, y 2, y 3, funext fun b => by fin_cases b <;> rfl⟩
  refine (dl_at m c t n e r d).trans ?_
  blk_ext [idx16 t]

theorem point17 (n : Fin 32) (e : Fin 2) (r : Fin 64) (d : Fin 128) :
    (outsAt0 m c t.val t.isLt).2.2.2.2.2.2.1 (ix2 (⟨n * 64 + r, by omega⟩ : Fin 2048) (⟨e * 128 + d, by omega⟩ : Fin 256))
      = ((blkAt m c t).tok n e r).dz d := by
  by_cases h0 : t.val % 8 = 0
  · rw [outsA_17 m c t h0, outA_17]
  · rw [outsB_17 m c t h0, outB_17]

theorem array17 : (dats m 0 c).arrAt 17 cfg0.N = (args m c).dz := by
  refine (dats m 0 c).arrAt_eq_of_covers 17 _ (by decide +kernel) fun t hf y => ?_
  blk_simp
  rw [after0_17]
  obtain ⟨n, e, r, d, rfl⟩ : ∃ (n : Fin 32) (e : Fin 2) (r : Fin 64) (d : Fin 128),
      y = ix2 (⟨n * 64 + r, by omega⟩ : Fin 2048) (⟨e * 128 + d, by omega⟩ : Fin 256) := by
    have h0 : (y 0 : ℕ) < 2048 := (y 0).isLt
    have h1 : (y 1 : ℕ) < 256 := (y 1).isLt
    refine ⟨⟨y 0 / 64, by omega⟩, ⟨y 1 / 128, by omega⟩, ⟨y 0 % 64, by omega⟩, ⟨y 1 % 128, by omega⟩, funext fun b => Fin.ext ?_⟩
    fin_cases b
    · show (y 0 : ℕ) = y 0 / 64 * 64 + y 0 % 64
      omega
    · show (y 1 : ℕ) = y 1 / 128 * 128 + y 1 % 128
      omega
  refine (point17 m c t n e r d).trans ?_
  rw [tok_at]
  have h : ((win0_17.blk t).view.emb (ix2 (⟨n * 64 + r, by omega⟩ : Fin 2048) (⟨e * 128 + d, by omega⟩ : Fin 256)) : S8192x512.Idx)
      = ix2 (⟨chunkOf t n * 64 + r, by omega⟩ : Fin 8192) (⟨headOf t e * 128 + d, by omega⟩ : Fin 512) := by
    blk_ext [idx17 t]
  rw [h]
  show _ = ((args m c).tok ⟨(chunkOf t n * 64 + r) / 64, _⟩ ⟨(headOf t e * 128 + d) / 128, _⟩ ⟨(chunkOf t n * 64 + r) % 64, _⟩).dz ⟨(headOf t e * 128 + d) % 128, _⟩
  congr 2
  all_goals exact Fin.ext (by dsimp only; omega)

end Cert.Recur

end
-- ==== Proof.RecurNorm.lean ====
/- The gradient of the norm's weight: what the grid's points add up to. -/
module

public import proofs.«01_k».proof.Proof.RecurArrays

@[expose] public section

set_option maxRecDepth 16384

noncomputable section

namespace Cert.Recur

open Idealize.ShloMosaic Idealize.ShloMosaic.TcCoe Idealize.SL.Sem
open Cert.KernelIdeal Cert.KernelIdeal.Gen Idealize.ShloMosaic.Pipeline

variable (m : (ℓ : Loc nD τ sig) → Buf (Elt Ideal) ℓ) (c : Dev nD)

/-- What point `t` adds to row `r`: the two heads' sums to the first row, nothing to the padding. -/
def adds (t : Fin cfg0.N) (p : Fin 8 × Fin 128) : EReal :=
  if p.1 = 0 then (blkAt m c t).dγ 0 p.2 + (blkAt m c t).dγ 1 p.2 else 0

/-- What the points up to the `n`th leave in the block. -/
def holds (n : ℕ) (hn : n < cfg0.N) (p : Fin 8 × Fin 128) : EReal :=
  (outsAt0 m c n hn).2.2.2.2.2.2.2 (ix2 p.1 p.2)

theorem holds_first (t : Fin cfg0.N) (h0 : t.val % 8 = 0) (p : Fin 8 × Fin 128) :
    holds m c t.val t.isLt p = 0 + adds m c t p := by
  obtain ⟨r, d⟩ := p
  rw [holds, outsA_18 m c t h0, outA_18]
  simp only [adds]
  split <;> simp only [zero_add]

theorem holds_next (t : Fin cfg0.N) (h0 : ¬t.val % 8 = 0) (p : Fin 8 × Fin 128) :
    holds m c t.val t.isLt p
      = holds m c (t.val - 1) (Nat.lt_of_le_of_lt (Nat.sub_le _ _) t.isLt) p + adds m c t p := by
  obtain ⟨r, d⟩ := p
  rw [holds, outsB_18 m c t h0, outB_18]
  simp only [adds, holds]
  split
  · next h => subst h; exact add_assoc _ _ _
  · exact (add_zero _).symm

/-- The last point. -/
def lastPt : Fin cfg0.N := ⟨7, by decide⟩

theorem holds_last (p : Fin 8 × Fin 128) : holds m c lastPt.val lastPt.isLt p = 0 + ∑ t : Fin cfg0.N, adds m c t p := by
  have := congrFun (eq_sum_fin_of_reset_step_last (holds m c) 8 (fun _ => 0) (adds m c)
    (fun t h => funext fun p => holds_first m c t h p) (fun t h => funext fun p => holds_next m c t h p)
    (by decide) lastPt (by decide)) p
  rwa [Pi.add_apply, Finset.sum_apply] at this

/-- One head's sum over one sequence. -/
def In.headSum (x : In) (b h : Fin 4) (d : Fin 128) : EReal := ∑ t : Fin 2048, (x.at_ b t h).dw d

theorem dγ_at (t : Fin cfg0.N) (e : Fin 2) (d : Fin 128) :
    (blkAt m c t).dγ e d = (args m c).headSum (seqOf t) (headOf t e) d := by
  rw [Blk.dγ, In.headSum]
  refine Finset.sum_congr rfl fun k _ => ?_
  rw [tok_at, In.at_]

theorem sum_adds (d : Fin 128) : ∑ t : Fin cfg0.N, adds m c t (0, d)
    = ∑ b : Fin 4, ∑ t : Fin 2048, ∑ h : Fin 4, ((args m c).at_ b t h).dw d := by
  have hR (b : Fin 4) : ∑ t : Fin 2048, ∑ h : Fin 4, ((args m c).at_ b t h).dw d = ∑ h : Fin 4, (args m c).headSum b h d :=
    Finset.sum_comm
  simp only [hR, adds, if_true, dγ_at]
  show ∑ t : Fin 8, _ = _
  simp only [Fin.sum_univ_four, Fin.sum_univ_eight]
  generalize (args m c).headSum = g
  show g 0 0 d + g 0 1 d + (g 0 2 d + g 0 3 d) + (g 1 0 d + g 1 1 d) + (g 1 2 d + g 1 3 d) + (g 2 0 d + g 2 1 d)
    + (g 2 2 d + g 2 3 d) + (g 3 0 d + g 3 1 d) + (g 3 2 d + g 3 3 d) = _
  abel

/-- The gradient of the norm's weight, in the first of eight rows. -/
def In.don (x : In) : S8x128.Idx → EReal := fun i =>
  if (i 0).val < 1 then ∑ b : Fin 4, ∑ t : Fin 2048, ∑ h : Fin 4, (x.at_ b t h).dw (i 1) else 0

theorem array18 : (dats m 0 c).arrAt 18 cfg0.N = (args m c).don := by
  refine (dats m 0 c).arrAt_eq_of_after_last 18 lastPt (by decide +kernel) _ fun y => ?_
  rw [after0_18]
  obtain ⟨r, d, rfl⟩ : ∃ (r : Fin 8) (d : Fin 128), y = ix2 r d :=
    ⟨y 0, y 1, funext fun b => by fin_cases b <;> rfl⟩
  refine (holds_last m c (r, d)).trans ?_
  rw [zero_add]
  show _ = if r.val < 1 then ∑ b : Fin 4, ∑ t : Fin 2048, ∑ h : Fin 4, ((args m c).at_ b t h).dw d else 0
  by_cases hr : r = 0
  · subst hr
    exact (sum_adds m c d).trans (if_pos (by decide)).symm
  · rw [if_neg (by omega)]
    exact Finset.sum_eq_zero fun t _ => if_neg hr

end Cert.Recur

end
-- ==== Proof.RecurRun.lean ====
/- The reference's run over one trip's step. A valuation HOLDS a state when the buffers the loop's body writes are the
   state's fields, the loop's constants are the set-up values and its counters the trip's number. Every value of one trip is
   then the step's value of that name, one lemma each; so one trip keeps holding with `step` applied, and the run's results
   are the fields of `step` iterated from `init`. (The generated module of the same content, with the carried values' step
   lemmas closed by the value lemmas as they stand.) -/
module

public import proofs.«01_k».proof.Proof.Gen.ReferenceIdeal.Run
public import proofs.«01_k».proof.Proof.Gen.ReferenceIdeal.Step

@[expose] public section

noncomputable section

namespace Cert.Recur.Run

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v71_9) = s.main_v71_9
  f_10 : V0 (Proc.devRef .tc main_v71_10) = s.main_v71_10
  f_11 : V0 (Proc.devRef .tc main_v71_11) = s.main_v71_11
  f_12 : V0 (Proc.devRef .tc main_v71_12) = s.main_v71_12
  f_13 : V0 (Proc.devRef .tc main_v71_13) = s.main_v71_13
  f_14 : V0 (Proc.devRef .tc main_v71_14) = s.main_v71_14
  f_15 : V0 (Proc.devRef .tc main_v71_15) = s.main_v71_15
  f_0 : V0 (Proc.devRef .tc main_v71_0) = s.main_v71_0
  f_1 : V0 (Proc.devRef .tc main_v71_1) = s.main_v71_1
  f_2 : V0 (Proc.devRef .tc main_v71_2) = s.main_v71_2
  f_3 : V0 (Proc.devRef .tc main_v71_3) = s.main_v71_3
  f_4 : V0 (Proc.devRef .tc main_v71_4) = s.main_v71_4
  f_5 : V0 (Proc.devRef .tc main_v71_5) = s.main_v71_5
  f_6 : V0 (Proc.devRef .tc main_v71_6) = s.main_v71_6
  f_7 : V0 (Proc.devRef .tc main_v71_7) = s.main_v71_7
  n_8 : V0 (Proc.devRef .tc main_v71_8) = constantI S_ 32 (BitVec.ofNat 32 j)

variable {V0 s j}

set_option maxRecDepth 8192 in
theorem al_0 (h : Holds V0 s j) : (constantI S_ 32 32#32 : (Proc.devRef .tc main_while0b_c_34 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 32#32) (V0 (Proc.devRef .tc main_v71_8)) : (Proc.devRef .tc main_while0b_v122 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_35 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v123 V0 : (Proc.devRef .tc main_while0b_v123 : DevRef τ sig).ty.Contents (Elt F)) = Cert.ReferenceIdeal.Step.b3 j s := by
  unfold res_main_while0b_v123 Cert.ReferenceIdeal.Step.b3
  rw [← al_1 h, ← al_2 h]
  try rfl
set_option maxRecDepth 8192 in
theorem al_4 (h : Holds V0 s j) : (constantI S_ 32 0#32 : (Proc.devRef .tc main_while0b_call1_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call1_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_1 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_2 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x4x4x128x128 (V0 (Proc.devRef .tc main_v71_0)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) sliceFits_S32x4x4x128x128_S1x4x4x128x128 : (Proc.devRef .tc main_while0b_call1_v0 : DevRef τ sig).ty.Contents (Elt F)) = Cert.ReferenceIdeal.Step.b8 j s := by
  unfold Cert.ReferenceIdeal.Step.b8
  rw [← al_3 h, ← al_4 h, ← al_5 h, ← al_6 h, ← al_7 h, h.f_0]
  try rfl
set_option maxRecDepth 8192 in
theorem al_9 (h : Holds V0 s j) : (res_main_while0b_v124 V0 : (Proc.devRef .tc main_while0b_v124 : DevRef τ sig).ty.Contents (Elt F)) = Cert.ReferenceIdeal.Step.b9 j s := by
  unfold res_main_while0b_v124 Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_2 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x4x4x64x128 (V0 (Proc.devRef .tc main_v71_1)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x128_S1x4x4x64x128 : (Proc.devRef .tc main_while0b_call2_v0 : DevRef τ sig).ty.Contents (Elt F)) = Cert.ReferenceIdeal.Step.b14 j s := by
  unfold Cert.ReferenceIdeal.Step.b14
  rw [← al_3 h, ← al_10 h, ← al_11 h, ← al_12 h, ← al_13 h, h.f_1]
  try rfl
set_option maxRecDepth 8192 in
theorem al_15 (h : Holds V0 s j) : (shapeCast S4x4x64x128 (Host.dynamicSlice S1x4x4x64x128 (V0 (Proc.devRef .tc main_v71_1)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x128_S1x4x4x64x128) shapeCasts_S1x4x4x64x128_S4x4x64x128 : (Proc.devRef .tc main_while0b_v125 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (constantI S_ 32 0#32 : (Proc.devRef .tc main_while0b_call3_c : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_0 : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call3_c_1 : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call3_c_2 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x4x4x64x128 (V0 (Proc.devRef .tc main_v71_2)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x128_S1x4x4x64x128 : (Proc.devRef .tc main_while0b_call3_v0 : DevRef τ sig).ty.Contents (Elt F)) = Cert.ReferenceIdeal.Step.b20 j s := by
  unfold Cert.ReferenceIdeal.Step.b20
  rw [← al_3 h, ← al_16 h, ← al_17 h, ← al_18 h, ← al_19 h, h.f_2]
  try rfl
set_option maxRecDepth 8192 in
theorem al_21 (h : Holds V0 s j) : (res_main_while0b_v126 V0 : (Proc.devRef .tc main_while0b_v126 : DevRef τ sig).ty.Contents (Elt F)) = Cert.ReferenceIdeal.Step.b21 j s := by
  unfold res_main_while0b_v126 Cert.ReferenceIdeal.Step.b21
  rw [← al_20 h]
  try rfl
set_option maxRecDepth 8192 in
theorem al_22 (h : Holds V0 s j) : (constantI S_ 32 0#32 : (Proc.devRef .tc main_while0b_call4_c : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call4_c_0 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call4_c_1 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_2 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x4x4x64x128 (V0 (Proc.devRef .tc main_v71_3)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x128_S1x4x4x64x128 : (Proc.devRef .tc main_while0b_call4_v0 : DevRef τ sig).ty.Contents (Elt F)) = Cert.ReferenceIdeal.Step.b26 j s := by
  unfold Cert.ReferenceIdeal.Step.b26
  rw [← al_3 h, ← al_22 h, ← al_23 h, ← al_24 h, ← al_25 h, h.f_3]
  try rfl
set_option maxRecDepth 8192 in
theorem al_27 (h : Holds V0 s j) : (res_main_while0b_v127 V0 : (Proc.devRef .tc main_while0b_v127 : DevRef τ sig).ty.Contents (Elt F)) = Cert.ReferenceIdeal.Step.b27 j s := by
  unfold res_main_while0b_v127 Cert.ReferenceIdeal.Step.b27
  rw [← al_26 h]
  try rfl
set_option maxRecDepth 8192 in
theorem al_28 (h : Holds V0 s j) : (constantI S_ 32 0#32 : (Proc.devRef .tc main_while0b_call5_c : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call5_c_0 : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_1 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_2 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x4x4x64x128 (V0 (Proc.devRef .tc main_v71_4)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x128_S1x4x4x64x128 : (Proc.devRef .tc main_while0b_call5_v0 : DevRef τ sig).ty.Contents (Elt F)) = Cert.ReferenceIdeal.Step.b32 j s := by
  unfold Cert.ReferenceIdeal.Step.b32
  rw [← al_3 h, ← al_28 h, ← al_29 h, ← al_30 h, ← al_31 h, h.f_4]
  try rfl
set_option maxRecDepth 8192 in
theorem al_33 (h : Holds V0 s j) : (res_main_while0b_v128 V0 : (Proc.devRef .tc main_while0b_v128 : DevRef τ sig).ty.Contents (Elt F)) = Cert.ReferenceIdeal.Step.b33 j s := by
  unfold res_main_while0b_v128 Cert.ReferenceIdeal.Step.b33
  rw [← al_32 h]
  try rfl
set_option maxRecDepth 8192 in
theorem al_34 (h : Holds V0 s j) : (constantI S_ 32 0#32 : (Proc.devRef .tc main_while0b_call6_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call6_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call6_c_1 : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call6_c_2 : DevRef τ sig).ty.Contents (Elt F)) = Cert.ReferenceIdeal.Step.b37 j s := by
  unfold Cert.ReferenceIdeal.Step.b37
  rfl
set_option maxRecDepth 8192 in
theorem al_38 (h : Holds V0 s j) : (Host.dynamicSlice S1x4x4x64x64 (V0 (Proc.devRef .tc main_v71_5)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x64_S1x4x4x64x64 : (Proc.devRef .tc main_while0b_call6_v0 : DevRef τ sig).ty.Contents (Elt F)) = Cert.ReferenceIdeal.Step.b38 j s := by
  unfold Cert.ReferenceIdeal.Step.b38
  rw [← al_3 h, ← al_34 h, ← al_35 h, ← al_36 h, ← al_37 h, h.f_5]
  try rfl
set_option maxRecDepth 8192 in
theorem al_39 (h : Holds V0 s j) : (res_main_while0b_v129 V0 : (Proc.devRef .tc main_while0b_v129 : DevRef τ sig).ty.Contents (Elt F)) = Cert.ReferenceIdeal.Step.b39 j s := by
  unfold res_main_while0b_v129 Cert.ReferenceIdeal.Step.b39
  rw [← al_38 h]
  try rfl
set_option maxRecDepth 8192 in
theorem al_40 (h : Holds V0 s j) : (constantI S_ 32 0#32 : (Proc.devRef .tc main_while0b_call7_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call7_c_0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call7_c_1 : DevRef τ sig).ty.Contents (Elt F)) = Cert.ReferenceIdeal.Step.b42 j s := by
  unfold Cert.ReferenceIdeal.Step.b42
  rfl
set_option maxRecDepth 8192 in
theorem al_43 (h : Holds V0 s j) : (constantI S_ 32 0#32 : (Proc.devRef .tc main_while0b_call7_c_2 : DevRef τ sig).ty.Contents (Elt F)) = Cert.ReferenceIdeal.Step.b43 j s := by
  unfold Cert.ReferenceIdeal.Step.b43
  rfl
set_option maxRecDepth 8192 in
theorem al_44 (h : Holds V0 s j) : (Host.dynamicSlice S1x4x4x1x128 (V0 (Proc.devRef .tc main_v71_6)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) sliceFits_S32x4x4x1x128_S1x4x4x1x128 : (Proc.devRef .tc main_while0b_call7_v0 : DevRef τ sig).ty.Contents (Elt F)) = Cert.ReferenceIdeal.Step.b44 j s := by
  unfold Cert.ReferenceIdeal.Step.b44
  rw [← al_3 h, ← al_40 h, ← al_41 h, ← al_42 h, ← al_43 h, h.f_6]
  try rfl
set_option maxRecDepth 8192 in
theorem al_45 (h : Holds V0 s j) : (res_main_while0b_v130 V0 : (Proc.devRef .tc main_while0b_v130 : DevRef τ sig).ty.Contents (Elt F)) = Cert.ReferenceIdeal.Step.b45 j s := by
  unfold res_main_while0b_v130 Cert.ReferenceIdeal.Step.b45
  rw [← al_44 h]
  try rfl
set_option maxRecDepth 8192 in
theorem al_46 (h : Holds V0 s j) : (constantI S_ 32 0#32 : (Proc.devRef .tc main_while0b_call8_c : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call8_c_0 : DevRef τ sig).ty.Contents (Elt F)) = Cert.ReferenceIdeal.Step.b47 j s := by
  unfold Cert.ReferenceIdeal.Step.b47
  rfl
set_option maxRecDepth 8192 in
theorem al_48 (h : Holds V0 s j) : (constantI S_ 32 0#32 : (Proc.devRef .tc main_while0b_call8_c_1 : DevRef τ sig).ty.Contents (Elt F)) = Cert.ReferenceIdeal.Step.b48 j s := by
  unfold Cert.ReferenceIdeal.Step.b48
  rfl
set_option maxRecDepth 8192 in
theorem al_49 (h : Holds V0 s j) : (constantI S_ 32 0#32 : (Proc.devRef .tc main_while0b_call8_c_2 : DevRef τ sig).ty.Contents (Elt F)) = Cert.ReferenceIdeal.Step.b49 j s := by
  unfold Cert.ReferenceIdeal.Step.b49
  rfl
set_option maxRecDepth 8192 in
theorem al_50 (h : Holds V0 s j) : (Host.dynamicSlice S1x4x4x64x128 (V0 (Proc.devRef .tc main_v71_7)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x128_S1x4x4x64x128 : (Proc.devRef .tc main_while0b_call8_v0 : DevRef τ sig).ty.Contents (Elt F)) = Cert.ReferenceIdeal.Step.b50 j s := by
  unfold Cert.ReferenceIdeal.Step.b50
  rw [← al_3 h, ← al_46 h, ← al_47 h, ← al_48 h, ← al_49 h, h.f_7]
  try rfl
set_option maxRecDepth 8192 in
theorem al_51 (h : Holds V0 s j) : (res_main_while0b_v131 V0 : (Proc.devRef .tc main_while0b_v131 : DevRef τ sig).ty.Contents (Elt F)) = Cert.ReferenceIdeal.Step.b51 j s := by
  unfold res_main_while0b_v131 Cert.ReferenceIdeal.Step.b51
  rw [← al_50 h]
  try rfl
set_option maxRecDepth 8192 in
theorem al_52 (h : Holds V0 s j) : (Host.dotGeneral dot_S4x4x64x128_S4x4x128x128_S4x4x64x128_3_2_2_3_01_01 none (res_main_while0b_v126 V0) (res_main_while0b_v124 V0) : (Proc.devRef .tc main_while0b_v132 : DevRef τ sig).ty.Contents (Elt F)) = Cert.ReferenceIdeal.Step.b52 j s := by
  unfold Cert.ReferenceIdeal.Step.b52
  rw [← al_21 h, ← al_9 h]
  try rfl
set_option maxRecDepth 8192 in
theorem al_53 (h : Holds V0 s j) : (res_main_while0b_v133 V0 : (Proc.devRef .tc main_while0b_v133 : DevRef τ sig).ty.Contents (Elt F)) = Cert.ReferenceIdeal.Step.b53 j s := by
  unfold res_main_while0b_v133 Cert.ReferenceIdeal.Step.b53
  rw [← al_15 h, ← al_52 h]
  try rfl
set_option maxRecDepth 8192 in
theorem al_54 (h : Holds V0 s j) : (Host.dotGeneral dot_S4x4x64x128_S4x4x128x128_S4x4x64x128_3_2_2_3_01_01 none (res_main_while0b_v127 V0) (res_main_while0b_v124 V0) : (Proc.devRef .tc main_while0b_v134 : DevRef τ sig).ty.Contents (Elt F)) = Cert.ReferenceIdeal.Step.b54 j s := by
  unfold Cert.ReferenceIdeal.Step.b54
  rw [← al_27 h, ← al_9 h]
  try rfl
set_option maxRecDepth 8192 in
theorem al_55 (h : Holds V0 s j) : (Host.dotGeneral dot_S4x4x64x64_S4x4x64x128_S4x4x64x128_3_2_2_3_01_01 none (res_main_while0b_v129 V0) (res_main_while0b_v133 V0) : (Proc.devRef .tc main_while0b_v135 : DevRef τ sig).ty.Contents (Elt F)) = Cert.ReferenceIdeal.Step.b55 j s := by
  unfold Cert.ReferenceIdeal.Step.b55
  rw [← al_39 h, ← al_53 h]
  try rfl
set_option maxRecDepth 8192 in
theorem al_56 (h : Holds V0 s j) : (addf (Host.dotGeneral dot_S4x4x64x128_S4x4x128x128_S4x4x64x128_3_2_2_3_01_01 none (res_main_while0b_v127 V0) (res_main_while0b_v124 V0)) (Host.dotGeneral dot_S4x4x64x64_S4x4x64x128_S4x4x64x128_3_2_2_3_01_01 none (res_main_while0b_v129 V0) (res_main_while0b_v133 V0)) : (Proc.devRef .tc main_while0b_v136 : DevRef τ sig).ty.Contents (Elt F)) = Cert.ReferenceIdeal.Step.b56 j s := by
  unfold Cert.ReferenceIdeal.Step.b56
  rw [← al_54 h, ← al_55 h]
  try rfl
set_option maxRecDepth 8192 in
theorem al_57 (h : Holds V0 s j) : (broadcastInDim S4x4x128x128 ![0, 1, 2, 3] bcast_S4x4x1x128_S4x4x128x128_0_1_2_3 (res_main_while0b_v130 V0) : (Proc.devRef .tc main_while0b_v137 : DevRef τ sig).ty.Contents (Elt F)) = Cert.ReferenceIdeal.Step.b57 j s := by
  unfold Cert.ReferenceIdeal.Step.b57
  rw [← al_45 h]
  try rfl
set_option maxRecDepth 8192 in
theorem al_58 (h : Holds V0 s j) : (mulf (res_main_while0b_v124 V0) (broadcastInDim S4x4x128x128 ![0, 1, 2, 3] bcast_S4x4x1x128_S4x4x128x128_0_1_2_3 (res_main_while0b_v130 V0)) : (Proc.devRef .tc main_while0b_v138 : DevRef τ sig).ty.Contents (Elt F)) = Cert.ReferenceIdeal.Step.b58 j s := by
  unfold Cert.ReferenceIdeal.Step.b58
  rw [← al_9 h, ← al_57 h]
  try rfl
set_option maxRecDepth 8192 in
theorem al_59 (h : Holds V0 s j) : (Host.dotGeneral dot_S4x4x64x128_S4x4x64x128_S4x4x128x128_2_2_3_3_01_01 none (res_main_while0b_v128 V0) (res_main_while0b_v133 V0) : (Proc.devRef .tc main_while0b_v139 : DevRef τ sig).ty.Contents (Elt F)) = Cert.ReferenceIdeal.Step.b59 j s := by
  unfold Cert.ReferenceIdeal.Step.b59
  rw [← al_33 h, ← al_53 h]
  try rfl
set_option maxRecDepth 8192 in
theorem al_60 (h : Holds V0 s j) : (addf (mulf (res_main_while0b_v124 V0) (broadcastInDim S4x4x128x128 ![0, 1, 2, 3] bcast_S4x4x1x128_S4x4x128x128_0_1_2_3 (res_main_while0b_v130 V0))) (Host.dotGeneral dot_S4x4x64x128_S4x4x64x128_S4x4x128x128_2_2_3_3_01_01 none (res_main_while0b_v128 V0) (res_main_while0b_v133 V0)) : (Proc.devRef .tc main_while0b_v140 : DevRef τ sig).ty.Contents (Elt F)) = Cert.ReferenceIdeal.Step.b60 j s := by
  unfold Cert.ReferenceIdeal.Step.b60
  rw [← al_58 h, ← al_59 h]
  try rfl
set_option maxRecDepth 8192 in
theorem al_61 (h : Holds V0 s j) : (Host.dotGeneral dot_S4x4x128x128_S4x4x64x128_S4x4x128x64_2_3_3_2_01_01 none (V0 (Proc.devRef .tc main_v71_9)) (res_main_while0b_v128 V0) : (Proc.devRef .tc main_while0b_v141 : DevRef τ sig).ty.Contents (Elt F)) = Cert.ReferenceIdeal.Step.b61 j s := by
  unfold Cert.ReferenceIdeal.Step.b61
  rw [← al_33 h, h.f_9]
  try rfl
set_option maxRecDepth 8192 in
theorem al_62 (h : Holds V0 s j) : (transpose S4x4x64x128 [0, 1, 3, 2] (Host.dotGeneral dot_S4x4x128x128_S4x4x64x128_S4x4x128x64_2_3_3_2_01_01 none (V0 (Proc.devRef .tc main_v71_9)) (res_main_while0b_v128 V0)) transposes_S4x4x128x64_S4x4x64x128_0_1_3_2 : (Proc.devRef .tc main_while0b_v142 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (Host.dotGeneral dot_S4x4x128x128_S4x4x64x128_S4x4x128x64_3_3_2_2_01_01 none (V0 (Proc.devRef .tc main_v71_9)) (res_main_while0b_v133 V0) : (Proc.devRef .tc main_while0b_v143 : DevRef τ sig).ty.Contents (Elt F)) = Cert.ReferenceIdeal.Step.b63 j s := by
  unfold Cert.ReferenceIdeal.Step.b63
  rw [← al_53 h, h.f_9]
  try rfl
set_option maxRecDepth 8192 in
theorem al_64 (h : Holds V0 s j) : (transpose S4x4x64x128 [0, 1, 3, 2] (Host.dotGeneral dot_S4x4x128x128_S4x4x64x128_S4x4x128x64_3_3_2_2_01_01 none (V0 (Proc.devRef .tc main_v71_9)) (res_main_while0b_v133 V0)) transposes_S4x4x128x64_S4x4x64x128_0_1_3_2 : (Proc.devRef .tc main_while0b_v144 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (mulf (res_main_while0b_v124 V0) (V0 (Proc.devRef .tc main_v71_9)) : (Proc.devRef .tc main_while0b_v145 : DevRef τ sig).ty.Contents (Elt F)) = Cert.ReferenceIdeal.Step.b65 j s := by
  unfold Cert.ReferenceIdeal.Step.b65
  rw [← al_9 h, h.f_9]
  try rfl
set_option maxRecDepth 8192 in
theorem al_66 (h : Holds V0 s j) : (constant S_ .f32 0x00000000#32 : (Proc.devRef .tc main_while0b_cst_36 : DevRef τ sig).ty.Contents (Elt F)) = Cert.ReferenceIdeal.Step.b66 j s := by
  unfold Cert.ReferenceIdeal.Step.b66
  rfl
set_option maxRecDepth 8192 in
theorem al_67 (h : Holds V0 s j) : (Host.reduceAdd (mulf (res_main_while0b_v124 V0) (V0 (Proc.devRef .tc main_v71_9))) (constant S_ .f32 0x00000000#32) reducesTo_S4x4x128x128_S4x4x128_d2 h_S_ : (Proc.devRef .tc main_while0b_v146 : DevRef τ sig).ty.Contents (Elt F)) = Cert.ReferenceIdeal.Step.b67 j s := by
  unfold Cert.ReferenceIdeal.Step.b67
  rw [← al_65 h, ← al_66 h]
  try rfl
set_option maxRecDepth 8192 in
theorem al_68 (h : Holds V0 s j) : (shapeCast S4x4x1x128 (Host.reduceAdd (mulf (res_main_while0b_v124 V0) (V0 (Proc.devRef .tc main_v71_9))) (constant S_ .f32 0x00000000#32) reducesTo_S4x4x128x128_S4x4x128_d2 h_S_) shapeCasts_S4x4x128_S4x4x1x128 : (Proc.devRef .tc main_while0b_v147 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (broadcastInDim S4x4x128x128 ![0, 1, 2, 3] bcast_S4x4x1x128_S4x4x128x128_0_1_2_3 (res_main_while0b_v130 V0) : (Proc.devRef .tc main_while0b_v148 : DevRef τ sig).ty.Contents (Elt F)) = Cert.ReferenceIdeal.Step.b69 j s := by
  unfold Cert.ReferenceIdeal.Step.b69
  rw [← al_45 h]
  try rfl
set_option maxRecDepth 8192 in
theorem al_70 (h : Holds V0 s j) : (mulf (V0 (Proc.devRef .tc main_v71_9)) (broadcastInDim S4x4x128x128 ![0, 1, 2, 3] bcast_S4x4x1x128_S4x4x128x128_0_1_2_3 (res_main_while0b_v130 V0)) : (Proc.devRef .tc main_while0b_v149 : DevRef τ sig).ty.Contents (Elt F)) = Cert.ReferenceIdeal.Step.b70 j s := by
  unfold Cert.ReferenceIdeal.Step.b70
  rw [← al_69 h, h.f_9]
  try rfl
set_option maxRecDepth 8192 in
theorem al_71 (h : Holds V0 s j) : (Host.dotGeneral dot_S4x4x64x128_S4x4x64x64_S4x4x128x64_2_2_3_3_01_01 none (res_main_while0b_v131 V0) (res_main_while0b_v129 V0) : (Proc.devRef .tc main_while0b_v150 : DevRef τ sig).ty.Contents (Elt F)) = Cert.ReferenceIdeal.Step.b71 j s := by
  unfold Cert.ReferenceIdeal.Step.b71
  rw [← al_51 h, ← al_39 h]
  try rfl
set_option maxRecDepth 8192 in
theorem al_72 (h : Holds V0 s j) : (transpose S4x4x64x128 [0, 1, 3, 2] (Host.dotGeneral dot_S4x4x64x128_S4x4x64x64_S4x4x128x64_2_2_3_3_01_01 none (res_main_while0b_v131 V0) (res_main_while0b_v129 V0)) transposes_S4x4x128x64_S4x4x64x128_0_1_3_2 : (Proc.devRef .tc main_while0b_v151 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (res_main_while0b_v152 V0 : (Proc.devRef .tc main_while0b_v152 : DevRef τ sig).ty.Contents (Elt F)) = Cert.ReferenceIdeal.Step.b73 j s := by
  unfold res_main_while0b_v152 Cert.ReferenceIdeal.Step.b73
  rw [← al_62 h, ← al_72 h]
  try rfl
set_option maxRecDepth 8192 in
theorem al_74 (h : Holds V0 s j) : (Host.dotGeneral dot_S4x4x64x128_S4x4x64x128_S4x4x64x64_3_3_2_2_01_01 none (res_main_while0b_v131 V0) (res_main_while0b_v133 V0) : (Proc.devRef .tc main_while0b_v153 : DevRef τ sig).ty.Contents (Elt F)) = Cert.ReferenceIdeal.Step.b74 j s := by
  unfold Cert.ReferenceIdeal.Step.b74
  rw [← al_51 h, ← al_53 h]
  try rfl
set_option maxRecDepth 8192 in
theorem al_75 (h : Holds V0 s j) : (Host.dotGeneral dot_S4x4x64x128_S4x4x64x128_S4x4x128x128_2_2_3_3_01_01 none (res_main_while0b_v131 V0) (res_main_while0b_v127 V0) : (Proc.devRef .tc main_while0b_v154 : DevRef τ sig).ty.Contents (Elt F)) = Cert.ReferenceIdeal.Step.b75 j s := by
  unfold Cert.ReferenceIdeal.Step.b75
  rw [← al_51 h, ← al_27 h]
  try rfl
set_option maxRecDepth 8192 in
theorem al_76 (h : Holds V0 s j) : (transpose S4x4x128x128 [0, 1, 3, 2] (Host.dotGeneral dot_S4x4x64x128_S4x4x64x128_S4x4x128x128_2_2_3_3_01_01 none (res_main_while0b_v131 V0) (res_main_while0b_v127 V0)) transposes_S4x4x128x128_S4x4x128x128_0_1_3_2 : (Proc.devRef .tc main_while0b_v155 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (addf (mulf (V0 (Proc.devRef .tc main_v71_9)) (broadcastInDim S4x4x128x128 ![0, 1, 2, 3] bcast_S4x4x1x128_S4x4x128x128_0_1_2_3 (res_main_while0b_v130 V0))) (transpose S4x4x128x128 [0, 1, 3, 2] (Host.dotGeneral dot_S4x4x64x128_S4x4x64x128_S4x4x128x128_2_2_3_3_01_01 none (res_main_while0b_v131 V0) (res_main_while0b_v127 V0)) transposes_S4x4x128x128_S4x4x128x128_0_1_3_2) : (Proc.devRef .tc main_while0b_v156 : DevRef τ sig).ty.Contents (Elt F)) = Cert.ReferenceIdeal.Step.b77 j s := by
  unfold Cert.ReferenceIdeal.Step.b77
  rw [← al_70 h, ← al_76 h]
  try rfl
set_option maxRecDepth 8192 in
theorem al_78 (h : Holds V0 s j) : (Host.dotGeneral dot_S4x4x64x128_S4x4x128x128_S4x4x64x128_3_3_2_2_01_01 none (res_main_while0b_v131 V0) (res_main_while0b_v124 V0) : (Proc.devRef .tc main_while0b_v157 : DevRef τ sig).ty.Contents (Elt F)) = Cert.ReferenceIdeal.Step.b78 j s := by
  unfold Cert.ReferenceIdeal.Step.b78
  rw [← al_51 h, ← al_9 h]
  try rfl
set_option maxRecDepth 8192 in
theorem al_79 (h : Holds V0 s j) : (res_main_while0b_v158 V0 : (Proc.devRef .tc main_while0b_v158 : DevRef τ sig).ty.Contents (Elt F)) = Cert.ReferenceIdeal.Step.b79 j s := by
  unfold res_main_while0b_v158 Cert.ReferenceIdeal.Step.b79
  rw [← al_73 h]
  try rfl
set_option maxRecDepth 8192 in
theorem al_80 (h : Holds V0 s j) : (Host.dotGeneral dot_S4x4x64x128_S4x4x64x128_S4x4x128x128_2_2_3_3_01_01 none (res_main_while0b_v158 V0) (res_main_while0b_v126 V0) : (Proc.devRef .tc main_while0b_v159 : DevRef τ sig).ty.Contents (Elt F)) = Cert.ReferenceIdeal.Step.b80 j s := by
  unfold Cert.ReferenceIdeal.Step.b80
  rw [← al_79 h, ← al_21 h]
  try rfl
set_option maxRecDepth 8192 in
theorem al_81 (h : Holds V0 s j) : (transpose S4x4x128x128 [0, 1, 3, 2] (Host.dotGeneral dot_S4x4x64x128_S4x4x64x128_S4x4x128x128_2_2_3_3_01_01 none (res_main_while0b_v158 V0) (res_main_while0b_v126 V0)) transposes_S4x4x128x128_S4x4x128x128_0_1_3_2 : (Proc.devRef .tc main_while0b_v160 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (addf (addf (mulf (V0 (Proc.devRef .tc main_v71_9)) (broadcastInDim S4x4x128x128 ![0, 1, 2, 3] bcast_S4x4x1x128_S4x4x128x128_0_1_2_3 (res_main_while0b_v130 V0))) (transpose S4x4x128x128 [0, 1, 3, 2] (Host.dotGeneral dot_S4x4x64x128_S4x4x64x128_S4x4x128x128_2_2_3_3_01_01 none (res_main_while0b_v131 V0) (res_main_while0b_v127 V0)) transposes_S4x4x128x128_S4x4x128x128_0_1_3_2)) (transpose S4x4x128x128 [0, 1, 3, 2] (Host.dotGeneral dot_S4x4x64x128_S4x4x64x128_S4x4x128x128_2_2_3_3_01_01 none (res_main_while0b_v158 V0) (res_main_while0b_v126 V0)) transposes_S4x4x128x128_S4x4x128x128_0_1_3_2) : (Proc.devRef .tc main_while0b_v161 : DevRef τ sig).ty.Contents (Elt F)) = Cert.ReferenceIdeal.Step.b82 j s := by
  unfold Cert.ReferenceIdeal.Step.b82
  rw [← al_77 h, ← al_81 h]
  try rfl
set_option maxRecDepth 8192 in
theorem al_83 (h : Holds V0 s j) : (Host.dotGeneral dot_S4x4x64x128_S4x4x128x128_S4x4x64x128_3_3_2_2_01_01 none (res_main_while0b_v158 V0) (res_main_while0b_v124 V0) : (Proc.devRef .tc main_while0b_v162 : DevRef τ sig).ty.Contents (Elt F)) = Cert.ReferenceIdeal.Step.b83 j s := by
  unfold Cert.ReferenceIdeal.Step.b83
  rw [← al_79 h, ← al_9 h]
  try rfl
set_option maxRecDepth 8192 in
theorem al_84 (h : Holds V0 s j) : (broadcastInDim S1x4x4x64x128 ![1, 2, 3, 4] bcast_S4x4x64x128_S1x4x4x64x128_1_2_3_4 (res_main_while0b_v152 V0) : (Proc.devRef .tc main_while0b_call9_v0 : DevRef τ sig).ty.Contents (Elt F)) = Cert.ReferenceIdeal.Step.b84 j s := by
  unfold Cert.ReferenceIdeal.Step.b84
  rw [← al_73 h]
  try rfl
set_option maxRecDepth 8192 in
theorem al_85 (h : Holds V0 s j) : (constantI S_ 32 0#32 : (Proc.devRef .tc main_while0b_call9_c : DevRef τ sig).ty.Contents (Elt F)) = Cert.ReferenceIdeal.Step.b85 j s := by
  unfold Cert.ReferenceIdeal.Step.b85
  rfl
set_option maxRecDepth 8192 in
theorem al_86 (h : Holds V0 s j) : (constantI S_ 32 0#32 : (Proc.devRef .tc main_while0b_call9_c_0 : DevRef τ sig).ty.Contents (Elt F)) = Cert.ReferenceIdeal.Step.b86 j s := by
  unfold Cert.ReferenceIdeal.Step.b86
  rfl
set_option maxRecDepth 8192 in
theorem al_87 (h : Holds V0 s j) : (constantI S_ 32 0#32 : (Proc.devRef .tc main_while0b_call9_c_1 : DevRef τ sig).ty.Contents (Elt F)) = Cert.ReferenceIdeal.Step.b87 j s := by
  unfold Cert.ReferenceIdeal.Step.b87
  rfl
set_option maxRecDepth 8192 in
theorem al_88 (h : Holds V0 s j) : (constantI S_ 32 0#32 : (Proc.devRef .tc main_while0b_call9_c_2 : DevRef τ sig).ty.Contents (Elt F)) = Cert.ReferenceIdeal.Step.b88 j s := by
  unfold Cert.ReferenceIdeal.Step.b88
  rfl
set_option maxRecDepth 8192 in
theorem al_89 (h : Holds V0 s j) : (Host.dynamicUpdateSlice (V0 (Proc.devRef .tc main_v71_10)) (broadcastInDim S1x4x4x64x128 ![1, 2, 3, 4] bcast_S4x4x64x128_S1x4x4x64x128_1_2_3_4 (res_main_while0b_v152 V0)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) updateFits_S32x4x4x64x128_S1x4x4x64x128 : (Proc.devRef .tc main_while0b_v163 : DevRef τ sig).ty.Contents (Elt F)) = Cert.ReferenceIdeal.Step.b89 j s := by
  unfold Cert.ReferenceIdeal.Step.b89
  rw [← al_84 h, ← al_3 h, ← al_85 h, ← al_86 h, ← al_87 h, ← al_88 h, h.f_10]
  try rfl
set_option maxRecDepth 8192 in
theorem al_90 (h : Holds V0 s j) : (broadcastInDim S1x4x4x64x128 ![1, 2, 3, 4] bcast_S4x4x64x128_S1x4x4x64x128_1_2_3_4 (Host.dotGeneral dot_S4x4x64x128_S4x4x128x128_S4x4x64x128_3_3_2_2_01_01 none (res_main_while0b_v158 V0) (res_main_while0b_v124 V0)) : (Proc.devRef .tc main_while0b_call10_v0 : DevRef τ sig).ty.Contents (Elt F)) = Cert.ReferenceIdeal.Step.b90 j s := by
  unfold Cert.ReferenceIdeal.Step.b90
  rw [← al_83 h]
  try rfl
set_option maxRecDepth 8192 in
theorem al_91 (h : Holds V0 s j) : (constantI S_ 32 0#32 : (Proc.devRef .tc main_while0b_call10_c : DevRef τ sig).ty.Contents (Elt F)) = Cert.ReferenceIdeal.Step.b91 j s := by
  unfold Cert.ReferenceIdeal.Step.b91
  rfl
set_option maxRecDepth 8192 in
theorem al_92 (h : Holds V0 s j) : (constantI S_ 32 0#32 : (Proc.devRef .tc main_while0b_call10_c_0 : DevRef τ sig).ty.Contents (Elt F)) = Cert.ReferenceIdeal.Step.b92 j s := by
  unfold Cert.ReferenceIdeal.Step.b92
  rfl
set_option maxRecDepth 8192 in
theorem al_93 (h : Holds V0 s j) : (constantI S_ 32 0#32 : (Proc.devRef .tc main_while0b_call10_c_1 : DevRef τ sig).ty.Contents (Elt F)) = Cert.ReferenceIdeal.Step.b93 j s := by
  unfold Cert.ReferenceIdeal.Step.b93
  rfl
set_option maxRecDepth 8192 in
theorem al_94 (h : Holds V0 s j) : (constantI S_ 32 0#32 : (Proc.devRef .tc main_while0b_call10_c_2 : DevRef τ sig).ty.Contents (Elt F)) = Cert.ReferenceIdeal.Step.b94 j s := by
  unfold Cert.ReferenceIdeal.Step.b94
  rfl
set_option maxRecDepth 8192 in
theorem al_95 (h : Holds V0 s j) : (Host.dynamicUpdateSlice (V0 (Proc.devRef .tc main_v71_11)) (broadcastInDim S1x4x4x64x128 ![1, 2, 3, 4] bcast_S4x4x64x128_S1x4x4x64x128_1_2_3_4 (Host.dotGeneral dot_S4x4x64x128_S4x4x128x128_S4x4x64x128_3_3_2_2_01_01 none (res_main_while0b_v158 V0) (res_main_while0b_v124 V0))) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) updateFits_S32x4x4x64x128_S1x4x4x64x128 : (Proc.devRef .tc main_while0b_v164 : DevRef τ sig).ty.Contents (Elt F)) = Cert.ReferenceIdeal.Step.b95 j s := by
  unfold Cert.ReferenceIdeal.Step.b95
  rw [← al_90 h, ← al_3 h, ← al_91 h, ← al_92 h, ← al_93 h, ← al_94 h, h.f_11]
  try rfl
set_option maxRecDepth 8192 in
theorem al_96 (h : Holds V0 s j) : (broadcastInDim S1x4x4x64x128 ![1, 2, 3, 4] bcast_S4x4x64x128_S1x4x4x64x128_1_2_3_4 (Host.dotGeneral dot_S4x4x64x128_S4x4x128x128_S4x4x64x128_3_3_2_2_01_01 none (res_main_while0b_v131 V0) (res_main_while0b_v124 V0)) : (Proc.devRef .tc main_while0b_call11_v0 : DevRef τ sig).ty.Contents (Elt F)) = Cert.ReferenceIdeal.Step.b96 j s := by
  unfold Cert.ReferenceIdeal.Step.b96
  rw [← al_78 h]
  try rfl
set_option maxRecDepth 8192 in
theorem al_97 (h : Holds V0 s j) : (constantI S_ 32 0#32 : (Proc.devRef .tc main_while0b_call11_c : DevRef τ sig).ty.Contents (Elt F)) = Cert.ReferenceIdeal.Step.b97 j s := by
  unfold Cert.ReferenceIdeal.Step.b97
  rfl
set_option maxRecDepth 8192 in
theorem al_98 (h : Holds V0 s j) : (constantI S_ 32 0#32 : (Proc.devRef .tc main_while0b_call11_c_0 : DevRef τ sig).ty.Contents (Elt F)) = Cert.ReferenceIdeal.Step.b98 j s := by
  unfold Cert.ReferenceIdeal.Step.b98
  rfl
set_option maxRecDepth 8192 in
theorem al_99 (h : Holds V0 s j) : (constantI S_ 32 0#32 : (Proc.devRef .tc main_while0b_call11_c_1 : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call11_c_2 : DevRef τ sig).ty.Contents (Elt F)) = Cert.ReferenceIdeal.Step.b100 j s := by
  unfold Cert.ReferenceIdeal.Step.b100
  rfl
set_option maxRecDepth 8192 in
theorem al_101 (h : Holds V0 s j) : (Host.dynamicUpdateSlice (V0 (Proc.devRef .tc main_v71_12)) (broadcastInDim S1x4x4x64x128 ![1, 2, 3, 4] bcast_S4x4x64x128_S1x4x4x64x128_1_2_3_4 (Host.dotGeneral dot_S4x4x64x128_S4x4x128x128_S4x4x64x128_3_3_2_2_01_01 none (res_main_while0b_v131 V0) (res_main_while0b_v124 V0))) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) updateFits_S32x4x4x64x128_S1x4x4x64x128 : (Proc.devRef .tc main_while0b_v165 : DevRef τ sig).ty.Contents (Elt F)) = Cert.ReferenceIdeal.Step.b101 j s := by
  unfold Cert.ReferenceIdeal.Step.b101
  rw [← al_96 h, ← al_3 h, ← al_97 h, ← al_98 h, ← al_99 h, ← al_100 h, h.f_12]
  try rfl
set_option maxRecDepth 8192 in
theorem al_102 (h : Holds V0 s j) : (broadcastInDim S1x4x4x64x128 ![1, 2, 3, 4] bcast_S4x4x64x128_S1x4x4x64x128_1_2_3_4 (transpose S4x4x64x128 [0, 1, 3, 2] (Host.dotGeneral dot_S4x4x128x128_S4x4x64x128_S4x4x128x64_3_3_2_2_01_01 none (V0 (Proc.devRef .tc main_v71_9)) (res_main_while0b_v133 V0)) transposes_S4x4x128x64_S4x4x64x128_0_1_3_2) : (Proc.devRef .tc main_while0b_call12_v0 : DevRef τ sig).ty.Contents (Elt F)) = Cert.ReferenceIdeal.Step.b102 j s := by
  unfold Cert.ReferenceIdeal.Step.b102
  rw [← al_64 h]
  try rfl
set_option maxRecDepth 8192 in
theorem al_103 (h : Holds V0 s j) : (constantI S_ 32 0#32 : (Proc.devRef .tc main_while0b_call12_c : DevRef τ sig).ty.Contents (Elt F)) = Cert.ReferenceIdeal.Step.b103 j s := by
  unfold Cert.ReferenceIdeal.Step.b103
  rfl
set_option maxRecDepth 8192 in
theorem al_104 (h : Holds V0 s j) : (constantI S_ 32 0#32 : (Proc.devRef .tc main_while0b_call12_c_0 : DevRef τ sig).ty.Contents (Elt F)) = Cert.ReferenceIdeal.Step.b104 j s := by
  unfold Cert.ReferenceIdeal.Step.b104
  rfl
set_option maxRecDepth 8192 in
theorem al_105 (h : Holds V0 s j) : (constantI S_ 32 0#32 : (Proc.devRef .tc main_while0b_call12_c_1 : DevRef τ sig).ty.Contents (Elt F)) = Cert.ReferenceIdeal.Step.b105 j s := by
  unfold Cert.ReferenceIdeal.Step.b105
  rfl
set_option maxRecDepth 8192 in
theorem al_106 (h : Holds V0 s j) : (constantI S_ 32 0#32 : (Proc.devRef .tc main_while0b_call12_c_2 : DevRef τ sig).ty.Contents (Elt F)) = Cert.ReferenceIdeal.Step.b106 j s := by
  unfold Cert.ReferenceIdeal.Step.b106
  rfl
set_option maxRecDepth 8192 in
theorem al_107 (h : Holds V0 s j) : (Host.dynamicUpdateSlice (V0 (Proc.devRef .tc main_v71_13)) (broadcastInDim S1x4x4x64x128 ![1, 2, 3, 4] bcast_S4x4x64x128_S1x4x4x64x128_1_2_3_4 (transpose S4x4x64x128 [0, 1, 3, 2] (Host.dotGeneral dot_S4x4x128x128_S4x4x64x128_S4x4x128x64_3_3_2_2_01_01 none (V0 (Proc.devRef .tc main_v71_9)) (res_main_while0b_v133 V0)) transposes_S4x4x128x64_S4x4x64x128_0_1_3_2)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) updateFits_S32x4x4x64x128_S1x4x4x64x128 : (Proc.devRef .tc main_while0b_v166 : DevRef τ sig).ty.Contents (Elt F)) = Cert.ReferenceIdeal.Step.b107 j s := by
  unfold Cert.ReferenceIdeal.Step.b107
  rw [← al_102 h, ← al_3 h, ← al_103 h, ← al_104 h, ← al_105 h, ← al_106 h, h.f_13]
  try rfl
set_option maxRecDepth 8192 in
theorem al_108 (h : Holds V0 s j) : (broadcastInDim S1x4x4x64x64 ![1, 2, 3, 4] bcast_S4x4x64x64_S1x4x4x64x64_1_2_3_4 (Host.dotGeneral dot_S4x4x64x128_S4x4x64x128_S4x4x64x64_3_3_2_2_01_01 none (res_main_while0b_v131 V0) (res_main_while0b_v133 V0)) : (Proc.devRef .tc main_while0b_call13_v0 : DevRef τ sig).ty.Contents (Elt F)) = Cert.ReferenceIdeal.Step.b108 j s := by
  unfold Cert.ReferenceIdeal.Step.b108
  rw [← al_74 h]
  try rfl
set_option maxRecDepth 8192 in
theorem al_109 (h : Holds V0 s j) : (constantI S_ 32 0#32 : (Proc.devRef .tc main_while0b_call13_c : DevRef τ sig).ty.Contents (Elt F)) = Cert.ReferenceIdeal.Step.b109 j s := by
  unfold Cert.ReferenceIdeal.Step.b109
  rfl
set_option maxRecDepth 8192 in
theorem al_110 (h : Holds V0 s j) : (constantI S_ 32 0#32 : (Proc.devRef .tc main_while0b_call13_c_0 : DevRef τ sig).ty.Contents (Elt F)) = Cert.ReferenceIdeal.Step.b110 j s := by
  unfold Cert.ReferenceIdeal.Step.b110
  rfl
set_option maxRecDepth 8192 in
theorem al_111 (h : Holds V0 s j) : (constantI S_ 32 0#32 : (Proc.devRef .tc main_while0b_call13_c_1 : DevRef τ sig).ty.Contents (Elt F)) = Cert.ReferenceIdeal.Step.b111 j s := by
  unfold Cert.ReferenceIdeal.Step.b111
  rfl
set_option maxRecDepth 8192 in
theorem al_112 (h : Holds V0 s j) : (constantI S_ 32 0#32 : (Proc.devRef .tc main_while0b_call13_c_2 : DevRef τ sig).ty.Contents (Elt F)) = Cert.ReferenceIdeal.Step.b112 j s := by
  unfold Cert.ReferenceIdeal.Step.b112
  rfl
set_option maxRecDepth 8192 in
theorem al_113 (h : Holds V0 s j) : (Host.dynamicUpdateSlice (V0 (Proc.devRef .tc main_v71_14)) (broadcastInDim S1x4x4x64x64 ![1, 2, 3, 4] bcast_S4x4x64x64_S1x4x4x64x64_1_2_3_4 (Host.dotGeneral dot_S4x4x64x128_S4x4x64x128_S4x4x64x64_3_3_2_2_01_01 none (res_main_while0b_v131 V0) (res_main_while0b_v133 V0))) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) updateFits_S32x4x4x64x64_S1x4x4x64x64 : (Proc.devRef .tc main_while0b_v167 : DevRef τ sig).ty.Contents (Elt F)) = Cert.ReferenceIdeal.Step.b113 j s := by
  unfold Cert.ReferenceIdeal.Step.b113
  rw [← al_108 h, ← al_3 h, ← al_109 h, ← al_110 h, ← al_111 h, ← al_112 h, h.f_14]
  try rfl
set_option maxRecDepth 8192 in
theorem al_114 (h : Holds V0 s j) : (broadcastInDim S1x4x4x1x128 ![1, 2, 3, 4] bcast_S4x4x1x128_S1x4x4x1x128_1_2_3_4 (shapeCast S4x4x1x128 (Host.reduceAdd (mulf (res_main_while0b_v124 V0) (V0 (Proc.devRef .tc main_v71_9))) (constant S_ .f32 0x00000000#32) reducesTo_S4x4x128x128_S4x4x128_d2 h_S_) shapeCasts_S4x4x128_S4x4x1x128) : (Proc.devRef .tc main_while0b_call14_v0 : DevRef τ sig).ty.Contents (Elt F)) = Cert.ReferenceIdeal.Step.b114 j s := by
  unfold Cert.ReferenceIdeal.Step.b114
  rw [← al_68 h]
  try rfl
set_option maxRecDepth 8192 in
theorem al_115 (h : Holds V0 s j) : (constantI S_ 32 0#32 : (Proc.devRef .tc main_while0b_call14_c : DevRef τ sig).ty.Contents (Elt F)) = Cert.ReferenceIdeal.Step.b115 j s := by
  unfold Cert.ReferenceIdeal.Step.b115
  rfl
set_option maxRecDepth 8192 in
theorem al_116 (h : Holds V0 s j) : (constantI S_ 32 0#32 : (Proc.devRef .tc main_while0b_call14_c_0 : DevRef τ sig).ty.Contents (Elt F)) = Cert.ReferenceIdeal.Step.b116 j s := by
  unfold Cert.ReferenceIdeal.Step.b116
  rfl
set_option maxRecDepth 8192 in
theorem al_117 (h : Holds V0 s j) : (constantI S_ 32 0#32 : (Proc.devRef .tc main_while0b_call14_c_1 : DevRef τ sig).ty.Contents (Elt F)) = Cert.ReferenceIdeal.Step.b117 j s := by
  unfold Cert.ReferenceIdeal.Step.b117
  rfl
set_option maxRecDepth 8192 in
theorem al_118 (h : Holds V0 s j) : (constantI S_ 32 0#32 : (Proc.devRef .tc main_while0b_call14_c_2 : DevRef τ sig).ty.Contents (Elt F)) = Cert.ReferenceIdeal.Step.b118 j s := by
  unfold Cert.ReferenceIdeal.Step.b118
  rfl
set_option maxRecDepth 8192 in
theorem al_119 (h : Holds V0 s j) : (Host.dynamicUpdateSlice (V0 (Proc.devRef .tc main_v71_15)) (broadcastInDim S1x4x4x1x128 ![1, 2, 3, 4] bcast_S4x4x1x128_S1x4x4x1x128_1_2_3_4 (shapeCast S4x4x1x128 (Host.reduceAdd (mulf (res_main_while0b_v124 V0) (V0 (Proc.devRef .tc main_v71_9))) (constant S_ .f32 0x00000000#32) reducesTo_S4x4x128x128_S4x4x128_d2 h_S_) shapeCasts_S4x4x128_S4x4x1x128)) (fun k => (((![res_main_while0b_v123 V0, constantI S_ 32 0#32, constantI S_ 32 0#32, constantI S_ 32 0#32, constantI S_ 32 0#32] : Fin 5 → (⟨S_, .i32⟩ : BufTy).Contents (Elt F))) k (Shape.Idx.first h_S_)).toInt) updateFits_S32x4x4x1x128_S1x4x4x1x128 : (Proc.devRef .tc main_while0b_v168 : DevRef τ sig).ty.Contents (Elt F)) = Cert.ReferenceIdeal.Step.b119 j s := by
  unfold Cert.ReferenceIdeal.Step.b119
  rw [← al_114 h, ← al_3 h, ← al_115 h, ← al_116 h, ← al_117 h, ← al_118 h, h.f_15]
  try rfl

/-! One trip's step of the carried values is `step`, field by field; a counter steps to the next number. -/

theorem step_9 (h : Holds V0 s j) : step_main_v71_9 V0 = (step j s).main_v71_9 := by
  unfold step_main_v71_9 Cert.ReferenceIdeal.Step.step
  exact al_82 h
theorem step_10 (h : Holds V0 s j) : step_main_v71_10 V0 = (step j s).main_v71_10 := by
  unfold step_main_v71_10 Cert.ReferenceIdeal.Step.step
  exact al_89 h
theorem step_11 (h : Holds V0 s j) : step_main_v71_11 V0 = (step j s).main_v71_11 := by
  unfold step_main_v71_11 Cert.ReferenceIdeal.Step.step
  exact al_95 h
theorem step_12 (h : Holds V0 s j) : step_main_v71_12 V0 = (step j s).main_v71_12 := by
  unfold step_main_v71_12 Cert.ReferenceIdeal.Step.step
  exact al_101 h
theorem step_13 (h : Holds V0 s j) : step_main_v71_13 V0 = (step j s).main_v71_13 := by
  unfold step_main_v71_13 Cert.ReferenceIdeal.Step.step
  exact al_107 h
theorem step_14 (h : Holds V0 s j) : step_main_v71_14 V0 = (step j s).main_v71_14 := by
  unfold step_main_v71_14 Cert.ReferenceIdeal.Step.step
  exact al_113 h
theorem step_15 (h : Holds V0 s j) : step_main_v71_15 V0 = (step j s).main_v71_15 := by
  unfold step_main_v71_15 Cert.ReferenceIdeal.Step.step
  exact al_119 h
theorem step_8 (h : Holds V0 s j) : step_main_v71_8 V0 = constantI S_ 32 (BitVec.ofNat 32 (j + 1)) := by
  unfold step_main_v71_8
  rw [h.n_8]
  funext i
  show BitVec.ofNat 32 j + 1#32 = BitVec.ofNat 32 (j + 1)
  simp only [BitVec.ofNat_add]

set_option maxRecDepth 8192 in
theorem out_main_v73_holds (h : Holds V0 s j) : out_main_v73 V0 = Cert.ReferenceIdeal.Step.R_main_v73 s := by
  unfold out_main_v73 Cert.ReferenceIdeal.Step.R_main_v73
  rw [h.f_10]
  try rfl

set_option maxRecDepth 8192 in
theorem out_main_v115_holds (h : Holds V0 s j) : out_main_v115 V0 = Cert.ReferenceIdeal.Step.R_main_v115 s := by
  unfold out_main_v115 Cert.ReferenceIdeal.Step.R_main_v115
  rw [h.f_11]
  try rfl

set_option maxRecDepth 8192 in
theorem out_main_v116_holds (h : Holds V0 s j) : out_main_v116 V0 = Cert.ReferenceIdeal.Step.R_main_v116 s := by
  unfold out_main_v116 Cert.ReferenceIdeal.Step.R_main_v116
  rw [h.f_12]
  try rfl

set_option maxRecDepth 8192 in
theorem out_main_v117_holds (h : Holds V0 s j) : out_main_v117 V0 = Cert.ReferenceIdeal.Step.R_main_v117 s := by
  unfold out_main_v117 Cert.ReferenceIdeal.Step.R_main_v117
  rw [h.f_13]
  try rfl

set_option maxRecDepth 8192 in
theorem out_main_v118_holds (h : Holds V0 s j) : out_main_v118 V0 = Cert.ReferenceIdeal.Step.R_main_v118 s := by
  unfold out_main_v118 Cert.ReferenceIdeal.Step.R_main_v118
  rw [h.f_14]
  try rfl

set_option maxRecDepth 8192 in
theorem out_main_v83_holds (h : Holds V0 s j) : out_main_v83 V0 = Cert.ReferenceIdeal.Step.R_main_v83 s := by
  unfold out_main_v83 Cert.ReferenceIdeal.Step.R_main_v83
  rw [h.f_15]
  try rfl

set_option maxRecDepth 8192 in
theorem out_main_v119_holds (h : Holds V0 s j) {x_main_arg7 : (⟨S128x4x64x128, .f32⟩ : BufTy).Contents (Elt F)} (h_main_arg7 : V0 (Proc.devRef .tc main_arg7) = x_main_arg7) {x_main_arg8 : (⟨S8192x512, .f32⟩ : BufTy).Contents (Elt F)} (h_main_arg8 : V0 (Proc.devRef .tc main_arg8) = x_main_arg8) {x_main_arg9 : (⟨S1x128, .f32⟩ : BufTy).Contents (Elt F)} (h_main_arg9 : V0 (Proc.devRef .tc main_arg9) = x_main_arg9) {x_main_arg10 : (⟨S8192x512, .f32⟩ : BufTy).Contents (Elt F)} (h_main_arg10 : V0 (Proc.devRef .tc main_arg10) = x_main_arg10) : out_main_v119 V0 = Cert.ReferenceIdeal.Step.R_main_v119 s x_main_arg7 x_main_arg8 x_main_arg9 x_main_arg10 := by
  unfold out_main_v119 Cert.ReferenceIdeal.Step.R_main_v119
  rw [h_main_arg7, h_main_arg8, h_main_arg9, h_main_arg10]
  try rfl

set_option maxRecDepth 8192 in
theorem out_main_v121_holds (h : Holds V0 s j) {x_main_arg7 : (⟨S128x4x64x128, .f32⟩ : BufTy).Contents (Elt F)} (h_main_arg7 : V0 (Proc.devRef .tc main_arg7) = x_main_arg7) {x_main_arg8 : (⟨S8192x512, .f32⟩ : BufTy).Contents (Elt F)} (h_main_arg8 : V0 (Proc.devRef .tc main_arg8) = x_main_arg8) {x_main_arg10 : (⟨S8192x512, .f32⟩ : BufTy).Contents (Elt F)} (h_main_arg10 : V0 (Proc.devRef .tc main_arg10) = x_main_arg10) : out_main_v121 V0 = Cert.ReferenceIdeal.Step.R_main_v121 s x_main_arg7 x_main_arg8 x_main_arg10 := by
  unfold out_main_v121 Cert.ReferenceIdeal.Step.R_main_v121
  rw [h_main_arg7, h_main_arg8, h_main_arg10]
  try rfl

/-- One trip keeps the valuation holding: `step` of the state, the same set-up values, the next number. -/
theorem holds_step (h : Holds V0 s j) : Holds (STEP V0) (step j s) (j + 1) where
  f_9 := (STEP_main_v71_9 V0).trans (step_9 h)
  f_10 := (STEP_main_v71_10 V0).trans (step_10 h)
  f_11 := (STEP_main_v71_11 V0).trans (step_11 h)
  f_12 := (STEP_main_v71_12 V0).trans (step_12 h)
  f_13 := (STEP_main_v71_13 V0).trans (step_13 h)
  f_14 := (STEP_main_v71_14 V0).trans (step_14 h)
  f_15 := (STEP_main_v71_15 V0).trans (step_15 h)
  n_8 := (STEP_main_v71_8 V0).trans (step_8 h)
  f_0 := (STEP_main_v71_0 V0).trans h.f_0
  f_1 := (STEP_main_v71_1 V0).trans h.f_1
  f_2 := (STEP_main_v71_2 V0).trans h.f_2
  f_3 := (STEP_main_v71_3 V0).trans h.f_3
  f_4 := (STEP_main_v71_4 V0).trans h.f_4
  f_5 := (STEP_main_v71_5 V0).trans h.f_5
  f_6 := (STEP_main_v71_6 V0).trans h.f_6
  f_7 := (STEP_main_v71_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v73) = Cert.ReferenceIdeal.Step.R_main_v73 (it c 32)
      ∧ r.2.mem ((c.tc : Thread nD τ).loc main_v115) = Cert.ReferenceIdeal.Step.R_main_v115 (it c 32)
      ∧ r.2.mem ((c.tc : Thread nD τ).loc main_v116) = Cert.ReferenceIdeal.Step.R_main_v116 (it c 32)
      ∧ r.2.mem ((c.tc : Thread nD τ).loc main_v117) = Cert.ReferenceIdeal.Step.R_main_v117 (it c 32)
      ∧ r.2.mem ((c.tc : Thread nD τ).loc main_v118) = Cert.ReferenceIdeal.Step.R_main_v118 (it c 32)
      ∧ r.2.mem ((c.tc : Thread nD τ).loc main_v83) = Cert.ReferenceIdeal.Step.R_main_v83 (it c 32)
      ∧ r.2.mem ((c.tc : Thread nD τ).loc main_v119) = Cert.ReferenceIdeal.Step.R_main_v119 (it c 32) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v121) = Cert.ReferenceIdeal.Step.R_main_v121 (it c 32) (m ((c.tc : Thread nD τ).loc main_arg7)) (m ((c.tc : Thread nD τ).loc main_arg8)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 32
    ⟨(h c).1.trans (out_main_v73_holds hk), (h c).2.1.trans (out_main_v115_holds hk), (h c).2.2.1.trans (out_main_v116_holds hk), (h c).2.2.2.1.trans (out_main_v117_holds hk), (h c).2.2.2.2.1.trans (out_main_v118_holds hk), (h c).2.2.2.2.2.1.trans (out_main_v83_holds hk), (h c).2.2.2.2.2.2.1.trans (out_main_v119_holds hk (iter_main_arg7 m c 32) (iter_main_arg8 m c 32) (iter_main_arg9 m c 32) (iter_main_arg10 m c 32)), (h c).2.2.2.2.2.2.2.1.trans (out_main_v121_holds hk (iter_main_arg7 m c 32) (iter_main_arg8 m c 32) (iter_main_arg10 m c 32)), (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2⟩) (Value.run m ρ)

end Cert.Recur.Run

end
-- ==== Proof.RecurClaim.lean ====
/- Both programs' results are the same arrays. -/
module

public import proofs.«01_k».proof.Defs
public import proofs.«01_k».proof.Proof.RecurNorm
public import proofs.«01_k».proof.Proof.RecurRun

@[expose] public section

set_option maxRecDepth 16384

noncomputable section

namespace Cert.Recur

open Idealize.ShloMosaic Idealize.ShloMosaic.TcCoe Idealize.SL.Sem
open Cert.KernelIdeal Cert.ReferenceIdeal.Step

section Results

variable (x : In)

theorem split4 {a b : ℕ} (i : (⟨4, ![128, 4, a, b]⟩ : Shape).Idx) : ∃ (s : Fin 4) (n : Fin 32) (h : Fin 4) (r : Fin a) (d : Fin b),
    i = ix4 (⟨s * 32 + n, by omega⟩ : Fin 128) h r d := by
  have h0 : (i 0 : ℕ) < 128 := (i 0).isLt
  refine ⟨⟨i 0 / 32, by omega⟩, ⟨i 0 % 32, by omega⟩, i 1, i 2, i 3, funext fun k => ?_⟩
  fin_cases k
  · exact Fin.ext (show (i 0 : ℕ) = i 0 / 32 * 32 + i 0 % 32 by omega)
  all_goals rfl

theorem ref_dz (s : State Ideal) : R_main_v119 s x.o x.z x.γ x.y = x.dz := by
  funext i
  have h0 : (i 0 : ℕ) < 8192 := (i 0).isLt
  have h1 : (i 1 : ℕ) < 512 := (i 1).isLt
  have e : i = ix2 (⟨i 0 / 64 * 64 + i 0 % 64, by omega⟩ : Fin 8192) (⟨i 1 / 128 * 128 + i 1 % 128, by omega⟩ : Fin 512) := by
    funext k
    fin_cases k
    · exact Fin.ext (show (i 0 : ℕ) = i 0 / 64 * 64 + i 0 % 64 by omega)
    · exact Fin.ext (show (i 1 : ℕ) = i 1 / 128 * 128 + i 1 % 128 by omega)
  rw [e]
  refine (dz_eq x ⟨i 0 / 64, by omega⟩ ⟨i 1 / 128, by omega⟩ ⟨i 0 % 64, by omega⟩ ⟨i 1 % 128, by omega⟩ s).trans ?_
  rw [← e]
  rfl

theorem ref_don (s : State Ideal) : R_main_v121 s x.o x.z x.y = x.don := by
  funext i
  obtain ⟨e, d, rfl⟩ : ∃ (e : Fin 8) (d : Fin 128), i = ix2 e d :=
    ⟨i 0, i 1, funext fun b => by fin_cases b <;> rfl⟩
  exact don_eq x e d s

variable (it : ℕ → State Ideal) (h0 : it 0 = x.init) (hs : ∀ n, it (n + 1) = step n (it n))

include h0 hs

theorem ref_du : R_main_v73 (F := Ideal) (it 32) = x.du := by
  funext i
  obtain ⟨s, n, h, r, d, rfl⟩ := split4 i
  refine (res_du x it h0 hs s n h r d).trans ?_
  have hb : ((s : ℕ) * 32 + n) / 32 = s := by omega
  have hm : ((s : ℕ) * 32 + n) % 32 = n := by omega
  show _ = (x.chunk ⟨s * 32 + n, _⟩ h).dnew (x.behind ⟨(s * 32 + n) / 32, _⟩ h ⟨(s * 32 + n) % 32, _⟩) r d
  simp only [hb, hm]

theorem ref_dw : R_main_v115 (F := Ideal) (it 32) = x.dw := by
  funext i
  obtain ⟨s, n, h, r, d, rfl⟩ := split4 i
  refine (res_dw x it h0 hs s n h r d).trans ?_
  have hb : ((s : ℕ) * 32 + n) / 32 = s := by omega
  have hm : ((s : ℕ) * 32 + n) % 32 = n := by omega
  show _ = (x.chunk ⟨s * 32 + n, _⟩ h).dw (x.behind ⟨(s * 32 + n) / 32, _⟩ h ⟨(s * 32 + n) % 32, _⟩) r d
  simp only [hb, hm]

theorem ref_dq : R_main_v116 (F := Ideal) (it 32) = x.dq := by
  funext i
  obtain ⟨s, n, h, r, d, rfl⟩ := split4 i
  refine (res_dq x it h0 hs s n h r d).trans ?_
  rfl

theorem ref_dk : R_main_v117 (F := Ideal) (it 32) = x.dk := by
  funext i
  obtain ⟨s, n, h, r, d, rfl⟩ := split4 i
  refine (res_dk x it h0 hs s n h r d).trans ?_
  have hb : ((s : ℕ) * 32 + n) / 32 = s := by omega
  have hm : ((s : ℕ) * 32 + n) % 32 = n := by omega
  show _ = (x.chunk ⟨s * 32 + n, _⟩ h).dk (x.behind ⟨(s * 32 + n) / 32, _⟩ h ⟨(s * 32 + n) % 32, _⟩) r d
  simp only [hb, hm]

theorem ref_da : R_main_v118 (F := Ideal) (it 32) = x.da := by
  funext i
  obtain ⟨s, n, h, r, d, rfl⟩ := split4 i
  refine (res_da x it h0 hs s n h r d).trans ?_
  rfl

theorem ref_dl : R_main_v83 (F := Ideal) (it 32) = x.dl := by
  funext i
  obtain ⟨s, n, h, r, d, rfl⟩ := split4 i
  obtain rfl : r = 0 := Subsingleton.elim _ _
  refine (res_dl x it h0 hs s n h d).trans ?_
  have hb : ((s : ℕ) * 32 + n) / 32 = s := by omega
  have hm : ((s : ℕ) * 32 + n) % 32 = n := by omega
  show _ = (x.chunk ⟨s * 32 + n, _⟩ h).dl (x.behind ⟨(s * 32 + n) / 32, _⟩ h ⟨(s * 32 + n) % 32, _⟩) d
  simp only [hb, hm]

end Results

/-- The reference's states, trip by trip. -/
def states (x : In) : ℕ → State Ideal
  | 0 => x.init
  | n + 1 => step n (states x n)

theorem algebraic : Cert.algebraic_KernelIdeal_ReferenceIdeal (hKernelIdeal := Cert.KernelIdeal.Gen.facts)
    (hReferenceIdeal := Cert.ReferenceIdeal.Gen.facts) := by
  intro m g m' g' _ hag
  have hK := Cert.KernelIdeal.Value.run_blocks m g
  have hi (c : Dev nD) : Run.initState m' c = (args m c).init := by
    obtain ⟨a0, a1, a2, a3, a4, a5, a6, a7, a8, a9, a10⟩ := hag c
    show Cert.ReferenceIdeal.Step.init _ _ _ _ _ _ _ _ _ _ _ = Cert.ReferenceIdeal.Step.init _ _ _ _ _ _ _ _ _ _ _
    rw [a0, a1, a2, a3, a4, a5, a6, a7, a8, a9, a10]
    rfl
  have hR := Cert.Recur.Run.run_iter m' g' (fun c => states (args m c)) (fun c => (hi c).symm) (fun c n => rfl)
  refine ⟨fun c => (args m c).du, fun c => (args m c).dw, fun c => (args m c).dq, fun c => (args m c).dk,
    fun c => (args m c).da, fun c => (args m c).dl, fun c => (args m c).dz, fun c => (args m c).don, ?_, ?_⟩
  · refine (θ_run _ _ _).mono (fun r h c => ?_) hK
    obtain ⟨r0, r1, r2, r3, r4, r5, r6, r7, rest⟩ := h c
    exact ⟨r0.trans (array11 m c), r1.trans (array12 m c), r2.trans (array13 m c), r3.trans (array14 m c),
      r4.trans (array15 m c), r5.trans (array16 m c), r6.trans (array17 m c), r7.trans (array18 m c), rest⟩
  · refine (θ_run _ _ _).mono (fun r h c => ?_) hR
    obtain ⟨a0, a1, a2, a3, a4, a5, a6, a7, a8, a9, a10⟩ := hag c
    obtain ⟨r0, r1, r2, r3, r4, r5, r6, r7, rest⟩ := h c
    rw [a7, a8, a9, a10] at r6
    rw [a7, a8, a10] at r7
    exact ⟨r0.trans (ref_du _ _ rfl fun _ => rfl), r1.trans (ref_dw _ _ rfl fun _ => rfl),
      r2.trans (ref_dq _ _ rfl fun _ => rfl), r3.trans (ref_dk _ _ rfl fun _ => rfl),
      r4.trans (ref_da _ _ rfl fun _ => rfl), r5.trans (ref_dl _ _ rfl fun _ => rfl),
      r6.trans (ref_dz (args m c) _), r7.trans (ref_don (args m c) _), rest⟩

end Cert.Recur

end
-- ==== Proof.Wgrad.lean ====
/- The weight's gradient: what the kernel's tiles add up to. -/
module

public import proofs.«01_k».proof.Proof.Gen.Kernel2Ideal.Value
public import Idealize.ShloMosaic.Lib.Pointwise
public import Idealize.ShloMosaic.Lib.Pipeline.Value
public import Idealize.ShloMosaic.Lib.Pipeline.ValueKit.Point
public import Idealize.ShloMosaic.Lib.Pipeline.ValueKit.Acc
public import Idealize.ShloMosaic.Lib.WholeRead

@[expose] public section

set_option maxRecDepth 16384

noncomputable section

namespace Cert.Wgrad

open Idealize.ShloMosaic Idealize.ShloMosaic.TcCoe Idealize.SL.Sem Idealize.ShloMosaic.Pipeline
open Cert.Kernel2Ideal Cert.Kernel2Ideal.Gen

/-- The product `xᵀ dy` of the whole arrays. -/
def product (x : S8192x2816.Idx → EReal) (y : S8192x1024.Idx → EReal) : S2816x1024.Idx → EReal := fun i =>
  ∑ k : Fin 8192, x (ix2 k (i 0)) * y (ix2 k (i 1))

theorem pay1_apply (r : Fin 1408) (d : Fin 1024) : k0_pay1 (F := Ideal) (ix2 r d) = 0 := by
  pointwise! [k0_pay1]

theorem pay2_apply (acc : Vec Ideal S1408x1024 .f32) (x : Vec Ideal S2048x1408 .bf16) (y : Vec Ideal S2048x1024 .bf16)
    (r : Fin 1408) (d : Fin 1024) :
    k0_pay2 (F := Ideal) acc x y (ix2 r d) = acc (ix2 r d) + ∑ k : Fin 2048, (x (ix2 k r) : EReal) * y (ix2 k d) := by
  pointwise! [k0_pay2, zero_add]

theorem pay3_eq (acc : Vec Ideal S1408x1024 .f32) : k0_pay3 (F := Ideal) acc = acc := by
  funext i
  idx_vars i
  pointwise! [k0_pay3]

variable (m : (ℓ : Loc nD τ sig) → Buf (Elt Ideal) ℓ) (c : Dev nD)

abbrev xs : S8192x2816.Idx → EReal := m ((c : Thread nD τ).loc main_arg0)
abbrev ys : S8192x1024.Idx → EReal := m ((c : Thread nD τ).loc main_arg1)

variable (t : Fin cfg0.N)

theorem lt_points : t.val < 8 := t.isLt

theorem idx0 : ∀ t : Fin cfg0.N, win0_0.index t = ![t.val % 4, t.val / 4] :=
  (by decide +kernel : ∀ t : Fin grid0.N, win0_0.index t = ![t.val % 4, t.val / 4])
theorem idx1 : ∀ t : Fin cfg0.N, win0_1.index t = ![t.val % 4, 0] :=
  (by decide +kernel : ∀ t : Fin grid0.N, win0_1.index t = ![t.val % 4, 0])
theorem idx2 : ∀ t : Fin cfg0.N, win0_2.index t = ![t.val / 4, 0] :=
  (by decide +kernel : ∀ t : Fin grid0.N, win0_2.index t = ![t.val / 4, 0])

theorem at0 (k : Fin 2048) (r : Fin 1408) : iblk m c 0 t (ix2 k r)
    = xs m c (ix2 (⟨t.val % 4 * 2048 + k, by omega⟩ : Fin 8192) (⟨t.val / 4 * 1408 + r, by have := lt_points t; omega⟩ : Fin 2816)) := by
  blk_ext [iblk, V, idx0 t]

theorem at1 (k : Fin 2048) (d : Fin 1024) : iblk m c 1 t (ix2 k d)
    = ys m c (ix2 (⟨t.val % 4 * 2048 + k, by omega⟩ : Fin 8192) d) := by
  blk_ext [iblk, V, idx1 t]

/-- What point `t` adds to the accumulator. -/
def adds (p : Fin 1408 × Fin 1024) : EReal :=
  ∑ k : Fin 2048, xs m c (ix2 (⟨t.val % 4 * 2048 + k, by omega⟩ : Fin 8192) (⟨t.val / 4 * 1408 + p.1, by have := lt_points t; omega⟩ : Fin 2816))
    * ys m c (ix2 (⟨t.val % 4 * 2048 + k, by omega⟩ : Fin 8192) p.2)

/-- The accumulator after the `n`th point. -/
def holds (n : ℕ) (hn : n < cfg0.N) (p : Fin 1408 × Fin 1024) : EReal := (outsAt0 m c n hn).2 (ix2 p.1 p.2)

theorem holds_first (h0 : t.val % 4 = 0) (p : Fin 1408 × Fin 1024) : holds m c t.val t.isLt p = 0 + adds m c t p := by
  rw [holds, outsAt0_A m c t h0 (by omega)]
  frame_out
  refine (pay2_apply _ _ _ _ _).trans ?_
  simp only [at0, at1, adds]
  rw [pay1_apply]

theorem holds_next (h0 : ¬t.val % 4 = 0) (p : Fin 1408 × Fin 1024) : holds m c t.val t.isLt p
    = holds m c (t.val - 1) (Nat.lt_of_le_of_lt (Nat.sub_le _ _) t.isLt) p + adds m c t p := by
  by_cases h1 : t.val % 4 = 3
  · rw [holds, outsAt0_C m c t h0 h1]
    frame_out
    refine (pay2_apply _ _ _ _ _).trans ?_
    simp only [at0, at1, adds, holds]
    exact congrArg₂ (· + ·) (congrFun (Memref.IsWhole.read_unread _ _) _) rfl
  · rw [holds, outsAt0_B m c t h0 h1]
    frame_out
    refine (pay2_apply _ _ _ _ _).trans ?_
    simp only [at0, at1, adds, holds]
    exact congrArg₂ (· + ·) (congrFun (Memref.IsWhole.read_unread _ _) _) rfl

theorem left_last (h1 : t.val % 4 = 3) : (outsAt0 m c t.val t.isLt).1 = (outsAt0 m c t.val t.isLt).2 := by
  rw [outsAt0_C m c t (by omega) h1]
  dsimp only
  frame_out
  exact pay3_eq _

/-- A sum over `4 * 2048` tokens, tile by tile. -/
theorem sum_tiles (f : Fin 8192 → EReal) : ∑ s : Fin 4, ∑ k : Fin 2048, f ⟨s * 2048 + k, by omega⟩ = ∑ k : Fin 8192, f k := by
  rw [← Fintype.sum_prod_type', ← Equiv.sum_comp (finProdFinEquiv (m := 4) (n := 2048))]
  refine Finset.sum_congr rfl fun p _ => congrArg f (Fin.ext ?_)
  show (p.1 : ℕ) * 2048 + p.2 = p.2 + 2048 * p.1
  omega

theorem holds_last (h1 : t.val % 4 = 3) (p : Fin 1408 × Fin 1024) : holds m c t.val t.isLt p
    = product (xs m c) (ys m c) (ix2 (⟨t.val / 4 * 1408 + p.1, by have := lt_points t; omega⟩ : Fin 2816) p.2) := by
  refine (eq_sum_fin_of_reset_step_apply_of_flush (holds m c) 4 (fun _ => 0) (adds m c) (fun t h p => holds_first m c t h p)
    (fun t h p => holds_next m c t h p) t h1 p).trans ?_
  rw [zero_add]
  refine Eq.trans ?_ (sum_tiles _)
  refine Finset.sum_congr rfl fun s _ => ?_
  have h2 : (4 * (t.val / 4) + s.val) % 4 = s := by omega
  have h3 : (4 * (t.val / 4) + s.val) / 4 = t.val / 4 := by omega
  simp only [adds, h2, h3]
  rfl

theorem array2 : (dats m 0 c).arrAt 2 cfg0.N = product (xs m c) (ys m c) := by
  refine (dats m 0 c).arrAt_eq_of_covers 2 _ (by decide +kernel) fun t hf y => ?_
  have h1 : t.val % 4 = 3 := (flush0_2 t).mp hf
  blk_simp
  rw [after0_2, left_last m c t h1]
  obtain ⟨r, d, rfl⟩ : ∃ (r : Fin 1408) (d : Fin 1024), y = ix2 r d := ⟨y 0, y 1, funext fun b => by fin_cases b <;> rfl⟩
  refine (holds_last m c t h1 (r, d)).trans ?_
  blk_ext [idx2 t]

end Cert.Wgrad

end
-- ==== Proof.WgradClaim.lean ====
/- The weight's gradient: the reference's product, and that both programs leave it. -/
module

public import proofs.«01_k».proof.Defs
public import proofs.«01_k».proof.Proof.Wgrad
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Wgrad

open Idealize.ShloMosaic Idealize.ShloMosaic.TcCoe Idealize.SL.Sem
open Cert.Kernel2Ideal Cert.Kernel2Ideal.Gen

theorem reference_eq (x : S8192x2816.Idx → EReal) (y : S8192x1024.Idx → EReal) :
    Cert.Reference2Ideal.Read.val_main_v6 (F := Ideal) x y = product x y := by
  funext i
  obtain ⟨r, d, rfl⟩ : ∃ (r : Fin 2816) (d : Fin 1024), i = ix2 r d := ⟨i 0, i 1, funext fun b => by fin_cases b <;> rfl⟩
  refine (Cert.Reference2Ideal.Read.val_main_v5_apply (F := Ideal) x y _).trans ?_
  refine (Cert.Reference2Ideal.Read.val_main_v4_apply x y _).trans ?_
  refine Finset.sum_congr rfl fun k _ => ?_
  refine (mul_comm _ _).trans (congrArg₂ (· * ·) ?_ ?_)
  · exact congrArg x (funext fun b => by fin_cases b <;> rfl)
  · exact congrArg y (funext fun b => by fin_cases b <;> rfl)

theorem algebraic : Cert.algebraic_Kernel2Ideal_Reference2Ideal (hKernel2Ideal := Cert.Kernel2Ideal.Gen.facts)
    (hReference2Ideal := Cert.Reference2Ideal.Gen.facts) := by
  intro m g m' g' _ hag
  have hK := Cert.Kernel2Ideal.Value.run_blocks m g
  have hR := Cert.Reference2Ideal.Value.run (F := Ideal) m' g'
  refine ⟨fun c => product (xs m c) (ys m c), ?_, ?_⟩
  · refine (θ_run _ _ _).mono (fun r h c => ?_) hK
    obtain ⟨r0, rest⟩ := h c
    exact ⟨r0.trans (array2 m c), rest⟩
  · refine (θ_run _ _ _).mono (fun r h c => ?_) hR
    obtain ⟨a0, a1, a2⟩ := hag c
    obtain ⟨r0, rest⟩ := h c
    rw [a0, a1] at r0
    exact ⟨r0.trans ((Cert.Reference2Ideal.Read.val_main_v6_eq _ _).trans (reference_eq _ _)), rest⟩

end Cert.Wgrad

end
-- ==== Proof.HalfSpec.lean ====
/- The half block `h + 0.5 swiglu(rmsnorm(h))` on one token, written plainly. -/
module

public import Idealize.ShloMosaic.Lib.Pointwise

@[expose] public section

noncomputable section

namespace Cert.Half

open Idealize.ShloMosaic

/-- A weight of 2816 rows, stored as 8 slices of 352. -/
def rows (w : (⟨3, ![8, 352, 1024]⟩ : Shape).Idx → EReal) (f : Fin 2816) (d : Fin 1024) : EReal :=
  w (ix3 (⟨f / 352, by omega⟩ : Fin 8) (⟨f % 352, by omega⟩ : Fin 352) d)

/-- The mean square, with the norm's epsilon. -/
def ms (h : Fin 1024 → EReal) : EReal :=
  Ideal.div (∑ d, h d * h d) (Ideal.ofBits .f32 0x44800000#32) + Ideal.ofBits .f32 0x358637BD#32

/-- The normalised token. -/
def norm (h γ : Fin 1024 → EReal) (d : Fin 1024) : EReal := h d * Ideal.rsqrt (ms h) * γ d

/-- An inner product of the normalised token, with a weight given by its columns. -/
def inner (h γ : Fin 1024 → EReal) (w : Fin 2816 → Fin 1024 → EReal) (f : Fin 2816) : EReal :=
  ∑ d, norm h γ d * w f d

/-- The gated product. -/
def gated (g u : EReal) : EReal := g * Ideal.logistic g * u

/-- The half block's output. -/
def out (h γ : Fin 1024 → EReal) (wg wu wd : Fin 2816 → Fin 1024 → EReal) (d : Fin 1024) : EReal :=
  h d + Ideal.ofBits .f32 0x3F000000#32 * ∑ f, gated (inner h γ wg f) (inner h γ wu f) * wd f d

end Cert.Half

end
-- ==== Proof.HalfFwd.lean ====
/- The half block's forward kernel: its tiles' values, and its result arrays. -/
module

public import proofs.«01_k».proof.Proof.HalfSpec
public import proofs.«01_k».proof.Proof.Gen.Kernel3Ideal.Value
public import Idealize.ShloMosaic.Lib.Pipeline.Value
public import Idealize.ShloMosaic.Lib.Pipeline.ValueKit.Point
public import Idealize.ShloMosaic.Lib.Pipeline.ValueKit.Acc
public import Idealize.ShloMosaic.Lib.WholeRead

@[expose] public section

set_option maxRecDepth 16384

noncomputable section

namespace Cert.Half

open Idealize.ShloMosaic Idealize.ShloMosaic.TcCoe Idealize.SL.Sem Idealize.ShloMosaic.Pipeline
open Cert.Kernel3Ideal Cert.Kernel3Ideal.Gen

variable (h : Vec Ideal S512x1024 .f32) (γ : Vec Ideal S1x1024 .f32) (wg wu wd : Vec Ideal S8x352x1024 .bf16)

abbrev tok (r : Fin 512) : Fin 1024 → EReal := fun d => h (ix2 r d)
abbrev lane : Fin 1024 → EReal := fun d => γ (ix2 0 d)

theorem pay2_apply (r : Fin 512) (d : Fin 1024) : k0_pay2 (F := Ideal) h γ (ix2 r d) = norm (tok h r) (lane γ) d := by
  pointwise! [k0_pay2, norm, ms, zero_add]

theorem pay3_apply (r : Fin 512) (f : Fin 2816) : k0_pay3 (F := Ideal) h γ wg (ix2 r f) = inner (tok h r) (lane γ) (rows wg) f := by
  pointwise! [k0_pay3, pay2_apply, zero_add, inner, rows, Nat.div_add_mod']

theorem pay4_apply (r : Fin 512) (f : Fin 2816) : k0_pay4 (F := Ideal) h γ wu (ix2 r f) = inner (tok h r) (lane γ) (rows wu) f := by
  pointwise! [k0_pay4, pay2_apply, zero_add, inner, rows, Nat.div_add_mod']

theorem pay5_apply (r : Fin 512) (d : Fin 1024) : k0_pay5 (F := Ideal) h γ wg wu wd (ix2 r d)
    = out (tok h r) (lane γ) (rows wg) (rows wu) (rows wd) d := by
  pointwise! [k0_pay5, pay3_apply, pay4_apply, zero_add, out, gated, rows, Nat.div_add_mod']

theorem pay6_apply (r : Fin 512) (f : Fin 2816) : k0_pay6 (F := Ideal) h γ wg (ix2 r f) = inner (tok h r) (lane γ) (rows wg) f := by
  pointwise! [k0_pay6, pay3_apply]

theorem pay1_apply (r : Fin 512) (f : Fin 2816) : k0_pay1 (F := Ideal) (k0_pay4 (F := Ideal) h γ wu) (ix2 r f)
    = inner (tok h r) (lane γ) (rows wu) f := by
  pointwise! [k0_pay1, pay4_apply]

section Arrays

variable (m : (ℓ : Loc nD τ sig) → Buf (Elt Ideal) ℓ) (c : Dev nD)

abbrev hs : S8192x1024.Idx → EReal := m ((c : Thread nD τ).loc main_arg0)
abbrev γs : S1x1024.Idx → EReal := m ((c : Thread nD τ).loc main_arg1)
abbrev wgs : S8x352x1024.Idx → EReal := m ((c : Thread nD τ).loc main_arg2)
abbrev wus : S8x352x1024.Idx → EReal := m ((c : Thread nD τ).loc main_arg3)
abbrev wds : S8x352x1024.Idx → EReal := m ((c : Thread nD τ).loc main_arg4)

/-- The half block's output on every token. -/
def outs (h : S8192x1024.Idx → EReal) (γ : S1x1024.Idx → EReal) (wg wu wd : S8x352x1024.Idx → EReal) : S8192x1024.Idx → EReal :=
  fun i => out (fun d => h (ix2 (i 0) d)) (fun d => γ (ix2 0 d)) (rows wg) (rows wu) (rows wd) (i 1)

/-- An inner product on every token. -/
def inners (h : S8192x1024.Idx → EReal) (γ : S1x1024.Idx → EReal) (w : S8x352x1024.Idx → EReal) : S8192x2816.Idx → EReal :=
  fun i => inner (fun d => h (ix2 (i 0) d)) (fun d => γ (ix2 0 d)) (rows w) (i 1)

variable (t : Fin cfg0.N)

theorem lt_points : t.val < 16 := t.isLt

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0, 0] :=
  (by decide +kernel : ∀ t : Fin grid0.N, win0_2.index t = ![0, 0, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![0, 0, 0] :=
  (by decide +kernel : ∀ t : Fin grid0.N, win0_4.index t = ![0, 0, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

theorem at0_apply (r : Fin 512) (d : Fin 1024) : iblk m c 0 t (ix2 r d)
    = hs m c (ix2 (⟨t.val * 512 + r, by have := lt_points t; omega⟩ : Fin 8192) d) := by
  blk_ext [iblk, V, idx0 t]
theorem at0 (r : Fin 512) : tok (iblk m c 0 t) r
    = fun d => hs m c (ix2 (⟨t.val * 512 + r, by have := lt_points t; omega⟩ : Fin 8192) d) :=
  funext fun d => at0_apply m c t r d
theorem at1_apply (d : Fin 1024) : iblk m c 1 t (ix2 0 d) = γs m c (ix2 0 d) := by
  blk_ext [iblk, V, idx1 t]
theorem at1 : lane (iblk m c 1 t) = fun d => γs m c (ix2 0 d) := funext fun d => at1_apply m c t d
theorem at2 : iblk m c 2 t = wgs m c := by
  funext i
  idx_vars i
  blk_ext [iblk, V, idx2 t]
theorem at3 : iblk m c 3 t = wus m c := by
  funext i
  idx_vars i
  blk_ext [iblk, V, idx3 t]
theorem at4 : iblk m c 4 t = wds m c := by
  funext i
  idx_vars i
  blk_ext [iblk, V, idx4 t]

theorem point5 (r : Fin 512) (d : Fin 1024) :
    out0_5 (F := Ideal) (iblk m c 0 t) (iblk m c 1 t) (iblk m c 2 t) (iblk m c 3 t) (iblk m c 4 t) (ix2 r d)
    = outs (hs m c) (γs m c) (wgs m c) (wus m c) (wds m c) (ix2 (⟨t.val * 512 + r, by have := lt_points t; omega⟩ : Fin 8192) d) := by
  rw [at2, at3, at4]
  frame_out
  refine (pay5_apply _ _ _ _ _ r d).trans ?_
  rw [at0, at1]
  rfl

theorem array5 : (dats m 0 c).arrAt 5 cfg0.N = outs (hs m c) (γs m c) (wgs m c) (wus m c) (wds m c) := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, funext fun b => by fin_cases b <;> rfl⟩
  refine (point5 m c t r d).trans ?_
  blk_ext [idx5 t]

theorem point6 (r : Fin 512) (f : Fin 2816) :
    out0_6 (F := Ideal) (iblk m c 0 t) (iblk m c 1 t) (iblk m c 2 t) (iblk m c 3 t) (iblk m c 4 t) (ix2 r f)
    = inners (hs m c) (γs m c) (wgs m c) (ix2 (⟨t.val * 512 + r, by have := lt_points t; omega⟩ : Fin 8192) f) := by
  rw [at2]
  frame_out
  refine (pay6_apply _ _ _ r f).trans ?_
  rw [at0, at1]
  rfl

theorem array6 : (dats m 0 c).arrAt 6 cfg0.N = inners (hs m c) (γs m c) (wgs m c) := by
  refine (dats m 0 c).arrAt_eq_of_covers 6 _ (by decide +kernel) fun t hf y => ?_
  blk_simp
  rw [after0_6]
  obtain ⟨r, d, rfl⟩ : ∃ (r : Fin 512) (d : Fin 2816), y = ix2 r d := ⟨y 0, y 1, funext fun b => by fin_cases b <;> rfl⟩
  refine (point6 m c t r d).trans ?_
  blk_ext [idx6 t]

theorem point7 (r : Fin 512) (f : Fin 2816) :
    out0_7 (F := Ideal) (iblk m c 0 t) (iblk m c 1 t) (iblk m c 2 t) (iblk m c 3 t) (iblk m c 4 t) (ix2 r f)
    = inners (hs m c) (γs m c) (wus m c) (ix2 (⟨t.val * 512 + r, by have := lt_points t; omega⟩ : Fin 8192) f) := by
  rw [at3]
  frame_out
  refine (pay1_apply _ _ _ r f).trans ?_
  rw [at0, at1]
  rfl

theorem array7 : (dats m 0 c).arrAt 7 cfg0.N = inners (hs m c) (γs m c) (wus m c) := by
  refine (dats m 0 c).arrAt_eq_of_covers 7 _ (by decide +kernel) fun t hf y => ?_
  blk_simp
  rw [after0_7]
  obtain ⟨r, d, rfl⟩ : ∃ (r : Fin 512) (d : Fin 2816), y = ix2 r d := ⟨y 0, y 1, funext fun b => by fin_cases b <;> rfl⟩
  refine (point7 m c t r d).trans ?_
  blk_ext [idx7 t]

end Arrays

end Cert.Half

end
-- ==== Proof.HalfFwdRef.lean ====
/- The half block's forward reference, and that both programs' results are the same arrays. -/
module

public import proofs.«01_k».proof.Defs
public import proofs.«01_k».proof.Proof.HalfFwd
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.Half

open Idealize.ShloMosaic Idealize.ShloMosaic.TcCoe Idealize.SL.Sem
open Cert.Reference3Ideal Cert.Reference3Ideal.Read

section Reference

variable (h : S8192x1024.Idx → EReal) (γ : S1x1024.Idx → EReal) (wg wu wd : S8x352x1024.Idx → EReal)

theorem ref_norm (t : Fin 8192) (d : Fin 1024) : val_main_v21 (F := Ideal) h γ (ix2 t d)
    = norm (fun d => h (ix2 t d)) (fun d => γ (ix2 0 d)) d := by
  pointwise! [val_main_v21, val_main_v20, val_main_v19, val_main_v18, val_main_v17, val_main_v16, val_main_v15, val_main_v14,
    val_main_v13, val_main_v12, val_main_v11, val_main_v10, val_main_v9, val_main_v8, val_main_cst, val_main_cst_0, val_main_cst_1,
    norm, ms, zero_add]

theorem ref_gate (t : Fin 8192) (f : Fin 2816) : val_main_v22 (F := Ideal) h γ wg (ix2 t f)
    = inner (fun d => h (ix2 t d)) (fun d => γ (ix2 0 d)) (rows wg) f := by
  pointwise! [val_main_v22, ref_norm, val_main_v2, val_main_v1, val_main_v0, inner, rows, Nat.div_add_mod']

theorem ref_up (t : Fin 8192) (f : Fin 2816) : val_main_v23 (F := Ideal) h γ wu (ix2 t f)
    = inner (fun d => h (ix2 t d)) (fun d => γ (ix2 0 d)) (rows wu) f := by
  pointwise! [val_main_v23, ref_norm, val_main_v5, val_main_v4, val_main_v3, inner, rows, Nat.div_add_mod']

theorem ref_gated (t : Fin 8192) (f : Fin 2816) : val_main_v25 (F := Ideal) h γ wg wu (ix2 t f)
    = gated (inner (fun d => h (ix2 t d)) (fun d => γ (ix2 0 d)) (rows wg) f) (inner (fun d => h (ix2 t d)) (fun d => γ (ix2 0 d)) (rows wu) f) := by
  pointwise! [val_main_v25, val_main_v24, ref_gate, ref_up, val_main_call0_v5, val_main_call0_v4, val_main_call0_v3, val_main_call0_v2,
    val_main_call0_v1, val_main_call0_v0, val_main_call0_cst, val_main_call0_cst_0, gated, Ideal.logistic]

theorem ref_out : val_main_v29 (F := Ideal) h γ wg wu wd = outs h γ wg wu wd := by
  funext i
  obtain ⟨t, d, rfl⟩ : ∃ (t : Fin 8192) (d : Fin 1024), i = ix2 t d := ⟨i 0, i 1, funext fun b => by fin_cases b <;> rfl⟩
  pointwise! [val_main_v29, val_main_v28, val_main_v27, val_main_cst_2, val_main_v26, ref_gated, val_main_v7, val_main_v6, outs, out, rows, Nat.div_add_mod']

theorem ref_g : val_main_v30 (F := Ideal) h γ wg = inners h γ wg := by
  funext i
  obtain ⟨t, d, rfl⟩ : ∃ (t : Fin 8192) (d : Fin 2816), i = ix2 t d := ⟨i 0, i 1, funext fun b => by fin_cases b <;> rfl⟩
  pointwise! [val_main_v30, ref_gate, inners]

theorem ref_u : val_main_v31 (F := Ideal) h γ wu = inners h γ wu := by
  funext i
  obtain ⟨t, d, rfl⟩ : ∃ (t : Fin 8192) (d : Fin 2816), i = ix2 t d := ⟨i 0, i 1, funext fun b => by fin_cases b <;> rfl⟩
  pointwise! [val_main_v31, ref_up, inners]

end Reference

theorem algebraic : Cert.algebraic_Kernel3Ideal_Reference3Ideal (hKernel3Ideal := Cert.Kernel3Ideal.Gen.facts)
    (hReference3Ideal := Cert.Reference3Ideal.Gen.facts) := by
  intro m g m' g' _ hag
  have hK := Cert.Kernel3Ideal.Value.run_blocks m g
  have hR := Cert.Reference3Ideal.Value.run (F := Ideal) m' g'
  refine ⟨fun c => outs (hs m c) (γs m c) (wgs m c) (wus m c) (wds m c), fun c => inners (hs m c) (γs m c) (wgs m c),
    fun c => inners (hs m c) (γs m c) (wus m c), ?_, ?_⟩
  · refine (θ_run _ _ _).mono (fun r h c => ?_) hK
    obtain ⟨r0, r1, r2, rest⟩ := h c
    exact ⟨r0.trans (array5 m c), r1.trans (array6 m c), r2.trans (array7 m c), rest⟩
  · refine (θ_run _ _ _).mono (fun r h c => ?_) hR
    obtain ⟨a0, a1, a2, a3, a4⟩ := hag c
    obtain ⟨r0, r1, r2, rest⟩ := h c
    rw [a0, a1, a2, a3, a4] at r0
    rw [a0, a1, a2] at r1
    rw [a0, a1, a3] at r2
    exact ⟨r0.trans ((val_main_v29_eq _ _ _ _ _).trans (ref_out _ _ _ _ _)), r1.trans ((val_main_v30_eq _ _ _).trans (ref_g _ _ _)),
      r2.trans ((val_main_v31_eq _ _ _).trans (ref_u _ _ _)), rest⟩

end Cert.Half

end
-- ==== Proof.BackSpec.lean ====
/- The backward pass of the half block `h + 0.5 swiglu(rmsnorm(h))` on one token: the derivative by the chain rule, and
   the same derivative with its factors gathered, equal to it where every argument is finite. -/
module

public import proofs.«01_k».proof.Proof.HalfSpec

@[expose] public section

noncomputable section

namespace Cert.HalfBack

open Idealize.ShloMosaic Cert.Half

/-- The gradient of the block's inner branch: half the output's. -/
def dy (o : Fin 1024 → EReal) (d : Fin 1024) : EReal := Ideal.ofBits .f32 0x3F000000#32 * o d

/-- The gradient of the gated product. -/
def dact (o : Fin 1024 → EReal) (wd : Fin 2816 → Fin 1024 → EReal) (f : Fin 2816) : EReal := ∑ d, dy o d * wd f d

/-- The gradient of the second factor of the gated product. -/
def dup (a g : EReal) : EReal := a * (g * Ideal.logistic g)

/-- The gradient of the gate, by the product rule on `g * logistic g`. -/
def dgate (a g u : EReal) : EReal :=
  a * u * Ideal.logistic g + g * (a * u) * (Ideal.logistic g * (1 - Ideal.logistic g))

/-- The gradient of the gate, with the derivative of `g * logistic g` gathered. -/
def dgate' (a g u : EReal) : EReal :=
  a * u * (Ideal.logistic g * (1 + g * (1 - Ideal.logistic g)))

/-- The gradient of the normalised token. -/
def dx (dg du : Fin 2816 → EReal) (wg wu : Fin 2816 → Fin 1024 → EReal) (d : Fin 1024) : EReal :=
  ∑ f, dg f * wg f d + ∑ f, du f * wu f d

/-- The token over its root mean square. -/
def hat (h : Fin 1024 → EReal) (d : Fin 1024) : EReal := h d * Ideal.rsqrt (ms h)

/-- The gradient of the mean square, as `d (1/√m) = -1/2 · (1/√m)/m`, spread over the token's 1024 squares. -/
def dms (h e : Fin 1024 → EReal) : EReal :=
  Ideal.div ((∑ d, h d * e d) * (Ideal.ofBits .f32 0xBF000000#32 * Ideal.div (Ideal.rsqrt (ms h)) (ms h)))
    (Ideal.ofBits .f32 0x44800000#32)

/-- The token's gradient: what passes the norm by, its scale, and twice its share of the mean square's. -/
def dh (h o e : Fin 1024 → EReal) (d : Fin 1024) : EReal :=
  o d + e d * Ideal.rsqrt (ms h) + h d * dms h e + dms h e * h d

/-- The token's gradient, with the projection on the token taken off first. -/
def dh' (h o e : Fin 1024 → EReal) (d : Fin 1024) : EReal :=
  o d + Ideal.rsqrt (ms h) * (e d - hat h d * Ideal.div (∑ d, e d * hat h d) (Ideal.ofBits .f32 0x44800000#32))

/-! ### Finite values -/

/-- Neither infinity. -/
def IsReal (x : EReal) : Prop := ∃ y : ℝ, x = y

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals, read in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose y hy using h
  exact ⟨∑ i ∈ s, y i, by simp only [hy, coe_sum]⟩

theorem IsReal.logistic {x : EReal} (hx : IsReal x) : IsReal (Ideal.logistic x) := by
  obtain ⟨a, rfl⟩ := hx
  exact ⟨_, Ideal.logistic_coe a⟩

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_1024 : Ideal.ofBits .f32 0x44800000#32 = ((1024 : ℝ) : EReal) := by
  simp [Ideal.ofBits, Ideal.ieee, -EReal.coe_mul]; norm_num

/-- The norm's epsilon is positive. -/
theorem ofBits_eps : Ideal.ofBits .f32 0x358637BD#32 = ((8796093 / 8796093022208 : ℝ) : EReal) := by
  simp [Ideal.ofBits, Ideal.ieee, -EReal.coe_mul]; norm_num

/-- The mean square of a finite token is a positive real, and its reciprocal root a real. -/
theorem ms_coe (x : Fin 1024 → ℝ) : ∃ M : ℝ, 0 < M ∧ ms (fun d => (x d : EReal)) = (M : EReal) := by
  refine ⟨(∑ d, x d * x d) * (1 / 1024) + 8796093 / 8796093022208, ?_, ?_⟩
  · have : 0 ≤ ∑ d, x d * x d := Finset.sum_nonneg fun d _ => mul_self_nonneg _
    positivity
  · rw [ms, ofBits_eps, ofBits_1024, Ideal.div_coe (by norm_num)]
    simp only [← EReal.coe_mul, coe_sum, ← EReal.coe_add]

theorem rsqrt_coe_pos {M : ℝ} (h : 0 < M) : Ideal.rsqrt (M : EReal) = (((Real.sqrt M)⁻¹ : ℝ) : EReal) := by
  rw [Ideal.rsqrt_coe, if_neg h.le.not_gt, if_neg h.ne']

theorem real_hat {h : Fin 1024 → EReal} (hh : ∀ d, IsReal (h d)) (d : Fin 1024) : IsReal (hat h d) := by
  choose x hx using hh
  obtain rfl : h = fun d => (x d : EReal) := funext hx
  obtain ⟨M, hM, e⟩ := ms_coe x
  rw [hat, e, rsqrt_coe_pos hM]
  exact ⟨_, (EReal.coe_mul _ _).symm⟩

/-- The two forms of the gate's gradient, on finite values. -/
theorem dgate_eq {a g u : EReal} (ha : IsReal a) (hg : IsReal g) (hu : IsReal u) : dgate' a g u = dgate a g u := by
  obtain ⟨a, rfl⟩ := ha
  obtain ⟨g, rfl⟩ := hg
  obtain ⟨u, rfl⟩ := hu
  rw [dgate, dgate', Ideal.logistic_coe]
  generalize (1 + Real.exp (-g))⁻¹ = s
  simp only [← EReal.coe_one, ← EReal.coe_mul, ← EReal.coe_sub, ← EReal.coe_add, EReal.coe_eq_coe_iff]
  ring

/-- The two forms of the token's gradient, on finite values. -/
theorem dh_eq {h o e : Fin 1024 → EReal} (hh : ∀ d, IsReal (h d)) (ho : ∀ d, IsReal (o d)) (he : ∀ d, IsReal (e d)) (d : Fin 1024) :
    dh' h o e d = dh h o e d := by
  choose x hx using hh
  choose z hz using ho
  choose y hy using he
  obtain rfl : h = fun d => (x d : EReal) := funext hx
  obtain rfl : o = fun d => (z d : EReal) := funext hz
  obtain rfl : e = fun d => (y d : EReal) := funext hy
  obtain ⟨M, hM, hm⟩ := ms_coe x
  have hr : (Real.sqrt M)⁻¹ * (Real.sqrt M)⁻¹ = M⁻¹ := by rw [← mul_inv, Real.mul_self_sqrt hM.le]
  have hs : ∑ k, y k * (x k * (Real.sqrt M)⁻¹) = (∑ k, x k * y k) * (Real.sqrt M)⁻¹ := by
    rw [Finset.sum_mul]
    exact Finset.sum_congr rfl fun k _ => by ring
  simp only [dh, dh', dms, hat, hm, rsqrt_coe_pos hM, ofBits_1024, ofBits_neg_half, Ideal.div_coe hM.ne',
    Ideal.div_coe (show (1024 : ℝ) ≠ 0 by norm_num), ← EReal.coe_mul, coe_sum, ← EReal.coe_sub, ← EReal.coe_add,
    EReal.coe_eq_coe_iff]
  rw [hs, one_div M, ← hr]
  ring

/-! ### On every token -/

/-- The block's input, the norm's weight, the gradient of the output, and the three weights. -/
structure In where
  h : (⟨2, ![8192, 1024]⟩ : Shape).Idx → EReal
  γ : (⟨2, ![1, 1024]⟩ : Shape).Idx → EReal
  o : (⟨2, ![8192, 1024]⟩ : Shape).Idx → EReal
  wg : (⟨3, ![8, 352, 1024]⟩ : Shape).Idx → EReal
  wu : (⟨3, ![8, 352, 1024]⟩ : Shape).Idx → EReal
  wd : (⟨3, ![8, 352, 1024]⟩ : Shape).Idx → EReal

namespace In

variable (x : In) (t : Fin 8192)

def tok (d : Fin 1024) : EReal := x.h (ix2 t d)
def scale (d : Fin 1024) : EReal := x.γ (ix2 0 d)
def grad (d : Fin 1024) : EReal := x.o (ix2 t d)

/-- The gate's product, the other product, and the gradient of the gated product. -/
def gate (f : Fin 2816) : EReal := inner (x.tok t) x.scale (rows x.wg) f
def up (f : Fin 2816) : EReal := inner (x.tok t) x.scale (rows x.wu) f
def act (f : Fin 2816) : EReal := dact (x.grad t) (rows x.wd) f

/-- The two products' gradients. -/
def dg (f : Fin 2816) : EReal := dgate (x.act t f) (x.gate t f) (x.up t f)
def du (f : Fin 2816) : EReal := dup (x.act t f) (x.gate t f)

/-- The gradient of the normalised token, and of the token over its root mean square. -/
def dn (d : Fin 1024) : EReal := dx (x.dg t) (x.du t) (rows x.wg) (rows x.wu) d
def dhat (d : Fin 1024) : EReal := x.dn t d * x.scale d

/-- The gradient of the block's input. -/
def dhs : (⟨2, ![8192, 1024]⟩ : Shape).Idx → EReal := fun i => dh (x.tok (i 0)) (x.grad (i 0)) (x.dhat (i 0)) (i 1)

/-- The gradient of the norm's weight, in the first of eight rows. -/
def dγs : (⟨2, ![8, 1024]⟩ : Shape).Idx → EReal := fun i =>
  if (i 0).val < 1 then ∑ t : Fin 8192, x.dn t (i 1) * hat (x.tok t) (i 1) else 0

/-- The normalised tokens, the gated products, and the gradients of the two products and of the branch's output: the
    factors of the weights' gradients. -/
def xs : (⟨2, ![8192, 1024]⟩ : Shape).Idx → EReal := fun i => norm (x.tok (i 0)) x.scale (i 1)
def acts : (⟨2, ![8192, 2816]⟩ : Shape).Idx → EReal := fun i => gated (x.gate (i 0) (i 1)) (x.up (i 0) (i 1))
def dgs : (⟨2, ![8192, 2816]⟩ : Shape).Idx → EReal := fun i => x.dg (i 0) (i 1)
def dus : (⟨2, ![8192, 2816]⟩ : Shape).Idx → EReal := fun i => x.du (i 0) (i 1)
def dys : (⟨2, ![8192, 1024]⟩ : Shape).Idx → EReal := fun i => dy (x.grad (i 0)) (i 1)

/-- No argument holds an infinity. -/
structure Finite : Prop where
  h : ∀ i, IsReal (x.h i)
  γ : ∀ i, IsReal (x.γ i)
  o : ∀ i, IsReal (x.o i)
  wg : ∀ i, IsReal (x.wg i)
  wu : ∀ i, IsReal (x.wu i)
  wd : ∀ i, IsReal (x.wd i)

variable {x} (hx : x.Finite)
include hx

theorem Finite.inner {w : (⟨3, ![8, 352, 1024]⟩ : Shape).Idx → EReal} (hw : ∀ i, IsReal (w i)) (f : Fin 2816) :
    IsReal (inner (x.tok t) x.scale (rows w) f) :=
  IsReal.sum _ fun d => ((real_hat (fun _ => hx.h _) d).mul (hx.γ _)).mul (hw _)

theorem Finite.gate (f : Fin 2816) : IsReal (x.gate t f) := Finite.inner t hx hx.wg f
theorem Finite.up (f : Fin 2816) : IsReal (x.up t f) := Finite.inner t hx hx.wu f

theorem Finite.act (f : Fin 2816) : IsReal (x.act t f) :=
  show IsReal (∑ d, dy (x.grad t) d * rows x.wd f d) from IsReal.sum _ fun d => (IsReal.mul ⟨_, ofBits_half⟩ (hx.o _)).mul (hx.wd _)

theorem Finite.dg_eq (f : Fin 2816) : dgate' (x.act t f) (x.gate t f) (x.up t f) = x.dg t f :=
  dgate_eq (Finite.act t hx f) (Finite.gate t hx f) (Finite.up t hx f)

theorem Finite.du (f : Fin 2816) : IsReal (x.du t f) :=
  (Finite.act t hx f).mul ((Finite.gate t hx f).mul (Finite.gate t hx f).logistic)

theorem Finite.dg (f : Fin 2816) : IsReal (x.dg t f) := by
  rw [← Finite.dg_eq t hx]
  have hs := (Finite.gate t hx f).logistic
  obtain ⟨s, e⟩ := hs
  have h1 : IsReal (1 - Ideal.logistic (x.gate t f)) := ⟨1 - s, by rw [e, EReal.coe_sub, EReal.coe_one]⟩
  exact ((Finite.act t hx f).mul (Finite.up t hx f)).mul
    (IsReal.mul ⟨s, e⟩ (IsReal.add ⟨1, EReal.coe_one.symm⟩ ((Finite.gate t hx f).mul h1)))

theorem Finite.dn (d : Fin 1024) : IsReal (x.dn t d) :=
  (IsReal.sum _ fun f => (Finite.dg t hx f).mul (hx.wg _)).add (IsReal.sum _ fun f => (Finite.du t hx f).mul (hx.wu _))

theorem Finite.dh_eq (d : Fin 1024) : dh' (x.tok t) (x.grad t) (x.dhat t) d = dh (x.tok t) (x.grad t) (x.dhat t) d :=
  HalfBack.dh_eq (fun _ => hx.h _) (fun _ => hx.o _) (fun d => (Finite.dn t hx d).mul (hx.γ _)) d

end In

end Cert.HalfBack

end
-- ==== Proof.BackFwd0.lean ====
/- The half block's backward kernel: what it stores, entry by entry, on one tile of 256 tokens. -/
module

public import proofs.«01_k».proof.Proof.BackSpec
public import proofs.«01_k».proof.Proof.Gen.Kernel4Ideal.Skeleton

@[expose] public section

set_option maxRecDepth 16384

noncomputable section

namespace Cert.HalfBack

open Idealize.ShloMosaic Idealize.ShloMosaic.TcCoe Idealize.SL.Sem
open Cert.Kernel4Ideal Cert.Kernel4Ideal.Gen Cert.Half

section Tile

variable (h o : Vec Ideal S256x1024 .f32) (γ : Vec Ideal S1x1024 .f32) (g u a b : Vec Ideal S256x2816 .bf16) (v : Vec Ideal S256x2816 .f32)
  (wg wu wd : Vec Ideal S8x352x1024 .bf16) (n : Vec Ideal S256x1024 .f32)

abbrev row (r : Fin 256) : Fin 1024 → EReal := fun d => h (ix2 r d)
abbrev lane : Fin 1024 → EReal := fun d => γ (ix2 0 d)

theorem pay2_apply (r : Fin 256) : k0_pay2 (F := Ideal) h (ix2 r 0) = Ideal.rsqrt (ms (row h r)) := by
  pointwise! [k0_pay2, ms, zero_add]

theorem pay3_apply (r : Fin 256) (d : Fin 1024) : k0_pay3 (F := Ideal) h (ix2 r d) = hat (row h r) d := by
  pointwise! [k0_pay3, pay2_apply, hat]

theorem pay4_apply (r : Fin 256) (d : Fin 1024) : k0_pay4 (F := Ideal) h γ (ix2 r d) = norm (row h r) (lane γ) d := by
  pointwise! [k0_pay4, pay3_apply, Half.norm, hat]

theorem pay5_apply (r : Fin 256) (f : Fin 2816) : k0_pay5 (F := Ideal) g (ix2 r f) = (g (ix2 r f) : EReal) := by
  pointwise! [k0_pay5]

theorem pay6_apply (r : Fin 256) (f : Fin 2816) : k0_pay6 (F := Ideal) u (ix2 r f) = (u (ix2 r f) : EReal) := by
  pointwise! [k0_pay6]

theorem pay7_apply (r : Fin 256) (d : Fin 1024) : k0_pay7 (F := Ideal) o (ix2 r d) = dy (row o r) d := by
  pointwise! [k0_pay7, dy]

theorem pay8_apply (r : Fin 256) (f : Fin 2816) : k0_pay8 (F := Ideal) o wd (ix2 r f) = dact (row o r) (rows wd) f := by
  pointwise! [k0_pay8, pay7_apply, zero_add, dact, rows, Nat.div_add_mod']

theorem pay9_apply (r : Fin 256) (f : Fin 2816) : k0_pay9 (F := Ideal) g (ix2 r f) = Ideal.logistic (g (ix2 r f) : EReal) := by
  pointwise! [k0_pay9, pay5_apply]

theorem pay10_apply (r : Fin 256) (f : Fin 2816) : k0_pay10 (F := Ideal) g (ix2 r f) = (g (ix2 r f) : EReal) * Ideal.logistic (g (ix2 r f) : EReal) := by
  pointwise! [k0_pay10, pay5_apply, pay9_apply]

theorem pay11_apply (r : Fin 256) (f : Fin 2816) : k0_pay11 (F := Ideal) o g u wd (ix2 r f)
    = dgate' (dact (row o r) (rows wd) f) (g (ix2 r f)) (u (ix2 r f)) := by
  pointwise! [k0_pay11, pay5_apply, pay6_apply, pay8_apply, pay9_apply, dgate']

theorem pay12_apply (r : Fin 256) (f : Fin 2816) : k0_pay12 (F := Ideal) o g wd (ix2 r f)
    = dup (dact (row o r) (rows wd) f) (g (ix2 r f)) := by
  pointwise! [k0_pay12, pay8_apply, pay10_apply, dup]

theorem pay13_apply (r : Fin 256) (f : Fin 2816) : k0_pay13 (F := Ideal) v (ix2 r f) = v (ix2 r f) := by
  pointwise! [k0_pay13]

theorem pay14_apply (r : Fin 256) (d : Fin 1024) : k0_pay14 (F := Ideal) a v wg wu (ix2 r d)
    = dx (fun f => a (ix2 r f)) (fun f => v (ix2 r f)) (rows wg) (rows wu) d := by
  pointwise! [k0_pay14, pay13_apply, zero_add, dx, rows, Nat.div_add_mod']

theorem pay15_apply (r : Fin 256) (d : Fin 1024) : k0_pay15 (F := Ideal) o γ (k0_pay2 (F := Ideal) h) (k0_pay3 (F := Ideal) h) a v wg wu (ix2 r d)
    = dh' (row h r) (row o r) (fun d => dx (fun f => a (ix2 r f)) (fun f => v (ix2 r f)) (rows wg) (rows wu) d * γ (ix2 0 d)) d := by
  pointwise! [k0_pay15, pay14_apply, pay2_apply, pay3_apply, zero_add, dh']

theorem pay16_apply (r : Fin 8) (d : Fin 1024) : k0_pay16 (F := Ideal) (ix2 r d) = 0 := by
  pointwise! [k0_pay16]

theorem pay17_apply (p : Vec Ideal S1x1024 .f32) (d : Fin 1024) : k0_pay17 (F := Ideal) (k0_pay3 (F := Ideal) h) a v wg wu p (ix2 0 d)
    = (p (ix2 0 d) : EReal) + ∑ r : Fin 256, dx (fun f => a (ix2 r f)) (fun f => v (ix2 r f)) (rows wg) (rows wu) d * hat (row h r) d := by
  pointwise! [k0_pay17, pay14_apply, pay3_apply, zero_add]

theorem pay18_apply (r : Fin 256) (d : Fin 1024) : k0_pay18 (F := Ideal) n (ix2 r d) = n (ix2 r d) := by
  pointwise! [k0_pay18]

theorem pay1_apply (r : Fin 256) (f : Fin 2816) : k0_pay1 (F := Ideal) (k0_pay19 (F := Ideal) (k0_pay6 (F := Ideal) u) (k0_pay10 (F := Ideal) g)) (ix2 r f)
    = gated (g (ix2 r f)) (u (ix2 r f)) := by
  pointwise! [k0_pay1, k0_pay19, pay6_apply, pay10_apply, gated]

end Tile

end Cert.HalfBack

end
-- ==== Proof.BackFwd.lean ====
/- The half block's backward kernel: what its grid points leave, and its result arrays. -/
module

public import proofs.«01_k».proof.Proof.BackFwd0
public import proofs.«01_k».proof.Proof.Gen.Kernel4Ideal.Value
public import Idealize.ShloMosaic.Lib.StableHlo.ReadAt
public import Idealize.ShloMosaic.Lib.Pipeline.Value
public import Idealize.ShloMosaic.Lib.Pipeline.ValueKit.Point
public import Idealize.ShloMosaic.Lib.Pipeline.ValueKit.Acc
public import Idealize.ShloMosaic.Lib.WholeRead

@[expose] public section

set_option maxRecDepth 16384

noncomputable section

namespace Cert.HalfBack

open Idealize.ShloMosaic Idealize.ShloMosaic.TcCoe Idealize.SL.Sem Idealize.ShloMosaic.Pipeline
open Cert.Kernel4Ideal Cert.Kernel4Ideal.Gen Cert.Half

variable (m : (ℓ : Loc nD τ sig) → Buf (Elt Ideal) ℓ) (c : Dev nD)

/-- The kernel's arguments. -/
def args : In where
  h := m ((c : Thread nD τ).loc main_arg0)
  γ := m ((c : Thread nD τ).loc main_arg1)
  o := m ((c : Thread nD τ).loc main_arg2)
  wg := m ((c : Thread nD τ).loc main_arg3)
  wu := m ((c : Thread nD τ).loc main_arg4)
  wd := m ((c : Thread nD τ).loc main_arg5)

/-- The two products that the host computes before the kernel. -/
theorem saved_g (t : Fin 8192) (f : Fin 2816) : V m c main_v22 (ix2 t f) = (args m c).gate t f := by
  unfold V
  after_reads_at
  rfl

theorem saved_u (t : Fin 8192) (f : Fin 2816) : V m c main_v23 (ix2 t f) = (args m c).up t f := by
  unfold V
  after_reads_at
  rfl

section Blocks

variable (t : Fin cfg0.N)

theorem lt_points : t.val < 32 := t.isLt

/-- Row `r` of point `t`'s tile. -/
def at_ (r : Fin 256) : Fin 8192 := ⟨t.val * 256 + r, by have := lt_points t; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![0, 0, 0] :=
  (by decide +kernel : ∀ t : Fin grid0.N, win0_5.index t = ![0, 0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![0, 0, 0] :=
  (by decide +kernel : ∀ t : Fin grid0.N, win0_7.index t = ![0, 0, 0])
theorem idx8 : ∀ t : Fin cfg0.N, win0_8.index t = ![t.val, 0] :=
  (by decide +kernel : ∀ t : Fin grid0.N, win0_8.index t = ![t.val, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![t.val, 0] :=
  (by decide +kernel : ∀ t : Fin grid0.N, win0_11.index t = ![t.val, 0])
theorem idx12 : ∀ t : Fin cfg0.N, win0_12.index t = ![t.val, 0] :=
  (by decide +kernel : ∀ t : Fin grid0.N, win0_12.index t = ![t.val, 0])
theorem idx13 : ∀ t : Fin cfg0.N, win0_13.index t = ![t.val, 0] :=
  (by decide +kernel : ∀ t : Fin grid0.N, win0_13.index t = ![t.val, 0])
theorem idx14 : ∀ t : Fin cfg0.N, win0_14.index t = ![t.val, 0] :=
  (by decide +kernel : ∀ t : Fin grid0.N, win0_14.index t = ![t.val, 0])

theorem at0_apply (r : Fin 256) (d : Fin 1024) : iblk m c 0 t (ix2 r d) = V m c main_arg0 (ix2 (at_ t r) d) := by
  blk_ext [iblk, idx0 t, at_]
theorem at1_apply (d : Fin 1024) : iblk m c 1 t (ix2 0 d) = V m c main_arg1 (ix2 0 d) := by
  blk_ext [iblk, idx1 t]
theorem at2_apply (r : Fin 256) (f : Fin 2816) : iblk m c 2 t (ix2 r f) = V m c main_v22 (ix2 (at_ t r) f) := by
  blk_ext [iblk, idx2 t, at_]
theorem at3_apply (r : Fin 256) (f : Fin 2816) : iblk m c 3 t (ix2 r f) = V m c main_v23 (ix2 (at_ t r) f) := by
  blk_ext [iblk, idx3 t, at_]
theorem at4_apply (r : Fin 256) (d : Fin 1024) : iblk m c 4 t (ix2 r d) = V m c main_arg2 (ix2 (at_ t r) d) := by
  blk_ext [iblk, idx4 t, at_]
theorem at5_apply (i : S8x352x1024.Idx) : iblk m c 5 t i = V m c main_arg3 i := by
  idx_vars i
  blk_ext [iblk, idx5 t]
theorem at6_apply (i : S8x352x1024.Idx) : iblk m c 6 t i = V m c main_arg4 i := by
  idx_vars i
  blk_ext [iblk, idx6 t]
theorem at7_apply (i : S8x352x1024.Idx) : iblk m c 7 t i = V m c main_arg5 i := by
  idx_vars i
  blk_ext [iblk, idx7 t]

theorem at0 (r : Fin 256) : row (iblk m c 0 t) r = (args m c).tok (at_ t r) :=
  funext fun d => (at0_apply m c t r d).trans (congrFun (V_main_arg0 m c) _)
theorem at1 : lane (iblk m c 1 t) = (args m c).scale :=
  funext fun d => (at1_apply m c t d).trans (congrFun (V_main_arg1 m c) _)
theorem at2 (r : Fin 256) (f : Fin 2816) : iblk m c 2 t (ix2 r f) = (args m c).gate (at_ t r) f :=
  (at2_apply m c t r f).trans (saved_g m c _ f)
theorem at3 (r : Fin 256) (f : Fin 2816) : iblk m c 3 t (ix2 r f) = (args m c).up (at_ t r) f :=
  (at3_apply m c t r f).trans (saved_u m c _ f)
theorem at4 (r : Fin 256) : row (iblk m c 4 t) r = (args m c).grad (at_ t r) :=
  funext fun d => (at4_apply m c t r d).trans (congrFun (V_main_arg2 m c) _)
theorem at5 : iblk m c 5 t = (args m c).wg :=
  funext fun i => (at5_apply m c t i).trans (congrFun (V_main_arg3 m c) _)
theorem at6 : iblk m c 6 t = (args m c).wu :=
  funext fun i => (at6_apply m c t i).trans (congrFun (V_main_arg4 m c) _)
theorem at7 : iblk m c 7 t = (args m c).wd :=
  funext fun i => (at7_apply m c t i).trans (congrFun (V_main_arg5 m c) _)

variable (hx : (args m c).Finite)
include hx

theorem dg_at (r : Fin 256) (f : Fin 2816) :
    k0_pay11 (F := Ideal) (iblk m c 4 t) (iblk m c 2 t) (iblk m c 3 t) (iblk m c 7 t) (ix2 r f) = (args m c).dg (at_ t r) f := by
  refine (pay11_apply _ _ _ _ r f).trans ?_
  rw [at2, at3, at4, at7]
  exact In.Finite.dg_eq _ hx f

omit hx in
theorem du_at (r : Fin 256) (f : Fin 2816) :
    k0_pay12 (F := Ideal) (iblk m c 4 t) (iblk m c 2 t) (iblk m c 7 t) (ix2 r f) = (args m c).du (at_ t r) f := by
  refine (pay12_apply _ _ _ r f).trans ?_
  rw [at2, at4, at7]
  rfl

theorem dn_at (r : Fin 256) (d : Fin 1024) :
    dx (fun f => k0_pay11 (F := Ideal) (iblk m c 4 t) (iblk m c 2 t) (iblk m c 3 t) (iblk m c 7 t) (ix2 r f))
      (fun f => k0_pay12 (F := Ideal) (iblk m c 4 t) (iblk m c 2 t) (iblk m c 7 t) (ix2 r f)) (rows (iblk m c 5 t)) (rows (iblk m c 6 t)) d
      = (args m c).dn (at_ t r) d := by
  simp only [dg_at m c t hx, du_at m c t]
  rw [at5, at6]
  rfl

end Blocks

section Points

variable (t : Fin cfg0.N) (hx : (args m c).Finite) (r : Fin 256) (d : Fin 1024) (f : Fin 2816)

include hx in
theorem pay8_at :
    k0_pay15 (F := Ideal) (iblk m c 4 t) (iblk m c 1 t) (k0_pay2 (F := Ideal) (iblk m c 0 t)) (k0_pay3 (F := Ideal) (iblk m c 0 t))
      (k0_pay11 (F := Ideal) (iblk m c 4 t) (iblk m c 2 t) (iblk m c 3 t) (iblk m c 7 t))
      (k0_pay12 (F := Ideal) (iblk m c 4 t) (iblk m c 2 t) (iblk m c 7 t)) (iblk m c 5 t) (iblk m c 6 t) (ix2 r d)
      = (args m c).dhs (ix2 (at_ t r) d) := by
  refine (pay15_apply _ _ _ _ _ _ _ r d).trans ?_
  rw [at0, at4]
  refine Eq.trans (congrArg (fun e => dh' _ _ e d) (funext fun k => ?_)) (In.Finite.dh_eq (at_ t r) hx d)
  rw [dn_at m c t hx, show iblk m c 1 t (ix2 0 k) = (args m c).scale k from congrFun (at1 m c t) k]
  rfl

include hx in
theorem point8 : (outsAt0 m c t.val t.isLt).1 (ix2 r d) = (args m c).dhs (ix2 (at_ t r) d) := by
  by_cases h0 : t.val % 32 = 0
  · rw [outsAt0_A m c t h0]
    frame_out
    exact pay8_at m c t hx r d
  · rw [outsAt0_B m c t h0]
    frame_out
    exact pay8_at m c t hx r d

theorem pay10_at : k0_pay4 (F := Ideal) (iblk m c 0 t) (iblk m c 1 t) (ix2 r d) = (args m c).xs (ix2 (at_ t r) d) := by
  refine (pay4_apply _ _ r d).trans ?_
  rw [at0, at1]
  rfl

theorem point10 : (outsAt0 m c t.val t.isLt).2.2.1 (ix2 r d) = (args m c).xs (ix2 (at_ t r) d) := by
  by_cases h0 : t.val % 32 = 0
  · rw [outsAt0_A m c t h0]
    frame_out
    exact (pay18_apply _ r d).trans (pay10_at m c t r d)
  · rw [outsAt0_B m c t h0]
    frame_out
    exact (pay18_apply _ r d).trans (pay10_at m c t r d)

theorem pay11_at : k0_pay1 (F := Ideal) (k0_pay19 (F := Ideal) (k0_pay6 (F := Ideal) (iblk m c 3 t)) (k0_pay10 (F := Ideal) (iblk m c 2 t))) (ix2 r f)
    = (args m c).acts (ix2 (at_ t r) f) := by
  refine (pay1_apply _ _ r f).trans ?_
  rw [at2, at3]
  rfl

theorem point11 : (outsAt0 m c t.val t.isLt).2.2.2.1 (ix2 r f) = (args m c).acts (ix2 (at_ t r) f) := by
  by_cases h0 : t.val % 32 = 0
  · rw [outsAt0_A m c t h0]
    frame_out
    exact pay11_at m c t r f
  · rw [outsAt0_B m c t h0]
    frame_out
    exact pay11_at m c t r f

include hx in
theorem point12 : (outsAt0 m c t.val t.isLt).2.2.2.2.1 (ix2 r f) = (args m c).dgs (ix2 (at_ t r) f) := by
  by_cases h0 : t.val % 32 = 0
  · rw [outsAt0_A m c t h0]
    frame_out
    exact dg_at m c t hx r f
  · rw [outsAt0_B m c t h0]
    frame_out
    exact dg_at m c t hx r f

theorem point13 : (outsAt0 m c t.val t.isLt).2.2.2.2.2.1 (ix2 r f) = (args m c).dus (ix2 (at_ t r) f) := by
  by_cases h0 : t.val % 32 = 0
  · rw [outsAt0_A m c t h0]
    frame_out
    exact (pay13_apply _ r f).trans (du_at m c t r f)
  · rw [outsAt0_B m c t h0]
    frame_out
    exact (pay13_apply _ r f).trans (du_at m c t r f)

theorem point14 : (outsAt0 m c t.val t.isLt).2.2.2.2.2.2 (ix2 r d) = (args m c).dys (ix2 (at_ t r) d) := by
  have e : k0_pay7 (F := Ideal) (iblk m c 4 t) (ix2 r d) = (args m c).dys (ix2 (at_ t r) d) := by
    refine (pay7_apply _ r d).trans ?_
    rw [at4]
    rfl
  by_cases h0 : t.val % 32 = 0
  · rw [outsAt0_A m c t h0]
    frame_out
    exact e
  · rw [outsAt0_B m c t h0]
    frame_out
    exact e

end Points

section Arrays

variable (hx : (args m c).Finite)

include hx in
theorem array8 : (dats m 0 c).arrAt 8 cfg0.N = (args m c).dhs := by
  refine (dats m 0 c).arrAt_eq_of_covers 8 _ (by decide +kernel) fun t hf y => ?_
  blk_simp
  rw [after0_8]
  obtain ⟨r, d, rfl⟩ : ∃ (r : Fin 256) (d : Fin 1024), y = ix2 r d := ⟨y 0, y 1, funext fun b => by fin_cases b <;> rfl⟩
  refine (point8 m c t hx r d).trans ?_
  blk_ext [idx8 t, at_]

theorem array10 : (dats m 0 c).arrAt 10 cfg0.N = (args m c).xs := by
  refine (dats m 0 c).arrAt_eq_of_covers 10 _ (by decide +kernel) fun t hf y => ?_
  blk_simp
  rw [after0_10]
  obtain ⟨r, d, rfl⟩ : ∃ (r : Fin 256) (d : Fin 1024), y = ix2 r d := ⟨y 0, y 1, funext fun b => by fin_cases b <;> rfl⟩
  refine (point10 m c t r d).trans ?_
  blk_ext [idx10 t, at_]

theorem array11 : (dats m 0 c).arrAt 11 cfg0.N = (args m c).acts := by
  refine (dats m 0 c).arrAt_eq_of_covers 11 _ (by decide +kernel) fun t hf y => ?_
  blk_simp
  rw [after0_11]
  obtain ⟨r, d, rfl⟩ : ∃ (r : Fin 256) (d : Fin 2816), y = ix2 r d := ⟨y 0, y 1, funext fun b => by fin_cases b <;> rfl⟩
  refine (point11 m c t r d).trans ?_
  blk_ext [idx11 t, at_]

include hx in
theorem array12 : (dats m 0 c).arrAt 12 cfg0.N = (args m c).dgs := by
  refine (dats m 0 c).arrAt_eq_of_covers 12 _ (by decide +kernel) fun t hf y => ?_
  blk_simp
  rw [after0_12]
  obtain ⟨r, d, rfl⟩ : ∃ (r : Fin 256) (d : Fin 2816), y = ix2 r d := ⟨y 0, y 1, funext fun b => by fin_cases b <;> rfl⟩
  refine (point12 m c t hx r d).trans ?_
  blk_ext [idx12 t, at_]

theorem array13 : (dats m 0 c).arrAt 13 cfg0.N = (args m c).dus := by
  refine (dats m 0 c).arrAt_eq_of_covers 13 _ (by decide +kernel) fun t hf y => ?_
  blk_simp
  rw [after0_13]
  obtain ⟨r, d, rfl⟩ : ∃ (r : Fin 256) (d : Fin 2816), y = ix2 r d := ⟨y 0, y 1, funext fun b => by fin_cases b <;> rfl⟩
  refine (point13 m c t r d).trans ?_
  blk_ext [idx13 t, at_]

theorem array14 : (dats m 0 c).arrAt 14 cfg0.N = (args m c).dys := by
  refine (dats m 0 c).arrAt_eq_of_covers 14 _ (by decide +kernel) fun t hf y => ?_
  blk_simp
  rw [after0_14]
  obtain ⟨r, d, rfl⟩ : ∃ (r : Fin 256) (d : Fin 1024), y = ix2 r d := ⟨y 0, y 1, funext fun b => by fin_cases b <;> rfl⟩
  refine (point14 m c t r d).trans ?_
  blk_ext [idx14 t, at_]

end Arrays

end Cert.HalfBack

end
-- ==== Proof.BackGain.lean ====
/- The half block's backward kernel: the gradient of the norm's weight, which the grid's points add up. -/
module

public import proofs.«01_k».proof.Proof.BackFwd
public import Idealize.ShloMosaic.Lib.WritesUnit

@[expose] public section

set_option maxRecDepth 16384

noncomputable section

namespace Cert.HalfBack

open Idealize.ShloMosaic Idealize.ShloMosaic.TcCoe Idealize.SL.Sem Idealize.ShloMosaic.Pipeline
open Cert.Kernel4Ideal Cert.Kernel4Ideal.Gen Cert.Half

/-! ### A store to the first of eight rows -/

section Row

variable (w : FVec Ideal S1x1024 .f32) (L : List (View.Piece (Elt Ideal) S8x1024 .f32)) (d : Fin 1024) (r : Fin 8) (h : r ≠ 0)

theorem first_row : (Rect.unit (s := S8x1024) ![0, 0] S1x1024.size inb_S8x1024_S1x1024_0_0).emb (ix2 0 d) = (ix2 (0 : Fin 8) d : S8x1024.Idx) := by
  refine funext fun a => Fin.ext ?_
  fin_cases a
  · rfl
  · show 0 + 1 * (d : ℕ) = d
    omega

include h in
theorem other_row : (ix2 r d : S8x1024.Idx) ∉ (Rect.unit (s := S8x1024) ![0, 0] S1x1024.size inb_S8x1024_S1x1024_0_0).set := fun hm => by
  have := (Rect.mem_set_unit.mp hm (0 : Fin 2)).2
  have h1 : (r : ℕ) < 0 + 1 := this
  omega

theorem canon_first : View.canon ((⟨Rect.unit (s := S8x1024) ![0, 0] S1x1024.size inb_S8x1024_S1x1024_0_0, w⟩ : View.Piece (Elt Ideal) S8x1024 .f32) :: L)
    (ix2 (0 : Fin 8) d) = w (ix2 0 d) := by
  rw [← first_row d]
  exact View.canon_cons_emb _ _ _ _

include h in
theorem canon_other : View.canon ((⟨Rect.unit (s := S8x1024) ![0, 0] S1x1024.size inb_S8x1024_S1x1024_0_0, w⟩ : View.Piece (Elt Ideal) S8x1024 .f32) :: L)
    (ix2 r d) = View.canon L (ix2 r d) :=
  View.canon_cons_of_not_mem _ _ (other_row d r h)

theorem canon_zero : View.canon [(⟨Rect.unit (s := S8x1024) ![0, 0] S8x1024.size inb_S8x1024_S8x1024_0_0, k0_pay16 (F := Ideal)⟩ : View.Piece (Elt Ideal) S8x1024 .f32)]
    (ix2 r d) = (0 : EReal) := by
  rw [View.canon_cons_unit_lit _ _ _ (by intro a; fin_cases a <;> rfl)]
  exact pay16_apply r d

/-- The first row, loaded after the zeros are stored. -/
theorem load_zero (v : View sig .tc .vmem S8x1024 .f32) :
    v.readCov [(⟨Rect.unit (s := S8x1024) ![0, 0] S8x1024.size inb_S8x1024_S8x1024_0_0, k0_pay16 (F := Ideal)⟩ : View.Piece (Elt Ideal) S8x1024 .f32)]
      (Rect.unit (s := S8x1024) ![0, 0] S1x1024.size inb_S8x1024_S1x1024_0_0).toLoadRect (ix2 0 d) = (0 : EReal) := by
  rw [View.readCov_eq_canon']
  refine Eq.trans ?_ (canon_zero d 0)
  exact congrArg _ (first_row d)

theorem load_first (X : Vec Ideal S8x1024 .f32) :
    View.ld X (Rect.unit (s := S8x1024) ![0, 0] S1x1024.size inb_S8x1024_S1x1024_0_0) (ix2 0 d) = X (ix2 0 d) :=
  congrArg X (first_row d)

variable (v : View sig .tc .vmem S8x1024 .f32) (g : v.ty.Contents (Elt Ideal))

theorem read_first : v.read (Elt Ideal) (v.writes (Elt Ideal) g
    [⟨Rect.unit (s := S8x1024) ![0, 0] S1x1024.size inb_S8x1024_S1x1024_0_0, w⟩]) (ix2 (0 : Fin 8) d) = w (ix2 0 d) := by
  rw [View.read_writes_cons_unit_of_mem (s := S8x1024) (size := S1x1024.size) (off' := ![0, 0]) v g _ _ _ _ (ix2 0 d) rfl]
  intro a
  fin_cases a <;> exact (Nat.zero_add _).symm

include h in
theorem read_other : v.read (Elt Ideal) (v.writes (Elt Ideal) g
    [⟨Rect.unit (s := S8x1024) ![0, 0] S1x1024.size inb_S8x1024_S1x1024_0_0, w⟩]) (ix2 r d) = v.read (Elt Ideal) g (ix2 r d) :=
  View.read_writes_cons_unit_of_not_mem (s := S8x1024) (size := S1x1024.size) (off' := ![0, 0]) v g _ _ _ _ rfl (0 : Fin 2)
    (Or.inr (by show 0 + 1 ≤ (r : ℕ); omega))

end Row

variable (m : (ℓ : Loc nD τ sig) → Buf (Elt Ideal) ℓ) (c : Dev nD) (hx : (args m c).Finite)

/-- What point `t` adds to row `r`: its tokens' sum to the first row, nothing to the padding. -/
def adds (t : Fin cfg0.N) (p : Fin 8 × Fin 1024) : EReal :=
  if p.1 = 0 then ∑ r : Fin 256, (args m c).dn (at_ t r) p.2 * hat ((args m c).tok (at_ t r)) p.2 else 0

/-- What the points up to the `n`th leave in the block. -/
def holds (n : ℕ) (hn : n < cfg0.N) (p : Fin 8 × Fin 1024) : EReal := (outsAt0 m c n hn).2.1 (ix2 p.1 p.2)

include hx in
theorem added (t : Fin cfg0.N) (p : Vec Ideal S1x1024 .f32) (d : Fin 1024) :
    k0_pay17 (F := Ideal) (k0_pay3 (F := Ideal) (iblk m c 0 t))
      (k0_pay11 (F := Ideal) (iblk m c 4 t) (iblk m c 2 t) (iblk m c 3 t) (iblk m c 7 t))
      (k0_pay12 (F := Ideal) (iblk m c 4 t) (iblk m c 2 t) (iblk m c 7 t)) (iblk m c 5 t) (iblk m c 6 t) p (ix2 0 d)
      = (p (ix2 0 d) : EReal) + adds m c t (0, d) := by
  refine (pay17_apply _ _ _ _ _ p d).trans ?_
  rw [adds, if_pos rfl]
  refine congrArg _ (Finset.sum_congr rfl fun r _ => ?_)
  rw [dn_at m c t hx, at0]

include hx in
theorem holds_first (t : Fin cfg0.N) (h0 : t.val % 32 = 0) (p : Fin 8 × Fin 1024) :
    holds m c t.val t.isLt p = 0 + adds m c t p := by
  obtain ⟨r, d⟩ := p
  rw [holds, outsAt0_A m c t h0]
  frame_out
  by_cases h : r = 0
  · subst h
    refine (canon_first _ _ d).trans ((added m c hx t _ d).trans ?_)
    exact congrArg (· + _) (load_zero d _)
  · refine (canon_other _ _ d r h).trans ((canon_zero d r).trans ?_)
    rw [adds, if_neg h, add_zero]

include hx in
theorem holds_next (t : Fin cfg0.N) (h0 : ¬t.val % 32 = 0) (p : Fin 8 × Fin 1024) :
    holds m c t.val t.isLt p
      = holds m c (t.val - 1) (Nat.lt_of_le_of_lt (Nat.sub_le _ _) t.isLt) p + adds m c t p := by
  obtain ⟨r, d⟩ := p
  rw [holds, outsAt0_B m c t h0]
  frame_out
  by_cases h : r = 0
  · subst h
    refine (read_first _ d _ _).trans ((added m c hx t _ d).trans ?_)
    exact congrArg (· + _) (load_first d _)
  · refine (read_other _ d r h _ _).trans ?_
    rw [adds, if_neg h, add_zero]
    exact congrFun (Memref.IsWhole.read_unread _ _) _

/-- The last point. -/
def lastPt : Fin cfg0.N := ⟨31, by decide⟩

include hx in
theorem holds_last (p : Fin 8 × Fin 1024) : holds m c lastPt.val lastPt.isLt p = 0 + ∑ t : Fin cfg0.N, adds m c t p := by
  have := congrFun (eq_sum_fin_of_reset_step_last (holds m c) 32 (fun _ => 0) (adds m c)
    (fun t h => funext fun p => holds_first m c hx t h p) (fun t h => funext fun p => holds_next m c hx t h p)
    (by decide) lastPt (by decide)) p
  rwa [Pi.add_apply, Finset.sum_apply] at this

/-- The tiles' sums are the sum over every token. -/
theorem sum_tiles (f : Fin 8192 → EReal) : ∑ t : Fin 32, ∑ r : Fin 256, f ⟨t * 256 + r, by omega⟩ = ∑ k : Fin 8192, f k := by
  rw [← Fintype.sum_prod_type', ← Equiv.sum_comp (finProdFinEquiv (m := 32) (n := 256))]
  refine Finset.sum_congr rfl fun p _ => congrArg f (Fin.ext ?_)
  show (p.1 : ℕ) * 256 + p.2 = p.2 + 256 * p.1
  omega

include hx in
theorem array9 : (dats m 0 c).arrAt 9 cfg0.N = (args m c).dγs := by
  refine (dats m 0 c).arrAt_eq_of_after_last 9 lastPt (by decide +kernel) _ fun y => ?_
  rw [after0_9]
  obtain ⟨r, d, rfl⟩ : ∃ (r : Fin 8) (d : Fin 1024), y = ix2 r d := ⟨y 0, y 1, funext fun b => by fin_cases b <;> rfl⟩
  refine (holds_last m c hx (r, d)).trans ?_
  rw [zero_add]
  show _ = if r.val < 1 then ∑ t : Fin 8192, (args m c).dn t d * hat ((args m c).tok t) d else 0
  by_cases hr : r = 0
  · subst hr
    refine Eq.trans ?_ ((sum_tiles fun t => (args m c).dn t d * hat ((args m c).tok t) d).trans (if_pos (by decide)).symm)
    exact Finset.sum_congr rfl fun t _ => if_pos rfl
  · rw [if_neg (by omega)]
    exact Finset.sum_eq_zero fun t _ => if_neg hr

end Cert.HalfBack

end
-- ==== Proof.BackRef.lean ====
/- The half block's backward reference: its results on every token. -/
module

public import proofs.«01_k».proof.Proof.BackSpec
public import proofs.«01_k».proof.Proof.Gen.Reference4Ideal
public import proofs.«01_k».proof.Proof.Gen.Reference4Ideal.Read

@[expose] public section

set_option maxRecDepth 16384

noncomputable section

namespace Cert.HalfBack

open Idealize.ShloMosaic Idealize.ShloMosaic.TcCoe Idealize.SL.Sem
open Cert.Reference4Ideal Cert.Reference4Ideal.Read Cert.Half

variable (x : In) (t : Fin 8192) (d : Fin 1024) (f : Fin 2816)

/-! ### The gradients of the block's input and of the norm's weight -/

theorem ref_ms : val_main_v15 (F := Ideal) x.h (ix2 t 0) = ms (x.tok t) := by
  pointwise! [val_main_v15, val_main_v14, val_main_v13, val_main_v12, val_main_v11, val_main_v10, val_main_v9, val_main_cst, val_main_cst_0,
    val_main_cst_1, ms, In.tok, zero_add]

theorem ref_rsqrt : val_main_v16 (F := Ideal) x.h (ix2 t 0) = Ideal.rsqrt (ms (x.tok t)) := by
  pointwise! [val_main_v16, ref_ms]

theorem ref_slope : val_main_v19 (F := Ideal) x.h (ix2 t 0)
    = Ideal.ofBits .f32 0xBF000000#32 * Ideal.div (Ideal.rsqrt (ms (x.tok t))) (ms (x.tok t)) := by
  pointwise! [val_main_v19, val_main_v18, val_main_v17, val_main_cst_2, ref_ms, ref_rsqrt]

theorem ref_hat : val_main_v21 (F := Ideal) x.h (ix2 t d) = hat (x.tok t) d := by
  pointwise! [val_main_v21, val_main_v20, ref_rsqrt, hat, In.tok]

theorem ref_norm : val_main_v24 (F := Ideal) x.h x.γ (ix2 t d) = Half.norm (x.tok t) x.scale d := by
  pointwise! [val_main_v24, val_main_v23, val_main_v22, val_main_v8, ref_hat, hat, Half.norm, In.scale]

theorem ref_gate : val_main_v25 (F := Ideal) x.h x.γ x.wg (ix2 t f) = x.gate t f := by
  pointwise! [val_main_v25, ref_norm, val_main_v2, val_main_v1, val_main_v0, In.gate, Half.inner, rows, Nat.div_add_mod']

theorem ref_up : val_main_v27 (F := Ideal) x.h x.γ x.wu (ix2 t f) = x.up t f := by
  pointwise! [val_main_v27, ref_norm, val_main_v5, val_main_v4, val_main_v3, In.up, Half.inner, rows, Nat.div_add_mod']

theorem ref_sigma : val_main_v26_2 (F := Ideal) x.h x.γ x.wg (ix2 t f) = Ideal.logistic (x.gate t f) := by
  pointwise! [val_main_v26_2, val_main_call0_v4, val_main_call0_v3, val_main_call0_v2, val_main_call0_v1, val_main_call0_v0, val_main_call0_cst,
    val_main_call0_cst_0, ref_gate, Ideal.logistic]

theorem ref_dsigma : val_main_v26_1 (F := Ideal) x.h x.γ x.wg (ix2 t f)
    = Ideal.logistic (x.gate t f) * (1 - Ideal.logistic (x.gate t f)) := by
  pointwise! [val_main_v26_1, val_main_call0_v7, val_main_call0_v6, val_main_call0_cst_1, ref_sigma]

theorem ref_dact : val_main_v36 (F := Ideal) x.o x.wd (ix2 t f) = x.act t f := by
  pointwise! [val_main_v36, val_main_v35, val_main_v34, val_main_v33, val_main_cst_4, val_main_v7, val_main_v6, In.act, dact, dy, In.grad, rows, Nat.div_add_mod']

theorem ref_du : val_main_v37 (F := Ideal) x.h x.γ x.o x.wg x.wd (ix2 t f) = x.du t f := by
  rw [In.du, dup, mul_comm]
  pointwise! [val_main_v37, val_main_v26_0, ref_sigma, ref_gate, ref_dact]

theorem ref_ct : val_main_v38 (F := Ideal) x.h x.γ x.o x.wu x.wd (ix2 t f) = x.act t f * x.up t f := by
  pointwise! [val_main_v38, ref_dact, ref_up]

theorem ref_dg : val_main_v40 (F := Ideal) x.h x.γ x.o x.wg x.wu x.wd (ix2 t f) = x.dg t f := by
  pointwise! [val_main_v40, val_main_call1_v2, val_main_call1_v1, val_main_call1_v0, ref_ct, ref_gate, ref_sigma, ref_dsigma, In.dg, dgate]

theorem ref_dn1 : val_main_v39 (F := Ideal) x.h x.γ x.o x.wg x.wu x.wd (ix2 t d) = ∑ f, x.du t f * rows x.wu f d := by
  pointwise! [val_main_v39, ref_du, val_main_v5, val_main_v4, val_main_v3, rows, Nat.div_add_mod']

theorem ref_dn2 : val_main_v41 (F := Ideal) x.h x.γ x.o x.wg x.wu x.wd (ix2 t d) = ∑ f, x.dg t f * rows x.wg f d := by
  pointwise! [val_main_v41, ref_dg, val_main_v2, val_main_v1, val_main_v0, rows, Nat.div_add_mod']

theorem ref_dn : val_main_v42 (F := Ideal) x.h x.γ x.o x.wg x.wu x.wd (ix2 t d) = x.dn t d := by
  rw [In.dn, dx, add_comm]
  pointwise! [val_main_v42, ref_dn1, ref_dn2]

theorem ref_dhat : val_main_v47 (F := Ideal) x.h x.γ x.o x.wg x.wu x.wd (ix2 t d) = x.dhat t d := by
  pointwise! [val_main_v47, val_main_v46, val_main_v22, val_main_v8, ref_dn, In.dhat, In.scale]

theorem ref_dot : val_main_v51 (F := Ideal) x.h x.γ x.o x.wg x.wu x.wd (ix2 t 0) = ∑ d, x.tok t d * x.dhat t d := by
  pointwise! [val_main_v51, val_main_v50, val_main_v49, val_main_cst_7, ref_dhat, In.tok, zero_add]

theorem ref_dms : val_main_v58 (F := Ideal) x.h x.γ x.o x.wg x.wu x.wd (ix1 t) = dms (x.tok t) (x.dhat t) := by
  pointwise! [val_main_v58, val_main_v57, val_main_v56, val_main_v55, val_main_cst_8, val_main_cst_9, ref_dot, ref_slope, dms, zero_add,
    Finset.univ_unique, Finset.sum_singleton, Fin.default_eq_zero]

theorem ref_dh : val_main_v63 (F := Ideal) x.h x.γ x.o x.wg x.wu x.wd (ix2 t d) = x.dhs (ix2 t d) := by
  pointwise! [val_main_v63, val_main_v62, val_main_v61, val_main_v60, val_main_v59, val_main_v54, val_main_v53, val_main_v52, ref_dms, ref_dhat,
    ref_rsqrt, In.dhs, dh, In.tok, In.grad]

theorem ref_sum : val_main_v48 (F := Ideal) x.h x.γ x.o x.wg x.wu x.wd (ix1 d) = ∑ t : Fin 8192, hat (x.tok t) d * x.dn t d := by
  pointwise! [val_main_v48, val_main_v45, val_main_v44, val_main_v43, val_main_cst_5, val_main_cst_6, ref_dn, ref_hat, zero_add,
    Finset.univ_unique, Finset.sum_singleton]

theorem ref_dγ (r : Fin 8) : val_main_v90 (F := Ideal) x.h x.γ x.o x.wg x.wu x.wd (ix2 r d) = x.dγs (ix2 r d) := by
  have hz : (FloatOps.sitofp (F := Ideal) FTy.f32 0#32 : EReal) = 0 := by
    show (((0#32).toInt : ℝ) : EReal) = 0
    simp
  simp only [In.dγs, mul_comm (x.dn _ _)]
  pointwise! [val_main_v90, val_main_v89, val_main_call4_v0, val_main_c, ref_sum, hz]

/-! ### The factors of the weights' gradients -/

theorem ref_ms' : val_main_v72 (F := Ideal) x.h (ix2 t 0) = Ideal.rsqrt (ms (x.tok t)) := by
  pointwise! [val_main_v72, val_main_v71, val_main_v70, val_main_v69, val_main_v68, val_main_v67, val_main_v66, val_main_v65, val_main_cst_10,
    val_main_cst_11, val_main_cst_12, ms, In.tok, zero_add]

theorem ref_norm' : val_main_v77 (F := Ideal) x.h x.γ (ix2 t d) = Half.norm (x.tok t) x.scale d := by
  pointwise! [val_main_v77, val_main_v76, val_main_v75, val_main_v74, val_main_v73, val_main_v64, ref_ms', Half.norm, In.scale, In.tok]

theorem ref_gate' : val_main_v78 (F := Ideal) x.h x.γ x.wg (ix2 t f) = x.gate t f := by
  pointwise! [val_main_v78, ref_norm', val_main_v2, val_main_v1, val_main_v0, In.gate, Half.inner, rows, Nat.div_add_mod']

theorem ref_up' : val_main_v79 (F := Ideal) x.h x.γ x.wu (ix2 t f) = x.up t f := by
  pointwise! [val_main_v79, ref_norm', val_main_v5, val_main_v4, val_main_v3, In.up, Half.inner, rows, Nat.div_add_mod']

theorem ref_sigma' : val_main_v84_2 (F := Ideal) x.h x.γ x.wg (ix2 t f) = Ideal.logistic (x.gate t f) := by
  pointwise! [val_main_v84_2, val_main_call2_v4, val_main_call2_v3, val_main_call2_v2, val_main_call2_v1, val_main_call2_v0, val_main_call2_cst,
    val_main_call2_cst_0, ref_gate', Ideal.logistic]

theorem ref_dsigma' : val_main_v84_1 (F := Ideal) x.h x.γ x.wg (ix2 t f)
    = Ideal.logistic (x.gate t f) * (1 - Ideal.logistic (x.gate t f)) := by
  pointwise! [val_main_v84_1, val_main_call2_v7, val_main_call2_v6, val_main_call2_cst_1, ref_sigma']

theorem ref_dact' : val_main_v83 (F := Ideal) x.o x.wd (ix2 t f) = x.act t f := by
  pointwise! [val_main_v83, val_main_v82, val_main_v81, val_main_v80, val_main_cst_13, val_main_v7, val_main_v6, In.act, dact, dy, In.grad, rows, Nat.div_add_mod']

theorem ref_ct' : val_main_v87 (F := Ideal) x.h x.γ x.o x.wu x.wd (ix2 t f) = x.act t f * x.up t f := by
  pointwise! [val_main_v87, ref_dact', ref_up']

theorem ref_xs : val_main_v95 (F := Ideal) x.h x.γ (ix2 t d) = x.xs (ix2 t d) := by
  pointwise! [val_main_v95, ref_norm', In.xs]

theorem ref_acts : val_main_v96 (F := Ideal) x.h x.γ x.wg x.wu (ix2 t f) = x.acts (ix2 t f) := by
  pointwise! [val_main_v96, val_main_v92, val_main_v91, val_main_call5_v5, val_main_call5_v4, val_main_call5_v3, val_main_call5_v2, val_main_call5_v1,
    val_main_call5_v0, val_main_call5_cst, val_main_call5_cst_0, ref_gate', ref_up', In.acts, gated, Ideal.logistic]

theorem ref_dgs : val_main_v97 (F := Ideal) x.h x.γ x.o x.wg x.wu x.wd (ix2 t f) = x.dgs (ix2 t f) := by
  pointwise! [val_main_v97, val_main_v88, val_main_call3_v2, val_main_call3_v1, val_main_call3_v0, ref_ct', ref_gate', ref_sigma', ref_dsigma', In.dgs, In.dg, dgate]

theorem ref_dus : val_main_v98 (F := Ideal) x.h x.γ x.o x.wg x.wd (ix2 t f) = x.dus (ix2 t f) := by
  show _ = x.act t f * (x.gate t f * Ideal.logistic (x.gate t f))
  rw [mul_comm]
  pointwise! [val_main_v98, val_main_v86, val_main_v84_0, ref_sigma', ref_gate', ref_dact']

theorem ref_dys : val_main_v99 (F := Ideal) x.o (ix2 t d) = x.dys (ix2 t d) := by
  pointwise! [val_main_v99, val_main_v94, val_main_v93, val_main_cst_14, In.dys, dy, In.grad]

end Cert.HalfBack

end
-- ==== Proof.BackClaim.lean ====
/- The half block's backward kernel and its reference give the same arrays where every argument is finite. -/
module

public import proofs.«01_k».proof.Defs
public import proofs.«01_k».proof.Proof.BackGain
public import proofs.«01_k».proof.Proof.BackRef
public import proofs.«01_k».proof.Proof.Gen.Reference4Ideal.Run
public import Idealize.ShloMosaic.Lib.ReduceAll

@[expose] public section

set_option maxRecDepth 16384

noncomputable section

namespace Cert.HalfBack

open Idealize.ShloMosaic Idealize.ShloMosaic.TcCoe Idealize.SL.Sem

/-! ### The precondition, read entry by entry -/

instance pre_facts : Cert.Pre_finite.Facts where
  bcast_S_S8192x1024 := by decide
  reducesTo_S8192x1024_S_d0_1 := by decide
  h_S_ := by decide
  bitsLt_bf16_f32 := by decide
  bcast_S_S1x1024 := by decide
  reducesTo_S1x1024_S_d0_1 := by decide
  bcast_S_S8x352x1024 := by decide
  reducesTo_S8x352x1024_S_d0_1_2 := by decide

/-- A number of magnitude less than infinity is finite. -/
theorem real_of_cmp (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe y => exact ⟨y, rfl⟩

/-- An array whose every entry's magnitude is less than infinity holds finite numbers. -/
theorem real_of_all {s : Shape} {axes : List (Fin s.rank)} (a : FVec Ideal s .f32) (hb : Cert.Pre_finite.S_.BroadcastsInDim s (![] : Fin 0 → Fin s.rank))
    (hr : s.ReducesTo axes Cert.Pre_finite.S_) (hu : 0 < Cert.Pre_finite.S_.numel) (init : IVec Cert.Pre_finite.S_ 1) (j : Cert.Pre_finite.S_.Idx)
    (e : Host.reduce IntOp.andi (cmpf .olt (Host.absf a) (broadcastInDim s ![] hb (constant Cert.Pre_finite.S_ .f32 0x7F800000#32))) init hr hu j = 1#1)
    (i : s.Idx) : IsReal (a i) := by
  have : Subsingleton Cert.Pre_finite.S_.Idx := ⟨fun p q => funext fun k => k.elim0⟩
  exact real_of_cmp _ (Host.reduce_andi_all _ _ _ _ j e i)

theorem finite_of_pre (h o : FVec Ideal Cert.Pre_finite.S8192x1024 .f32) (γ : FVec Ideal Cert.Pre_finite.S1x1024 .f32)
    (wg wu wd : FVec Ideal Cert.Pre_finite.S8x352x1024 .bf16)
    (e : Cert.Pre_finite.fn (F := Ideal) h γ o wg wu wd = fun _ => 1#1) : (⟨h, γ, o, wg, wu, wd⟩ : In).Finite := by
  have e0 := congrFun e (fun k : Fin 0 => k.elim0)
  obtain ⟨e1, h6⟩ := IntOp.andi_eq_one.mp e0
  obtain ⟨e2, h5⟩ := IntOp.andi_eq_one.mp e1
  obtain ⟨e3, h4⟩ := IntOp.andi_eq_one.mp e2
  obtain ⟨e4, h3⟩ := IntOp.andi_eq_one.mp e3
  obtain ⟨h1, h2⟩ := IntOp.andi_eq_one.mp e4
  exact ⟨real_of_all _ _ _ _ _ _ h1, real_of_all _ _ _ _ _ _ h2, real_of_all _ _ _ _ _ _ h3, real_of_all (s := Cert.Pre_finite.S8x352x1024) _ _ _ _ _ _ h4,
    real_of_all (s := Cert.Pre_finite.S8x352x1024) _ _ _ _ _ _ h5, real_of_all (s := Cert.Pre_finite.S8x352x1024) _ _ _ _ _ _ h6⟩

/-! ### The results -/

section Reference

open Cert.Reference4Ideal Cert.Reference4Ideal.Read

variable (x : In)

theorem whole {n k : ℕ} {f g : (⟨2, ![n, k]⟩ : Shape).Idx → EReal} (h : ∀ (r : Fin n) (d : Fin k), f (ix2 r d) = g (ix2 r d)) : f = g := by
  funext i
  obtain ⟨r, d, rfl⟩ : ∃ (r : Fin n) (d : Fin k), i = ix2 r d := ⟨i 0, i 1, funext fun b => by fin_cases b <;> rfl⟩
  exact h r d

theorem all_dh : val_main_v63 (F := Ideal) x.h x.γ x.o x.wg x.wu x.wd = x.dhs := whole fun t d => ref_dh x t d
theorem all_dγ : val_main_v90 (F := Ideal) x.h x.γ x.o x.wg x.wu x.wd = x.dγs := whole fun r d => ref_dγ x d r
theorem all_xs : val_main_v95 (F := Ideal) x.h x.γ = x.xs := whole fun t d => ref_xs x t d
theorem all_acts : val_main_v96 (F := Ideal) x.h x.γ x.wg x.wu = x.acts := whole fun t f => ref_acts x t f
theorem all_dgs : val_main_v97 (F := Ideal) x.h x.γ x.o x.wg x.wu x.wd = x.dgs := whole fun t f => ref_dgs x t f
theorem all_dus : val_main_v98 (F := Ideal) x.h x.γ x.o x.wg x.wd = x.dus := whole fun t f => ref_dus x t f
theorem all_dys : val_main_v99 (F := Ideal) x.o = x.dys := whole fun t d => ref_dys x t d

end Reference

theorem algebraic : Cert.algebraic_Kernel4Ideal_Reference4Ideal_pre_finite (hKernel4Ideal := Cert.Kernel4Ideal.Gen.facts)
    (hReference4Ideal := Cert.Reference4Ideal.Gen.facts) (hPre_finite := pre_facts) := by
  intro m g m' g' hp hag
  have hx (c : Dev Cert.Kernel4Ideal.nD) : (args m c).Finite := finite_of_pre _ _ _ _ _ _ (hp c)
  have hK := Cert.Kernel4Ideal.Value.run_blocks m g
  have hR := Cert.Reference4Ideal.Value.run (F := Ideal) m' g'
  refine ⟨fun c => (args m c).dhs, fun c => (args m c).dγs, fun c => (args m c).xs, fun c => (args m c).acts, fun c => (args m c).dgs,
    fun c => (args m c).dus, fun c => (args m c).dys, ?_, ?_⟩
  · refine (θ_run _ _ _).mono (fun r h c => ?_) hK
    obtain ⟨r0, r1, r2, r3, r4, r5, r6, rest⟩ := h c
    exact ⟨r0.trans (array8 m c (hx c)), r1.trans (array9 m c (hx c)), r2.trans (array10 m c), r3.trans (array11 m c),
      r4.trans (array12 m c (hx c)), r5.trans (array13 m c), r6.trans (array14 m c), rest⟩
  · refine (θ_run _ _ _).mono (fun r h c => ?_) hR
    obtain ⟨a0, a1, a2, a3, a4, a5⟩ := hag c
    obtain ⟨r0, r1, r2, r3, r4, r5, r6, rest⟩ := h c
    have e0 := Cert.Reference4Ideal.Read.val_main_v63_eq m' c
    have e1 := Cert.Reference4Ideal.Read.val_main_v90_eq m' c
    have e4 := Cert.Reference4Ideal.Read.val_main_v97_eq m' c
    rw [a0, a1, a2, a3, a4, a5] at e0 e1 e4
    rw [a0, a1] at r2
    rw [a0, a1, a3, a4] at r3
    rw [a0, a1, a2, a3, a5] at r5
    rw [a2] at r6
    exact ⟨r0.trans (e0.trans (all_dh (args m c))), r1.trans (e1.trans (all_dγ (args m c))),
      r2.trans ((Cert.Reference4Ideal.Read.val_main_v95_eq _ _).trans (all_xs (args m c))),
      r3.trans ((Cert.Reference4Ideal.Read.val_main_v96_eq _ _ _ _).trans (all_acts (args m c))),
      r4.trans (e4.trans (all_dgs (args m c))),
      r5.trans ((Cert.Reference4Ideal.Read.val_main_v98_eq _ _ _ _ _).trans (all_dus (args m c))),
      r6.trans ((Cert.Reference4Ideal.Read.val_main_v99_eq _).trans (all_dys (args m c))), rest⟩

end Cert.HalfBack

end
-- ==== Proof.OutBack.lean ====
/- The output projection's backward kernel: what its tiles store and add up to. -/
module

public import proofs.«01_k».proof.Proof.Gen.Kernel5Ideal.Value
public import Idealize.ShloMosaic.Lib.Pointwise
public import Idealize.ShloMosaic.Lib.Pipeline.Value
public import Idealize.ShloMosaic.Lib.Pipeline.ValueKit.Point
public import Idealize.ShloMosaic.Lib.Pipeline.ValueKit.Acc
public import Idealize.ShloMosaic.Lib.WholeRead

@[expose] public section

set_option maxRecDepth 16384

noncomputable section

namespace Cert.OutBack

open Idealize.ShloMosaic Idealize.ShloMosaic.TcCoe Idealize.SL.Sem Idealize.ShloMosaic.Pipeline
open Cert.Kernel5Ideal Cert.Kernel5Ideal.Gen

/-- Entry `j` of a row that two rows of 512 make up. -/
def joined (a b : Fin 512 → EReal) (j : Fin 1024) : EReal :=
  if h : j.val < 512 then a ⟨j, h⟩ else b ⟨j - 512, by omega⟩

/-- The gradient of the output, the projection's two inputs, and its weight, stored as 8 slices of 128 rows. -/
structure In where
  o : S8192x1024.Idx → EReal
  a : S8192x512.Idx → EReal
  b : S8192x512.Idx → EReal
  w : S8x128x1024.Idx → EReal

namespace In

variable (x : In)

/-- The gradient of the joined inputs. -/
def dy (t : Fin 8192) (j : Fin 1024) : EReal :=
  ∑ d : Fin 1024, x.o (ix2 t d) * x.w (ix3 ⟨j / 128, by omega⟩ ⟨j % 128, by omega⟩ d)

/-- The two inputs' gradients. -/
def das : S8192x512.Idx → EReal := fun i => x.dy (i 0) ⟨i 1, by have := (i 1).isLt; change (i 1).val < 512 at this; omega⟩
def dbs : S8192x512.Idx → EReal := fun i => x.dy (i 0) ⟨512 + i 1, by have := (i 1).isLt; change (i 1).val < 512 at this; omega⟩

/-- The joined inputs. -/
def y (t : Fin 8192) (j : Fin 1024) : EReal := joined (fun k => x.a (ix2 t k)) (fun k => x.b (ix2 t k)) j

/-- The weight's gradient. -/
def dws : S1024x1024.Idx → EReal := fun i => ∑ t : Fin 8192, x.y t (i 0) * x.o (ix2 t (i 1))

end In

section Tile

variable (o : Vec Ideal S512x1024 .f32) (w : Vec Ideal S8x128x1024 .bf16) (a b : Vec Ideal S512x512 .bf16) (acc : Vec Ideal S1024x1024 .f32)

theorem pay2_apply (r : Fin 512) (j : Fin 1024) : k0_pay2 (F := Ideal) o w (ix2 r j)
    = ∑ d : Fin 1024, (o (ix2 r d) : EReal) * w (ix3 ⟨j / 128, by omega⟩ ⟨j % 128, by omega⟩ d) := by
  pointwise! [k0_pay2, k0_pay1, zero_add]

theorem pay3_apply (r : Fin 512) (k : Fin 512) : k0_pay3 (F := Ideal) o w (ix2 r k)
    = k0_pay2 (F := Ideal) o w (ix2 r ⟨k, by omega⟩) := by
  pointwise! [k0_pay3]

theorem pay4_apply (r : Fin 512) (k : Fin 512) : k0_pay4 (F := Ideal) o w (ix2 r k)
    = k0_pay2 (F := Ideal) o w (ix2 r ⟨512 + k, by omega⟩) := by
  pointwise! [k0_pay4]

theorem pay5_apply (j d : Fin 1024) : k0_pay5 (F := Ideal) (ix2 j d) = 0 := by
  pointwise! [k0_pay5]

theorem pay6_apply (j d : Fin 1024) : k0_pay6 (F := Ideal) o a b acc (ix2 j d)
    = (acc (ix2 j d) : EReal) + ∑ r : Fin 512, joined (fun k => a (ix2 r k)) (fun k => b (ix2 r k)) j * o (ix2 r d) := by
  pointwise! [k0_pay6, k0_pay1, zero_add, joined]

theorem pay7_eq : k0_pay7 (F := Ideal) acc = acc := by
  funext i
  idx_vars i
  pointwise! [k0_pay7]

end Tile

variable (m : (ℓ : Loc nD τ sig) → Buf (Elt Ideal) ℓ) (c : Dev nD)

/-- The kernel's arguments. -/
def args : In where
  o := m ((c : Thread nD τ).loc main_arg0)
  a := m ((c : Thread nD τ).loc main_arg1)
  b := m ((c : Thread nD τ).loc main_arg2)
  w := m ((c : Thread nD τ).loc main_arg3)

variable (t : Fin cfg0.N)

theorem lt_points : t.val < 16 := t.isLt

/-- Row `r` of point `t`'s tile. -/
def at_ (r : Fin 512) : Fin 8192 := ⟨t.val * 512 + r, by have := lt_points t; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])

theorem at0 (r : Fin 512) (d : Fin 1024) : iblk m c 0 t (ix2 r d) = (args m c).o (ix2 (at_ t r) d) := by
  blk_ext [iblk, V, idx0 t, at_]
theorem at1 (r k : Fin 512) : iblk m c 1 t (ix2 r k) = (args m c).a (ix2 (at_ t r) k) := by
  blk_ext [iblk, V, idx1 t, at_]
theorem at2 (r k : Fin 512) : iblk m c 2 t (ix2 r k) = (args m c).b (ix2 (at_ t r) k) := by
  blk_ext [iblk, V, idx2 t, at_]
theorem at3 : iblk m c 3 t = (args m c).w := by
  funext i
  idx_vars i
  blk_ext [iblk, V, idx3 t]

/-! ### The inputs' gradients -/

theorem dy_at (r : Fin 512) (j : Fin 1024) : k0_pay2 (F := Ideal) (iblk m c 0 t) (iblk m c 3 t) (ix2 r j) = (args m c).dy (at_ t r) j := by
  refine (pay2_apply _ _ r j).trans ?_
  simp only [at0, at3]
  rfl

theorem point4 (r k : Fin 512) : (outsAt0 m c t.val t.isLt).1 (ix2 r k) = (args m c).das (ix2 (at_ t r) k) := by
  have e := (pay3_apply (iblk m c 0 t) (iblk m c 3 t) r k).trans (dy_at m c t r _)
  by_cases h0 : t.val % 16 = 0
  · rw [outsAt0_A m c t h0 (by omega)]
    frame_out
    exact e
  · by_cases h1 : t.val % 16 = 15
    · rw [outsAt0_C m c t h0 h1]
      frame_out
      exact e
    · rw [outsAt0_B m c t h0 h1]
      frame_out
      exact e

theorem point5 (r k : Fin 512) : (outsAt0 m c t.val t.isLt).2.1 (ix2 r k) = (args m c).dbs (ix2 (at_ t r) k) := by
  have e := (pay4_apply (iblk m c 0 t) (iblk m c 3 t) r k).trans (dy_at m c t r _)
  by_cases h0 : t.val % 16 = 0
  · rw [outsAt0_A m c t h0 (by omega)]
    frame_out
    exact e
  · by_cases h1 : t.val % 16 = 15
    · rw [outsAt0_C m c t h0 h1]
      frame_out
      exact e
    · rw [outsAt0_B m c t h0 h1]
      frame_out
      exact e

theorem array4 : (dats m 0 c).arrAt 4 cfg0.N = (args m c).das := by
  refine (dats m 0 c).arrAt_eq_of_covers 4 _ (by decide +kernel) fun t hf y => ?_
  blk_simp
  rw [after0_4]
  obtain ⟨r, d, rfl⟩ : ∃ (r : Fin 512) (d : Fin 512), y = ix2 r d := ⟨y 0, y 1, funext fun b => by fin_cases b <;> rfl⟩
  refine (point4 m c t r d).trans ?_
  blk_ext [idx4 t, at_]

theorem array5 : (dats m 0 c).arrAt 5 cfg0.N = (args m c).dbs := by
  refine (dats m 0 c).arrAt_eq_of_covers 5 _ (by decide +kernel) fun t hf y => ?_
  blk_simp
  rw [after0_5]
  obtain ⟨r, d, rfl⟩ : ∃ (r : Fin 512) (d : Fin 512), y = ix2 r d := ⟨y 0, y 1, funext fun b => by fin_cases b <;> rfl⟩
  refine (point5 m c t r d).trans ?_
  blk_ext [idx5 t, at_]

/-! ### The weight's gradient -/

/-- What point `t` adds to the accumulator. -/
def adds (p : Fin 1024 × Fin 1024) : EReal :=
  ∑ r : Fin 512, (args m c).y (at_ t r) p.1 * (args m c).o (ix2 (at_ t r) p.2)

/-- The accumulator after the `n`th point. -/
def holds (n : ℕ) (hn : n < cfg0.N) (p : Fin 1024 × Fin 1024) : EReal := (outsAt0 m c n hn).2.2.2 (ix2 p.1 p.2)

theorem added (acc : Vec Ideal S1024x1024 .f32) (p : Fin 1024 × Fin 1024) :
    k0_pay6 (F := Ideal) (iblk m c 0 t) (iblk m c 1 t) (iblk m c 2 t) acc (ix2 p.1 p.2) = (acc (ix2 p.1 p.2) : EReal) + adds m c t p := by
  refine (pay6_apply _ _ _ _ _ _).trans ?_
  simp only [at0, at1, at2, adds]
  rfl

theorem holds_first (h0 : t.val % 16 = 0) (p : Fin 1024 × Fin 1024) : holds m c t.val t.isLt p = 0 + adds m c t p := by
  rw [holds, outsAt0_A m c t h0 (by omega)]
  frame_out
  refine (added m c t _ p).trans ?_
  rw [pay5_apply]

theorem holds_next (h0 : ¬t.val % 16 = 0) (p : Fin 1024 × Fin 1024) : holds m c t.val t.isLt p
    = holds m c (t.val - 1) (Nat.lt_of_le_of_lt (Nat.sub_le _ _) t.isLt) p + adds m c t p := by
  by_cases h1 : t.val % 16 = 15
  · rw [holds, outsAt0_C m c t h0 h1]
    frame_out
    refine (added m c t _ p).trans ?_
    exact congrArg (· + _) (congrFun (Memref.IsWhole.read_unread _ _) _)
  · rw [holds, outsAt0_B m c t h0 h1]
    frame_out
    refine (added m c t _ p).trans ?_
    exact congrArg (· + _) (congrFun (Memref.IsWhole.read_unread _ _) _)

theorem left_last (h1 : t.val % 16 = 15) : (outsAt0 m c t.val t.isLt).2.2.1 = (outsAt0 m c t.val t.isLt).2.2.2 := by
  rw [outsAt0_C m c t (by omega) h1]
  dsimp only
  frame_out
  exact pay7_eq _

/-- A sum over `16 * 512` tokens, tile by tile. -/
theorem sum_tiles (f : Fin 8192 → EReal) : ∑ s : Fin 16, ∑ k : Fin 512, f ⟨s * 512 + k, by omega⟩ = ∑ k : Fin 8192, f k := by
  rw [← Fintype.sum_prod_type', ← Equiv.sum_comp (finProdFinEquiv (m := 16) (n := 512))]
  refine Finset.sum_congr rfl fun p _ => congrArg f (Fin.ext ?_)
  show (p.1 : ℕ) * 512 + p.2 = p.2 + 512 * p.1
  omega

/-- The last point. -/
def lastPt : Fin cfg0.N := ⟨15, by decide⟩

theorem holds_last (p : Fin 1024 × Fin 1024) : holds m c lastPt.val lastPt.isLt p = (args m c).dws (ix2 p.1 p.2) := by
  have := congrFun (eq_sum_fin_of_reset_step_last (holds m c) 16 (fun _ => 0) (adds m c)
    (fun t h => funext fun p => holds_first m c t h p) (fun t h => funext fun p => holds_next m c t h p)
    (by decide) lastPt (by decide)) p
  rw [Pi.add_apply, Finset.sum_apply, zero_add] at this
  exact this.trans (sum_tiles fun t => (args m c).y t p.1 * (args m c).o (ix2 t p.2))

theorem array6 : (dats m 0 c).arrAt 6 cfg0.N = (args m c).dws := by
  refine (dats m 0 c).arrAt_eq_of_after_last 6 lastPt (by decide +kernel) _ fun y => ?_
  rw [after0_6, left_last m c lastPt (by decide)]
  obtain ⟨r, d, rfl⟩ : ∃ (r d : Fin 1024), y = ix2 r d := ⟨y 0, y 1, funext fun b => by fin_cases b <;> rfl⟩
  exact holds_last m c (r, d)

end Cert.OutBack

end
-- ==== Proof.OutBackClaim.lean ====
/- The output projection's backward pass: the reference's results, and that both programs leave them. -/
module

public import proofs.«01_k».proof.Defs
public import proofs.«01_k».proof.Proof.OutBack
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read

@[expose] public section

set_option maxRecDepth 16384

noncomputable section

namespace Cert.OutBack

open Idealize.ShloMosaic Idealize.ShloMosaic.TcCoe Idealize.SL.Sem

section Reference

open Cert.Reference5Ideal Cert.Reference5Ideal.Read

variable (x : In)

theorem ref_dy (t : Fin 8192) (j : Fin 1024) : val_main_v8 (F := Ideal) x.o x.w (ix2 t j) = x.dy t j := by
  pointwise! [val_main_v8, val_main_v1, val_main_v0, In.dy]

theorem ref_da (t : Fin 8192) (k : Fin 512) : val_main_v9 (F := Ideal) x.o x.w (ix2 t k) = x.das (ix2 t k) := by
  pointwise! [val_main_v9, ref_dy, In.das]

theorem ref_db (t : Fin 8192) (k : Fin 512) : val_main_v10 (F := Ideal) x.o x.w (ix2 t k) = x.dbs (ix2 t k) := by
  pointwise! [val_main_v10, ref_dy, In.dbs]

theorem ref_y (t : Fin 8192) (j : Fin 1024) : val_main_v4 (F := Ideal) x.a x.b (ix2 t j) = x.y t j := by
  pointwise! [val_main_v4, val_main_v3, val_main_v2, In.y, joined]

theorem ref_dw (j d : Fin 1024) : val_main_v11 (F := Ideal) x.o x.a x.b (ix2 j d) = x.dws (ix2 j d) := by
  simp only [In.dws, mul_comm (x.y _ _)]
  pointwise! [val_main_v11, val_main_v7, val_main_v6, ref_y]

theorem whole {n k : ℕ} {f g : (⟨2, ![n, k]⟩ : Shape).Idx → EReal} (h : ∀ (r : Fin n) (d : Fin k), f (ix2 r d) = g (ix2 r d)) : f = g := by
  funext i
  obtain ⟨r, d, rfl⟩ : ∃ (r : Fin n) (d : Fin k), i = ix2 r d := ⟨i 0, i 1, funext fun b => by fin_cases b <;> rfl⟩
  exact h r d

theorem all_da : val_main_v9 (F := Ideal) x.o x.w = x.das := whole fun t k => ref_da x t k
theorem all_db : val_main_v10 (F := Ideal) x.o x.w = x.dbs := whole fun t k => ref_db x t k
theorem all_dw : val_main_v11 (F := Ideal) x.o x.a x.b = x.dws := whole fun j d => ref_dw x j d

end Reference

theorem algebraic : Cert.algebraic_Kernel5Ideal_Reference5Ideal (hKernel5Ideal := Cert.Kernel5Ideal.Gen.facts)
    (hReference5Ideal := Cert.Reference5Ideal.Gen.facts) := by
  intro m g m' g' _ hag
  have hK := Cert.Kernel5Ideal.Value.run_blocks m g
  have hR := Cert.Reference5Ideal.Value.run (F := Ideal) m' g'
  refine ⟨fun c => (args m c).das, fun c => (args m c).dbs, fun c => (args m c).dws, ?_, ?_⟩
  · refine (θ_run _ _ _).mono (fun r h c => ?_) hK
    obtain ⟨r0, r1, r2, rest⟩ := h c
    exact ⟨r0.trans (array4 m c), r1.trans (array5 m c), r2.trans (array6 m c), rest⟩
  · refine (θ_run _ _ _).mono (fun r h c => ?_) hR
    obtain ⟨a0, a1, a2, a3⟩ := hag c
    obtain ⟨r0, r1, r2, rest⟩ := h c
    rw [a0, a3] at r0 r1
    rw [a0, a1, a2] at r2
    exact ⟨r0.trans ((Cert.Reference5Ideal.Read.val_main_v9_eq _ _).trans (all_da (args m c))),
      r1.trans ((Cert.Reference5Ideal.Read.val_main_v10_eq _ _).trans (all_db (args m c))),
      r2.trans ((Cert.Reference5Ideal.Read.val_main_v11_eq _ _ _).trans (all_dw (args m c))), rest⟩

end Cert.OutBack

end
-- ==== Proof.InBackSpec.lean ====
/- The backward pass of a normalised input projection with a residual branch beside it, on every token; and that the
   norm's backward pass may take the projection on the token off before it scales, whatever the values are. -/
module

public import proofs.«01_k».proof.Proof.BackSpec

@[expose] public section

noncomputable section

namespace Cert.InBack

open Idealize.ShloMosaic Cert.Half Cert.HalfBack

/-! ### The two forms of the norm's backward pass -/

theorem sq_nonneg (x : EReal) : 0 ≤ x * x := by
  induction x using EReal.rec with
  | bot => simp
  | top => simp
  | coe y => rw [← EReal.coe_mul]; exact_mod_cast mul_self_nonneg y

/-- A token with an infinity has an infinite mean square. -/
theorem ms_top {h : Fin 1024 → EReal} {k : Fin 1024} (hk : ¬IsReal (h k)) : ms h = ⊤ := by
  have hs : h k * h k = ⊤ := by
    generalize h k = x at hk
    induction x using EReal.rec with
    | bot => simp
    | top => simp
    | coe y => exact absurd ⟨y, rfl⟩ hk
  have hsum : ∑ d, h d * h d = ⊤ :=
    top_le_iff.mp (hs ▸ Finset.single_le_sum (f := fun d => h d * h d) (fun d _ => sq_nonneg (h d)) (Finset.mem_univ k))
  rw [ms, hsum, ofBits_eps, ofBits_1024, Ideal.div_coe (by norm_num), EReal.top_mul_coe_of_pos (by norm_num)]
  exact EReal.top_add_coe _

theorem mul_add_coe {r : ℝ} (hr : 0 ≤ r) (x y : EReal) : (r : EReal) * (x + y) = r * x + r * y :=
  EReal.left_distrib_of_nonneg_of_ne_top (by exact_mod_cast hr) (EReal.coe_ne_top r) x y

theorem mul_sum_coe {ι : Type} (s : Finset ι) {r : ℝ} (hr : 0 ≤ r) (f : ι → EReal) : ∑ i ∈ s, (r : EReal) * f i = r * ∑ i ∈ s, f i := by
  classical
  induction s using Finset.induction_on with
  | empty => simp
  | insert a s ha ih => rw [Finset.sum_insert ha, Finset.sum_insert ha, ih, mul_add_coe hr]

theorem half_add_half (k : ℝ) (x : EReal) : ((k / 2 : ℝ) : EReal) * x + ((k / 2 : ℝ) : EReal) * x = (k : EReal) * x := by
  have two (y : EReal) : y + y = ((2 : ℝ) : EReal) * y := by
    induction y using EReal.rec with
    | bot => rw [EReal.coe_mul_bot_of_pos (by norm_num)]; rfl
    | top => rw [EReal.coe_mul_top_of_pos (by norm_num)]; rfl
    | coe y => rw [← EReal.coe_add, ← EReal.coe_mul, two_mul]
  rw [two, ← mul_assoc, ← EReal.coe_mul, mul_div_cancel₀ k (by norm_num)]

theorem dh_eq (h o e : Fin 1024 → EReal) (d : Fin 1024) : dh' h o e d = dh h o e d := by
  by_cases hh : ∀ k, IsReal (h k)
  · choose x hx using hh
    obtain rfl : h = fun d => (x d : EReal) := funext hx
    obtain ⟨M, hM, hm⟩ := ms_coe x
    have h0 : 0 ≤ (Real.sqrt M)⁻¹ := inv_nonneg.mpr (Real.sqrt_nonneg M)
    have hr : M⁻¹ = (Real.sqrt M)⁻¹ * (Real.sqrt M)⁻¹ := by rw [← mul_inv, Real.mul_self_sqrt hM.le]
    simp only [dh, dh', dms, hat, hm, rsqrt_coe_pos hM, ofBits_1024, ofBits_neg_half, Ideal.div_coe hM.ne',
      Ideal.div_coe (show (1024 : ℝ) ≠ 0 by norm_num), one_div, hr]
    generalize (Real.sqrt M)⁻¹ = r at h0
    have hs : ∑ k, e k * ((x k : EReal) * r) = r * ∑ k, (x k : EReal) * e k := by
      rw [← mul_sum_coe _ h0]
      exact Finset.sum_congr rfl fun k _ => by ac_rfl
    rw [hs]
    generalize ∑ k, (x k : EReal) * e k = S
    have e1 : (x d : EReal) * (S * (((-2⁻¹ : ℝ) : EReal) * ((r : EReal) * ((r * r : ℝ) : EReal))) * ((1024 : ℝ)⁻¹ : ℝ))
        = (((-(x d * r * r * r * 1024⁻¹)) / 2 : ℝ) : EReal) * S := by
      rw [show (-(x d * r * r * r * 1024⁻¹)) / 2 = x d * (-2⁻¹) * r * (r * r) * 1024⁻¹ by ring]
      simp only [EReal.coe_mul]
      ac_rfl
    have e2 : (r : EReal) * -((x d : EReal) * r * (r * S * ((1024 : ℝ)⁻¹ : ℝ))) = ((-(x d * r * r * r * 1024⁻¹) : ℝ) : EReal) * S := by
      rw [mul_neg, EReal.coe_neg, neg_mul]
      simp only [EReal.coe_mul]
      exact congrArg Neg.neg (by ac_rfl)
    rw [sub_eq_add_neg, mul_add_coe h0, e2, mul_comm (_ * _) (x d : EReal), e1, add_assoc _ (_ * S) (_ * S), half_add_half, mul_comm (r : EReal) (e d), add_assoc]
  · obtain ⟨k, hk⟩ := not_forall.mp hh
    have hz : Ideal.div 0 ⊤ = 0 := Ideal.zero_div (by simp)
    simp only [dh, dh', dms, hat, ms_top hk, Ideal.rsqrt_top, hz, mul_zero, zero_mul, ofBits_1024,
      Ideal.div_coe (show (1024 : ℝ) ≠ 0 by norm_num), add_zero, sub_zero]

/-! ### On every token -/

/-- Entry `j` of a row that five rows of 512 make up. -/
def joined (a b c d e : Fin 512 → EReal) (j : Fin 2560) : EReal :=
  if h : j.val < 512 then a ⟨j, h⟩
  else if h : j.val - 512 < 512 then b ⟨j - 512, h⟩
  else if h : j.val - 512 - 512 < 512 then c ⟨j - 512 - 512, h⟩
  else if h : j.val - 512 - 512 - 512 < 512 then d ⟨j - 512 - 512 - 512, h⟩
  else e ⟨j - 512 - 512 - 512 - 512, by omega⟩

/-- The projection's input, the norm's weight, the gradients of the projection's five pieces and of the residual branch,
    and the weight's 2560 rows, stored as 8 slices of 320. -/
structure In where
  h : (⟨2, ![8192, 1024]⟩ : Shape).Idx → EReal
  γ : (⟨2, ![1, 1024]⟩ : Shape).Idx → EReal
  u : (⟨2, ![8192, 512]⟩ : Shape).Idx → EReal
  v : (⟨2, ![8192, 512]⟩ : Shape).Idx → EReal
  x : (⟨2, ![8192, 512]⟩ : Shape).Idx → EReal
  b : (⟨2, ![8192, 512]⟩ : Shape).Idx → EReal
  c : (⟨2, ![8192, 512]⟩ : Shape).Idx → EReal
  o : (⟨2, ![8192, 1024]⟩ : Shape).Idx → EReal
  w : (⟨3, ![8, 320, 1024]⟩ : Shape).Idx → EReal

namespace In

variable (x : In) (t : Fin 8192)

def tok (d : Fin 1024) : EReal := x.h (ix2 t d)
def scale (d : Fin 1024) : EReal := x.γ (ix2 0 d)
def grad (d : Fin 1024) : EReal := x.o (ix2 t d)

/-- The gradient of the projection. -/
def dp (j : Fin 2560) : EReal :=
  joined (fun k => x.u (ix2 t k)) (fun k => x.v (ix2 t k)) (fun k => x.x (ix2 t k)) (fun k => x.b (ix2 t k)) (fun k => x.c (ix2 t k)) j

/-- The gradient of the normalised token, and of the token over its root mean square. -/
def dn (d : Fin 1024) : EReal := ∑ j : Fin 2560, x.dp t j * x.w (ix3 ⟨j / 320, by omega⟩ ⟨j % 320, by omega⟩ d)
def dhat (d : Fin 1024) : EReal := x.dn t d * x.scale d

/-- The gradient of the projection's input. -/
def dhs : (⟨2, ![8192, 1024]⟩ : Shape).Idx → EReal := fun i => dh (x.tok (i 0)) (x.grad (i 0)) (x.dhat (i 0)) (i 1)

/-- The gradient of the norm's weight, in the first of eight rows. -/
def dγs : (⟨2, ![8, 1024]⟩ : Shape).Idx → EReal := fun i =>
  if (i 0).val < 1 then ∑ t : Fin 8192, x.dn t (i 1) * hat (x.tok t) (i 1) else 0

/-- The gradient of the weight. -/
def dws : (⟨2, ![2560, 1024]⟩ : Shape).Idx → EReal := fun i => ∑ t : Fin 8192, x.dp t (i 0) * norm (x.tok t) x.scale (i 1)

end In

end Cert.InBack

end
-- ==== Proof.InBackTile.lean ====
/- The input projection's backward kernel: what it stores, entry by entry, on one tile of 512 tokens. -/
module

public import proofs.«01_k».proof.Proof.InBackSpec
public import proofs.«01_k».proof.Proof.Gen.Kernel6Ideal.Skeleton

@[expose] public section

set_option maxRecDepth 16384

noncomputable section

namespace Cert.InBack

open Idealize.ShloMosaic Idealize.ShloMosaic.TcCoe Idealize.SL.Sem
open Cert.Kernel6Ideal Cert.Kernel6Ideal.Gen Cert.Half Cert.HalfBack

section Tile

variable (h o : Vec Ideal S512x1024 .f32) (γ : Vec Ideal S1x1024 .f32) (u v x b c : Vec Ideal S512x512 .bf16)
  (w : Vec Ideal S8x320x1024 .bf16) (acc : Vec Ideal S2560x1024 .f32)

abbrev row (r : Fin 512) : Fin 1024 → EReal := fun d => h (ix2 r d)
abbrev lane : Fin 1024 → EReal := fun d => γ (ix2 0 d)

/-- The tile's five pieces side by side, and the gradient of its normalised tokens. -/
abbrev pieces (r : Fin 512) : Fin 2560 → EReal :=
  joined (fun k => u (ix2 r k)) (fun k => v (ix2 r k)) (fun k => x (ix2 r k)) (fun k => b (ix2 r k)) (fun k => c (ix2 r k))
abbrev back (r : Fin 512) (d : Fin 1024) : EReal :=
  ∑ j : Fin 2560, pieces u v x b c r j * w (ix3 ⟨j / 320, by omega⟩ ⟨j % 320, by omega⟩ d)

theorem pay7_apply (r : Fin 512) : k0_pay7 (F := Ideal) h (ix2 r 0) = Ideal.rsqrt (ms (row h r)) := by
  pointwise! [k0_pay7, ms, zero_add]

theorem pay8_apply (r : Fin 512) (d : Fin 1024) : k0_pay8 (F := Ideal) h (ix2 r d) = hat (row h r) d := by
  pointwise! [k0_pay8, pay7_apply, hat]

theorem pay9_apply (r : Fin 512) (d : Fin 1024) : k0_pay9 (F := Ideal) γ h (ix2 r d) = Half.norm (row h r) (lane γ) d := by
  pointwise! [k0_pay9, pay8_apply, Half.norm, hat]

theorem pay10_apply (r : Fin 512) (j : Fin 2560) : k0_pay10 (F := Ideal) u v x b c (ix2 r j) = pieces u v x b c r j := by
  pointwise! [k0_pay10, joined]

theorem pay11_apply (r : Fin 512) (d : Fin 1024) : k0_pay11 (F := Ideal) u v x b c w (ix2 r d) = back u v x b c w r d := by
  pointwise! [k0_pay11, pay10_apply, zero_add]

theorem pay1_apply (r : Fin 512) (d : Fin 1024) : k0_pay1 (F := Ideal) (k0_pay12 (F := Ideal) γ h u v x b c w) o (ix2 r d)
    = dh' (row h r) (row o r) (fun d => back u v x b c w r d * γ (ix2 0 d)) d := by
  pointwise! [k0_pay1, k0_pay12, pay11_apply, pay7_apply, pay8_apply, zero_add, dh']

theorem pay2_apply (r : Fin 8) (d : Fin 1024) : k0_pay2 (F := Ideal) (ix2 r d) = 0 := by
  pointwise! [k0_pay2]

theorem pay3_apply (p : Vec Ideal S1x1024 .f32) (d : Fin 1024) : k0_pay3 (F := Ideal) (k0_pay13 (F := Ideal) h u v x b c w) p (ix2 0 d)
    = (p (ix2 0 d) : EReal) + ∑ r : Fin 512, back u v x b c w r d * hat (row h r) d := by
  pointwise! [k0_pay3, k0_pay13, pay11_apply, pay8_apply, zero_add]

theorem pay4_apply (j : Fin 2560) (d : Fin 1024) : k0_pay4 (F := Ideal) (ix2 j d) = 0 := by
  pointwise! [k0_pay4]

theorem pay5_apply (j : Fin 2560) (d : Fin 1024) : k0_pay5 (F := Ideal) (k0_pay9 (F := Ideal) γ h) (k0_pay10 (F := Ideal) u v x b c) acc (ix2 j d)
    = (acc (ix2 j d) : EReal) + ∑ r : Fin 512, pieces u v x b c r j * Half.norm (row h r) (lane γ) d := by
  pointwise! [k0_pay5, pay10_apply, pay9_apply, zero_add]

theorem pay6_eq : k0_pay6 (F := Ideal) acc = acc := by
  funext i
  idx_vars i
  pointwise! [k0_pay6]

end Tile

end Cert.InBack

end
-- ==== Proof.InBack.lean ====
/- The input projection's backward kernel: what its grid points leave, and its result arrays. -/
module

public import proofs.«01_k».proof.Proof.InBackTile
public import proofs.«01_k».proof.Proof.Gen.Kernel6Ideal.Value
public import Idealize.ShloMosaic.Lib.Pipeline.Value
public import Idealize.ShloMosaic.Lib.Pipeline.ValueKit.Point
public import Idealize.ShloMosaic.Lib.Pipeline.ValueKit.Acc
public import Idealize.ShloMosaic.Lib.WholeRead
public import Idealize.ShloMosaic.Lib.WritesUnit

@[expose] public section

set_option maxRecDepth 16384

noncomputable section

namespace Cert.InBack

open Idealize.ShloMosaic Idealize.ShloMosaic.TcCoe Idealize.SL.Sem Idealize.ShloMosaic.Pipeline
open Cert.Kernel6Ideal Cert.Kernel6Ideal.Gen Cert.Half Cert.HalfBack

/-! ### A store to the first of eight rows -/

section Row

variable (w : FVec Ideal S1x1024 .f32) (L : List (View.Piece (Elt Ideal) S8x1024 .f32)) (d : Fin 1024) (r : Fin 8) (h : r ≠ 0)

theorem first_row : (Rect.unit (s := S8x1024) ![0, 0] S1x1024.size inb_S8x1024_S1x1024_0_0).emb (ix2 0 d) = (ix2 (0 : Fin 8) d : S8x1024.Idx) := by
  refine funext fun a => Fin.ext ?_
  fin_cases a
  · rfl
  · show 0 + 1 * (d : ℕ) = d
    omega

include h in
theorem other_row : (ix2 r d : S8x1024.Idx) ∉ (Rect.unit (s := S8x1024) ![0, 0] S1x1024.size inb_S8x1024_S1x1024_0_0).set := fun hm => by
  have := (Rect.mem_set_unit.mp hm (0 : Fin 2)).2
  have h1 : (r : ℕ) < 0 + 1 := this
  omega

theorem canon_first : View.canon ((⟨Rect.unit (s := S8x1024) ![0, 0] S1x1024.size inb_S8x1024_S1x1024_0_0, w⟩ : View.Piece (Elt Ideal) S8x1024 .f32) :: L)
    (ix2 (0 : Fin 8) d) = w (ix2 0 d) := by
  rw [← first_row d]
  exact View.canon_cons_emb _ _ _ _

include h in
theorem canon_other : View.canon ((⟨Rect.unit (s := S8x1024) ![0, 0] S1x1024.size inb_S8x1024_S1x1024_0_0, w⟩ : View.Piece (Elt Ideal) S8x1024 .f32) :: L)
    (ix2 r d) = View.canon L (ix2 r d) :=
  View.canon_cons_of_not_mem _ _ (other_row d r h)

theorem canon_zero : View.canon [(⟨Rect.unit (s := S8x1024) ![0, 0] S8x1024.size inb_S8x1024_S8x1024_0_0, k0_pay2 (F := Ideal)⟩ : View.Piece (Elt Ideal) S8x1024 .f32)]
    (ix2 r d) = (0 : EReal) := by
  rw [View.canon_cons_unit_lit _ _ _ (by intro a; fin_cases a <;> rfl)]
  exact pay2_apply r d

/-- The first row, loaded after the zeros are stored. -/
theorem load_zero (v : View sig .tc .vmem S8x1024 .f32) :
    v.readCov [(⟨Rect.unit (s := S8x1024) ![0, 0] S8x1024.size inb_S8x1024_S8x1024_0_0, k0_pay2 (F := Ideal)⟩ : View.Piece (Elt Ideal) S8x1024 .f32)]
      (Rect.unit (s := S8x1024) ![0, 0] S1x1024.size inb_S8x1024_S1x1024_0_0).toLoadRect (ix2 0 d) = (0 : EReal) := by
  rw [View.readCov_eq_canon']
  refine Eq.trans ?_ (canon_zero d 0)
  exact congrArg _ (first_row d)

theorem load_first (X : Vec Ideal S8x1024 .f32) :
    View.ld X (Rect.unit (s := S8x1024) ![0, 0] S1x1024.size inb_S8x1024_S1x1024_0_0) (ix2 0 d) = X (ix2 0 d) :=
  congrArg X (first_row d)

variable (v : View sig .tc .vmem S8x1024 .f32) (g : v.ty.Contents (Elt Ideal))

theorem read_first : v.read (Elt Ideal) (v.writes (Elt Ideal) g
    [⟨Rect.unit (s := S8x1024) ![0, 0] S1x1024.size inb_S8x1024_S1x1024_0_0, w⟩]) (ix2 (0 : Fin 8) d) = w (ix2 0 d) := by
  rw [View.read_writes_cons_unit_of_mem (s := S8x1024) (size := S1x1024.size) (off' := ![0, 0]) v g _ _ _ _ (ix2 0 d) rfl]
  intro a
  fin_cases a <;> exact (Nat.zero_add _).symm

include h in
theorem read_other : v.read (Elt Ideal) (v.writes (Elt Ideal) g
    [⟨Rect.unit (s := S8x1024) ![0, 0] S1x1024.size inb_S8x1024_S1x1024_0_0, w⟩]) (ix2 r d) = v.read (Elt Ideal) g (ix2 r d) :=
  View.read_writes_cons_unit_of_not_mem (s := S8x1024) (size := S1x1024.size) (off' := ![0, 0]) v g _ _ _ _ rfl (0 : Fin 2)
    (Or.inr (by show 0 + 1 ≤ (r : ℕ); omega))

end Row

variable (m : (ℓ : Loc nD τ sig) → Buf (Elt Ideal) ℓ) (c : Dev nD)

/-- The kernel's arguments. -/
def args : In where
  h := m ((c : Thread nD τ).loc main_arg0)
  γ := m ((c : Thread nD τ).loc main_arg1)
  u := m ((c : Thread nD τ).loc main_arg2)
  v := m ((c : Thread nD τ).loc main_arg3)
  x := m ((c : Thread nD τ).loc main_arg4)
  b := m ((c : Thread nD τ).loc main_arg5)
  c := m ((c : Thread nD τ).loc main_arg6)
  o := m ((c : Thread nD τ).loc main_arg7)
  w := m ((c : Thread nD τ).loc main_arg8)

section Points

variable (t : Fin cfg0.N)

theorem lt_points : t.val < 16 := t.isLt

/-- Row `r` of point `t`'s tile. -/
def at_ (r : Fin 512) : Fin 8192 := ⟨t.val * 512 + r, by have := lt_points t; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![0, 0, 0] :=
  (by decide +kernel : ∀ t : Fin grid0.N, win0_8.index t = ![0, 0, 0])
theorem idx9 : ∀ t : Fin cfg0.N, win0_9.index t = ![t.val, 0] :=
  (by decide +kernel : ∀ t : Fin grid0.N, win0_9.index t = ![t.val, 0])

theorem at0 (r : Fin 512) (d : Fin 1024) : iblk m c 0 t (ix2 r d) = (args m c).tok (at_ t r) d := by
  blk_ext [iblk, V, idx0 t, at_]
theorem at1 (d : Fin 1024) : iblk m c 1 t (ix2 0 d) = (args m c).scale d := by
  blk_ext [iblk, V, idx1 t]
theorem at2 (r k : Fin 512) : iblk m c 2 t (ix2 r k) = (args m c).u (ix2 (at_ t r) k) := by
  blk_ext [iblk, V, idx2 t, at_]
theorem at3 (r k : Fin 512) : iblk m c 3 t (ix2 r k) = (args m c).v (ix2 (at_ t r) k) := by
  blk_ext [iblk, V, idx3 t, at_]
theorem at4 (r k : Fin 512) : iblk m c 4 t (ix2 r k) = (args m c).x (ix2 (at_ t r) k) := by
  blk_ext [iblk, V, idx4 t, at_]
theorem at5 (r k : Fin 512) : iblk m c 5 t (ix2 r k) = (args m c).b (ix2 (at_ t r) k) := by
  blk_ext [iblk, V, idx5 t, at_]
theorem at6 (r k : Fin 512) : iblk m c 6 t (ix2 r k) = (args m c).c (ix2 (at_ t r) k) := by
  blk_ext [iblk, V, idx6 t, at_]
theorem at7 (r : Fin 512) (d : Fin 1024) : iblk m c 7 t (ix2 r d) = (args m c).grad (at_ t r) d := by
  blk_ext [iblk, V, idx7 t, at_]
theorem at8 : iblk m c 8 t = (args m c).w := by
  funext i
  idx_vars i
  blk_ext [iblk, V, idx8 t]

theorem pieces_at (r : Fin 512) (j : Fin 2560) : pieces (iblk m c 2 t) (iblk m c 3 t) (iblk m c 4 t) (iblk m c 5 t) (iblk m c 6 t) r j
    = (args m c).dp (at_ t r) j := by
  simp only [pieces, at2, at3, at4, at5, at6]
  rfl

theorem back_at (r : Fin 512) (d : Fin 1024) : back (iblk m c 2 t) (iblk m c 3 t) (iblk m c 4 t) (iblk m c 5 t) (iblk m c 6 t) (iblk m c 8 t) r d
    = (args m c).dn (at_ t r) d := by
  simp only [back, pieces_at, at8]
  rfl

theorem row_at (r : Fin 512) : row (iblk m c 0 t) r = (args m c).tok (at_ t r) := funext fun d => at0 m c t r d
theorem grad_at (r : Fin 512) : row (iblk m c 7 t) r = (args m c).grad (at_ t r) := funext fun d => at7 m c t r d
theorem lane_at : lane (iblk m c 1 t) = (args m c).scale := funext fun d => at1 m c t d

/-! ### The gradient of the projection's input -/

theorem dh_at (r : Fin 512) (d : Fin 1024) :
    k0_pay1 (F := Ideal) (k0_pay12 (F := Ideal) (iblk m c 1 t) (iblk m c 0 t) (iblk m c 2 t) (iblk m c 3 t) (iblk m c 4 t) (iblk m c 5 t) (iblk m c 6 t) (iblk m c 8 t)) (iblk m c 7 t) (ix2 r d)
      = (args m c).dhs (ix2 (at_ t r) d) := by
  refine (pay1_apply _ _ _ _ _ _ _ _ _ r d).trans ?_
  rw [row_at, grad_at, InBack.dh_eq]
  simp only [back_at, at1]
  rfl

theorem point9 (r : Fin 512) (d : Fin 1024) : (outsAt0 m c t.val t.isLt).1 (ix2 r d) = (args m c).dhs (ix2 (at_ t r) d) := by
  by_cases h0 : t.val % 16 = 0
  · rw [outsAt0_A m c t h0 h0 (by omega)]
    frame_out
    exact dh_at m c t r d
  · by_cases h1 : t.val % 16 = 15
    · rw [outsAt0_C m c t h0 h0 h1]
      frame_out
      exact dh_at m c t r d
    · rw [outsAt0_B m c t h0 h0 h1]
      frame_out
      exact dh_at m c t r d

end Points

theorem array9 : (dats m 0 c).arrAt 9 cfg0.N = (args m c).dhs := by
  refine (dats m 0 c).arrAt_eq_of_covers 9 _ (by decide +kernel) fun t hf y => ?_
  blk_simp
  rw [after0_9]
  obtain ⟨r, d, rfl⟩ : ∃ (r : Fin 512) (d : Fin 1024), y = ix2 r d := ⟨y 0, y 1, funext fun b => by fin_cases b <;> rfl⟩
  refine (point9 m c t r d).trans ?_
  blk_ext [idx9 t, at_]

/-- A sum over `16 * 512` tokens, tile by tile. -/
theorem sum_tiles (f : Fin 8192 → EReal) : ∑ s : Fin 16, ∑ k : Fin 512, f ⟨s * 512 + k, by omega⟩ = ∑ k : Fin 8192, f k := by
  rw [← Fintype.sum_prod_type', ← Equiv.sum_comp (finProdFinEquiv (m := 16) (n := 512))]
  refine Finset.sum_congr rfl fun p _ => congrArg f (Fin.ext ?_)
  show (p.1 : ℕ) * 512 + p.2 = p.2 + 512 * p.1
  omega

/-- The last point. -/
def lastPt : Fin cfg0.N := ⟨15, by decide⟩

/-! ### The gradient of the norm's weight -/

/-- What point `t` adds to row `r`: its tokens' sum to the first row, nothing to the padding. -/
def adds (t : Fin cfg0.N) (p : Fin 8 × Fin 1024) : EReal :=
  if p.1 = 0 then ∑ r : Fin 512, (args m c).dn (at_ t r) p.2 * hat ((args m c).tok (at_ t r)) p.2 else 0

/-- What the points up to the `n`th leave in the block. -/
def holds (n : ℕ) (hn : n < cfg0.N) (p : Fin 8 × Fin 1024) : EReal := (outsAt0 m c n hn).2.1 (ix2 p.1 p.2)

theorem added (t : Fin cfg0.N) (p : Vec Ideal S1x1024 .f32) (d : Fin 1024) :
    k0_pay3 (F := Ideal) (k0_pay13 (F := Ideal) (iblk m c 0 t) (iblk m c 2 t) (iblk m c 3 t) (iblk m c 4 t) (iblk m c 5 t) (iblk m c 6 t) (iblk m c 8 t)) p (ix2 0 d)
      = (p (ix2 0 d) : EReal) + adds m c t (0, d) := by
  refine (pay3_apply _ _ _ _ _ _ _ p d).trans ?_
  rw [adds, if_pos rfl]
  refine congrArg _ (Finset.sum_congr rfl fun r _ => ?_)
  rw [back_at, row_at]

theorem holds_first (t : Fin cfg0.N) (h0 : t.val % 16 = 0) (p : Fin 8 × Fin 1024) :
    holds m c t.val t.isLt p = 0 + adds m c t p := by
  obtain ⟨r, d⟩ := p
  rw [holds, outsAt0_A m c t h0 h0 (by omega)]
  frame_out
  by_cases h : r = 0
  · subst h
    refine (canon_first _ _ d).trans ((added m c t _ d).trans ?_)
    exact congrArg (· + _) (load_zero d _)
  · refine (canon_other _ _ d r h).trans ((canon_zero d r).trans ?_)
    rw [adds, if_neg h, add_zero]

theorem holds_next (t : Fin cfg0.N) (h0 : ¬t.val % 16 = 0) (p : Fin 8 × Fin 1024) :
    holds m c t.val t.isLt p
      = holds m c (t.val - 1) (Nat.lt_of_le_of_lt (Nat.sub_le _ _) t.isLt) p + adds m c t p := by
  obtain ⟨r, d⟩ := p
  by_cases h1 : t.val % 16 = 15
  · rw [holds, outsAt0_C m c t h0 h0 h1]
    frame_out
    by_cases h : r = 0
    · subst h
      refine (read_first _ d _ _).trans ((added m c t _ d).trans ?_)
      exact congrArg (· + _) (load_first d _)
    · refine (read_other _ d r h _ _).trans ?_
      rw [adds, if_neg h, add_zero]
      exact congrFun (Memref.IsWhole.read_unread _ _) _
  · rw [holds, outsAt0_B m c t h0 h0 h1]
    frame_out
    by_cases h : r = 0
    · subst h
      refine (read_first _ d _ _).trans ((added m c t _ d).trans ?_)
      exact congrArg (· + _) (load_first d _)
    · refine (read_other _ d r h _ _).trans ?_
      rw [adds, if_neg h, add_zero]
      exact congrFun (Memref.IsWhole.read_unread _ _) _

theorem holds_last (p : Fin 8 × Fin 1024) : holds m c lastPt.val lastPt.isLt p = 0 + ∑ t : Fin cfg0.N, adds m c t p := by
  have := congrFun (eq_sum_fin_of_reset_step_last (holds m c) 16 (fun _ => 0) (adds m c)
    (fun t h => funext fun p => holds_first m c t h p) (fun t h => funext fun p => holds_next m c t h p)
    (by decide) lastPt (by decide)) p
  rwa [Pi.add_apply, Finset.sum_apply] at this

theorem array10 : (dats m 0 c).arrAt 10 cfg0.N = (args m c).dγs := by
  refine (dats m 0 c).arrAt_eq_of_after_last 10 lastPt (by decide +kernel) _ fun y => ?_
  rw [after0_10]
  obtain ⟨r, d, rfl⟩ : ∃ (r : Fin 8) (d : Fin 1024), y = ix2 r d := ⟨y 0, y 1, funext fun b => by fin_cases b <;> rfl⟩
  refine (holds_last m c (r, d)).trans ?_
  rw [zero_add]
  show _ = if r.val < 1 then ∑ t : Fin 8192, (args m c).dn t d * hat ((args m c).tok t) d else 0
  by_cases hr : r = 0
  · subst hr
    refine Eq.trans ?_ ((sum_tiles fun t => (args m c).dn t d * hat ((args m c).tok t) d).trans (if_pos (by decide)).symm)
    exact Finset.sum_congr rfl fun t _ => if_pos rfl
  · rw [if_neg (by omega)]
    exact Finset.sum_eq_zero fun t _ => if_neg hr

/-! ### The gradient of the weight -/

/-- What point `t` adds to the accumulator. -/
def addsW (t : Fin cfg0.N) (p : Fin 2560 × Fin 1024) : EReal :=
  ∑ r : Fin 512, (args m c).dp (at_ t r) p.1 * Half.norm ((args m c).tok (at_ t r)) (args m c).scale p.2

/-- The accumulator after the `n`th point. -/
def holdsW (n : ℕ) (hn : n < cfg0.N) (p : Fin 2560 × Fin 1024) : EReal := (outsAt0 m c n hn).2.2.2 (ix2 p.1 p.2)

theorem addedW (t : Fin cfg0.N) (acc : Vec Ideal S2560x1024 .f32) (p : Fin 2560 × Fin 1024) :
    k0_pay5 (F := Ideal) (k0_pay9 (F := Ideal) (iblk m c 1 t) (iblk m c 0 t)) (k0_pay10 (F := Ideal) (iblk m c 2 t) (iblk m c 3 t) (iblk m c 4 t) (iblk m c 5 t) (iblk m c 6 t)) acc (ix2 p.1 p.2)
      = (acc (ix2 p.1 p.2) : EReal) + addsW m c t p := by
  refine (pay5_apply _ _ _ _ _ _ _ _ p.1 p.2).trans ?_
  refine congrArg _ (Finset.sum_congr rfl fun r _ => ?_)
  rw [pieces_at, row_at, lane_at]

theorem holdsW_first (t : Fin cfg0.N) (h0 : t.val % 16 = 0) (p : Fin 2560 × Fin 1024) : holdsW m c t.val t.isLt p = 0 + addsW m c t p := by
  rw [holdsW, outsAt0_A m c t h0 h0 (by omega)]
  frame_out
  refine (addedW m c t _ p).trans ?_
  rw [pay4_apply]

theorem holdsW_next (t : Fin cfg0.N) (h0 : ¬t.val % 16 = 0) (p : Fin 2560 × Fin 1024) : holdsW m c t.val t.isLt p
    = holdsW m c (t.val - 1) (Nat.lt_of_le_of_lt (Nat.sub_le _ _) t.isLt) p + addsW m c t p := by
  by_cases h1 : t.val % 16 = 15
  · rw [holdsW, outsAt0_C m c t h0 h0 h1]
    frame_out
    refine (addedW m c t _ p).trans ?_
    exact congrArg (· + _) (congrFun (Memref.IsWhole.read_unread _ _) _)
  · rw [holdsW, outsAt0_B m c t h0 h0 h1]
    frame_out
    refine (addedW m c t _ p).trans ?_
    exact congrArg (· + _) (congrFun (Memref.IsWhole.read_unread _ _) _)

theorem left_last (t : Fin cfg0.N) (h1 : t.val % 16 = 15) : (outsAt0 m c t.val t.isLt).2.2.1 = (outsAt0 m c t.val t.isLt).2.2.2 := by
  rw [outsAt0_C m c t (by omega) (by omega) h1]
  dsimp only
  frame_out
  exact pay6_eq _

theorem holdsW_last (p : Fin 2560 × Fin 1024) : holdsW m c lastPt.val lastPt.isLt p = (args m c).dws (ix2 p.1 p.2) := by
  have := congrFun (eq_sum_fin_of_reset_step_last (holdsW m c) 16 (fun _ => 0) (addsW m c)
    (fun t h => funext fun p => holdsW_first m c t h p) (fun t h => funext fun p => holdsW_next m c t h p)
    (by decide) lastPt (by decide)) p
  rw [Pi.add_apply, Finset.sum_apply, zero_add] at this
  exact this.trans (sum_tiles fun t => (args m c).dp t p.1 * Half.norm ((args m c).tok t) (args m c).scale p.2)

theorem array11 : (dats m 0 c).arrAt 11 cfg0.N = (args m c).dws := by
  refine (dats m 0 c).arrAt_eq_of_after_last 11 lastPt (by decide +kernel) _ fun y => ?_
  rw [after0_11, left_last m c lastPt (by decide)]
  obtain ⟨j, d, rfl⟩ : ∃ (j : Fin 2560) (d : Fin 1024), y = ix2 j d := ⟨y 0, y 1, funext fun b => by fin_cases b <;> rfl⟩
  exact holdsW_last m c (j, d)

end Cert.InBack

end
-- ==== Proof.InBackRef.lean ====
/- The input projection's backward reference: its results on every token. -/
module

public import proofs.«01_k».proof.Proof.InBackSpec
public import proofs.«01_k».proof.Proof.Gen.Reference6Ideal
public import proofs.«01_k».proof.Proof.Gen.Reference6Ideal.Read

@[expose] public section

set_option maxRecDepth 16384

noncomputable section

namespace Cert.InBack

open Idealize.ShloMosaic Idealize.ShloMosaic.TcCoe Idealize.SL.Sem
open Cert.Reference6Ideal Cert.Reference6Ideal.Read Cert.Half Cert.HalfBack

variable (x : In) (t : Fin 8192) (d : Fin 1024) (j : Fin 2560)

theorem ref_ms : val_main_v15 (F := Ideal) x.h (ix2 t 0) = ms (x.tok t) := by
  pointwise! [val_main_v15, val_main_v14, val_main_v13, val_main_v12, val_main_v11, val_main_v10, val_main_v9, val_main_cst, val_main_cst_0,
    val_main_cst_1, ms, In.tok, zero_add]

theorem ref_rsqrt : val_main_v16 (F := Ideal) x.h (ix2 t 0) = Ideal.rsqrt (ms (x.tok t)) := by
  pointwise! [val_main_v16, ref_ms]

theorem ref_slope : val_main_v19 (F := Ideal) x.h (ix2 t 0)
    = Ideal.ofBits .f32 0xBF000000#32 * Ideal.div (Ideal.rsqrt (ms (x.tok t))) (ms (x.tok t)) := by
  pointwise! [val_main_v19, val_main_v18, val_main_v17, val_main_cst_2, ref_ms, ref_rsqrt]

theorem ref_hat : val_main_v21 (F := Ideal) x.h (ix2 t d) = hat (x.tok t) d := by
  pointwise! [val_main_v21, val_main_v20, ref_rsqrt, hat, In.tok]

theorem ref_norm : val_main_v24 (F := Ideal) x.h x.γ (ix2 t d) = Half.norm (x.tok t) x.scale d := by
  pointwise! [val_main_v24, val_main_v23, val_main_v22, val_main_v5, ref_hat, hat, Half.norm, In.scale]

theorem ref_dp : val_main_v31 (F := Ideal) x.u x.v x.x x.b x.c (ix2 t j) = x.dp t j := by
  pointwise! [val_main_v31, val_main_v4, val_main_v3, val_main_v2, val_main_v1, val_main_v0, In.dp, joined]

theorem ref_dn : val_main_v34 (F := Ideal) x.u x.v x.x x.b x.c x.w (ix2 t d) = x.dn t d := by
  pointwise! [val_main_v34, ref_dp, val_main_v8, val_main_v7, val_main_v6, In.dn]

theorem ref_dhat : val_main_v39 (F := Ideal) x.γ x.u x.v x.x x.b x.c x.w (ix2 t d) = x.dhat t d := by
  pointwise! [val_main_v39, val_main_v38, val_main_v22, val_main_v5, ref_dn, In.dhat, In.scale]

theorem ref_dot : val_main_v43 (F := Ideal) x.h x.γ x.u x.v x.x x.b x.c x.w (ix2 t 0) = ∑ d, x.tok t d * x.dhat t d := by
  pointwise! [val_main_v43, val_main_v42, val_main_v41, val_main_cst_5, ref_dhat, In.tok, zero_add]

theorem ref_dms : val_main_v50 (F := Ideal) x.h x.γ x.u x.v x.x x.b x.c x.w (ix1 t) = dms (x.tok t) (x.dhat t) := by
  pointwise! [val_main_v50, val_main_v49, val_main_v48, val_main_v47, val_main_cst_6, val_main_cst_7, ref_dot, ref_slope, dms, zero_add,
    Finset.univ_unique, Finset.sum_singleton, Fin.default_eq_zero]

theorem ref_dh : val_main_v55 (F := Ideal) x.h x.γ x.u x.v x.x x.b x.c x.o x.w (ix2 t d) = x.dhs (ix2 t d) := by
  pointwise! [val_main_v55, val_main_v54, val_main_v53, val_main_v52, val_main_v51, val_main_v46, val_main_v45, val_main_v44, ref_dms, ref_dhat,
    ref_rsqrt, In.dhs, dh, In.tok, In.grad]

theorem ref_sum : val_main_v40 (F := Ideal) x.h x.u x.v x.x x.b x.c x.w (ix1 d) = ∑ t : Fin 8192, hat (x.tok t) d * x.dn t d := by
  pointwise! [val_main_v40, val_main_v37, val_main_v36, val_main_v35, val_main_cst_3, val_main_cst_4, ref_dn, ref_hat, zero_add,
    Finset.univ_unique, Finset.sum_singleton]

theorem ref_dγ (r : Fin 8) : val_main_v57 (F := Ideal) x.h x.u x.v x.x x.b x.c x.w (ix2 r d) = x.dγs (ix2 r d) := by
  have hz : (FloatOps.sitofp (F := Ideal) FTy.f32 0#32 : EReal) = 0 := by
    show (((0#32).toInt : ℝ) : EReal) = 0
    simp
  simp only [In.dγs, mul_comm (x.dn _ _)]
  pointwise! [val_main_v57, val_main_v56, val_main_call0_v0, val_main_c, ref_sum, hz]

theorem ref_dw : val_main_v59 (F := Ideal) x.h x.γ x.u x.v x.x x.b x.c (ix2 j d) = x.dws (ix2 j d) := by
  pointwise! [val_main_v59, val_main_v58, val_main_v33, val_main_v32, ref_dp, ref_norm, In.dws]

end Cert.InBack

end
-- ==== Proof.InBackClaim.lean ====
/- The input projection's backward pass: both programs leave the same arrays. -/
module

public import proofs.«01_k».proof.Defs
public import proofs.«01_k».proof.Proof.InBack
public import proofs.«01_k».proof.Proof.InBackRef
public import proofs.«01_k».proof.Proof.Gen.Kernel6Ideal
public import proofs.«01_k».proof.Proof.Gen.Reference6Ideal.Run

@[expose] public section

set_option maxRecDepth 16384

noncomputable section

namespace Cert.InBack

open Idealize.ShloMosaic Idealize.ShloMosaic.TcCoe Idealize.SL.Sem

section Reference

open Cert.Reference6Ideal Cert.Reference6Ideal.Read

variable (x : In)

theorem whole {n k : ℕ} {f g : (⟨2, ![n, k]⟩ : Shape).Idx → EReal} (h : ∀ (r : Fin n) (d : Fin k), f (ix2 r d) = g (ix2 r d)) : f = g := by
  funext i
  obtain ⟨r, d, rfl⟩ : ∃ (r : Fin n) (d : Fin k), i = ix2 r d := ⟨i 0, i 1, funext fun b => by fin_cases b <;> rfl⟩
  exact h r d

theorem all_dh : val_main_v55 (F := Ideal) x.h x.γ x.u x.v x.x x.b x.c x.o x.w = x.dhs := whole fun t d => ref_dh x t d
theorem all_dγ : val_main_v57 (F := Ideal) x.h x.u x.v x.x x.b x.c x.w = x.dγs := whole fun r d => ref_dγ x d r
theorem all_dw : val_main_v59 (F := Ideal) x.h x.γ x.u x.v x.x x.b x.c = x.dws := whole fun j d => ref_dw x d j

end Reference

theorem algebraic : Cert.algebraic_Kernel6Ideal_Reference6Ideal (hKernel6Ideal := Cert.Kernel6Ideal.Gen.facts)
    (hReference6Ideal := Cert.Reference6Ideal.Gen.facts) := by
  intro m g m' g' _ hag
  have hK := Cert.Kernel6Ideal.Value.run_blocks m g
  have hR := Cert.Reference6Ideal.Value.run (F := Ideal) m' g'
  refine ⟨fun c => (args m c).dhs, fun c => (args m c).dγs, fun c => (args m c).dws, ?_, ?_⟩
  · refine (θ_run _ _ _).mono (fun r h c => ?_) hK
    obtain ⟨r0, r1, r2, rest⟩ := h c
    exact ⟨r0.trans (array9 m c), r1.trans (array10 m c), r2.trans (array11 m c), rest⟩
  · refine (θ_run _ _ _).mono (fun r h c => ?_) hR
    obtain ⟨a0, a1, a2, a3, a4, a5, a6, a7, a8⟩ := hag c
    obtain ⟨r0, r1, r2, rest⟩ := h c
    have e0 := Cert.Reference6Ideal.Read.val_main_v55_eq m' c
    rw [a0, a1, a2, a3, a4, a5, a6, a7, a8] at e0
    rw [a0, a2, a3, a4, a5, a6, a8] at r1
    rw [a0, a1, a2, a3, a4, a5, a6] at r2
    exact ⟨r0.trans (e0.trans (all_dh (args m c))), r1.trans ((Cert.Reference6Ideal.Read.val_main_v57_eq _ _ _ _ _ _ _).trans (all_dγ (args m c))),
      r2.trans ((Cert.Reference6Ideal.Read.val_main_v59_eq _ _ _ _ _ _ _).trans (all_dw (args m c))), rest⟩

end Cert.InBack

end
-- ==== Proof.InBackEvenSpec.lean ====
/- The backward pass of the even layers' input projection: as in the odd layers, with four pieces of unequal widths. -/
module

public import proofs.«01_k».proof.Proof.InBackSpec

@[expose] public section

noncomputable section

namespace Cert.InBackEven

open Idealize.ShloMosaic Cert.Half Cert.HalfBack

/-- Entry `j` of a row that rows of 512, 1536, 512 and 128 make up. -/
def joined (a : Fin 512 → EReal) (b : Fin 1536 → EReal) (c : Fin 512 → EReal) (d : Fin 128 → EReal) (j : Fin 2688) : EReal :=
  if h : j.val < 512 then a ⟨j, h⟩
  else if h : j.val - 512 < 1536 then b ⟨j - 512, h⟩
  else if h : j.val - 512 - 1536 < 512 then c ⟨j - 512 - 1536, h⟩
  else d ⟨j - 512 - 1536 - 512, by omega⟩

/-- The projection's input, the norm's weight, the gradients of the projection's four pieces and of the residual branch,
    and the weight's 2688 rows. -/
structure In where
  h : (⟨2, ![8192, 1024]⟩ : Shape).Idx → EReal
  γ : (⟨2, ![1, 1024]⟩ : Shape).Idx → EReal
  u : (⟨2, ![8192, 512]⟩ : Shape).Idx → EReal
  v : (⟨2, ![8192, 1536]⟩ : Shape).Idx → EReal
  x : (⟨2, ![8192, 512]⟩ : Shape).Idx → EReal
  b : (⟨2, ![8192, 128]⟩ : Shape).Idx → EReal
  o : (⟨2, ![8192, 1024]⟩ : Shape).Idx → EReal
  w : (⟨2, ![2688, 1024]⟩ : Shape).Idx → EReal

namespace In

variable (x : In) (t : Fin 8192)

def tok (d : Fin 1024) : EReal := x.h (ix2 t d)
def scale (d : Fin 1024) : EReal := x.γ (ix2 0 d)
def grad (d : Fin 1024) : EReal := x.o (ix2 t d)

/-- The gradient of the projection. -/
def dp (j : Fin 2688) : EReal :=
  joined (fun k => x.u (ix2 t k)) (fun k => x.v (ix2 t k)) (fun k => x.x (ix2 t k)) (fun k => x.b (ix2 t k)) j

/-- The gradient of the normalised token, and of the token over its root mean square. -/
def dn (d : Fin 1024) : EReal := ∑ j : Fin 2688, x.dp t j * x.w (ix2 j d)
def dhat (d : Fin 1024) : EReal := x.dn t d * x.scale d

/-- The gradient of the projection's input. -/
def dhs : (⟨2, ![8192, 1024]⟩ : Shape).Idx → EReal := fun i => dh (x.tok (i 0)) (x.grad (i 0)) (x.dhat (i 0)) (i 1)

/-- The gradient of the norm's weight, in the first of eight rows. -/
def dγs : (⟨2, ![8, 1024]⟩ : Shape).Idx → EReal := fun i =>
  if (i 0).val < 1 then ∑ t : Fin 8192, x.dn t (i 1) * hat (x.tok t) (i 1) else 0

/-- The gradient of the weight. -/
def dws : (⟨2, ![2688, 1024]⟩ : Shape).Idx → EReal := fun i => ∑ t : Fin 8192, x.dp t (i 0) * norm (x.tok t) x.scale (i 1)

end In

end Cert.InBackEven

end
-- ==== Proof.InBackEvenTile.lean ====
/- The even layers' input projection's backward kernel: what it stores, entry by entry, on one tile of 512 tokens. -/
module

public import proofs.«01_k».proof.Proof.InBackEvenSpec
public import proofs.«01_k».proof.Proof.Gen.Kernel7Ideal.Skeleton

@[expose] public section

set_option maxRecDepth 16384

noncomputable section

namespace Cert.InBackEven

open Idealize.ShloMosaic Idealize.ShloMosaic.TcCoe Idealize.SL.Sem
open Cert.Kernel7Ideal Cert.Kernel7Ideal.Gen Cert.Half Cert.HalfBack

section Tile

variable (h o : Vec Ideal S512x1024 .f32) (γ : Vec Ideal S1x1024 .f32) (u : Vec Ideal S512x512 .bf16) (v : Vec Ideal S512x1536 .bf16) (x : Vec Ideal S512x512 .bf16) (b : Vec Ideal S512x128 .bf16)
  (w : Vec Ideal S2688x1024 .bf16) (acc : Vec Ideal S2688x1024 .f32)

abbrev row (r : Fin 512) : Fin 1024 → EReal := fun d => h (ix2 r d)
abbrev lane : Fin 1024 → EReal := fun d => γ (ix2 0 d)

/-- The tile's four pieces side by side, and the gradient of its normalised tokens. -/
abbrev pieces (r : Fin 512) : Fin 2688 → EReal :=
  joined (fun k => u (ix2 r k)) (fun k => v (ix2 r k)) (fun k => x (ix2 r k)) (fun k => b (ix2 r k))
abbrev back (r : Fin 512) (d : Fin 1024) : EReal :=
  ∑ j : Fin 2688, pieces u v x b r j * w (ix2 j d)

theorem pay7_apply (r : Fin 512) : k0_pay7 (F := Ideal) h (ix2 r 0) = Ideal.rsqrt (ms (row h r)) := by
  pointwise! [k0_pay7, ms, zero_add]

theorem pay8_apply (r : Fin 512) (d : Fin 1024) : k0_pay8 (F := Ideal) h (ix2 r d) = hat (row h r) d := by
  pointwise! [k0_pay8, pay7_apply, hat]

theorem pay9_apply (r : Fin 512) (d : Fin 1024) : k0_pay9 (F := Ideal) γ h (ix2 r d) = Half.norm (row h r) (lane γ) d := by
  pointwise! [k0_pay9, pay8_apply, Half.norm, hat]

theorem pay10_apply (r : Fin 512) (j : Fin 2688) : k0_pay10 (F := Ideal) u v x b (ix2 r j) = pieces u v x b r j := by
  pointwise! [k0_pay10, joined]

theorem pay11_apply (r : Fin 512) (d : Fin 1024) : k0_pay11 (F := Ideal) u v x b w (ix2 r d) = back u v x b w r d := by
  pointwise! [k0_pay11, pay10_apply, zero_add]

theorem pay1_apply (r : Fin 512) (d : Fin 1024) : k0_pay1 (F := Ideal) (k0_pay12 (F := Ideal) γ h u v x b w) o (ix2 r d)
    = dh' (row h r) (row o r) (fun d => back u v x b w r d * γ (ix2 0 d)) d := by
  pointwise! [k0_pay1, k0_pay12, pay11_apply, pay7_apply, pay8_apply, zero_add, dh']

theorem pay2_apply (r : Fin 8) (d : Fin 1024) : k0_pay2 (F := Ideal) (ix2 r d) = 0 := by
  pointwise! [k0_pay2]

theorem pay3_apply (p : Vec Ideal S1x1024 .f32) (d : Fin 1024) : k0_pay3 (F := Ideal) (k0_pay13 (F := Ideal) h u v x b w) p (ix2 0 d)
    = (p (ix2 0 d) : EReal) + ∑ r : Fin 512, back u v x b w r d * hat (row h r) d := by
  pointwise! [k0_pay3, k0_pay13, pay11_apply, pay8_apply, zero_add]

theorem pay4_apply (j : Fin 2688) (d : Fin 1024) : k0_pay4 (F := Ideal) (ix2 j d) = 0 := by
  pointwise! [k0_pay4]

theorem pay5_apply (j : Fin 2688) (d : Fin 1024) : k0_pay5 (F := Ideal) (k0_pay9 (F := Ideal) γ h) (k0_pay10 (F := Ideal) u v x b) acc (ix2 j d)
    = (acc (ix2 j d) : EReal) + ∑ r : Fin 512, pieces u v x b r j * Half.norm (row h r) (lane γ) d := by
  pointwise! [k0_pay5, pay10_apply, pay9_apply, zero_add]

theorem pay6_eq : k0_pay6 (F := Ideal) acc = acc := by
  funext i
  idx_vars i
  pointwise! [k0_pay6]

end Tile

end Cert.InBackEven

end
-- ==== Proof.InBackEven.lean ====
/- The even layers' input projection's backward kernel: what its grid points leave, and its result arrays. -/
module

public import proofs.«01_k».proof.Proof.InBackEvenTile
public import proofs.«01_k».proof.Proof.Gen.Kernel7Ideal.Value
public import Idealize.ShloMosaic.Lib.Pipeline.Value
public import Idealize.ShloMosaic.Lib.Pipeline.ValueKit.Point
public import Idealize.ShloMosaic.Lib.Pipeline.ValueKit.Acc
public import Idealize.ShloMosaic.Lib.WholeRead
public import Idealize.ShloMosaic.Lib.WritesUnit

@[expose] public section

set_option maxRecDepth 16384

noncomputable section

namespace Cert.InBackEven

open Idealize.ShloMosaic Idealize.ShloMosaic.TcCoe Idealize.SL.Sem Idealize.ShloMosaic.Pipeline
open Cert.Kernel7Ideal Cert.Kernel7Ideal.Gen Cert.Half Cert.HalfBack

/-! ### A store to the first of eight rows -/

section Row

variable (w : FVec Ideal S1x1024 .f32) (L : List (View.Piece (Elt Ideal) S8x1024 .f32)) (d : Fin 1024) (r : Fin 8) (h : r ≠ 0)

theorem first_row : (Rect.unit (s := S8x1024) ![0, 0] S1x1024.size inb_S8x1024_S1x1024_0_0).emb (ix2 0 d) = (ix2 (0 : Fin 8) d : S8x1024.Idx) := by
  refine funext fun a => Fin.ext ?_
  fin_cases a
  · rfl
  · show 0 + 1 * (d : ℕ) = d
    omega

include h in
theorem other_row : (ix2 r d : S8x1024.Idx) ∉ (Rect.unit (s := S8x1024) ![0, 0] S1x1024.size inb_S8x1024_S1x1024_0_0).set := fun hm => by
  have := (Rect.mem_set_unit.mp hm (0 : Fin 2)).2
  have h1 : (r : ℕ) < 0 + 1 := this
  omega

theorem canon_first : View.canon ((⟨Rect.unit (s := S8x1024) ![0, 0] S1x1024.size inb_S8x1024_S1x1024_0_0, w⟩ : View.Piece (Elt Ideal) S8x1024 .f32) :: L)
    (ix2 (0 : Fin 8) d) = w (ix2 0 d) := by
  rw [← first_row d]
  exact View.canon_cons_emb _ _ _ _

include h in
theorem canon_other : View.canon ((⟨Rect.unit (s := S8x1024) ![0, 0] S1x1024.size inb_S8x1024_S1x1024_0_0, w⟩ : View.Piece (Elt Ideal) S8x1024 .f32) :: L)
    (ix2 r d) = View.canon L (ix2 r d) :=
  View.canon_cons_of_not_mem _ _ (other_row d r h)

theorem canon_zero : View.canon [(⟨Rect.unit (s := S8x1024) ![0, 0] S8x1024.size inb_S8x1024_S8x1024_0_0, k0_pay2 (F := Ideal)⟩ : View.Piece (Elt Ideal) S8x1024 .f32)]
    (ix2 r d) = (0 : EReal) := by
  rw [View.canon_cons_unit_lit _ _ _ (by intro a; fin_cases a <;> rfl)]
  exact pay2_apply r d

/-- The first row, loaded after the zeros are stored. -/
theorem load_zero (v : View sig .tc .vmem S8x1024 .f32) :
    v.readCov [(⟨Rect.unit (s := S8x1024) ![0, 0] S8x1024.size inb_S8x1024_S8x1024_0_0, k0_pay2 (F := Ideal)⟩ : View.Piece (Elt Ideal) S8x1024 .f32)]
      (Rect.unit (s := S8x1024) ![0, 0] S1x1024.size inb_S8x1024_S1x1024_0_0).toLoadRect (ix2 0 d) = (0 : EReal) := by
  rw [View.readCov_eq_canon']
  refine Eq.trans ?_ (canon_zero d 0)
  exact congrArg _ (first_row d)

theorem load_first (X : Vec Ideal S8x1024 .f32) :
    View.ld X (Rect.unit (s := S8x1024) ![0, 0] S1x1024.size inb_S8x1024_S1x1024_0_0) (ix2 0 d) = X (ix2 0 d) :=
  congrArg X (first_row d)

variable (v : View sig .tc .vmem S8x1024 .f32) (g : v.ty.Contents (Elt Ideal))

theorem read_first : v.read (Elt Ideal) (v.writes (Elt Ideal) g
    [⟨Rect.unit (s := S8x1024) ![0, 0] S1x1024.size inb_S8x1024_S1x1024_0_0, w⟩]) (ix2 (0 : Fin 8) d) = w (ix2 0 d) := by
  rw [View.read_writes_cons_unit_of_mem (s := S8x1024) (size := S1x1024.size) (off' := ![0, 0]) v g _ _ _ _ (ix2 0 d) rfl]
  intro a
  fin_cases a <;> exact (Nat.zero_add _).symm

include h in
theorem read_other : v.read (Elt Ideal) (v.writes (Elt Ideal) g
    [⟨Rect.unit (s := S8x1024) ![0, 0] S1x1024.size inb_S8x1024_S1x1024_0_0, w⟩]) (ix2 r d) = v.read (Elt Ideal) g (ix2 r d) :=
  View.read_writes_cons_unit_of_not_mem (s := S8x1024) (size := S1x1024.size) (off' := ![0, 0]) v g _ _ _ _ rfl (0 : Fin 2)
    (Or.inr (by show 0 + 1 ≤ (r : ℕ); omega))

end Row

variable (m : (ℓ : Loc nD τ sig) → Buf (Elt Ideal) ℓ) (c : Dev nD)

/-- The kernel's arguments. -/
def args : In where
  h := m ((c : Thread nD τ).loc main_arg0)
  γ := m ((c : Thread nD τ).loc main_arg1)
  u := m ((c : Thread nD τ).loc main_arg2)
  v := m ((c : Thread nD τ).loc main_arg3)
  x := m ((c : Thread nD τ).loc main_arg4)
  b := m ((c : Thread nD τ).loc main_arg5)
  o := m ((c : Thread nD τ).loc main_arg6)
  w := m ((c : Thread nD τ).loc main_arg7)

section Points

variable (t : Fin cfg0.N)

theorem lt_points : t.val < 16 := t.isLt

/-- Row `r` of point `t`'s tile. -/
def at_ (r : Fin 512) : Fin 8192 := ⟨t.val * 512 + r, by have := lt_points t; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![0, 0] :=
  (by decide +kernel : ∀ t : Fin grid0.N, win0_7.index t = ![0, 0])
theorem idx8 : ∀ t : Fin cfg0.N, win0_8.index t = ![t.val, 0] :=
  (by decide +kernel : ∀ t : Fin grid0.N, win0_8.index t = ![t.val, 0])

theorem at0 (r : Fin 512) (d : Fin 1024) : iblk m c 0 t (ix2 r d) = (args m c).tok (at_ t r) d := by
  blk_ext [iblk, V, idx0 t, at_]
theorem at1 (d : Fin 1024) : iblk m c 1 t (ix2 0 d) = (args m c).scale d := by
  blk_ext [iblk, V, idx1 t]
theorem at2 (r k : Fin 512) : iblk m c 2 t (ix2 r k) = (args m c).u (ix2 (at_ t r) k) := by
  blk_ext [iblk, V, idx2 t, at_]
theorem at3 (r : Fin 512) (k : Fin 1536) : iblk m c 3 t (ix2 r k) = (args m c).v (ix2 (at_ t r) k) := by
  blk_ext [iblk, V, idx3 t, at_]
theorem at4 (r k : Fin 512) : iblk m c 4 t (ix2 r k) = (args m c).x (ix2 (at_ t r) k) := by
  blk_ext [iblk, V, idx4 t, at_]
theorem at5 (r : Fin 512) (k : Fin 128) : iblk m c 5 t (ix2 r k) = (args m c).b (ix2 (at_ t r) k) := by
  blk_ext [iblk, V, idx5 t, at_]
theorem at6 (r : Fin 512) (d : Fin 1024) : iblk m c 6 t (ix2 r d) = (args m c).grad (at_ t r) d := by
  blk_ext [iblk, V, idx6 t, at_]
theorem at7 : iblk m c 7 t = (args m c).w := by
  funext i
  idx_vars i
  blk_ext [iblk, V, idx7 t]

theorem pieces_at (r : Fin 512) (j : Fin 2688) : pieces (iblk m c 2 t) (iblk m c 3 t) (iblk m c 4 t) (iblk m c 5 t) r j
    = (args m c).dp (at_ t r) j := by
  simp only [pieces, at2, at3, at4, at5]
  rfl

theorem back_at (r : Fin 512) (d : Fin 1024) : back (iblk m c 2 t) (iblk m c 3 t) (iblk m c 4 t) (iblk m c 5 t) (iblk m c 7 t) r d
    = (args m c).dn (at_ t r) d := by
  simp only [back, pieces_at, at7]
  rfl

theorem row_at (r : Fin 512) : row (iblk m c 0 t) r = (args m c).tok (at_ t r) := funext fun d => at0 m c t r d
theorem grad_at (r : Fin 512) : row (iblk m c 6 t) r = (args m c).grad (at_ t r) := funext fun d => at6 m c t r d
theorem lane_at : lane (iblk m c 1 t) = (args m c).scale := funext fun d => at1 m c t d

/-! ### The gradient of the projection's input -/

theorem dh_at (r : Fin 512) (d : Fin 1024) :
    k0_pay1 (F := Ideal) (k0_pay12 (F := Ideal) (iblk m c 1 t) (iblk m c 0 t) (iblk m c 2 t) (iblk m c 3 t) (iblk m c 4 t) (iblk m c 5 t) (iblk m c 7 t)) (iblk m c 6 t) (ix2 r d)
      = (args m c).dhs (ix2 (at_ t r) d) := by
  refine (pay1_apply _ _ _ _ _ _ _ _ r d).trans ?_
  rw [row_at, grad_at, Cert.InBack.dh_eq]
  simp only [back_at, at1]
  rfl

theorem point8 (r : Fin 512) (d : Fin 1024) : (outsAt0 m c t.val t.isLt).1 (ix2 r d) = (args m c).dhs (ix2 (at_ t r) d) := by
  by_cases h0 : t.val % 16 = 0
  · rw [outsAt0_A m c t h0 h0 (by omega)]
    frame_out
    exact dh_at m c t r d
  · by_cases h1 : t.val % 16 = 15
    · rw [outsAt0_C m c t h0 h0 h1]
      frame_out
      exact dh_at m c t r d
    · rw [outsAt0_B m c t h0 h0 h1]
      frame_out
      exact dh_at m c t r d

end Points

theorem array8 : (dats m 0 c).arrAt 8 cfg0.N = (args m c).dhs := by
  refine (dats m 0 c).arrAt_eq_of_covers 8 _ (by decide +kernel) fun t hf y => ?_
  blk_simp
  rw [after0_8]
  obtain ⟨r, d, rfl⟩ : ∃ (r : Fin 512) (d : Fin 1024), y = ix2 r d := ⟨y 0, y 1, funext fun b => by fin_cases b <;> rfl⟩
  refine (point8 m c t r d).trans ?_
  blk_ext [idx8 t, at_]

/-- A sum over `16 * 512` tokens, tile by tile. -/
theorem sum_tiles (f : Fin 8192 → EReal) : ∑ s : Fin 16, ∑ k : Fin 512, f ⟨s * 512 + k, by omega⟩ = ∑ k : Fin 8192, f k := by
  rw [← Fintype.sum_prod_type', ← Equiv.sum_comp (finProdFinEquiv (m := 16) (n := 512))]
  refine Finset.sum_congr rfl fun p _ => congrArg f (Fin.ext ?_)
  show (p.1 : ℕ) * 512 + p.2 = p.2 + 512 * p.1
  omega

/-- The last point. -/
def lastPt : Fin cfg0.N := ⟨15, by decide⟩

/-! ### The gradient of the norm's weight -/

/-- What point `t` adds to row `r`: its tokens' sum to the first row, nothing to the padding. -/
def adds (t : Fin cfg0.N) (p : Fin 8 × Fin 1024) : EReal :=
  if p.1 = 0 then ∑ r : Fin 512, (args m c).dn (at_ t r) p.2 * hat ((args m c).tok (at_ t r)) p.2 else 0

/-- What the points up to the `n`th leave in the block. -/
def holds (n : ℕ) (hn : n < cfg0.N) (p : Fin 8 × Fin 1024) : EReal := (outsAt0 m c n hn).2.1 (ix2 p.1 p.2)

theorem added (t : Fin cfg0.N) (p : Vec Ideal S1x1024 .f32) (d : Fin 1024) :
    k0_pay3 (F := Ideal) (k0_pay13 (F := Ideal) (iblk m c 0 t) (iblk m c 2 t) (iblk m c 3 t) (iblk m c 4 t) (iblk m c 5 t) (iblk m c 7 t)) p (ix2 0 d)
      = (p (ix2 0 d) : EReal) + adds m c t (0, d) := by
  refine (pay3_apply _ _ _ _ _ _ p d).trans ?_
  rw [adds, if_pos rfl]
  refine congrArg _ (Finset.sum_congr rfl fun r _ => ?_)
  rw [back_at, row_at]

theorem holds_first (t : Fin cfg0.N) (h0 : t.val % 16 = 0) (p : Fin 8 × Fin 1024) :
    holds m c t.val t.isLt p = 0 + adds m c t p := by
  obtain ⟨r, d⟩ := p
  rw [holds, outsAt0_A m c t h0 h0 (by omega)]
  frame_out
  by_cases h : r = 0
  · subst h
    refine (canon_first _ _ d).trans ((added m c t _ d).trans ?_)
    exact congrArg (· + _) (load_zero d _)
  · refine (canon_other _ _ d r h).trans ((canon_zero d r).trans ?_)
    rw [adds, if_neg h, add_zero]

theorem holds_next (t : Fin cfg0.N) (h0 : ¬t.val % 16 = 0) (p : Fin 8 × Fin 1024) :
    holds m c t.val t.isLt p
      = holds m c (t.val - 1) (Nat.lt_of_le_of_lt (Nat.sub_le _ _) t.isLt) p + adds m c t p := by
  obtain ⟨r, d⟩ := p
  by_cases h1 : t.val % 16 = 15
  · rw [holds, outsAt0_C m c t h0 h0 h1]
    frame_out
    by_cases h : r = 0
    · subst h
      refine (read_first _ d _ _).trans ((added m c t _ d).trans ?_)
      exact congrArg (· + _) (load_first d _)
    · refine (read_other _ d r h _ _).trans ?_
      rw [adds, if_neg h, add_zero]
      exact congrFun (Memref.IsWhole.read_unread _ _) _
  · rw [holds, outsAt0_B m c t h0 h0 h1]
    frame_out
    by_cases h : r = 0
    · subst h
      refine (read_first _ d _ _).trans ((added m c t _ d).trans ?_)
      exact congrArg (· + _) (load_first d _)
    · refine (read_other _ d r h _ _).trans ?_
      rw [adds, if_neg h, add_zero]
      exact congrFun (Memref.IsWhole.read_unread _ _) _

theorem holds_last (p : Fin 8 × Fin 1024) : holds m c lastPt.val lastPt.isLt p = 0 + ∑ t : Fin cfg0.N, adds m c t p := by
  have := congrFun (eq_sum_fin_of_reset_step_last (holds m c) 16 (fun _ => 0) (adds m c)
    (fun t h => funext fun p => holds_first m c t h p) (fun t h => funext fun p => holds_next m c t h p)
    (by decide) lastPt (by decide)) p
  rwa [Pi.add_apply, Finset.sum_apply] at this

theorem array9 : (dats m 0 c).arrAt 9 cfg0.N = (args m c).dγs := by
  refine (dats m 0 c).arrAt_eq_of_after_last 9 lastPt (by decide +kernel) _ fun y => ?_
  rw [after0_9]
  obtain ⟨r, d, rfl⟩ : ∃ (r : Fin 8) (d : Fin 1024), y = ix2 r d := ⟨y 0, y 1, funext fun b => by fin_cases b <;> rfl⟩
  refine (holds_last m c (r, d)).trans ?_
  rw [zero_add]
  show _ = if r.val < 1 then ∑ t : Fin 8192, (args m c).dn t d * hat ((args m c).tok t) d else 0
  by_cases hr : r = 0
  · subst hr
    refine Eq.trans ?_ ((sum_tiles fun t => (args m c).dn t d * hat ((args m c).tok t) d).trans (if_pos (by decide)).symm)
    exact Finset.sum_congr rfl fun t _ => if_pos rfl
  · rw [if_neg (by omega)]
    exact Finset.sum_eq_zero fun t _ => if_neg hr

/-! ### The gradient of the weight -/

/-- What point `t` adds to the accumulator. -/
def addsW (t : Fin cfg0.N) (p : Fin 2688 × Fin 1024) : EReal :=
  ∑ r : Fin 512, (args m c).dp (at_ t r) p.1 * Half.norm ((args m c).tok (at_ t r)) (args m c).scale p.2

/-- The accumulator after the `n`th point. -/
def holdsW (n : ℕ) (hn : n < cfg0.N) (p : Fin 2688 × Fin 1024) : EReal := (outsAt0 m c n hn).2.2.2 (ix2 p.1 p.2)

theorem addedW (t : Fin cfg0.N) (acc : Vec Ideal S2688x1024 .f32) (p : Fin 2688 × Fin 1024) :
    k0_pay5 (F := Ideal) (k0_pay9 (F := Ideal) (iblk m c 1 t) (iblk m c 0 t)) (k0_pay10 (F := Ideal) (iblk m c 2 t) (iblk m c 3 t) (iblk m c 4 t) (iblk m c 5 t)) acc (ix2 p.1 p.2)
      = (acc (ix2 p.1 p.2) : EReal) + addsW m c t p := by
  refine (pay5_apply _ _ _ _ _ _ _ p.1 p.2).trans ?_
  refine congrArg _ (Finset.sum_congr rfl fun r _ => ?_)
  rw [pieces_at, row_at, lane_at]

theorem holdsW_first (t : Fin cfg0.N) (h0 : t.val % 16 = 0) (p : Fin 2688 × Fin 1024) : holdsW m c t.val t.isLt p = 0 + addsW m c t p := by
  rw [holdsW, outsAt0_A m c t h0 h0 (by omega)]
  frame_out
  refine (addedW m c t _ p).trans ?_
  rw [pay4_apply]

theorem holdsW_next (t : Fin cfg0.N) (h0 : ¬t.val % 16 = 0) (p : Fin 2688 × Fin 1024) : holdsW m c t.val t.isLt p
    = holdsW m c (t.val - 1) (Nat.lt_of_le_of_lt (Nat.sub_le _ _) t.isLt) p + addsW m c t p := by
  by_cases h1 : t.val % 16 = 15
  · rw [holdsW, outsAt0_C m c t h0 h0 h1]
    frame_out
    refine (addedW m c t _ p).trans ?_
    exact congrArg (· + _) (congrFun (Memref.IsWhole.read_unread _ _) _)
  · rw [holdsW, outsAt0_B m c t h0 h0 h1]
    frame_out
    refine (addedW m c t _ p).trans ?_
    exact congrArg (· + _) (congrFun (Memref.IsWhole.read_unread _ _) _)

theorem left_last (t : Fin cfg0.N) (h1 : t.val % 16 = 15) : (outsAt0 m c t.val t.isLt).2.2.1 = (outsAt0 m c t.val t.isLt).2.2.2 := by
  rw [outsAt0_C m c t (by omega) (by omega) h1]
  dsimp only
  frame_out
  exact pay6_eq _

theorem holdsW_last (p : Fin 2688 × Fin 1024) : holdsW m c lastPt.val lastPt.isLt p = (args m c).dws (ix2 p.1 p.2) := by
  have := congrFun (eq_sum_fin_of_reset_step_last (holdsW m c) 16 (fun _ => 0) (addsW m c)
    (fun t h => funext fun p => holdsW_first m c t h p) (fun t h => funext fun p => holdsW_next m c t h p)
    (by decide) lastPt (by decide)) p
  rw [Pi.add_apply, Finset.sum_apply, zero_add] at this
  exact this.trans (sum_tiles fun t => (args m c).dp t p.1 * Half.norm ((args m c).tok t) (args m c).scale p.2)

theorem array10 : (dats m 0 c).arrAt 10 cfg0.N = (args m c).dws := by
  refine (dats m 0 c).arrAt_eq_of_after_last 10 lastPt (by decide +kernel) _ fun y => ?_
  rw [after0_10, left_last m c lastPt (by decide)]
  obtain ⟨j, d, rfl⟩ : ∃ (j : Fin 2688) (d : Fin 1024), y = ix2 j d := ⟨y 0, y 1, funext fun b => by fin_cases b <;> rfl⟩
  exact holdsW_last m c (j, d)

end Cert.InBackEven

end
-- ==== Proof.InBackEvenRef.lean ====
/- The even layers' input projection's backward reference: its results on every token. -/
module

public import proofs.«01_k».proof.Proof.InBackEvenSpec
public import proofs.«01_k».proof.Proof.Gen.Reference7Ideal
public import proofs.«01_k».proof.Proof.Gen.Reference7Ideal.Read

@[expose] public section

set_option maxRecDepth 16384

noncomputable section

namespace Cert.InBackEven

open Idealize.ShloMosaic Idealize.ShloMosaic.TcCoe Idealize.SL.Sem
open Cert.Reference7Ideal Cert.Reference7Ideal.Read Cert.Half Cert.HalfBack

variable (x : In) (t : Fin 8192) (d : Fin 1024) (j : Fin 2688)

theorem ref_ms : val_main_v13 (F := Ideal) x.h (ix2 t 0) = ms (x.tok t) := by
  pointwise! [val_main_v13, val_main_v12, val_main_v11, val_main_v10, val_main_v9, val_main_v8, val_main_v7, val_main_cst, val_main_cst_0,
    val_main_cst_1, ms, In.tok, zero_add]

theorem ref_rsqrt : val_main_v14 (F := Ideal) x.h (ix2 t 0) = Ideal.rsqrt (ms (x.tok t)) := by
  pointwise! [val_main_v14, ref_ms]

theorem ref_slope : val_main_v17 (F := Ideal) x.h (ix2 t 0)
    = Ideal.ofBits .f32 0xBF000000#32 * Ideal.div (Ideal.rsqrt (ms (x.tok t))) (ms (x.tok t)) := by
  pointwise! [val_main_v17, val_main_v16, val_main_v15, val_main_cst_2, ref_ms, ref_rsqrt]

theorem ref_hat : val_main_v19 (F := Ideal) x.h (ix2 t d) = hat (x.tok t) d := by
  pointwise! [val_main_v19, val_main_v18, ref_rsqrt, hat, In.tok]

theorem ref_norm : val_main_v22 (F := Ideal) x.h x.γ (ix2 t d) = Half.norm (x.tok t) x.scale d := by
  pointwise! [val_main_v22, val_main_v21, val_main_v20, val_main_v4, ref_hat, hat, Half.norm, In.scale]

theorem ref_dp : val_main_v28 (F := Ideal) x.u x.v x.x x.b (ix2 t j) = x.dp t j := by
  pointwise! [val_main_v28, val_main_v3, val_main_v2, val_main_v1, val_main_v0, In.dp, joined]

theorem ref_dn : val_main_v31 (F := Ideal) x.u x.v x.x x.b x.w (ix2 t d) = x.dn t d := by
  pointwise! [val_main_v31, ref_dp, val_main_v6, val_main_v5, In.dn]

theorem ref_dhat : val_main_v36 (F := Ideal) x.γ x.u x.v x.x x.b x.w (ix2 t d) = x.dhat t d := by
  pointwise! [val_main_v36, val_main_v35, val_main_v20, val_main_v4, ref_dn, In.dhat, In.scale]

theorem ref_dot : val_main_v40 (F := Ideal) x.h x.γ x.u x.v x.x x.b x.w (ix2 t 0) = ∑ d, x.tok t d * x.dhat t d := by
  pointwise! [val_main_v40, val_main_v39, val_main_v38, val_main_cst_5, ref_dhat, In.tok, zero_add]

theorem ref_dms : val_main_v47 (F := Ideal) x.h x.γ x.u x.v x.x x.b x.w (ix1 t) = dms (x.tok t) (x.dhat t) := by
  pointwise! [val_main_v47, val_main_v46, val_main_v45, val_main_v44, val_main_cst_6, val_main_cst_7, ref_dot, ref_slope, dms, zero_add,
    Finset.univ_unique, Finset.sum_singleton, Fin.default_eq_zero]

theorem ref_dh : val_main_v52 (F := Ideal) x.h x.γ x.u x.v x.x x.b x.o x.w (ix2 t d) = x.dhs (ix2 t d) := by
  pointwise! [val_main_v52, val_main_v51, val_main_v50, val_main_v49, val_main_v48, val_main_v43, val_main_v42, val_main_v41, ref_dms, ref_dhat,
    ref_rsqrt, In.dhs, dh, In.tok, In.grad]

theorem ref_sum : val_main_v37 (F := Ideal) x.h x.u x.v x.x x.b x.w (ix1 d) = ∑ t : Fin 8192, hat (x.tok t) d * x.dn t d := by
  pointwise! [val_main_v37, val_main_v34, val_main_v33, val_main_v32, val_main_cst_3, val_main_cst_4, ref_dn, ref_hat, zero_add,
    Finset.univ_unique, Finset.sum_singleton]

theorem ref_dγ (r : Fin 8) : val_main_v54 (F := Ideal) x.h x.u x.v x.x x.b x.w (ix2 r d) = x.dγs (ix2 r d) := by
  have hz : (FloatOps.sitofp (F := Ideal) FTy.f32 0#32 : EReal) = 0 := by
    show (((0#32).toInt : ℝ) : EReal) = 0
    simp
  simp only [In.dγs, mul_comm (x.dn _ _)]
  pointwise! [val_main_v54, val_main_v53, val_main_call0_v0, val_main_c, ref_sum, hz]

theorem ref_dw : val_main_v56 (F := Ideal) x.h x.γ x.u x.v x.x x.b (ix2 j d) = x.dws (ix2 j d) := by
  pointwise! [val_main_v56, val_main_v55, val_main_v30, val_main_v29, ref_dp, ref_norm, In.dws]

end Cert.InBackEven

end
-- ==== Proof.InBackEvenClaim.lean ====
/- The even layers' input projection's backward pass: both programs leave the same arrays. -/
module

public import proofs.«01_k».proof.Defs
public import proofs.«01_k».proof.Proof.InBackEven
public import proofs.«01_k».proof.Proof.InBackEvenRef
public import proofs.«01_k».proof.Proof.Gen.Kernel7Ideal
public import proofs.«01_k».proof.Proof.Gen.Reference7Ideal.Run

@[expose] public section

set_option maxRecDepth 16384

noncomputable section

namespace Cert.InBackEven

open Idealize.ShloMosaic Idealize.ShloMosaic.TcCoe Idealize.SL.Sem

section Reference

open Cert.Reference7Ideal Cert.Reference7Ideal.Read

variable (x : In)

theorem whole {n k : ℕ} {f g : (⟨2, ![n, k]⟩ : Shape).Idx → EReal} (h : ∀ (r : Fin n) (d : Fin k), f (ix2 r d) = g (ix2 r d)) : f = g := by
  funext i
  obtain ⟨r, d, rfl⟩ : ∃ (r : Fin n) (d : Fin k), i = ix2 r d := ⟨i 0, i 1, funext fun b => by fin_cases b <;> rfl⟩
  exact h r d

theorem all_dh : val_main_v52 (F := Ideal) x.h x.γ x.u x.v x.x x.b x.o x.w = x.dhs := whole fun t d => ref_dh x t d
theorem all_dγ : val_main_v54 (F := Ideal) x.h x.u x.v x.x x.b x.w = x.dγs := whole fun r d => ref_dγ x d r
theorem all_dw : val_main_v56 (F := Ideal) x.h x.γ x.u x.v x.x x.b = x.dws := whole fun j d => ref_dw x d j

end Reference

theorem algebraic : Cert.algebraic_Kernel7Ideal_Reference7Ideal (hKernel7Ideal := Cert.Kernel7Ideal.Gen.facts)
    (hReference7Ideal := Cert.Reference7Ideal.Gen.facts) := by
  intro m g m' g' _ hag
  have hK := Cert.Kernel7Ideal.Value.run_blocks m g
  have hR := Cert.Reference7Ideal.Value.run (F := Ideal) m' g'
  refine ⟨fun c => (args m c).dhs, fun c => (args m c).dγs, fun c => (args m c).dws, ?_, ?_⟩
  · refine (θ_run _ _ _).mono (fun r h c => ?_) hK
    obtain ⟨r0, r1, r2, rest⟩ := h c
    exact ⟨r0.trans (array8 m c), r1.trans (array9 m c), r2.trans (array10 m c), rest⟩
  · refine (θ_run _ _ _).mono (fun r h c => ?_) hR
    obtain ⟨a0, a1, a2, a3, a4, a5, a6, a7⟩ := hag c
    obtain ⟨r0, r1, r2, rest⟩ := h c
    have e0 := Cert.Reference7Ideal.Read.val_main_v52_eq m' c
    rw [a0, a1, a2, a3, a4, a5, a6, a7] at e0
    rw [a0, a2, a3, a4, a5, a7] at r1
    rw [a0, a1, a2, a3, a4, a5] at r2
    exact ⟨r0.trans (e0.trans (all_dh (args m c))), r1.trans ((Cert.Reference7Ideal.Read.val_main_v54_eq _ _ _ _ _ _).trans (all_dγ (args m c))),
      r2.trans ((Cert.Reference7Ideal.Read.val_main_v56_eq _ _ _ _ _ _).trans (all_dw (args m c))), rest⟩

end Cert.InBackEven

end
-- ==== Proof.InFwd.lean ====
/- The odd layers' input projection: its tiles' values, and its result arrays. -/
module

public import proofs.«01_k».proof.Proof.HalfSpec
public import proofs.«01_k».proof.Proof.Gen.Kernel8Ideal.Value
public import Idealize.ShloMosaic.Lib.Pipeline.Value
public import Idealize.ShloMosaic.Lib.Pipeline.ValueKit.Point
public import Idealize.ShloMosaic.Lib.Pipeline.ValueKit.Acc
public import Idealize.ShloMosaic.Lib.WholeRead

@[expose] public section

set_option maxRecDepth 16384

noncomputable section

namespace Cert.InFwd

open Idealize.ShloMosaic Idealize.ShloMosaic.TcCoe Idealize.SL.Sem Idealize.ShloMosaic.Pipeline
open Cert.Kernel8Ideal Cert.Kernel8Ideal.Gen Cert.Half

/-- The tokens, the norm's weight, and the weight's 2560 rows, stored as 8 slices of 320. -/
structure In where
  h : S8192x1024.Idx → EReal
  γ : S1x1024.Idx → EReal
  w : S8x320x1024.Idx → EReal

namespace In

variable (x : In)

def tok (t : Fin 8192) (d : Fin 1024) : EReal := x.h (ix2 t d)
def scale (d : Fin 1024) : EReal := x.γ (ix2 0 d)

/-- Entry `j` of the normalised token's projection. -/
def proj (t : Fin 8192) (j : Fin 2560) : EReal := ∑ d : Fin 1024, Half.norm (x.tok t) x.scale d * x.w (ix3 ⟨j / 320, by omega⟩ ⟨j % 320, by omega⟩ d)

/-! The projection's pieces. -/

def part1 : S8192x512.Idx → EReal := fun i => x.proj (i 0) ⟨i 1, by have := (i 1).isLt; change (i 1).val < 512 at this; omega⟩
def part2 : S8192x512.Idx → EReal := fun i => x.proj (i 0) ⟨512 + i 1, by have := (i 1).isLt; change (i 1).val < 512 at this; omega⟩
def part3 : S8192x512.Idx → EReal := fun i => x.proj (i 0) ⟨1024 + i 1, by have := (i 1).isLt; change (i 1).val < 512 at this; omega⟩
def part4 : S8192x512.Idx → EReal := fun i => x.proj (i 0) ⟨1536 + i 1, by have := (i 1).isLt; change (i 1).val < 512 at this; omega⟩
def part5 : S8192x512.Idx → EReal := fun i => x.proj (i 0) ⟨2048 + i 1, by have := (i 1).isLt; change (i 1).val < 512 at this; omega⟩

end In

section Tile

variable (h : Vec Ideal S512x1024 .f32) (γ : Vec Ideal S1x1024 .f32) (w : Vec Ideal S8x320x1024 .bf16)

abbrev row (r : Fin 512) : Fin 1024 → EReal := fun d => h (ix2 r d)
abbrev lane : Fin 1024 → EReal := fun d => γ (ix2 0 d)

theorem pay1_apply (r : Fin 512) (j : Fin 2560) : k0_pay1 (F := Ideal) h γ w (ix2 r j)
    = ∑ d : Fin 1024, Half.norm (row h r) (lane γ) d * w (ix3 ⟨j / 320, by omega⟩ ⟨j % 320, by omega⟩ d) := by
  pointwise! [k0_pay1, Half.norm, ms, zero_add]

theorem pay2_apply (r : Fin 512) (k : Fin 512) : k0_pay2 (F := Ideal) h γ w (ix2 r k)
    = k0_pay1 (F := Ideal) h γ w (ix2 r ⟨k, by omega⟩) := by
  pointwise! [k0_pay2]

theorem pay3_apply (r : Fin 512) (k : Fin 512) : k0_pay3 (F := Ideal) h γ w (ix2 r k)
    = k0_pay1 (F := Ideal) h γ w (ix2 r ⟨512 + k, by omega⟩) := by
  pointwise! [k0_pay3]

theorem pay4_apply (r : Fin 512) (k : Fin 512) : k0_pay4 (F := Ideal) h γ w (ix2 r k)
    = k0_pay1 (F := Ideal) h γ w (ix2 r ⟨1024 + k, by omega⟩) := by
  pointwise! [k0_pay4]

theorem pay5_apply (r : Fin 512) (k : Fin 512) : k0_pay5 (F := Ideal) h γ w (ix2 r k)
    = k0_pay1 (F := Ideal) h γ w (ix2 r ⟨1536 + k, by omega⟩) := by
  pointwise! [k0_pay5]

theorem pay6_apply (r : Fin 512) (k : Fin 512) : k0_pay6 (F := Ideal) h γ w (ix2 r k)
    = k0_pay1 (F := Ideal) h γ w (ix2 r ⟨2048 + k, by omega⟩) := by
  pointwise! [k0_pay6]

end Tile

variable (m : (ℓ : Loc nD τ sig) → Buf (Elt Ideal) ℓ) (c : Dev nD)

/-- The kernel's arguments. -/
def args : In where
  h := m ((c : Thread nD τ).loc main_arg0)
  γ := m ((c : Thread nD τ).loc main_arg1)
  w := m ((c : Thread nD τ).loc main_arg2)

variable (t : Fin cfg0.N)

theorem lt_points : t.val < 16 := t.isLt

/-- Row `r` of point `t`'s tile. -/
def at_ (r : Fin 512) : Fin 8192 := ⟨t.val * 512 + r, by have := lt_points t; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0, 0] :=
  (by decide +kernel : ∀ t : Fin grid0.N, win0_2.index t = ![0, 0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

theorem at0_apply (r : Fin 512) (d : Fin 1024) : iblk m c 0 t (ix2 r d) = (args m c).tok (at_ t r) d := by
  blk_ext [iblk, V, idx0 t, at_]
theorem at0 (r : Fin 512) : row (iblk m c 0 t) r = (args m c).tok (at_ t r) := funext fun d => at0_apply m c t r d
theorem at1_apply (d : Fin 1024) : iblk m c 1 t (ix2 0 d) = (args m c).scale d := by
  blk_ext [iblk, V, idx1 t]
theorem at1 : lane (iblk m c 1 t) = (args m c).scale := funext fun d => at1_apply m c t d
theorem at2 : iblk m c 2 t = (args m c).w := by
  funext i
  idx_vars i
  blk_ext [iblk, V, idx2 t]

theorem proj_at (r : Fin 512) (j : Fin 2560) : k0_pay1 (F := Ideal) (iblk m c 0 t) (iblk m c 1 t) (iblk m c 2 t) (ix2 r j)
    = (args m c).proj (at_ t r) j := by
  refine (pay1_apply _ _ _ r j).trans ?_
  rw [at0, at1, at2]
  rfl

theorem point3 (r : Fin 512) (k : Fin 512) : out0_3 (F := Ideal) (iblk m c 0 t) (iblk m c 1 t) (iblk m c 2 t) (ix2 r k)
    = (args m c).part1 (ix2 (at_ t r) k) := by
  frame_out
  exact (pay2_apply _ _ _ r k).trans (proj_at m c t r _)

theorem array3 : (dats m 0 c).arrAt 3 cfg0.N = (args m c).part1 := by
  refine (dats m 0 c).arrAt_eq_of_covers 3 _ (by decide +kernel) fun t hf y => ?_
  blk_simp
  rw [after0_3]
  obtain ⟨r, k, rfl⟩ : ∃ (r : Fin 512) (k : Fin 512), y = ix2 r k := ⟨y 0, y 1, funext fun b => by fin_cases b <;> rfl⟩
  refine (point3 m c t r k).trans ?_
  blk_ext [idx3 t, at_]

theorem point4 (r : Fin 512) (k : Fin 512) : out0_4 (F := Ideal) (iblk m c 0 t) (iblk m c 1 t) (iblk m c 2 t) (ix2 r k)
    = (args m c).part2 (ix2 (at_ t r) k) := by
  frame_out
  exact (pay3_apply _ _ _ r k).trans (proj_at m c t r _)

theorem array4 : (dats m 0 c).arrAt 4 cfg0.N = (args m c).part2 := by
  refine (dats m 0 c).arrAt_eq_of_covers 4 _ (by decide +kernel) fun t hf y => ?_
  blk_simp
  rw [after0_4]
  obtain ⟨r, k, rfl⟩ : ∃ (r : Fin 512) (k : Fin 512), y = ix2 r k := ⟨y 0, y 1, funext fun b => by fin_cases b <;> rfl⟩
  refine (point4 m c t r k).trans ?_
  blk_ext [idx4 t, at_]

theorem point5 (r : Fin 512) (k : Fin 512) : out0_5 (F := Ideal) (iblk m c 0 t) (iblk m c 1 t) (iblk m c 2 t) (ix2 r k)
    = (args m c).part3 (ix2 (at_ t r) k) := by
  frame_out
  exact (pay4_apply _ _ _ r k).trans (proj_at m c t r _)

theorem array5 : (dats m 0 c).arrAt 5 cfg0.N = (args m c).part3 := by
  refine (dats m 0 c).arrAt_eq_of_covers 5 _ (by decide +kernel) fun t hf y => ?_
  blk_simp
  rw [after0_5]
  obtain ⟨r, k, rfl⟩ : ∃ (r : Fin 512) (k : Fin 512), y = ix2 r k := ⟨y 0, y 1, funext fun b => by fin_cases b <;> rfl⟩
  refine (point5 m c t r k).trans ?_
  blk_ext [idx5 t, at_]

theorem point6 (r : Fin 512) (k : Fin 512) : out0_6 (F := Ideal) (iblk m c 0 t) (iblk m c 1 t) (iblk m c 2 t) (ix2 r k)
    = (args m c).part4 (ix2 (at_ t r) k) := by
  frame_out
  exact (pay5_apply _ _ _ r k).trans (proj_at m c t r _)

theorem array6 : (dats m 0 c).arrAt 6 cfg0.N = (args m c).part4 := by
  refine (dats m 0 c).arrAt_eq_of_covers 6 _ (by decide +kernel) fun t hf y => ?_
  blk_simp
  rw [after0_6]
  obtain ⟨r, k, rfl⟩ : ∃ (r : Fin 512) (k : Fin 512), y = ix2 r k := ⟨y 0, y 1, funext fun b => by fin_cases b <;> rfl⟩
  refine (point6 m c t r k).trans ?_
  blk_ext [idx6 t, at_]

theorem point7 (r : Fin 512) (k : Fin 512) : out0_7 (F := Ideal) (iblk m c 0 t) (iblk m c 1 t) (iblk m c 2 t) (ix2 r k)
    = (args m c).part5 (ix2 (at_ t r) k) := by
  frame_out
  exact (pay6_apply _ _ _ r k).trans (proj_at m c t r _)

theorem array7 : (dats m 0 c).arrAt 7 cfg0.N = (args m c).part5 := by
  refine (dats m 0 c).arrAt_eq_of_covers 7 _ (by decide +kernel) fun t hf y => ?_
  blk_simp
  rw [after0_7]
  obtain ⟨r, k, rfl⟩ : ∃ (r : Fin 512) (k : Fin 512), y = ix2 r k := ⟨y 0, y 1, funext fun b => by fin_cases b <;> rfl⟩
  refine (point7 m c t r k).trans ?_
  blk_ext [idx7 t, at_]

end Cert.InFwd

end
-- ==== Proof.InFwdClaim.lean ====
/- The odd layers' input projection: the reference's results, and that both programs leave them. -/
module

public import proofs.«01_k».proof.Defs
public import proofs.«01_k».proof.Proof.InFwd
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read

@[expose] public section

set_option maxRecDepth 16384

noncomputable section

namespace Cert.InFwd

open Idealize.ShloMosaic Idealize.ShloMosaic.TcCoe Idealize.SL.Sem

section Reference

open Cert.Reference8Ideal Cert.Reference8Ideal.Read Cert.Half

variable (x : In)

theorem ref_ms (t : Fin 8192) : val_main_v7 (F := Ideal) x.h (ix2 t 0) = ms (x.tok t) := by
  pointwise! [val_main_v7, val_main_v6, val_main_v5, val_main_v4, val_main_v3, val_main_v2, val_main_v1, val_main_cst, val_main_cst_0,
    val_main_cst_1, ms, In.tok, zero_add]

theorem ref_norm (t : Fin 8192) (d : Fin 1024) : val_main_v13 (F := Ideal) x.h x.γ (ix2 t d) = Half.norm (x.tok t) x.scale d := by
  pointwise! [val_main_v13, val_main_v12, val_main_v11, val_main_v10, val_main_v9, val_main_v8, val_main_v0, ref_ms, Half.norm, In.tok, In.scale]

theorem ref_proj (t : Fin 8192) (j : Fin 2560) : val_main_v17 (F := Ideal) x.h x.γ x.w (ix2 t j) = x.proj t j := by
  pointwise! [val_main_v17, val_main_v16, val_main_v15, val_main_v14, ref_norm, In.proj]

theorem ref_part1 (t : Fin 8192) (k : Fin 512) : val_main_v18 (F := Ideal) x.h x.γ x.w (ix2 t k) = x.part1 (ix2 t k) := by
  pointwise! [val_main_v18, ref_proj, In.part1]

theorem ref_part2 (t : Fin 8192) (k : Fin 512) : val_main_v19 (F := Ideal) x.h x.γ x.w (ix2 t k) = x.part2 (ix2 t k) := by
  pointwise! [val_main_v19, ref_proj, In.part2]

theorem ref_part3 (t : Fin 8192) (k : Fin 512) : val_main_v20 (F := Ideal) x.h x.γ x.w (ix2 t k) = x.part3 (ix2 t k) := by
  pointwise! [val_main_v20, ref_proj, In.part3]

theorem ref_part4 (t : Fin 8192) (k : Fin 512) : val_main_v21 (F := Ideal) x.h x.γ x.w (ix2 t k) = x.part4 (ix2 t k) := by
  pointwise! [val_main_v21, ref_proj, In.part4]

theorem ref_part5 (t : Fin 8192) (k : Fin 512) : val_main_v22 (F := Ideal) x.h x.γ x.w (ix2 t k) = x.part5 (ix2 t k) := by
  pointwise! [val_main_v22, ref_proj, In.part5]

theorem whole {n k : ℕ} {f g : (⟨2, ![n, k]⟩ : Shape).Idx → EReal} (h : ∀ (r : Fin n) (d : Fin k), f (ix2 r d) = g (ix2 r d)) : f = g := by
  funext i
  obtain ⟨r, d, rfl⟩ : ∃ (r : Fin n) (d : Fin k), i = ix2 r d := ⟨i 0, i 1, funext fun b => by fin_cases b <;> rfl⟩
  exact h r d

theorem all_part1 : val_main_v18 (F := Ideal) x.h x.γ x.w = x.part1 := whole fun t k => ref_part1 x t k
theorem all_part2 : val_main_v19 (F := Ideal) x.h x.γ x.w = x.part2 := whole fun t k => ref_part2 x t k
theorem all_part3 : val_main_v20 (F := Ideal) x.h x.γ x.w = x.part3 := whole fun t k => ref_part3 x t k
theorem all_part4 : val_main_v21 (F := Ideal) x.h x.γ x.w = x.part4 := whole fun t k => ref_part4 x t k
theorem all_part5 : val_main_v22 (F := Ideal) x.h x.γ x.w = x.part5 := whole fun t k => ref_part5 x t k

end Reference

theorem algebraic : Cert.algebraic_Kernel8Ideal_Reference8Ideal (hKernel8Ideal := Cert.Kernel8Ideal.Gen.facts)
    (hReference8Ideal := Cert.Reference8Ideal.Gen.facts) := by
  intro m g m' g' _ hag
  have hK := Cert.Kernel8Ideal.Value.run_blocks m g
  have hR := Cert.Reference8Ideal.Value.run (F := Ideal) m' g'
  refine ⟨fun c => (args m c).part1, fun c => (args m c).part2, fun c => (args m c).part3, fun c => (args m c).part4, fun c => (args m c).part5, ?_, ?_⟩
  · refine (θ_run _ _ _).mono (fun r h c => ?_) hK
    obtain ⟨r0, r1, r2, r3, r4, rest⟩ := h c
    exact ⟨r0.trans (array3 m c), r1.trans (array4 m c), r2.trans (array5 m c), r3.trans (array6 m c), r4.trans (array7 m c), rest⟩
  · refine (θ_run _ _ _).mono (fun r h c => ?_) hR
    obtain ⟨a0, a1, a2⟩ := hag c
    obtain ⟨r0, r1, r2, r3, r4, rest⟩ := h c
    rw [a0, a1, a2] at r0 r1 r2 r3 r4
    exact ⟨r0.trans ((Cert.Reference8Ideal.Read.val_main_v18_eq _ _ _).trans (all_part1 (args m c))),
      r1.trans ((Cert.Reference8Ideal.Read.val_main_v19_eq _ _ _).trans (all_part2 (args m c))),
      r2.trans ((Cert.Reference8Ideal.Read.val_main_v20_eq _ _ _).trans (all_part3 (args m c))),
      r3.trans ((Cert.Reference8Ideal.Read.val_main_v21_eq _ _ _).trans (all_part4 (args m c))),
      r4.trans ((Cert.Reference8Ideal.Read.val_main_v22_eq _ _ _).trans (all_part5 (args m c))), rest⟩

end Cert.InFwd

end
-- ==== Proof.InFwdEven.lean ====
/- The even layers' input projection: its tiles' values, and its result arrays. -/
module

public import proofs.«01_k».proof.Proof.HalfSpec
public import proofs.«01_k».proof.Proof.Gen.Kernel9Ideal.Value
public import Idealize.ShloMosaic.Lib.Pipeline.Value
public import Idealize.ShloMosaic.Lib.Pipeline.ValueKit.Point
public import Idealize.ShloMosaic.Lib.Pipeline.ValueKit.Acc
public import Idealize.ShloMosaic.Lib.WholeRead

@[expose] public section

set_option maxRecDepth 16384

noncomputable section

namespace Cert.InFwdEven

open Idealize.ShloMosaic Idealize.ShloMosaic.TcCoe Idealize.SL.Sem Idealize.ShloMosaic.Pipeline
open Cert.Kernel9Ideal Cert.Kernel9Ideal.Gen Cert.Half

/-- The tokens, the norm's weight, and the weight's 2688 rows. -/
structure In where
  h : S8192x1024.Idx → EReal
  γ : S1x1024.Idx → EReal
  w : S2688x1024.Idx → EReal

namespace In

variable (x : In)

def tok (t : Fin 8192) (d : Fin 1024) : EReal := x.h (ix2 t d)
def scale (d : Fin 1024) : EReal := x.γ (ix2 0 d)

/-- Entry `j` of the normalised token's projection. -/
def proj (t : Fin 8192) (j : Fin 2688) : EReal := ∑ d : Fin 1024, Half.norm (x.tok t) x.scale d * x.w (ix2 j d)

/-! The projection's pieces. -/

def part1 : S8192x512.Idx → EReal := fun i => x.proj (i 0) ⟨i 1, by have := (i 1).isLt; change (i 1).val < 512 at this; omega⟩
def part2 : S8192x1536.Idx → EReal := fun i => x.proj (i 0) ⟨512 + i 1, by have := (i 1).isLt; change (i 1).val < 1536 at this; omega⟩
def part3 : S8192x512.Idx → EReal := fun i => x.proj (i 0) ⟨2048 + i 1, by have := (i 1).isLt; change (i 1).val < 512 at this; omega⟩
def part4 : S8192x128.Idx → EReal := fun i => x.proj (i 0) ⟨2560 + i 1, by have := (i 1).isLt; change (i 1).val < 128 at this; omega⟩

end In

section Tile

variable (h : Vec Ideal S512x1024 .f32) (γ : Vec Ideal S1x1024 .f32) (w : Vec Ideal S2688x1024 .bf16)

abbrev row (r : Fin 512) : Fin 1024 → EReal := fun d => h (ix2 r d)
abbrev lane : Fin 1024 → EReal := fun d => γ (ix2 0 d)

theorem pay1_apply (r : Fin 512) (j : Fin 2688) : k0_pay1 (F := Ideal) h γ w (ix2 r j)
    = ∑ d : Fin 1024, Half.norm (row h r) (lane γ) d * w (ix2 j d) := by
  pointwise! [k0_pay1, Half.norm, ms, zero_add]

theorem pay2_apply (r : Fin 512) (k : Fin 512) : k0_pay2 (F := Ideal) h γ w (ix2 r k)
    = k0_pay1 (F := Ideal) h γ w (ix2 r ⟨k, by omega⟩) := by
  pointwise! [k0_pay2]

theorem pay3_apply (r : Fin 512) (k : Fin 1536) : k0_pay3 (F := Ideal) h γ w (ix2 r k)
    = k0_pay1 (F := Ideal) h γ w (ix2 r ⟨512 + k, by omega⟩) := by
  pointwise! [k0_pay3]

theorem pay4_apply (r : Fin 512) (k : Fin 512) : k0_pay4 (F := Ideal) h γ w (ix2 r k)
    = k0_pay1 (F := Ideal) h γ w (ix2 r ⟨2048 + k, by omega⟩) := by
  pointwise! [k0_pay4]

theorem pay5_apply (r : Fin 512) (k : Fin 128) : k0_pay5 (F := Ideal) h γ w (ix2 r k)
    = k0_pay1 (F := Ideal) h γ w (ix2 r ⟨2560 + k, by omega⟩) := by
  pointwise! [k0_pay5]

end Tile

variable (m : (ℓ : Loc nD τ sig) → Buf (Elt Ideal) ℓ) (c : Dev nD)

/-- The kernel's arguments. -/
def args : In where
  h := m ((c : Thread nD τ).loc main_arg0)
  γ := m ((c : Thread nD τ).loc main_arg1)
  w := m ((c : Thread nD τ).loc main_arg2)

variable (t : Fin cfg0.N)

theorem lt_points : t.val < 16 := t.isLt

/-- Row `r` of point `t`'s tile. -/
def at_ (r : Fin 512) : Fin 8192 := ⟨t.val * 512 + r, by have := lt_points t; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])

theorem at0_apply (r : Fin 512) (d : Fin 1024) : iblk m c 0 t (ix2 r d) = (args m c).tok (at_ t r) d := by
  blk_ext [iblk, V, idx0 t, at_]
theorem at0 (r : Fin 512) : row (iblk m c 0 t) r = (args m c).tok (at_ t r) := funext fun d => at0_apply m c t r d
theorem at1_apply (d : Fin 1024) : iblk m c 1 t (ix2 0 d) = (args m c).scale d := by
  blk_ext [iblk, V, idx1 t]
theorem at1 : lane (iblk m c 1 t) = (args m c).scale := funext fun d => at1_apply m c t d
theorem at2 : iblk m c 2 t = (args m c).w := by
  funext i
  idx_vars i
  blk_ext [iblk, V, idx2 t]

theorem proj_at (r : Fin 512) (j : Fin 2688) : k0_pay1 (F := Ideal) (iblk m c 0 t) (iblk m c 1 t) (iblk m c 2 t) (ix2 r j)
    = (args m c).proj (at_ t r) j := by
  refine (pay1_apply _ _ _ r j).trans ?_
  rw [at0, at1, at2]
  rfl

theorem point3 (r : Fin 512) (k : Fin 512) : out0_3 (F := Ideal) (iblk m c 0 t) (iblk m c 1 t) (iblk m c 2 t) (ix2 r k)
    = (args m c).part1 (ix2 (at_ t r) k) := by
  frame_out
  exact (pay2_apply _ _ _ r k).trans (proj_at m c t r _)

theorem array3 : (dats m 0 c).arrAt 3 cfg0.N = (args m c).part1 := by
  refine (dats m 0 c).arrAt_eq_of_covers 3 _ (by decide +kernel) fun t hf y => ?_
  blk_simp
  rw [after0_3]
  obtain ⟨r, k, rfl⟩ : ∃ (r : Fin 512) (k : Fin 512), y = ix2 r k := ⟨y 0, y 1, funext fun b => by fin_cases b <;> rfl⟩
  refine (point3 m c t r k).trans ?_
  blk_ext [idx3 t, at_]

theorem point4 (r : Fin 512) (k : Fin 1536) : out0_4 (F := Ideal) (iblk m c 0 t) (iblk m c 1 t) (iblk m c 2 t) (ix2 r k)
    = (args m c).part2 (ix2 (at_ t r) k) := by
  frame_out
  exact (pay3_apply _ _ _ r k).trans (proj_at m c t r _)

theorem array4 : (dats m 0 c).arrAt 4 cfg0.N = (args m c).part2 := by
  refine (dats m 0 c).arrAt_eq_of_covers 4 _ (by decide +kernel) fun t hf y => ?_
  blk_simp
  rw [after0_4]
  obtain ⟨r, k, rfl⟩ : ∃ (r : Fin 512) (k : Fin 1536), y = ix2 r k := ⟨y 0, y 1, funext fun b => by fin_cases b <;> rfl⟩
  refine (point4 m c t r k).trans ?_
  blk_ext [idx4 t, at_]

theorem point5 (r : Fin 512) (k : Fin 512) : out0_5 (F := Ideal) (iblk m c 0 t) (iblk m c 1 t) (iblk m c 2 t) (ix2 r k)
    = (args m c).part3 (ix2 (at_ t r) k) := by
  frame_out
  exact (pay4_apply _ _ _ r k).trans (proj_at m c t r _)

theorem array5 : (dats m 0 c).arrAt 5 cfg0.N = (args m c).part3 := by
  refine (dats m 0 c).arrAt_eq_of_covers 5 _ (by decide +kernel) fun t hf y => ?_
  blk_simp
  rw [after0_5]
  obtain ⟨r, k, rfl⟩ : ∃ (r : Fin 512) (k : Fin 512), y = ix2 r k := ⟨y 0, y 1, funext fun b => by fin_cases b <;> rfl⟩
  refine (point5 m c t r k).trans ?_
  blk_ext [idx5 t, at_]

theorem point6 (r : Fin 512) (k : Fin 128) : out0_6 (F := Ideal) (iblk m c 0 t) (iblk m c 1 t) (iblk m c 2 t) (ix2 r k)
    = (args m c).part4 (ix2 (at_ t r) k) := by
  frame_out
  exact (pay5_apply _ _ _ r k).trans (proj_at m c t r _)

theorem array6 : (dats m 0 c).arrAt 6 cfg0.N = (args m c).part4 := by
  refine (dats m 0 c).arrAt_eq_of_covers 6 _ (by decide +kernel) fun t hf y => ?_
  blk_simp
  rw [after0_6]
  obtain ⟨r, k, rfl⟩ : ∃ (r : Fin 512) (k : Fin 128), y = ix2 r k := ⟨y 0, y 1, funext fun b => by fin_cases b <;> rfl⟩
  refine (point6 m c t r k).trans ?_
  blk_ext [idx6 t, at_]

end Cert.InFwdEven

end
-- ==== Proof.InFwdEvenClaim.lean ====
/- The even layers' input projection: the reference's results, and that both programs leave them. -/
module

public import proofs.«01_k».proof.Defs
public import proofs.«01_k».proof.Proof.InFwdEven
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read

@[expose] public section

set_option maxRecDepth 16384

noncomputable section

namespace Cert.InFwdEven

open Idealize.ShloMosaic Idealize.ShloMosaic.TcCoe Idealize.SL.Sem

section Reference

open Cert.Reference9Ideal Cert.Reference9Ideal.Read Cert.Half

variable (x : In)

theorem ref_ms (t : Fin 8192) : val_main_v7 (F := Ideal) x.h (ix2 t 0) = ms (x.tok t) := by
  pointwise! [val_main_v7, val_main_v6, val_main_v5, val_main_v4, val_main_v3, val_main_v2, val_main_v1, val_main_cst, val_main_cst_0,
    val_main_cst_1, ms, In.tok, zero_add]

theorem ref_norm (t : Fin 8192) (d : Fin 1024) : val_main_v13 (F := Ideal) x.h x.γ (ix2 t d) = Half.norm (x.tok t) x.scale d := by
  pointwise! [val_main_v13, val_main_v12, val_main_v11, val_main_v10, val_main_v9, val_main_v8, val_main_v0, ref_ms, Half.norm, In.tok, In.scale]

theorem ref_proj (t : Fin 8192) (j : Fin 2688) : val_main_v16 (F := Ideal) x.h x.γ x.w (ix2 t j) = x.proj t j := by
  pointwise! [val_main_v16, val_main_v15, val_main_v14, ref_norm, In.proj]

theorem ref_part1 (t : Fin 8192) (k : Fin 512) : val_main_v17 (F := Ideal) x.h x.γ x.w (ix2 t k) = x.part1 (ix2 t k) := by
  pointwise! [val_main_v17, ref_proj, In.part1]

theorem ref_part2 (t : Fin 8192) (k : Fin 1536) : val_main_v18 (F := Ideal) x.h x.γ x.w (ix2 t k) = x.part2 (ix2 t k) := by
  pointwise! [val_main_v18, ref_proj, In.part2]

theorem ref_part3 (t : Fin 8192) (k : Fin 512) : val_main_v19 (F := Ideal) x.h x.γ x.w (ix2 t k) = x.part3 (ix2 t k) := by
  pointwise! [val_main_v19, ref_proj, In.part3]

theorem ref_part4 (t : Fin 8192) (k : Fin 128) : val_main_v20 (F := Ideal) x.h x.γ x.w (ix2 t k) = x.part4 (ix2 t k) := by
  pointwise! [val_main_v20, ref_proj, In.part4]

theorem whole {n k : ℕ} {f g : (⟨2, ![n, k]⟩ : Shape).Idx → EReal} (h : ∀ (r : Fin n) (d : Fin k), f (ix2 r d) = g (ix2 r d)) : f = g := by
  funext i
  obtain ⟨r, d, rfl⟩ : ∃ (r : Fin n) (d : Fin k), i = ix2 r d := ⟨i 0, i 1, funext fun b => by fin_cases b <;> rfl⟩
  exact h r d

theorem all_part1 : val_main_v17 (F := Ideal) x.h x.γ x.w = x.part1 := whole fun t k => ref_part1 x t k
theorem all_part2 : val_main_v18 (F := Ideal) x.h x.γ x.w = x.part2 := whole fun t k => ref_part2 x t k
theorem all_part3 : val_main_v19 (F := Ideal) x.h x.γ x.w = x.part3 := whole fun t k => ref_part3 x t k
theorem all_part4 : val_main_v20 (F := Ideal) x.h x.γ x.w = x.part4 := whole fun t k => ref_part4 x t k

end Reference

theorem algebraic : Cert.algebraic_Kernel9Ideal_Reference9Ideal (hKernel9Ideal := Cert.Kernel9Ideal.Gen.facts)
    (hReference9Ideal := Cert.Reference9Ideal.Gen.facts) := by
  intro m g m' g' _ hag
  have hK := Cert.Kernel9Ideal.Value.run_blocks m g
  have hR := Cert.Reference9Ideal.Value.run (F := Ideal) m' g'
  refine ⟨fun c => (args m c).part1, fun c => (args m c).part2, fun c => (args m c).part3, fun c => (args m c).part4, ?_, ?_⟩
  · refine (θ_run _ _ _).mono (fun r h c => ?_) hK
    obtain ⟨r0, r1, r2, r3, rest⟩ := h c
    exact ⟨r0.trans (array3 m c), r1.trans (array4 m c), r2.trans (array5 m c), r3.trans (array6 m c), rest⟩
  · refine (θ_run _ _ _).mono (fun r h c => ?_) hR
    obtain ⟨a0, a1, a2⟩ := hag c
    obtain ⟨r0, r1, r2, r3, rest⟩ := h c
    rw [a0, a1, a2] at r0 r1 r2 r3
    exact ⟨r0.trans ((Cert.Reference9Ideal.Read.val_main_v17_eq _ _ _).trans (all_part1 (args m c))),
      r1.trans ((Cert.Reference9Ideal.Read.val_main_v18_eq _ _ _).trans (all_part2 (args m c))),
      r2.trans ((Cert.Reference9Ideal.Read.val_main_v19_eq _ _ _).trans (all_part3 (args m c))),
      r3.trans ((Cert.Reference9Ideal.Read.val_main_v20_eq _ _ _).trans (all_part4 (args m c))), rest⟩

end Cert.InFwdEven

end
-- ==== Proof.OutFwd.lean ====
/- The output projection, added to the tokens: its tiles' values, its result, and that both programs leave it. -/
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Pipeline.Value
public import Idealize.ShloMosaic.Lib.Pipeline.ValueKit.Point
public import Idealize.ShloMosaic.Lib.Pipeline.ValueKit.Acc
public import Idealize.ShloMosaic.Lib.WholeRead

@[expose] public section

set_option maxRecDepth 16384

noncomputable section

namespace Cert.OutFwd

open Idealize.ShloMosaic Idealize.ShloMosaic.TcCoe Idealize.SL.Sem Idealize.ShloMosaic.Pipeline

/-- Entry `j` of a row that two rows of 512 make up. -/
def joined (a b : Fin 512 → EReal) (j : Fin 1024) : EReal :=
  if h : j.val < 512 then a ⟨j, h⟩ else b ⟨j - 512, by omega⟩

/-- The tokens, the projection's two inputs, and its weight, stored as 8 slices of 128 rows. -/
structure In where
  h : (⟨2, ![8192, 1024]⟩ : Shape).Idx → EReal
  a : (⟨2, ![8192, 512]⟩ : Shape).Idx → EReal
  b : (⟨2, ![8192, 512]⟩ : Shape).Idx → EReal
  w : (⟨3, ![8, 128, 1024]⟩ : Shape).Idx → EReal

namespace In

variable (x : In)

/-- The joined inputs. -/
def y (t : Fin 8192) (j : Fin 1024) : EReal := joined (fun k => x.a (ix2 t k)) (fun k => x.b (ix2 t k)) j

/-- The tokens with their projected inputs added. -/
def outs : (⟨2, ![8192, 1024]⟩ : Shape).Idx → EReal := fun i =>
  x.h (ix2 (i 0) (i 1)) + ∑ j : Fin 1024, x.y (i 0) j * x.w (ix3 ⟨j / 128, by omega⟩ ⟨j % 128, by omega⟩ (i 1))

end In

section Kernel

open Cert.Kernel10Ideal Cert.Kernel10Ideal.Gen

theorem pay1_apply (a b : Vec Ideal S512x512 .bf16) (h : Vec Ideal S512x1024 .f32) (w : Vec Ideal S8x128x1024 .bf16) (r : Fin 512) (d : Fin 1024) :
    k0_pay1 (F := Ideal) a b h w (ix2 r d) = (h (ix2 r d) : EReal)
      + ∑ j : Fin 1024, joined (fun k => a (ix2 r k)) (fun k => b (ix2 r k)) j * w (ix3 ⟨j / 128, by omega⟩ ⟨j % 128, by omega⟩ d) := by
  pointwise! [k0_pay1, zero_add, joined]

variable (m : (ℓ : Loc nD τ sig) → Buf (Elt Ideal) ℓ) (c : Dev nD)

/-- The kernel's arguments. -/
def args : In where
  h := m ((c : Thread nD τ).loc main_arg0)
  a := m ((c : Thread nD τ).loc main_arg1)
  b := m ((c : Thread nD τ).loc main_arg2)
  w := m ((c : Thread nD τ).loc main_arg3)

variable (t : Fin cfg0.N)

theorem lt_points : t.val < 16 := t.isLt

/-- Row `r` of point `t`'s tile. -/
def at_ (r : Fin 512) : Fin 8192 := ⟨t.val * 512 + r, by have := lt_points t; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![t.val, 0] :=
  (by decide +kernel : ∀ t : Fin grid0.N, win0_4.index t = ![t.val, 0])

theorem at0 (r : Fin 512) (d : Fin 1024) : iblk m c 0 t (ix2 r d) = (args m c).h (ix2 (at_ t r) d) := by
  blk_ext [iblk, V, idx0 t, at_]
theorem at1 (r k : Fin 512) : iblk m c 1 t (ix2 r k) = (args m c).a (ix2 (at_ t r) k) := by
  blk_ext [iblk, V, idx1 t, at_]
theorem at2 (r k : Fin 512) : iblk m c 2 t (ix2 r k) = (args m c).b (ix2 (at_ t r) k) := by
  blk_ext [iblk, V, idx2 t, at_]
theorem at3 : iblk m c 3 t = (args m c).w := by
  funext i
  idx_vars i
  blk_ext [iblk, V, idx3 t]

theorem point4 (r : Fin 512) (d : Fin 1024) : out0_4 (F := Ideal) (iblk m c 0 t) (iblk m c 1 t) (iblk m c 2 t) (iblk m c 3 t) (ix2 r d)
    = (args m c).outs (ix2 (at_ t r) d) := by
  frame_out
  refine (pay1_apply _ _ _ _ r d).trans ?_
  simp only [at0, at1, at2, at3]
  rfl

theorem array4 : (dats m 0 c).arrAt 4 cfg0.N = (args m c).outs := by
  refine (dats m 0 c).arrAt_eq_of_covers 4 _ (by decide +kernel) fun t hf y => ?_
  blk_simp
  rw [after0_4]
  obtain ⟨r, d, rfl⟩ : ∃ (r : Fin 512) (d : Fin 1024), y = ix2 r d := ⟨y 0, y 1, funext fun b => by fin_cases b <;> rfl⟩
  refine (point4 m c t r d).trans ?_
  blk_ext [idx4 t, at_]

end Kernel

section Reference

open Cert.Reference10Ideal Cert.Reference10Ideal.Read

variable (x : In)

theorem ref_y (t : Fin 8192) (j : Fin 1024) : val_main_v2 (F := Ideal) x.a x.b (ix2 t j) = x.y t j := by
  pointwise! [val_main_v2, val_main_v1, val_main_v0, In.y, joined]

theorem ref_out (t : Fin 8192) (d : Fin 1024) : val_main_v6 (F := Ideal) x.h x.a x.b x.w (ix2 t d) = x.outs (ix2 t d) := by
  pointwise! [val_main_v6, val_main_v5, val_main_v4, val_main_v3, ref_y, In.outs]

theorem all_out : val_main_v6 (F := Ideal) x.h x.a x.b x.w = x.outs := by
  funext i
  obtain ⟨t, d, rfl⟩ : ∃ (t : Fin 8192) (d : Fin 1024), i = ix2 t d := ⟨i 0, i 1, funext fun b => by fin_cases b <;> rfl⟩
  exact ref_out x t d

end Reference

theorem algebraic : Cert.algebraic_Kernel10Ideal_Reference10Ideal (hKernel10Ideal := Cert.Kernel10Ideal.Gen.facts)
    (hReference10Ideal := Cert.Reference10Ideal.Gen.facts) := by
  intro m g m' g' _ hag
  have hK := Cert.Kernel10Ideal.Value.run_blocks m g
  have hR := Cert.Reference10Ideal.Value.run (F := Ideal) m' g'
  refine ⟨fun c => (args m c).outs, ?_, ?_⟩
  · refine (θ_run _ _ _).mono (fun r h c => ?_) hK
    obtain ⟨r0, rest⟩ := h c
    exact ⟨r0.trans (array4 m c), rest⟩
  · refine (θ_run _ _ _).mono (fun r h c => ?_) hR
    obtain ⟨a0, a1, a2, a3⟩ := hag c
    obtain ⟨r0, rest⟩ := h c
    rw [a0, a1, a2, a3] at r0
    exact ⟨r0.trans ((Cert.Reference10Ideal.Read.val_main_v6_eq _ _ _ _).trans (all_out (args m c))), rest⟩

end Cert.OutFwd

end
-- ==== Proof.lean ====
/- All the programs' claims together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RecurClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.WgradClaim
public import proofs.«01_k».proof.Proof.HalfFwdRef
public import proofs.«01_k».proof.Proof.BackClaim
public import proofs.«01_k».proof.Proof.OutBackClaim
public import proofs.«01_k».proof.Proof.InBackClaim
public import proofs.«01_k».proof.Proof.InBackEvenClaim
public import proofs.«01_k».proof.Proof.InFwdClaim
public import proofs.«01_k».proof.Proof.InFwdEvenClaim
public import proofs.«01_k».proof.Proof.OutFwd
public import Idealize.ShloMosaic.Adequacy
public import Idealize.ShloMosaic.Init

@[expose] public section

noncomputable section

-- Each frame also says that every semaphore counter ends at zero.

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.HalfBack.pre_facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2.2.2.2.2.2.2, sem_eq_zero_of_no_sems rfl _⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, sem_eq_zero_of_no_sems rfl _⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2.2.2, sem_eq_zero_of_no_sems rfl _⟩) (Cert.Reference3Ideal.Value.run m ρ),
  fun m ρ _ => Cert.Kernel4.Gen.frame m ρ,
  fun m ρ _ => Cert.Kernel4Ideal.Gen.frame m ρ,
  fun m ρ _ => Cert.Kernel4Ideal.Gen.frame m ρ,
  fun m ρ _ => (θ_run Cert.Reference4Ideal.defs _ _).mono
    (fun r h => ⟨fun c => (h c).2.2.2.2.2.2.2, sem_eq_zero_of_no_sems rfl _⟩) (Cert.Reference4Ideal.Value.run m ρ),
  fun m ρ _ => (θ_run Cert.Reference4Ideal.defs _ _).mono
    (fun r h => ⟨fun c => (h c).2.2.2.2.2.2.2, sem_eq_zero_of_no_sems rfl _⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2.2.2, sem_eq_zero_of_no_sems rfl _⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2.2.2, sem_eq_zero_of_no_sems rfl _⟩) (Cert.Reference6Ideal.Value.run m ρ),
  fun m ρ _ => Cert.Kernel7.Gen.frame m ρ,
  fun m ρ _ => Cert.Kernel7Ideal.Gen.frame m ρ,
  fun m ρ _ => (θ_run Cert.Reference7Ideal.defs _ _).mono
    (fun r h => ⟨fun c => (h c).2.2.2, sem_eq_zero_of_no_sems rfl _⟩) (Cert.Reference7Ideal.Value.run m ρ),
  fun m ρ _ => Cert.Kernel8.Gen.frame m ρ,
  fun m ρ _ => Cert.Kernel8Ideal.Gen.frame m ρ,
  fun m ρ _ => (θ_run Cert.Reference8Ideal.defs _ _).mono
    (fun r h => ⟨fun c => (h c).2.2.2.2.2, sem_eq_zero_of_no_sems rfl _⟩) (Cert.Reference8Ideal.Value.run m ρ),
  fun m ρ _ => Cert.Kernel9.Gen.frame m ρ,
  fun m ρ _ => Cert.Kernel9Ideal.Gen.frame m ρ,
  fun m ρ _ => (θ_run Cert.Reference9Ideal.defs _ _).mono
    (fun r h => ⟨fun c => (h c).2.2.2.2, sem_eq_zero_of_no_sems rfl _⟩) (Cert.Reference9Ideal.Value.run m ρ),
  fun m ρ _ => Cert.Kernel10.Gen.frame m ρ,
  fun m ρ _ => Cert.Kernel10Ideal.Gen.frame m ρ,
  fun m ρ _ => (θ_run Cert.Reference10Ideal.defs _ _).mono
    (fun r h => ⟨fun c => (h c).2, sem_eq_zero_of_no_sems rfl _⟩) (Cert.Reference10Ideal.Value.run m ρ),
  trivial, Cert.Recur.algebraic,
  trivial, Cert.Wgrad.algebraic,
  trivial, Cert.Half.algebraic,
  trivial, Cert.HalfBack.algebraic,
  trivial, Cert.OutBack.algebraic,
  trivial, Cert.InBack.algebraic,
  trivial, Cert.InBackEven.algebraic,
  trivial, Cert.InFwd.algebraic,
  trivial, Cert.InFwdEven.algebraic,
  trivial, Cert.OutFwd.algebraic⟩

end Cert.Proof

end
